-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_routed [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_routed [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_routed [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_v112) = v1 c
          ∧ r.2.mem ((c.tc : Thread Cert.ReferenceIdeal.nD Cert.ReferenceIdeal.τ).loc Cert.ReferenceIdeal.main_v113) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_routed : Cert.Pre_routed.Facts),
    quiescent_Kernel (hKernel := hKernel)
    ∧ quiescent_KernelIdeal (hKernelIdeal := hKernelIdeal)
    ∧ quiescent_KernelIdeal_pre_routed (hKernelIdeal := hKernelIdeal) (hPre_routed := hPre_routed)
    ∧ quiescent_ReferenceIdeal (hReferenceIdeal := hReferenceIdeal)
    ∧ quiescent_ReferenceIdeal_pre_routed (hReferenceIdeal := hReferenceIdeal) (hPre_routed := hPre_routed)
    ∧ preserves_Kernel_KernelIdeal
    ∧ algebraic_KernelIdeal_ReferenceIdeal_pre_routed (hKernelIdeal := hKernelIdeal) (hReferenceIdeal := hReferenceIdeal) (hPre_routed := hPre_routed)
-- ==== Pre_routed.lean ====
abbrev S96x1x2048 : Shape := ⟨3, ![96, 1, 2048]⟩
abbrev S96x1x6 : Shape := ⟨3, ![96, 1, 6]⟩
abbrev S64 : Shape := ⟨1, ![64]⟩
abbrev S24x2048x1408 : Shape := ⟨3, ![24, 2048, 1408]⟩
abbrev S24x16x1408 : Shape := ⟨3, ![24, 16, 1408]⟩
abbrev S24x1408x1024 : Shape := ⟨3, ![24, 1408, 1024]⟩
abbrev S24x11x2048 : Shape := ⟨3, ![24, 11, 2048]⟩
abbrev S_ : Shape := ⟨0, ![]⟩

class Facts : Prop where
  bcast_S_S96x1x6 : S_.BroadcastsInDim S96x1x6 (![] : Fin 0 → Fin S96x1x6.rank)
  bcast_S_S64 : S_.BroadcastsInDim S64 (![] : Fin 0 → Fin S64.rank)

variable [Facts]

def fn {F : FTy → Type} [FloatOps F] (main_arg0 : FVec F S96x1x2048 .bf16) (main_arg1 : IVec S96x1x6 32) (main_arg2 : FVec F S96x1x6 .f32) (main_arg3 : IVec S64 32) (main_arg4 : IVec S24x2048x1408 8) (main_arg5 : FVec F S24x16x1408 .bf16) (main_arg6 : FVec F S24x16x1408 .bf16) (main_arg7 : FVec F S24x16x1408 .bf16) (main_arg8 : FVec F S24x16x1408 .bf16) (main_arg9 : IVec S24x1408x1024 8) (main_arg10 : FVec F S24x11x2048 .bf16) (main_arg11 : FVec F S24x11x2048 .bf16) : IVec S96x1x6 1 × IVec S64 1 × IVec S96x1x6 1 :=
  let main_c : IVec S_ 32 := constantI S_ 32 0#32
  let main_v0 : IVec S96x1x6 32 := broadcastInDim S96x1x6 ![] bcast_S_S96x1x6 main_c
  let main_v1 : IVec S96x1x6 1 := cmpi .sge main_arg1 main_v0
  let main_c_0 : IVec S_ 32 := constantI S_ 32 64#32
  let main_v2 : IVec S96x1x6 32 := broadcastInDim S96x1x6 ![] bcast_S_S96x1x6 main_c_0
  let main_v3 : IVec S96x1x6 1 := cmpi .slt main_arg1 main_v2
  let main_v4 : IVec S96x1x6 1 := andi main_v1 main_v3
  let main_c_1 : IVec S_ 32 := constantI S_ 32 24#32
  let main_v5 : IVec S64 32 := broadcastInDim S64 ![] bcast_S_S64 main_c_1
  let main_v6 : IVec S64 1 := cmpi .slt main_arg3 main_v5
  let main_cst : FVec F S_ .f32 := constant S_ .f32 0x00000000#32
  let main_v7 : FVec F S96x1x6 .f32 := broadcastInDim S96x1x6 ![] bcast_S_S96x1x6 main_cst
  let main_v8 : IVec S96x1x6 1 := cmpf .oge main_arg2 main_v7
  (main_v4, main_v6, main_v8)
-- ==== Kernel.lean ====
abbrev S96x1x2048 : Shape := ⟨3, ![96, 1, 2048]⟩
abbrev S96x1x6 : Shape := ⟨3, ![96, 1, 6]⟩
abbrev S64 : Shape := ⟨1, ![64]⟩
abbrev S24x2048x1408 : Shape := ⟨3, ![24, 2048, 1408]⟩
abbrev S24x16x1408 : Shape := ⟨3, ![24, 16, 1408]⟩
abbrev S24x1408x1024 : Shape := ⟨3, ![24, 1408, 1024]⟩
abbrev S24x11x2048 : Shape := ⟨3, ![24, 11, 2048]⟩
abbrev S96x2048 : Shape := ⟨2, ![96, 2048]⟩
abbrev S96x6 : Shape := ⟨2, ![96, 6]⟩
abbrev S96x1 : Shape := ⟨2, ![96, 1]⟩
abbrev S6x96x2048 : Shape := ⟨3, ![6, 96, 2048]⟩
abbrev S1x2048x1408 : Shape := ⟨3, ![1, 2048, 1408]⟩
abbrev S1x16x1408 : Shape := ⟨3, ![1, 16, 1408]⟩
abbrev S1x1408x1024 : Shape := ⟨3, ![1, 1408, 1024]⟩
abbrev S1x11x2048 : Shape := ⟨3, ![1, 11, 2048]⟩
abbrev S96x1408 : Shape := ⟨2, ![96, 1408]⟩
abbrev S1 : Shape := ⟨1, ![1]⟩
abbrev S96 : Shape := ⟨1, ![96]⟩
abbrev S1x2048x256 : Shape := ⟨3, ![1, 2048, 256]⟩
abbrev S2048x256 : Shape := ⟨2, ![2048, 256]⟩
abbrev S512x256 : Shape := ⟨2, ![512, 256]⟩
abbrev S1x16x256 : Shape := ⟨3, ![1, 16, 256]⟩
abbrev S16x256 : Shape := ⟨2, ![16, 256]⟩
abbrev S128x256 : Shape := ⟨2, ![128, 256]⟩
abbrev S1x256 : Shape := ⟨2, ![1, 256]⟩
abbrev S96x256 : Shape := ⟨2, ![96, 256]⟩
abbrev S1x2048x128 : Shape := ⟨3, ![1, 2048, 128]⟩
abbrev S2048x128 : Shape := ⟨2, ![2048, 128]⟩
abbrev S512x128 : Shape := ⟨2, ![512, 128]⟩
abbrev S1x16x128 : Shape := ⟨3, ![1, 16, 128]⟩
abbrev S16x128 : Shape := ⟨2, ![16, 128]⟩
abbrev S128x128 : Shape := ⟨2, ![128, 128]⟩
abbrev S1x128 : Shape := ⟨2, ![1, 128]⟩
abbrev S96x128 : Shape := ⟨2, ![96, 128]⟩
abbrev S1x1408x256 : Shape := ⟨3, ![1, 1408, 256]⟩
abbrev S1408x256 : Shape := ⟨2, ![1408, 256]⟩
abbrev S352x256 : Shape := ⟨2, ![352, 256]⟩
abbrev S1x11x256 : Shape := ⟨3, ![1, 11, 256]⟩
abbrev S11x256 : Shape := ⟨2, ![11, 256]⟩
abbrev S1x96x256 : Shape := ⟨3, ![1, 96, 256]⟩
abbrev S96x6x2048 : Shape := ⟨3, ![96, 6, 2048]⟩
abbrev S96x1x6x2048 : Shape := ⟨4, ![96, 1, 6, 2048]⟩

abbrev nBuf : Space → Nat
  | .hbm => 21
  | .vmem => 26
  | .smem => 1
  | _ => 0

abbrev bufTy : (tb : Table) → Fin (tcTables nBuf tb) → BufTy
  | .hbm, ⟨0, _⟩ => ⟨S96x1x2048, .bf16⟩
  | .hbm, ⟨1, _⟩ => ⟨S96x1x6, .i32⟩
  | .hbm, ⟨2, _⟩ => ⟨S96x1x6, .f32⟩
  | .hbm, ⟨3, _⟩ => ⟨S64, .i32⟩
  | .hbm, ⟨4, _⟩ => ⟨S24x2048x1408, .i8⟩
  | .hbm, ⟨5, _⟩ => ⟨S24x16x1408, .bf16⟩
  | .hbm, ⟨6, _⟩ => ⟨S24x16x1408, .bf16⟩
  | .hbm, ⟨7, _⟩ => ⟨S24x16x1408, .bf16⟩
  | .hbm, ⟨8, _⟩ => ⟨S24x16x1408, .bf16⟩
  | .hbm, ⟨9, _⟩ => ⟨S24x1408x1024, .i8⟩
  | .hbm, ⟨10, _⟩ => ⟨S24x11x2048, .bf16⟩
  | .hbm, ⟨11, _⟩ => ⟨S24x11x2048, .bf16⟩
  | .hbm, ⟨12, _⟩ => ⟨S96x2048, .bf16⟩
  | .hbm, ⟨13, _⟩ => ⟨S96x6, .i32⟩
  | .hbm, ⟨14, _⟩ => ⟨S96x6, .f32⟩
  | .hbm, ⟨15, _⟩ => ⟨S96x2048, .bf16⟩
  | .hbm, ⟨16, _⟩ => ⟨S96x1, .f32⟩
  | .hbm, ⟨17, _⟩ => ⟨S6x96x2048, .f32⟩
  | .hbm, ⟨18, _⟩ => ⟨S96x1x2048, .bf16⟩
  | .hbm, ⟨19, _⟩ => ⟨S96x6x2048, .f32⟩
  | .hbm, ⟨20, _⟩ => ⟨S96x1x6x2048, .f32⟩
  | .local _ .vmem, ⟨0, _⟩ => ⟨S96x2048, .bf16⟩
  | .local _ .vmem, ⟨1, _⟩ => ⟨S96x6, .i32⟩
  | .local _ .vmem, ⟨2, _⟩ => ⟨S96x6, .f32⟩
  | .local _ .vmem, ⟨3, _⟩ => ⟨S1x2048x1408, .i8⟩
  | .local _ .vmem, ⟨4, _⟩ => ⟨S1x2048x1408, .i8⟩
  | .local _ .vmem, ⟨5, _⟩ => ⟨S1x16x1408, .bf16⟩
  | .local _ .vmem, ⟨6, _⟩ => ⟨S1x16x1408, .bf16⟩
  | .local _ .vmem, ⟨7, _⟩ => ⟨S1x16x1408, .bf16⟩
  | .local _ .vmem, ⟨8, _⟩ => ⟨S1x16x1408, .bf16⟩
  | .local _ .vmem, ⟨9, _⟩ => ⟨S1x16x1408, .bf16⟩
  | .local _ .vmem, ⟨10, _⟩ => ⟨S1x16x1408, .bf16⟩
  | .local _ .vmem, ⟨11, _⟩ => ⟨S1x16x1408, .bf16⟩
  | .local _ .vmem, ⟨12, _⟩ => ⟨S1x16x1408, .bf16⟩
  | .local _ .vmem, ⟨13, _⟩ => ⟨S1x1408x1024, .i8⟩
  | .local _ .vmem, ⟨14, _⟩ => ⟨S1x1408x1024, .i8⟩
  | .local _ .vmem, ⟨15, _⟩ => ⟨S1x11x2048, .bf16⟩
  | .local _ .vmem, ⟨16, _⟩ => ⟨S1x11x2048, .bf16⟩
  | .local _ .vmem, ⟨17, _⟩ => ⟨S1x11x2048, .bf16⟩
  | .local _ .vmem, ⟨18, _⟩ => ⟨S1x11x2048, .bf16⟩
  | .local _ .vmem, ⟨19, _⟩ => ⟨S96x2048, .bf16⟩
  | .local _ .vmem, ⟨20, _⟩ => ⟨S96x1, .f32⟩
  | .local _ .vmem, ⟨21, _⟩ => ⟨S6x96x2048, .f32⟩
  | .local _ .vmem, ⟨22, _⟩ => ⟨S96x6, .i32⟩
  | .local _ .vmem, ⟨23, _⟩ => ⟨S96x6, .f32⟩
  | .local _ .vmem, ⟨24, _⟩ => ⟨S96x1408, .bf16⟩
  | .local _ .vmem, ⟨25, _⟩ => ⟨S96x2048, .f32⟩
  | .local _ .smem, ⟨0, _⟩ => ⟨S64, .i32⟩
  | _, _ => ⟨S96x1x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3_0 : Ref sig .tc := ⟨.hbm, 15, rfl⟩
abbrev main_v3_1 : Ref sig .tc := ⟨.hbm, 16, rfl⟩
abbrev main_v3_2 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem14_0 : DmaSem sig := 22

abbrev nD : Nat := 1
abbrev τ : Topo := Topo.v7x

variable {F : FTy → Type} [FloatOps F]

abbrev grid0 : Pipeline.Grid := ⟨1, ![24], ![false]⟩

def k0_cond2 (i : grid0.Coords) : BitVec 1 :=
  let arg0 : BitVec 32 := BitVec.ofNat 32 (i 0).val
  let c23_i32 : BitVec 32 := 23#32
  let v2753 : BitVec 1 := Scalar.cmpi .eq arg0 c23_i32
  let v2754 : BitVec 32 := Scalar.extui v2753
  let c0_i32_532 : BitVec 32 := 0#32
  let v2755 : BitVec 1 := Scalar.cmpi .ne v2754 c0_i32_532
  v2755

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .smem S64 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S96x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S96x6 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S96x6 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2048x1408 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x16x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x16x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x16x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1408x1024 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x11x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x11x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S96x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S96x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S6x96x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceIdeal.lean ====
abbrev S96x1x2048 : Shape := ⟨3, ![96, 1, 2048]⟩
abbrev S96x1x6 : Shape := ⟨3, ![96, 1, 6]⟩
abbrev S64 : Shape := ⟨1, ![64]⟩
abbrev S24x2048x1408 : Shape := ⟨3, ![24, 2048, 1408]⟩
abbrev S24x16x1408 : Shape := ⟨3, ![24, 16, 1408]⟩
abbrev S24x1408x1024 : Shape := ⟨3, ![24, 1408, 1024]⟩
abbrev S24x11x2048 : Shape := ⟨3, ![24, 11, 2048]⟩
abbrev S96x2048 : Shape := ⟨2, ![96, 2048]⟩
abbrev S96x6 : Shape := ⟨2, ![96, 6]⟩
abbrev S_ : Shape := ⟨0, ![]⟩
abbrev S96x6x1 : Shape := ⟨3, ![96, 6, 1]⟩
abbrev S96 : Shape := ⟨1, ![96]⟩
abbrev S96x1 : Shape := ⟨2, ![96, 1]⟩
abbrev S24x16x128x1408 : Shape := ⟨4, ![24, 16, 128, 1408]⟩
abbrev S24x16x1x1408 : Shape := ⟨4, ![24, 16, 1, 1408]⟩
abbrev S24x1408x96 : Shape := ⟨3, ![24, 1408, 96]⟩
abbrev S24x96x1408 : Shape := ⟨3, ![24, 96, 1408]⟩
abbrev S24x11x1024 : Shape := ⟨3, ![24, 11, 1024]⟩
abbrev S24x11x128x1024 : Shape := ⟨4, ![24, 11, 128, 1024]⟩
abbrev S24x11x1x1024 : Shape := ⟨4, ![24, 11, 1, 1024]⟩
abbrev S24x96x1024 : Shape := ⟨3, ![24, 96, 1024]⟩
abbrev S24x96x2048 : Shape := ⟨3, ![24, 96, 2048]⟩
abbrev S96x6x2 : Shape := ⟨3, ![96, 6, 2]⟩
abbrev S96x6x2048 : Shape := ⟨3, ![96, 6, 2048]⟩
abbrev S96x1x6x2048 : Shape := ⟨4, ![96, 1, 6, 2048]⟩

abbrev nBuf : Space → Nat
  | .hbm => 157
  | .vmem => 0
  | .smem => 0
  | _ => 0

abbrev hbmTy0_0 (i : Nat) : BufTy := match i % 128 with
  | 0 => ⟨S96x1x2048, .bf16⟩
  | 1 => ⟨S96x1x6, .i32⟩
  | 2 => ⟨S96x1x6, .f32⟩
  | 3 => ⟨S64, .i32⟩
  | 4 => ⟨S24x2048x1408, .i8⟩
  | 5 => ⟨S24x16x1408, .bf16⟩
  | 6 => ⟨S24x16x1408, .bf16⟩
  | 7 => ⟨S24x16x1408, .bf16⟩
  | 8 => ⟨S24x16x1408, .bf16⟩
  | 9 => ⟨S24x1408x1024, .i8⟩
  | 10 => ⟨S24x11x2048, .bf16⟩
  | 11 => ⟨S24x11x2048, .bf16⟩
  | 12 => ⟨S96x2048, .bf16⟩
  | 13 => ⟨S96x6, .i32⟩
  | 14 => ⟨S_, .i32⟩
  | 15 => ⟨S96x6, .i32⟩
  | 16 => ⟨S96x6, .i1⟩
  | 17 => ⟨S_, .i32⟩
  | 18 => ⟨S96x6, .i32⟩
  | 19 => ⟨S96x6, .i32⟩
  | 20 => ⟨S96x6, .i32⟩
  | 21 => ⟨S96x6x1, .i32⟩
  | 22 => ⟨S96x6, .i32⟩
  | 23 => ⟨S_, .i32⟩
  | 24 => ⟨S96x6, .i32⟩
  | 25 => ⟨S96x6, .i1⟩
  | 26 => ⟨S96x6, .f32⟩
  | 27 => ⟨S96x6, .f32⟩
  | 28 => ⟨S_, .f32⟩
  | 29 => ⟨S96x6, .f32⟩
  | 30 => ⟨S96x6, .f32⟩
  | 31 => ⟨S96x6, .f32⟩
  | 32 => ⟨S_, .f32⟩
  | 33 => ⟨S96, .f32⟩
  | 34 => ⟨S96x6, .f32⟩
  | 35 => ⟨S_, .f32⟩
  | 36 => ⟨S96, .f32⟩
  | 37 => ⟨S96x6, .f32⟩
  | 38 => ⟨S_, .f32⟩
  | 39 => ⟨S96, .f32⟩
  | 40 => ⟨S96, .i1⟩
  | 41 => ⟨S_, .f32⟩
  | 42 => ⟨S_, .f32⟩
  | 43 => ⟨S96, .f32⟩
  | 44 => ⟨S96, .f32⟩
  | 45 => ⟨S96x1, .f32⟩
  | 46 => ⟨S96x6, .f32⟩
  | 47 => ⟨S96x6, .f32⟩
  | 48 => ⟨S24x2048x1408, .i32⟩
  | 49 => ⟨S_, .i32⟩
  | 50 => ⟨S24x2048x1408, .i32⟩
  | 51 => ⟨S24x2048x1408, .i32⟩
  | 52 => ⟨S24x2048x1408, .bf16⟩
  | 53 => ⟨S24x16x128x1408, .bf16⟩
  | 54 => ⟨S24x16x1x1408, .bf16⟩
  | 55 => ⟨S24x16x128x1408, .bf16⟩
  | 56 => ⟨S24x16x128x1408, .bf16⟩
  | 57 => ⟨S24x16x1x1408, .bf16⟩
  | 58 => ⟨S24x16x128x1408, .bf16⟩
  | 59 => ⟨S24x16x128x1408, .bf16⟩
  | 60 => ⟨S24x2048x1408, .bf16⟩
  | 61 => ⟨S24x2048x1408, .i32⟩
  | 62 => ⟨S_, .i32⟩
  | 63 => ⟨S24x2048x1408, .i32⟩
  | 64 => ⟨S24x2048x1408, .i32⟩
  | 65 => ⟨S24x2048x1408, .bf16⟩
  | 66 => ⟨S24x16x128x1408, .bf16⟩
  | 67 => ⟨S24x16x1x1408, .bf16⟩
  | 68 => ⟨S24x16x128x1408, .bf16⟩
  | 69 => ⟨S24x16x128x1408, .bf16⟩
  | 70 => ⟨S24x16x1x1408, .bf16⟩
  | 71 => ⟨S24x16x128x1408, .bf16⟩
  | 72 => ⟨S24x16x128x1408, .bf16⟩
  | 73 => ⟨S24x2048x1408, .bf16⟩
  | 74 => ⟨S24x1408x96, .f32⟩
  | 75 => ⟨S24x96x1408, .f32⟩
  | 76 => ⟨S24x1408x96, .f32⟩
  | 77 => ⟨S24x96x1408, .f32⟩
  | 78 => ⟨S24x96x1408, .f32⟩
  | 79 => ⟨S24x96x1408, .f32⟩
  | 80 => ⟨S_, .f32⟩
  | 81 => ⟨S24x96x1408, .f32⟩
  | 82 => ⟨S24x96x1408, .f32⟩
  | 83 => ⟨S_, .f32⟩
  | 84 => ⟨S24x96x1408, .f32⟩
  | 85 => ⟨S24x96x1408, .f32⟩
  | 86 => ⟨S24x96x1408, .f32⟩
  | 87 => ⟨S24x96x1408, .f32⟩
  | 88 => ⟨S24x96x1408, .bf16⟩
  | 89 => ⟨S24x1408x1024, .i32⟩
  | 90 => ⟨S_, .i32⟩
  | 91 => ⟨S24x1408x1024, .i32⟩
  | 92 => ⟨S24x1408x1024, .i32⟩
  | 93 => ⟨S24x11x1024, .bf16⟩
  | 94 => ⟨S24x11x1024, .bf16⟩
  | 95 => ⟨S24x1408x1024, .bf16⟩
  | 96 => ⟨S24x11x128x1024, .bf16⟩
  | 97 => ⟨S24x11x1x1024, .bf16⟩
  | 98 => ⟨S24x11x128x1024, .bf16⟩
  | 99 => ⟨S24x11x128x1024, .bf16⟩
  | 100 => ⟨S24x11x1x1024, .bf16⟩
  | 101 => ⟨S24x11x128x1024, .bf16⟩
  | 102 => ⟨S24x11x128x1024, .bf16⟩
  | 103 => ⟨S24x1408x1024, .bf16⟩
  | 104 => ⟨S24x1408x1024, .i32⟩
  | 105 => ⟨S_, .i32⟩
  | 106 => ⟨S24x1408x1024, .i32⟩
  | 107 => ⟨S24x1408x1024, .i32⟩
  | 108 => ⟨S24x11x1024, .bf16⟩
  | 109 => ⟨S24x11x1024, .bf16⟩
  | 110 => ⟨S24x1408x1024, .bf16⟩
  | 111 => ⟨S24x11x128x1024, .bf16⟩
  | 112 => ⟨S24x11x1x1024, .bf16⟩
  | 113 => ⟨S24x11x128x1024, .bf16⟩
  | 114 => ⟨S24x11x128x1024, .bf16⟩
  | 115 => ⟨S24x11x1x1024, .bf16⟩
  | 116 => ⟨S24x11x128x1024, .bf16⟩
  | 117 => ⟨S24x11x128x1024, .bf16⟩
  | 118 => ⟨S24x1408x1024, .bf16⟩
  | 119 => ⟨S24x96x1024, .f32⟩
  | 120 => ⟨S24x96x1024, .f32⟩
  | 121 => ⟨S24x96x2048, .f32⟩
  | 122 => ⟨S_, .i32⟩
  | 123 => ⟨S96x6, .i32⟩
  | 124 => ⟨S96x6, .i32⟩
  | 125 => ⟨S96, .i32⟩
  | 126 => ⟨S96x1, .i32⟩
  | 127 => ⟨S_, .i32⟩
  | _ => ⟨S96x1x2048, .bf16⟩

abbrev hbmTy0_1 (i : Nat) : BufTy := match i % 128 with
  | 0 => ⟨S96x6, .i32⟩
  | 1 => ⟨S96x6, .i1⟩
  | 2 => ⟨S_, .i32⟩
  | 3 => ⟨S96x6, .i32⟩
  | 4 => ⟨S96x6, .i32⟩
  | 5 => ⟨S96x6, .i32⟩
  | 6 => ⟨S_, .i32⟩
  | 7 => ⟨S96x1, .i32⟩
  | 8 => ⟨S96x1, .i1⟩
  | 9 => ⟨S_, .i32⟩
  | 10 => ⟨S96x1, .i32⟩
  | 11 => ⟨S96x1, .i32⟩
  | 12 => ⟨S96x1, .i32⟩
  | 13 => ⟨S96x6, .i32⟩
  | 14 => ⟨S96x6x1, .i32⟩
  | 15 => ⟨S96x6x1, .i32⟩
  | 16 => ⟨S96x6x2, .i32⟩
  | 17 => ⟨S96x6x2048, .f32⟩
  | 18 => ⟨S96x6x1, .i1⟩
  | 19 => ⟨S_, .f32⟩
  | 20 => ⟨S_, .f32⟩
  | 21 => ⟨S96x6x2048, .i1⟩
  | 22 => ⟨S96x6x2048, .f32⟩
  | 23 => ⟨S96x6x2048, .f32⟩
  | 24 => ⟨S96x2048, .f32⟩
  | 25 => ⟨S96x1x2048, .f32⟩
  | 26 => ⟨S96x1x2048, .bf16⟩
  | 27 => ⟨S96x1, .f32⟩
  | 28 => ⟨S96x1x6x2048, .f32⟩
  | _ => ⟨S96x1x2048, .bf16⟩

abbrev hbmTy (i : Nat) : BufTy := match i / 128 with
  | 0 => hbmTy0_0 i
  | 1 => hbmTy0_1 i
  | _ => ⟨S96x1x2048, .bf16⟩

abbrev bufTy : (tb : Table) → Fin (tcTables nBuf tb) → BufTy
  | .hbm, ⟨i, _⟩ => hbmTy i
  | _, _ => ⟨S96x1x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_c_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_cst_5 : Ref sig .tc := ⟨.hbm, 41, rfl⟩
abbrev main_call0_v0 : Ref sig .tc := ⟨.hbm, 42, rfl⟩
abbrev main_call0_v1 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_c_6 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_c_7 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_call1_v0 : Ref sig .tc := ⟨.hbm, 78, rfl⟩
abbrev main_call1_v1 : Ref sig .tc := ⟨.hbm, 79, rfl⟩
abbrev main_call1_cst : Ref sig .tc := ⟨.hbm, 80, rfl⟩
abbrev main_call1_v2 : Ref sig .tc := ⟨.hbm, 81, rfl⟩
abbrev main_call1_v3 : Ref sig .tc := ⟨.hbm, 82, rfl⟩
abbrev main_call1_cst_0 : Ref sig .tc := ⟨.hbm, 83, rfl⟩
abbrev main_call1_v4 : Ref sig .tc := ⟨.hbm, 84, rfl⟩
abbrev main_call1_v5 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_c_8 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_9 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_c_10 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_c_11 : Ref sig .tc := ⟨.hbm, 127, rfl⟩
abbrev main_v92 : Ref sig .tc := ⟨.hbm, 128, rfl⟩
abbrev main_v93 : Ref sig .tc := ⟨.hbm, 129, rfl⟩
abbrev main_c_12 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_c_13 : Ref sig .tc := ⟨.hbm, 134, rfl⟩
abbrev main_v97 : Ref sig .tc := ⟨.hbm, 135, rfl⟩
abbrev main_v98 : Ref sig .tc := ⟨.hbm, 136, rfl⟩
abbrev main_c_14 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_cst_15 : Ref sig .tc := ⟨.hbm, 147, rfl⟩
abbrev main_call2_v0 : Ref sig .tc := ⟨.hbm, 148, rfl⟩
abbrev main_call2_v1 : Ref sig .tc := ⟨.hbm, 149, rfl⟩
abbrev main_call2_v2 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩

abbrev nD : Nat := 1
abbrev τ : Topo := Topo.v7x

variable {F : FTy → Type} [FloatOps F]
-- ==== Proof.Cut.lean ====
/- The kernel body in three stretches

The body of the kernel is: at the first grid point a set-up (the slot and weight tables, the missing marks, the zero
fills); at every grid point the work for one slot; at the last grid point the result written out.  The middle stretch is
the same program at every point, so it is stated here once. -/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Pipeline.FrameSuffix
public import Idealize.ShloMosaic.Lib.Tactic
public import Idealize.ShloMosaic.Lib.WordCmp

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The set-up stretch. -/
def init0 (i : grid0.Coords) (arg1 : Memref sig .tc .smem S64 .i32) (harg1 : arg1.IsWhole) (arg2 : Memref sig .tc .vmem S96x2048 .bf16) (harg2 : arg2.IsWhole) (arg3 : Memref sig .tc .vmem S96x6 .i32) (harg3 : arg3.IsWhole) (arg4 : Memref sig .tc .vmem S96x6 .f32) (harg4 : arg4.IsWhole) (arg5 : Memref sig .tc .vmem S1x2048x1408 .i8) (harg5 : arg5.IsWhole) (arg6 : Memref sig .tc .vmem S1x16x1408 .bf16) (harg6 : arg6.IsWhole) (arg7 : Memref sig .tc .vmem S1x16x1408 .bf16) (harg7 : arg7.IsWhole) (arg8 : Memref sig .tc .vmem S1x16x1408 .bf16) (harg8 : arg8.IsWhole) (arg9 : Memref sig .tc .vmem S1x16x1408 .bf16) (harg9 : arg9.IsWhole) (arg10 : Memref sig .tc .vmem S1x1408x1024 .i8) (harg10 : arg10.IsWhole) (arg11 : Memref sig .tc .vmem S1x11x2048 .bf16) (harg11 : arg11.IsWhole) (arg12 : Memref sig .tc .vmem S1x11x2048 .bf16) (harg12 : arg12.IsWhole) (arg13 : Memref sig .tc .vmem S96x2048 .bf16) (harg13 : arg13.IsWhole) (arg14 : Memref sig .tc .vmem S96x1 .f32) (harg14 : arg14.IsWhole) (arg15 : Memref sig .tc .vmem S6x96x2048 .f32) (harg15 : arg15.IsWhole) (arg16 : Memref sig .tc .vmem S96x6 .i32) (harg16 : arg16.IsWhole) (arg17 : Memref sig .tc .vmem S96x6 .f32) (harg17 : arg17.IsWhole) (arg18 : Memref sig .tc .vmem S96x1408 .bf16) (harg18 : arg18.IsWhole) (arg19 : Memref sig .tc .vmem S96x2048 .f32) (harg19 : arg19.IsWhole) :
    Prog (TpuEff nD τ sig (Elt F) Λ₀ .tc) PUnit := do
  let ⟨v2757, v2793, v2795, v2796⟩ : Σ' (v2757 : IVec S96x6 32) (v2793 : IVec S96x6 32) (v2795 : IVec S96x6 1), Elt F .i32 ← k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  let ⟨v2838, v2839⟩ : Σ' (v2838 : IVec S96x6 32), IVec S96x6 32 ← k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2757 v2793 v2795 v2796
  let ⟨v2878, v2880, v2882⟩ : Σ' (v2878 : IVec S96x6 32) (v2880 : IVec S96x6 1), IVec S96x6 32 ← k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2757 v2838 v2839
  let ⟨v2923, v2925⟩ : Σ' (v2923 : IVec S96x6 32), IVec S96x6 1 ← k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2757 v2878 v2880 v2882
  let v2968 : IVec S96x6 32 ← k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2757 v2923 v2925
  let ⟨v3008, v3010⟩ : Σ' (v3008 : IVec S96x6 32), IVec S96x6 1 ← k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2757 v2968
  let ⟨v3053, c59_i32⟩ : Σ' (v3053 : IVec S96x6 32), BitVec 32 ← k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2757 v3008 v3010
  let ⟨v3083, v3087⟩ : Σ' (v3083 : FVec F S96x6 .f32), FVec F S96x6 .f32 ← k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2757 v3053 c59_i32
  let v3104 : Vec F S96x6 .f32 ← Prog.lift (.load arg17 (Rect.unit (s := S96x6) ![0, 0] S96x6.size inb_S96x6_S96x6_0_0).toLoadRect (View.loadsAt_vmem h_S96x6))
  Prog.lift (.store arg17 (Rect.unit (s := S96x6) ![0, 0] S96x6.size inb_S96x6_S96x6_0_0) (k0_pay22 v3083 v3087) Finset.univ (View.stores_vmem_bits_univ h_S96x6 rfl) (.inl rfl))
  let v3108 : Vec F S96x2048 .f32 ← Prog.lift (.load arg19 (Rect.unit (s := S96x2048) ![0, 0] S96x2048.size inb_S96x2048_S96x2048_0_0).toLoadRect (View.loadsAt_vmem h_S96x2048))
  Prog.lift (.store arg19 (Rect.unit (s := S96x2048) ![0, 0] S96x2048.size inb_S96x2048_S96x2048_0_0) (k0_pay23 (F := F)) Finset.univ (View.stores_vmem_bits_univ h_S96x2048 rfl) (.inl rfl))
  let v3112 : Vec F S6x96x2048 .f32 ← Prog.lift (.load arg15 (Rect.unit (s := S6x96x2048) ![0, 0, 0] S6x96x2048.size inb_S6x96x2048_S6x96x2048_0_0_0).toLoadRect (View.loadsAt_vmem h_S6x96x2048))
  Prog.lift (.store arg15 (Rect.unit (s := S6x96x2048) ![0, 0, 0] S6x96x2048.size inb_S6x96x2048_S6x96x2048_0_0_0) (k0_pay24 (F := F)) Finset.univ (View.stores_vmem_bits_univ h_S6x96x2048 rfl) (.inl rfl))
  pure ⟨⟩

/-- The first part of the middle stretch. -/
def rest9 (i : grid0.Coords) (arg1 : Memref sig .tc .smem S64 .i32) (harg1 : arg1.IsWhole) (arg2 : Memref sig .tc .vmem S96x2048 .bf16) (harg2 : arg2.IsWhole) (arg3 : Memref sig .tc .vmem S96x6 .i32) (harg3 : arg3.IsWhole) (arg4 : Memref sig .tc .vmem S96x6 .f32) (harg4 : arg4.IsWhole) (arg5 : Memref sig .tc .vmem S1x2048x1408 .i8) (harg5 : arg5.IsWhole) (arg6 : Memref sig .tc .vmem S1x16x1408 .bf16) (harg6 : arg6.IsWhole) (arg7 : Memref sig .tc .vmem S1x16x1408 .bf16) (harg7 : arg7.IsWhole) (arg8 : Memref sig .tc .vmem S1x16x1408 .bf16) (harg8 : arg8.IsWhole) (arg9 : Memref sig .tc .vmem S1x16x1408 .bf16) (harg9 : arg9.IsWhole) (arg10 : Memref sig .tc .vmem S1x1408x1024 .i8) (harg10 : arg10.IsWhole) (arg11 : Memref sig .tc .vmem S1x11x2048 .bf16) (harg11 : arg11.IsWhole) (arg12 : Memref sig .tc .vmem S1x11x2048 .bf16) (harg12 : arg12.IsWhole) (arg13 : Memref sig .tc .vmem S96x2048 .bf16) (harg13 : arg13.IsWhole) (arg14 : Memref sig .tc .vmem S96x1 .f32) (harg14 : arg14.IsWhole) (arg15 : Memref sig .tc .vmem S6x96x2048 .f32) (harg15 : arg15.IsWhole) (arg16 : Memref sig .tc .vmem S96x6 .i32) (harg16 : arg16.IsWhole) (arg17 : Memref sig .tc .vmem S96x6 .f32) (harg17 : arg17.IsWhole) (arg18 : Memref sig .tc .vmem S96x1408 .bf16) (harg18 : arg18.IsWhole) (arg19 : Memref sig .tc .vmem S96x2048 .f32) (harg19 : arg19.IsWhole) :
    Prog (TpuEff nD τ sig (Elt F) Λ₀ .tc) (Σ' (arg0 : BitVec 32) (v4 : FVec F S96x2048 .bf16) (v6 : IVec S2048x256 8) (v11 : FVec F S2048x256 .bf16) (v13 : FVec F S16x256 .bf16) (v15 : FVec F S16x256 .bf16) (v22 : FVec F S128x256 .bf16) (v29 : FVec F S128x256 .bf16) (v36 : FVec F S128x256 .bf16), FVec F S128x256 .bf16) := do
  let arg0 : BitVec 32 := BitVec.ofNat 32 (i 0).val
  let v3 : Vec F S96x2048 .bf16 ← Prog.lift (.load arg2 (Rect.unit (s := S96x2048) ![0, 0] S96x2048.size inb_S96x2048_S96x2048_0_0).toLoadRect (View.loadsAt_vmem h_S96x2048))
  let v5 : Vec F S1x2048x256 .i8 ← Prog.lift (.load arg5 (Rect.unit (s := S1x2048x1408) ![0, 0, 0] S1x2048x256.size inb_S1x2048x1408_S1x2048x256_0_0_0).toLoadRect (View.loadsAt_vmem h_S1x2048x256))
  let v12 : Vec F S1x16x256 .bf16 ← Prog.lift (.load arg6 (Rect.unit (s := S1x16x1408) ![0, 0, 0] S1x16x256.size inb_S1x16x1408_S1x16x256_0_0_0).toLoadRect (View.loadsAt_vmem h_S1x16x256))
  let v14 : Vec F S1x16x256 .bf16 ← Prog.lift (.load arg7 (Rect.unit (s := S1x16x1408) ![0, 0, 0] S1x16x256.size inb_S1x16x1408_S1x16x256_0_0_0).toLoadRect (View.loadsAt_vmem h_S1x16x256))
  pure ⟨arg0, k0_pay25 v3, k0_pay26 v5, k0_pay27 v5, k0_pay28 v12, k0_pay29 v14, k0_pay30 v5 v12 v14, k0_pay31 v5 v12 v14, k0_pay32 v5 v12 v14, k0_pay33 v5 v12 v14⟩

/-- The middle stretch up to its last store. -/
def rest65 (i : grid0.Coords) (arg1 : Memref sig .tc .smem S64 .i32) (harg1 : arg1.IsWhole) (arg2 : Memref sig .tc .vmem S96x2048 .bf16) (harg2 : arg2.IsWhole) (arg3 : Memref sig .tc .vmem S96x6 .i32) (harg3 : arg3.IsWhole) (arg4 : Memref sig .tc .vmem S96x6 .f32) (harg4 : arg4.IsWhole) (arg5 : Memref sig .tc .vmem S1x2048x1408 .i8) (harg5 : arg5.IsWhole) (arg6 : Memref sig .tc .vmem S1x16x1408 .bf16) (harg6 : arg6.IsWhole) (arg7 : Memref sig .tc .vmem S1x16x1408 .bf16) (harg7 : arg7.IsWhole) (arg8 : Memref sig .tc .vmem S1x16x1408 .bf16) (harg8 : arg8.IsWhole) (arg9 : Memref sig .tc .vmem S1x16x1408 .bf16) (harg9 : arg9.IsWhole) (arg10 : Memref sig .tc .vmem S1x1408x1024 .i8) (harg10 : arg10.IsWhole) (arg11 : Memref sig .tc .vmem S1x11x2048 .bf16) (harg11 : arg11.IsWhole) (arg12 : Memref sig .tc .vmem S1x11x2048 .bf16) (harg12 : arg12.IsWhole) (arg13 : Memref sig .tc .vmem S96x2048 .bf16) (harg13 : arg13.IsWhole) (arg14 : Memref sig .tc .vmem S96x1 .f32) (harg14 : arg14.IsWhole) (arg15 : Memref sig .tc .vmem S6x96x2048 .f32) (harg15 : arg15.IsWhole) (arg16 : Memref sig .tc .vmem S96x6 .i32) (harg16 : arg16.IsWhole) (arg17 : Memref sig .tc .vmem S96x6 .f32) (harg17 : arg17.IsWhole) (arg18 : Memref sig .tc .vmem S96x1408 .bf16) (harg18 : arg18.IsWhole) (arg19 : Memref sig .tc .vmem S96x2048 .f32) (harg19 : arg19.IsWhole) :
    Prog (TpuEff nD τ sig (Elt F) Λ₀ .tc) (Σ' (arg0 : BitVec 32), FVec F S96x256 .f32) := do
  let ⟨arg0, v4, v6, v11, v13, v15, v22, v29, v36, v43⟩ : Σ' (arg0 : BitVec 32) (v4 : FVec F S96x2048 .bf16) (v6 : IVec S2048x256 8) (v11 : FVec F S2048x256 .bf16) (v13 : FVec F S16x256 .bf16) (v15 : FVec F S16x256 .bf16) (v22 : FVec F S128x256 .bf16) (v29 : FVec F S128x256 .bf16) (v36 : FVec F S128x256 .bf16), FVec F S128x256 .bf16 ← rest9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  let ⟨v50, v57, v64, v71, v78, v85, v92, v99, v103⟩ : Σ' (v50 : FVec F S128x256 .bf16) (v57 : FVec F S128x256 .bf16) (v64 : FVec F S128x256 .bf16) (v71 : FVec F S128x256 .bf16) (v78 : FVec F S128x256 .bf16) (v85 : FVec F S128x256 .bf16) (v92 : FVec F S128x256 .bf16) (v99 : FVec F S128x256 .bf16), FVec F S128x256 .bf16 ← k0_part10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v11 v13 v15
  let ⟨v129, v136, v138, v140, v147, v154⟩ : Σ' (v129 : FVec F S96x256 .f32) (v136 : FVec F S2048x256 .bf16) (v138 : FVec F S16x256 .bf16) (v140 : FVec F S16x256 .bf16) (v147 : FVec F S128x256 .bf16), FVec F S128x256 .bf16 ← k0_part11 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v4 v6 v11 v13 v15 v22 v29 v36 v43 v50 v57 v64 v71 v78 v85 v92 v99 v103
  let ⟨v161, v168, v175, v182, v189, v196, v203, v210, v214⟩ : Σ' (v161 : FVec F S128x256 .bf16) (v168 : FVec F S128x256 .bf16) (v175 : FVec F S128x256 .bf16) (v182 : FVec F S128x256 .bf16) (v189 : FVec F S128x256 .bf16) (v196 : FVec F S128x256 .bf16) (v203 : FVec F S128x256 .bf16) (v210 : FVec F S128x256 .bf16), FVec F S128x256 .bf16 ← k0_part12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v136 v138 v140
  let ⟨v263, v266⟩ : Σ' (v263 : IVec S2048x256 8), IVec S512x256 32 ← k0_part13 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v4 v129 v136 v138 v140 v147 v154 v161 v168 v175 v182 v189 v196 v203 v210 v214
  let ⟨v268, v270, v272, v279, v286, v293, v300, v307, v314, v318, v320⟩ : Σ' (v268 : FVec F S2048x256 .bf16) (v270 : FVec F S16x256 .bf16) (v272 : FVec F S16x256 .bf16) (v279 : FVec F S128x256 .bf16) (v286 : FVec F S128x256 .bf16) (v293 : FVec F S128x256 .bf16) (v300 : FVec F S128x256 .bf16) (v307 : FVec F S128x256 .bf16) (v314 : FVec F S128x256 .bf16) (v318 : FVec F S128x256 .bf16), FVec F S128x256 .bf16 ← k0_part14 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v266
  let ⟨v321, v328, v335, v342, v349, v356, v363, v370, v377, v378, v380⟩ : Σ' (v321 : FVec F S128x256 .bf16) (v328 : FVec F S128x256 .bf16) (v335 : FVec F S128x256 .bf16) (v342 : FVec F S128x256 .bf16) (v349 : FVec F S128x256 .bf16) (v356 : FVec F S128x256 .bf16) (v363 : FVec F S128x256 .bf16) (v370 : FVec F S128x256 .bf16) (v377 : FVec F S128x256 .bf16) (v378 : FVec F S128x256 .bf16), FVec F S128x256 .bf16 ← k0_part15 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v268 v270 v272 v318 v320
  let ⟨v386, v393, v395, v397, v404, v411, v418, v425, v429, v431⟩ : Σ' (v386 : FVec F S96x256 .f32) (v393 : FVec F S2048x256 .bf16) (v395 : FVec F S16x256 .bf16) (v397 : FVec F S16x256 .bf16) (v404 : FVec F S128x256 .bf16) (v411 : FVec F S128x256 .bf16) (v418 : FVec F S128x256 .bf16) (v425 : FVec F S128x256 .bf16) (v429 : FVec F S128x256 .bf16), FVec F S128x256 .bf16 ← k0_part16 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v4 v263 v270 v279 v286 v293 v300 v307 v314 v321 v328 v335 v342 v349 v356 v363 v370 v377 v378 v380
  let ⟨v432, v439, v446, v453, v460, v467, v474, v481, v488, v489, v491⟩ : Σ' (v432 : FVec F S128x256 .bf16) (v439 : FVec F S128x256 .bf16) (v446 : FVec F S128x256 .bf16) (v453 : FVec F S128x256 .bf16) (v460 : FVec F S128x256 .bf16) (v467 : FVec F S128x256 .bf16) (v474 : FVec F S128x256 .bf16) (v481 : FVec F S128x256 .bf16) (v488 : FVec F S128x256 .bf16) (v489 : FVec F S128x256 .bf16), FVec F S128x256 .bf16 ← k0_part17 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v393 v395 v397 v429 v431
  let ⟨v520, v525, v527, v529, v536, v537⟩ : Σ' (v520 : IVec S2048x256 8) (v525 : FVec F S2048x256 .bf16) (v527 : FVec F S16x256 .bf16) (v529 : FVec F S16x256 .bf16) (v536 : FVec F S128x256 .bf16), FVec F S128x256 .bf16 ← k0_part18 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v4 v386 v393 v395 v397 v404 v411 v418 v425 v432 v439 v446 v453 v460 v467 v474 v481 v488 v489 v491
  let ⟨v543, v550, v557, v564, v571, v578, v585, v592, v596, v597⟩ : Σ' (v543 : FVec F S128x256 .bf16) (v550 : FVec F S128x256 .bf16) (v557 : FVec F S128x256 .bf16) (v564 : FVec F S128x256 .bf16) (v571 : FVec F S128x256 .bf16) (v578 : FVec F S128x256 .bf16) (v585 : FVec F S128x256 .bf16) (v592 : FVec F S128x256 .bf16) (v596 : FVec F S128x256 .bf16), FVec F S1x256 .bf16 ← k0_part19 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v525 v527 v529 v537
  let ⟨v643, v650, v651⟩ : Σ' (v643 : FVec F S96x256 .f32) (v650 : FVec F S2048x256 .bf16), Vec F S1x16x256 .bf16 ← k0_part20 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v4 v520 v525 v527 v529 v536 v543 v550 v557 v564 v571 v578 v585 v592 v596 v597
  let ⟨v652, v654, v661, v668, v675, v682, v689, v696, v703, v707, v708⟩ : Σ' (v652 : FVec F S16x256 .bf16) (v654 : FVec F S16x256 .bf16) (v661 : FVec F S128x256 .bf16) (v668 : FVec F S128x256 .bf16) (v675 : FVec F S128x256 .bf16) (v682 : FVec F S128x256 .bf16) (v689 : FVec F S128x256 .bf16) (v696 : FVec F S128x256 .bf16) (v703 : FVec F S128x256 .bf16) (v707 : FVec F S128x256 .bf16), FVec F S1x256 .bf16 ← k0_part21 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v650 v651
  let ⟨v767, cst_60⟩ : Σ' (v767 : FVec F S2048x256 .bf16), FVec F S96x256 .f32 ← k0_part22 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v650 v652 v654 v661 v668 v675 v682 v689 v696 v703 v707 v708
  let ⟨v777, v782, v784, v786, v793, v800, v807, v814⟩ : Σ' (v777 : IVec S2048x256 8) (v782 : FVec F S2048x256 .bf16) (v784 : FVec F S16x256 .bf16) (v786 : FVec F S16x256 .bf16) (v793 : FVec F S128x256 .bf16) (v800 : FVec F S128x256 .bf16) (v807 : FVec F S128x256 .bf16), FVec F S128x256 .bf16 ← k0_part23 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v4 v643 v767 cst_60
  let ⟨v821, v828, v835, v842, v849, v856, v863, v870, v874⟩ : Σ' (v821 : FVec F S128x256 .bf16) (v828 : FVec F S128x256 .bf16) (v835 : FVec F S128x256 .bf16) (v842 : FVec F S128x256 .bf16) (v849 : FVec F S128x256 .bf16) (v856 : FVec F S128x256 .bf16) (v863 : FVec F S128x256 .bf16) (v870 : FVec F S128x256 .bf16), FVec F S128x256 .bf16 ← k0_part24 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v782 v784 v786
  let ⟨v900, v907, v909, v911, v918, v925⟩ : Σ' (v900 : FVec F S96x256 .f32) (v907 : FVec F S2048x256 .bf16) (v909 : FVec F S16x256 .bf16) (v911 : FVec F S16x256 .bf16) (v918 : FVec F S128x256 .bf16), FVec F S128x256 .bf16 ← k0_part25 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v4 v777 v782 v784 v786 v793 v800 v807 v814 v821 v828 v835 v842 v849 v856 v863 v870 v874
  let ⟨v932, v939, v946, v953, v960, v967, v974, v981, v985⟩ : Σ' (v932 : FVec F S128x256 .bf16) (v939 : FVec F S128x256 .bf16) (v946 : FVec F S128x256 .bf16) (v953 : FVec F S128x256 .bf16) (v960 : FVec F S128x256 .bf16) (v967 : FVec F S128x256 .bf16) (v974 : FVec F S128x256 .bf16) (v981 : FVec F S128x256 .bf16), FVec F S128x256 .bf16 ← k0_part26 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v907 v909 v911
  let ⟨v1034, v1037⟩ : Σ' (v1034 : IVec S2048x256 8), IVec S512x256 32 ← k0_part27 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v4 v900 v907 v909 v911 v918 v925 v932 v939 v946 v953 v960 v967 v974 v981 v985
  let ⟨v1039, v1041, v1043, v1050, v1057, v1064, v1071, v1078, v1085, v1089, v1091⟩ : Σ' (v1039 : FVec F S2048x256 .bf16) (v1041 : FVec F S16x256 .bf16) (v1043 : FVec F S16x256 .bf16) (v1050 : FVec F S128x256 .bf16) (v1057 : FVec F S128x256 .bf16) (v1064 : FVec F S128x256 .bf16) (v1071 : FVec F S128x256 .bf16) (v1078 : FVec F S128x256 .bf16) (v1085 : FVec F S128x256 .bf16) (v1089 : FVec F S128x256 .bf16), FVec F S128x256 .bf16 ← k0_part28 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1037
  let ⟨v1092, v1099, v1106, v1113, v1120, v1127, v1134, v1141, v1148, v1149, v1151⟩ : Σ' (v1092 : FVec F S128x256 .bf16) (v1099 : FVec F S128x256 .bf16) (v1106 : FVec F S128x256 .bf16) (v1113 : FVec F S128x256 .bf16) (v1120 : FVec F S128x256 .bf16) (v1127 : FVec F S128x256 .bf16) (v1134 : FVec F S128x256 .bf16) (v1141 : FVec F S128x256 .bf16) (v1148 : FVec F S128x256 .bf16) (v1149 : FVec F S128x256 .bf16), FVec F S128x256 .bf16 ← k0_part29 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1039 v1041 v1043 v1089 v1091
  let ⟨v1157, v1164, v1166, v1168, v1175, v1182, v1189, v1196, v1200, v1202⟩ : Σ' (v1157 : FVec F S96x256 .f32) (v1164 : FVec F S2048x256 .bf16) (v1166 : FVec F S16x256 .bf16) (v1168 : FVec F S16x256 .bf16) (v1175 : FVec F S128x256 .bf16) (v1182 : FVec F S128x256 .bf16) (v1189 : FVec F S128x256 .bf16) (v1196 : FVec F S128x256 .bf16) (v1200 : FVec F S128x256 .bf16), FVec F S128x256 .bf16 ← k0_part30 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v4 v1034 v1041 v1050 v1057 v1064 v1071 v1078 v1085 v1092 v1099 v1106 v1113 v1120 v1127 v1134 v1141 v1148 v1149 v1151
  let ⟨v1203, v1210, v1217, v1224, v1231, v1238, v1245, v1252, v1259, v1260, v1262⟩ : Σ' (v1203 : FVec F S128x256 .bf16) (v1210 : FVec F S128x256 .bf16) (v1217 : FVec F S128x256 .bf16) (v1224 : FVec F S128x256 .bf16) (v1231 : FVec F S128x256 .bf16) (v1238 : FVec F S128x256 .bf16) (v1245 : FVec F S128x256 .bf16) (v1252 : FVec F S128x256 .bf16) (v1259 : FVec F S128x256 .bf16) (v1260 : FVec F S128x256 .bf16), FVec F S128x256 .bf16 ← k0_part31 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1164 v1166 v1168 v1200 v1202
  let ⟨v1291, v1296, v1298, v1300, v1307, v1308⟩ : Σ' (v1291 : IVec S2048x128 8) (v1296 : FVec F S2048x128 .bf16) (v1298 : FVec F S16x128 .bf16) (v1300 : FVec F S16x128 .bf16) (v1307 : FVec F S128x128 .bf16), FVec F S128x128 .bf16 ← k0_part32 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v4 v1157 v1164 v1166 v1168 v1175 v1182 v1189 v1196 v1203 v1210 v1217 v1224 v1231 v1238 v1245 v1252 v1259 v1260 v1262
  let ⟨v1314, v1321, v1328, v1335, v1342, v1349, v1356, v1363, v1367, v1368⟩ : Σ' (v1314 : FVec F S128x128 .bf16) (v1321 : FVec F S128x128 .bf16) (v1328 : FVec F S128x128 .bf16) (v1335 : FVec F S128x128 .bf16) (v1342 : FVec F S128x128 .bf16) (v1349 : FVec F S128x128 .bf16) (v1356 : FVec F S128x128 .bf16) (v1363 : FVec F S128x128 .bf16) (v1367 : FVec F S128x128 .bf16), FVec F S1x128 .bf16 ← k0_part33 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1296 v1298 v1300 v1308
  let ⟨v1414, v1421, v1422⟩ : Σ' (v1414 : FVec F S96x128 .f32) (v1421 : FVec F S2048x128 .bf16), Vec F S1x16x128 .bf16 ← k0_part34 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v4 v1291 v1296 v1298 v1300 v1307 v1314 v1321 v1328 v1335 v1342 v1349 v1356 v1363 v1367 v1368
  let ⟨v1423, v1425, v1432, v1439, v1446, v1453, v1460, v1467, v1474, v1478, v1479⟩ : Σ' (v1423 : FVec F S16x128 .bf16) (v1425 : FVec F S16x128 .bf16) (v1432 : FVec F S128x128 .bf16) (v1439 : FVec F S128x128 .bf16) (v1446 : FVec F S128x128 .bf16) (v1453 : FVec F S128x128 .bf16) (v1460 : FVec F S128x128 .bf16) (v1467 : FVec F S128x128 .bf16) (v1474 : FVec F S128x128 .bf16) (v1478 : FVec F S128x128 .bf16), FVec F S1x128 .bf16 ← k0_part35 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1421 v1422
  let ⟨v1538, cst_123⟩ : Σ' (v1538 : FVec F S2048x128 .bf16), FVec F S96x128 .f32 ← k0_part36 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1421 v1423 v1425 v1432 v1439 v1446 v1453 v1460 v1467 v1474 v1478 v1479
  let ⟨v1547, v1549, v1552, v1555, v1558, v1561, v1564, v1567, v1584⟩ : Σ' (v1547 : Vec F S96x1408 .bf16) (v1549 : Vec F S96x6 .f32) (v1552 : IVec S96x1 1) (v1555 : IVec S96x1 1) (v1558 : IVec S96x1 1) (v1561 : IVec S96x1 1) (v1564 : IVec S96x1 1) (v1567 : IVec S96x1 1), FVec F S96x1 .f32 ← k0_part37 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v4 v1414 v1538 cst_123
  let ⟨v1592, v1594, v1599, v1601, v1603, v1610, v1617, v1624, v1631, v1632⟩ : Σ' (v1592 : FVec F S96x1 .f32) (v1594 : IVec S1408x256 8) (v1599 : FVec F S1408x256 .bf16) (v1601 : FVec F S11x256 .bf16) (v1603 : FVec F S11x256 .bf16) (v1610 : FVec F S128x256 .bf16) (v1617 : FVec F S128x256 .bf16) (v1624 : FVec F S128x256 .bf16) (v1631 : FVec F S128x256 .bf16), FVec F S128x256 .bf16 ← k0_part38 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1549 v1564 v1567 v1584
  let ⟨v1682, v1686, v1687⟩ : Σ' (v1682 : FVec F S96x256 .f32) (v1686 : FVec F S96x256 .f32), Vec F S96x256 .f32 ← k0_part39 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1547 v1592 v1599 v1601 v1603 v1610 v1617 v1624 v1631 v1632
  let ⟨v1718, v1719⟩ : Σ' (v1718 : FVec F S96x256 .f32), Vec F S1x96x256 .f32 ← k0_part40 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1552 v1555 v1558 v1561 v1682 v1686 v1687
  let ⟨v1744, v1746, v1748, v1755, v1756⟩ : Σ' (v1744 : FVec F S1408x256 .bf16) (v1746 : FVec F S11x256 .bf16) (v1748 : FVec F S11x256 .bf16) (v1755 : FVec F S128x256 .bf16), FVec F S128x256 .bf16 ← k0_part41 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1564 v1567 v1594 v1682 v1718 v1719
  let ⟨v1762, v1769, v1776, v1783, v1790, v1797, v1804, v1811, v1815, v1816⟩ : Σ' (v1762 : FVec F S128x256 .bf16) (v1769 : FVec F S128x256 .bf16) (v1776 : FVec F S128x256 .bf16) (v1783 : FVec F S128x256 .bf16) (v1790 : FVec F S128x256 .bf16) (v1797 : FVec F S128x256 .bf16) (v1804 : FVec F S128x256 .bf16) (v1811 : FVec F S128x256 .bf16) (v1815 : FVec F S128x256 .bf16), FVec F S1x256 .bf16 ← k0_part42 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1744 v1746 v1748 v1756
  let ⟨v1827, v1852, v1853⟩ : Σ' (v1827 : FVec F S96x256 .f32) (v1852 : FVec F S96x256 .f32), IVec S96x1 1 ← k0_part43 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1547 v1552 v1555 v1558 v1592 v1744 v1746 v1748 v1755 v1762 v1769 v1776 v1783 v1790 v1797 v1804 v1811 v1815 v1816
  let ⟨v1884, v1885⟩ : Σ' (v1884 : IVec S1408x256 8), IVec S352x256 32 ← k0_part44 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1561 v1564 v1567 v1827 v1852 v1853
  let ⟨v1889, v1891, v1893, v1900, v1907, v1914, v1921, v1928, v1935, v1936, v1938⟩ : Σ' (v1889 : FVec F S1408x256 .bf16) (v1891 : FVec F S11x256 .bf16) (v1893 : FVec F S11x256 .bf16) (v1900 : FVec F S128x256 .bf16) (v1907 : FVec F S128x256 .bf16) (v1914 : FVec F S128x256 .bf16) (v1921 : FVec F S128x256 .bf16) (v1928 : FVec F S128x256 .bf16) (v1935 : FVec F S128x256 .bf16) (v1936 : FVec F S128x256 .bf16), FVec F S128x256 .bf16 ← k0_part45 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1885
  let ⟨v1972, v1984⟩ : Σ' (v1972 : FVec F S96x256 .f32), FVec F S96x256 .f32 ← k0_part46 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1547 v1552 v1592 v1889 v1891 v1893 v1900 v1907 v1914 v1921 v1928 v1935 v1936 v1938
  let v2016 : FVec F S96x256 .f32 ← k0_part47 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1555 v1558 v1561 v1564 v1972 v1984
  let ⟨v2034, v2036, v2038, v2045, v2052, v2059, v2060, v2062⟩ : Σ' (v2034 : FVec F S1408x256 .bf16) (v2036 : FVec F S11x256 .bf16) (v2038 : FVec F S11x256 .bf16) (v2045 : FVec F S128x256 .bf16) (v2052 : FVec F S128x256 .bf16) (v2059 : FVec F S128x256 .bf16) (v2060 : FVec F S128x256 .bf16), FVec F S128x256 .bf16 ← k0_part48 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1567 v1884 v1972 v2016
  let ⟨v2117, v2118, v2119⟩ : Σ' (v2117 : FVec F S96x256 .f32) (v2118 : Vec F S96x256 .f32), FVec F S96x256 .f32 ← k0_part49 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1547 v1592 v2034 v2036 v2038 v2045 v2052 v2059 v2060 v2062
  let ⟨v2150, v2152⟩ : Σ' (v2150 : FVec F S96x256 .f32), IVec S96x256 1 ← k0_part50 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1552 v1555 v1558 v1561 v2117 v2118 v2119
  let ⟨v2174, v2179, v2181, v2183, v2184⟩ : Σ' (v2174 : IVec S1408x256 8) (v2179 : FVec F S1408x256 .bf16) (v2181 : FVec F S11x256 .bf16) (v2183 : FVec F S11x256 .bf16), FVec F S128x256 .bf16 ← k0_part51 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1564 v1567 v2117 v2150 v2152
  let ⟨v2190, v2197, v2204, v2211, v2218, v2225, v2232, v2239, v2243, v2244⟩ : Σ' (v2190 : FVec F S128x256 .bf16) (v2197 : FVec F S128x256 .bf16) (v2204 : FVec F S128x256 .bf16) (v2211 : FVec F S128x256 .bf16) (v2218 : FVec F S128x256 .bf16) (v2225 : FVec F S128x256 .bf16) (v2232 : FVec F S128x256 .bf16) (v2239 : FVec F S128x256 .bf16) (v2243 : FVec F S128x256 .bf16), FVec F S1x256 .bf16 ← k0_part52 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2179 v2181 v2183 v2184
  let ⟨v2262, v2285⟩ : Σ' (v2262 : FVec F S96x256 .f32), FVec F S1x96x256 .f32 ← k0_part53 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1547 v1552 v1555 v1592 v2179 v2181 v2183 v2190 v2197 v2204 v2211 v2218 v2225 v2232 v2239 v2243 v2244
  let v2317 : FVec F S1x96x256 .f32 ← k0_part54 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1558 v1561 v1564 v1567 v2262 v2285
  let ⟨v2324, v2326, v2328, v2335, v2342, v2349, v2356, v2363, v2367, v2368⟩ : Σ' (v2324 : FVec F S1408x256 .bf16) (v2326 : FVec F S11x256 .bf16) (v2328 : FVec F S11x256 .bf16) (v2335 : FVec F S128x256 .bf16) (v2342 : FVec F S128x256 .bf16) (v2349 : FVec F S128x256 .bf16) (v2356 : FVec F S128x256 .bf16) (v2363 : FVec F S128x256 .bf16) (v2367 : FVec F S128x256 .bf16), FVec F S1x256 .bf16 ← k0_part55 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2174 v2317
  let ⟨v2407, v2419⟩ : Σ' (v2407 : FVec F S96x256 .f32), FVec F S96x256 .f32 ← k0_part56 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1547 v1552 v1592 v2324 v2326 v2328 v2335 v2342 v2349 v2356 v2363 v2367 v2368
  let v2451 : FVec F S96x256 .f32 ← k0_part57 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1555 v1558 v1561 v1564 v2407 v2419
  let ⟨v2464, v2469, v2471, v2473, v2480, v2487, v2488, v2490⟩ : Σ' (v2464 : IVec S1408x256 8) (v2469 : FVec F S1408x256 .bf16) (v2471 : FVec F S11x256 .bf16) (v2473 : FVec F S11x256 .bf16) (v2480 : FVec F S128x256 .bf16) (v2487 : FVec F S128x256 .bf16) (v2488 : FVec F S128x256 .bf16), FVec F S128x256 .bf16 ← k0_part58 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1567 v2407 v2451
  let ⟨v2494, v2501, v2508, v2515, v2522, v2529, v2536, v2543, v2550⟩ : Σ' (v2494 : FVec F S128x256 .bf16) (v2501 : FVec F S128x256 .bf16) (v2508 : FVec F S128x256 .bf16) (v2515 : FVec F S128x256 .bf16) (v2522 : FVec F S128x256 .bf16) (v2529 : FVec F S128x256 .bf16) (v2536 : FVec F S128x256 .bf16) (v2543 : FVec F S128x256 .bf16), FVec F S128x256 .bf16 ← k0_part59 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2469 v2471 v2473 v2488 v2490
  let v2552 : FVec F S96x256 .f32 ← k0_part60 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1547 v1552 v1555 v1558 v1592 v2480 v2487 v2494 v2501 v2508 v2515 v2522 v2529 v2536 v2543 v2550
  let ⟨v2614, v2616⟩ : Σ' (v2614 : FVec F S1408x256 .bf16), FVec F S11x256 .bf16 ← k0_part61 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1561 v1564 v1567 v2464 v2552
  let ⟨v2618, v2625, v2632, v2639, v2646, v2653, v2660, v2667, v2674⟩ : Σ' (v2618 : FVec F S11x256 .bf16) (v2625 : FVec F S128x256 .bf16) (v2632 : FVec F S128x256 .bf16) (v2639 : FVec F S128x256 .bf16) (v2646 : FVec F S128x256 .bf16) (v2653 : FVec F S128x256 .bf16) (v2660 : FVec F S128x256 .bf16) (v2667 : FVec F S128x256 .bf16), FVec F S128x256 .bf16 ← k0_part62 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2614 v2616
  let ⟨v2697, v2717⟩ : Σ' (v2697 : FVec F S96x256 .f32), FVec F S96x256 .f32 ← k0_part63 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1547 v1552 v1555 v1592 v2614 v2616 v2618 v2625 v2632 v2639 v2646 v2653 v2660 v2667 v2674
  let v2749 : FVec F S96x256 .f32 ← k0_part64 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1558 v1561 v1564 v1567 v2697 v2717
  let v2750 : Vec F S1x96x256 .f32 ← Prog.lift (.load arg15 (Rect.unit (s := S6x96x2048) ![5, 0, 1792] S1x96x256.size inb_S6x96x2048_S1x96x256_5_0_1792).toLoadRect (View.loadsAt_vmem h_S1x96x256))
  pure ⟨arg0, v2749⟩

/-- The middle stretch: the work for one slot. -/
def mid (i : grid0.Coords) (arg1 : Memref sig .tc .smem S64 .i32) (harg1 : arg1.IsWhole) (arg2 : Memref sig .tc .vmem S96x2048 .bf16) (harg2 : arg2.IsWhole) (arg3 : Memref sig .tc .vmem S96x6 .i32) (harg3 : arg3.IsWhole) (arg4 : Memref sig .tc .vmem S96x6 .f32) (harg4 : arg4.IsWhole) (arg5 : Memref sig .tc .vmem S1x2048x1408 .i8) (harg5 : arg5.IsWhole) (arg6 : Memref sig .tc .vmem S1x16x1408 .bf16) (harg6 : arg6.IsWhole) (arg7 : Memref sig .tc .vmem S1x16x1408 .bf16) (harg7 : arg7.IsWhole) (arg8 : Memref sig .tc .vmem S1x16x1408 .bf16) (harg8 : arg8.IsWhole) (arg9 : Memref sig .tc .vmem S1x16x1408 .bf16) (harg9 : arg9.IsWhole) (arg10 : Memref sig .tc .vmem S1x1408x1024 .i8) (harg10 : arg10.IsWhole) (arg11 : Memref sig .tc .vmem S1x11x2048 .bf16) (harg11 : arg11.IsWhole) (arg12 : Memref sig .tc .vmem S1x11x2048 .bf16) (harg12 : arg12.IsWhole) (arg13 : Memref sig .tc .vmem S96x2048 .bf16) (harg13 : arg13.IsWhole) (arg14 : Memref sig .tc .vmem S96x1 .f32) (harg14 : arg14.IsWhole) (arg15 : Memref sig .tc .vmem S6x96x2048 .f32) (harg15 : arg15.IsWhole) (arg16 : Memref sig .tc .vmem S96x6 .i32) (harg16 : arg16.IsWhole) (arg17 : Memref sig .tc .vmem S96x6 .f32) (harg17 : arg17.IsWhole) (arg18 : Memref sig .tc .vmem S96x1408 .bf16) (harg18 : arg18.IsWhole) (arg19 : Memref sig .tc .vmem S96x2048 .f32) (harg19 : arg19.IsWhole) :
    Prog (TpuEff nD τ sig (Elt F) Λ₀ .tc) PUnit := do
  let ⟨arg0, v2749⟩ : Σ' (arg0 : BitVec 32), FVec F S96x256 .f32 ← rest65 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  Prog.lift (.store arg15 (Rect.unit (s := S6x96x2048) ![5, 0, 1792] S1x96x256.size inb_S6x96x2048_S1x96x256_5_0_1792) (k0_pay1 v2749) Finset.univ (View.stores_vmem_bits_univ h_S1x96x256 rfl) (.inl rfl))
  pure ⟨⟩

/-- The closing stretch. -/
def fin0 (i : grid0.Coords) (arg1 : Memref sig .tc .smem S64 .i32) (harg1 : arg1.IsWhole) (arg2 : Memref sig .tc .vmem S96x2048 .bf16) (harg2 : arg2.IsWhole) (arg3 : Memref sig .tc .vmem S96x6 .i32) (harg3 : arg3.IsWhole) (arg4 : Memref sig .tc .vmem S96x6 .f32) (harg4 : arg4.IsWhole) (arg5 : Memref sig .tc .vmem S1x2048x1408 .i8) (harg5 : arg5.IsWhole) (arg6 : Memref sig .tc .vmem S1x16x1408 .bf16) (harg6 : arg6.IsWhole) (arg7 : Memref sig .tc .vmem S1x16x1408 .bf16) (harg7 : arg7.IsWhole) (arg8 : Memref sig .tc .vmem S1x16x1408 .bf16) (harg8 : arg8.IsWhole) (arg9 : Memref sig .tc .vmem S1x16x1408 .bf16) (harg9 : arg9.IsWhole) (arg10 : Memref sig .tc .vmem S1x1408x1024 .i8) (harg10 : arg10.IsWhole) (arg11 : Memref sig .tc .vmem S1x11x2048 .bf16) (harg11 : arg11.IsWhole) (arg12 : Memref sig .tc .vmem S1x11x2048 .bf16) (harg12 : arg12.IsWhole) (arg13 : Memref sig .tc .vmem S96x2048 .bf16) (harg13 : arg13.IsWhole) (arg14 : Memref sig .tc .vmem S96x1 .f32) (harg14 : arg14.IsWhole) (arg15 : Memref sig .tc .vmem S6x96x2048 .f32) (harg15 : arg15.IsWhole) (arg16 : Memref sig .tc .vmem S96x6 .i32) (harg16 : arg16.IsWhole) (arg17 : Memref sig .tc .vmem S96x6 .f32) (harg17 : arg17.IsWhole) (arg18 : Memref sig .tc .vmem S96x1408 .bf16) (harg18 : arg18.IsWhole) (arg19 : Memref sig .tc .vmem S96x2048 .f32) (harg19 : arg19.IsWhole) :
    Prog (TpuEff nD τ sig (Elt F) Λ₀ .tc) PUnit := do
  let v2756 : Vec F S96x2048 .f32 ← Prog.lift (.load arg19 (Rect.unit (s := S96x2048) ![0, 0] S96x2048.size inb_S96x2048_S96x2048_0_0).toLoadRect (View.loadsAt_vmem h_S96x2048))
  let v2758 : Vec F S96x2048 .bf16 ← Prog.lift (.load arg13 (Rect.unit (s := S96x2048) ![0, 0] S96x2048.size inb_S96x2048_S96x2048_0_0).toLoadRect (View.loadsAt_vmem h_S96x2048))
  Prog.lift (.store arg13 (Rect.unit (s := S96x2048) ![0, 0] S96x2048.size inb_S96x2048_S96x2048_0_0) (k0_pay2 v2756) Finset.univ (View.stores_vmem h_S96x2048 (harg13.storeExact_slice rfl _ packedbf16_S96x2048_S96x2048_0_0) (fun _ => rfl)) (.inl rfl))
  pure ⟨⟩

theorem part9_pos (i : grid0.Coords) (arg1 : Memref sig .tc .smem S64 .i32) (harg1 : arg1.IsWhole) (arg2 : Memref sig .tc .vmem S96x2048 .bf16) (harg2 : arg2.IsWhole) (arg3 : Memref sig .tc .vmem S96x6 .i32) (harg3 : arg3.IsWhole) (arg4 : Memref sig .tc .vmem S96x6 .f32) (harg4 : arg4.IsWhole) (arg5 : Memref sig .tc .vmem S1x2048x1408 .i8) (harg5 : arg5.IsWhole) (arg6 : Memref sig .tc .vmem S1x16x1408 .bf16) (harg6 : arg6.IsWhole) (arg7 : Memref sig .tc .vmem S1x16x1408 .bf16) (harg7 : arg7.IsWhole) (arg8 : Memref sig .tc .vmem S1x16x1408 .bf16) (harg8 : arg8.IsWhole) (arg9 : Memref sig .tc .vmem S1x16x1408 .bf16) (harg9 : arg9.IsWhole) (arg10 : Memref sig .tc .vmem S1x1408x1024 .i8) (harg10 : arg10.IsWhole) (arg11 : Memref sig .tc .vmem S1x11x2048 .bf16) (harg11 : arg11.IsWhole) (arg12 : Memref sig .tc .vmem S1x11x2048 .bf16) (harg12 : arg12.IsWhole) (arg13 : Memref sig .tc .vmem S96x2048 .bf16) (harg13 : arg13.IsWhole) (arg14 : Memref sig .tc .vmem S96x1 .f32) (harg14 : arg14.IsWhole) (arg15 : Memref sig .tc .vmem S6x96x2048 .f32) (harg15 : arg15.IsWhole) (arg16 : Memref sig .tc .vmem S96x6 .i32) (harg16 : arg16.IsWhole) (arg17 : Memref sig .tc .vmem S96x6 .f32) (harg17 : arg17.IsWhole) (arg18 : Memref sig .tc .vmem S96x1408 .bf16) (harg18 : arg18.IsWhole) (arg19 : Memref sig .tc .vmem S96x2048 .f32) (harg19 : arg19.IsWhole) (h : k0_cond1 i = 1#1) :
    k0_part9 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 = init0 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 >>= fun _ => rest9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 := by
  rw [k0_part9_eq_skeleton]; unfold k0_part9_skel init0 rest9
  simp only [h, dite_true, bind, Prog.bind_assoc]
  rfl

theorem part9_neg (i : grid0.Coords) (arg1 : Memref sig .tc .smem S64 .i32) (harg1 : arg1.IsWhole) (arg2 : Memref sig .tc .vmem S96x2048 .bf16) (harg2 : arg2.IsWhole) (arg3 : Memref sig .tc .vmem S96x6 .i32) (harg3 : arg3.IsWhole) (arg4 : Memref sig .tc .vmem S96x6 .f32) (harg4 : arg4.IsWhole) (arg5 : Memref sig .tc .vmem S1x2048x1408 .i8) (harg5 : arg5.IsWhole) (arg6 : Memref sig .tc .vmem S1x16x1408 .bf16) (harg6 : arg6.IsWhole) (arg7 : Memref sig .tc .vmem S1x16x1408 .bf16) (harg7 : arg7.IsWhole) (arg8 : Memref sig .tc .vmem S1x16x1408 .bf16) (harg8 : arg8.IsWhole) (arg9 : Memref sig .tc .vmem S1x16x1408 .bf16) (harg9 : arg9.IsWhole) (arg10 : Memref sig .tc .vmem S1x1408x1024 .i8) (harg10 : arg10.IsWhole) (arg11 : Memref sig .tc .vmem S1x11x2048 .bf16) (harg11 : arg11.IsWhole) (arg12 : Memref sig .tc .vmem S1x11x2048 .bf16) (harg12 : arg12.IsWhole) (arg13 : Memref sig .tc .vmem S96x2048 .bf16) (harg13 : arg13.IsWhole) (arg14 : Memref sig .tc .vmem S96x1 .f32) (harg14 : arg14.IsWhole) (arg15 : Memref sig .tc .vmem S6x96x2048 .f32) (harg15 : arg15.IsWhole) (arg16 : Memref sig .tc .vmem S96x6 .i32) (harg16 : arg16.IsWhole) (arg17 : Memref sig .tc .vmem S96x6 .f32) (harg17 : arg17.IsWhole) (arg18 : Memref sig .tc .vmem S96x1408 .bf16) (harg18 : arg18.IsWhole) (arg19 : Memref sig .tc .vmem S96x2048 .f32) (harg19 : arg19.IsWhole) (h : ¬ k0_cond1 i = 1#1) :
    k0_part9 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 = rest9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 := by
  rw [k0_part9_eq_skeleton]; unfold k0_part9_skel rest9
  simp only [h, dite_false, bind, Prog.bind_assoc]

theorem part65_pos (i : grid0.Coords) (arg1 : Memref sig .tc .smem S64 .i32) (harg1 : arg1.IsWhole) (arg2 : Memref sig .tc .vmem S96x2048 .bf16) (harg2 : arg2.IsWhole) (arg3 : Memref sig .tc .vmem S96x6 .i32) (harg3 : arg3.IsWhole) (arg4 : Memref sig .tc .vmem S96x6 .f32) (harg4 : arg4.IsWhole) (arg5 : Memref sig .tc .vmem S1x2048x1408 .i8) (harg5 : arg5.IsWhole) (arg6 : Memref sig .tc .vmem S1x16x1408 .bf16) (harg6 : arg6.IsWhole) (arg7 : Memref sig .tc .vmem S1x16x1408 .bf16) (harg7 : arg7.IsWhole) (arg8 : Memref sig .tc .vmem S1x16x1408 .bf16) (harg8 : arg8.IsWhole) (arg9 : Memref sig .tc .vmem S1x16x1408 .bf16) (harg9 : arg9.IsWhole) (arg10 : Memref sig .tc .vmem S1x1408x1024 .i8) (harg10 : arg10.IsWhole) (arg11 : Memref sig .tc .vmem S1x11x2048 .bf16) (harg11 : arg11.IsWhole) (arg12 : Memref sig .tc .vmem S1x11x2048 .bf16) (harg12 : arg12.IsWhole) (arg13 : Memref sig .tc .vmem S96x2048 .bf16) (harg13 : arg13.IsWhole) (arg14 : Memref sig .tc .vmem S96x1 .f32) (harg14 : arg14.IsWhole) (arg15 : Memref sig .tc .vmem S6x96x2048 .f32) (harg15 : arg15.IsWhole) (arg16 : Memref sig .tc .vmem S96x6 .i32) (harg16 : arg16.IsWhole) (arg17 : Memref sig .tc .vmem S96x6 .f32) (harg17 : arg17.IsWhole) (arg18 : Memref sig .tc .vmem S96x1408 .bf16) (harg18 : arg18.IsWhole) (arg19 : Memref sig .tc .vmem S96x2048 .f32) (harg19 : arg19.IsWhole) (h : k0_cond1 i = 1#1) :
    k0_part65 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 = init0 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 >>= fun _ => rest65 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 := by
  rw [k0_part65_eq_skeleton]; unfold k0_part65_skel rest65
  rw [part9_pos _ _ _ _ _ _ _ _ _ _ _ _ _ _ _ _ _ _ _ _ _ _ _ _ _ _ _ _ _ _ _ _ _ _ _ _ _ _ _ h]
  exact Prog.bind_assoc _ _ _

theorem part65_neg (i : grid0.Coords) (arg1 : Memref sig .tc .smem S64 .i32) (harg1 : arg1.IsWhole) (arg2 : Memref sig .tc .vmem S96x2048 .bf16) (harg2 : arg2.IsWhole) (arg3 : Memref sig .tc .vmem S96x6 .i32) (harg3 : arg3.IsWhole) (arg4 : Memref sig .tc .vmem S96x6 .f32) (harg4 : arg4.IsWhole) (arg5 : Memref sig .tc .vmem S1x2048x1408 .i8) (harg5 : arg5.IsWhole) (arg6 : Memref sig .tc .vmem S1x16x1408 .bf16) (harg6 : arg6.IsWhole) (arg7 : Memref sig .tc .vmem S1x16x1408 .bf16) (harg7 : arg7.IsWhole) (arg8 : Memref sig .tc .vmem S1x16x1408 .bf16) (harg8 : arg8.IsWhole) (arg9 : Memref sig .tc .vmem S1x16x1408 .bf16) (harg9 : arg9.IsWhole) (arg10 : Memref sig .tc .vmem S1x1408x1024 .i8) (harg10 : arg10.IsWhole) (arg11 : Memref sig .tc .vmem S1x11x2048 .bf16) (harg11 : arg11.IsWhole) (arg12 : Memref sig .tc .vmem S1x11x2048 .bf16) (harg12 : arg12.IsWhole) (arg13 : Memref sig .tc .vmem S96x2048 .bf16) (harg13 : arg13.IsWhole) (arg14 : Memref sig .tc .vmem S96x1 .f32) (harg14 : arg14.IsWhole) (arg15 : Memref sig .tc .vmem S6x96x2048 .f32) (harg15 : arg15.IsWhole) (arg16 : Memref sig .tc .vmem S96x6 .i32) (harg16 : arg16.IsWhole) (arg17 : Memref sig .tc .vmem S96x6 .f32) (harg17 : arg17.IsWhole) (arg18 : Memref sig .tc .vmem S96x1408 .bf16) (harg18 : arg18.IsWhole) (arg19 : Memref sig .tc .vmem S96x2048 .f32) (harg19 : arg19.IsWhole) (h : ¬ k0_cond1 i = 1#1) :
    k0_part65 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 = rest65 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 := by
  rw [k0_part65_eq_skeleton]; unfold k0_part65_skel rest65
  rw [part9_neg _ _ _ _ _ _ _ _ _ _ _ _ _ _ _ _ _ _ _ _ _ _ _ _ _ _ _ _ _ _ _ _ _ _ _ _ _ _ _ h]

/-- The body at the first grid point. -/
theorem body_first (i : grid0.Coords) (arg1 : Memref sig .tc .smem S64 .i32) (harg1 : arg1.IsWhole) (arg2 : Memref sig .tc .vmem S96x2048 .bf16) (harg2 : arg2.IsWhole) (arg3 : Memref sig .tc .vmem S96x6 .i32) (harg3 : arg3.IsWhole) (arg4 : Memref sig .tc .vmem S96x6 .f32) (harg4 : arg4.IsWhole) (arg5 : Memref sig .tc .vmem S1x2048x1408 .i8) (harg5 : arg5.IsWhole) (arg6 : Memref sig .tc .vmem S1x16x1408 .bf16) (harg6 : arg6.IsWhole) (arg7 : Memref sig .tc .vmem S1x16x1408 .bf16) (harg7 : arg7.IsWhole) (arg8 : Memref sig .tc .vmem S1x16x1408 .bf16) (harg8 : arg8.IsWhole) (arg9 : Memref sig .tc .vmem S1x16x1408 .bf16) (harg9 : arg9.IsWhole) (arg10 : Memref sig .tc .vmem S1x1408x1024 .i8) (harg10 : arg10.IsWhole) (arg11 : Memref sig .tc .vmem S1x11x2048 .bf16) (harg11 : arg11.IsWhole) (arg12 : Memref sig .tc .vmem S1x11x2048 .bf16) (harg12 : arg12.IsWhole) (arg13 : Memref sig .tc .vmem S96x2048 .bf16) (harg13 : arg13.IsWhole) (arg14 : Memref sig .tc .vmem S96x1 .f32) (harg14 : arg14.IsWhole) (arg15 : Memref sig .tc .vmem S6x96x2048 .f32) (harg15 : arg15.IsWhole) (arg16 : Memref sig .tc .vmem S96x6 .i32) (harg16 : arg16.IsWhole) (arg17 : Memref sig .tc .vmem S96x6 .f32) (harg17 : arg17.IsWhole) (arg18 : Memref sig .tc .vmem S96x1408 .bf16) (harg18 : arg18.IsWhole) (arg19 : Memref sig .tc .vmem S96x2048 .f32) (harg19 : arg19.IsWhole) (h : k0_cond1 i = 1#1) (h2 : ¬ k0_cond2 i = 1#1) :
    cc0__body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 = init0 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 >>= fun _ => mid i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 := by
  rw [cc0__body_eq_skeleton]; unfold cc0__body_skel mid
  rw [part65_pos _ _ _ _ _ _ _ _ _ _ _ _ _ _ _ _ _ _ _ _ _ _ _ _ _ _ _ _ _ _ _ _ _ _ _ _ _ _ _ h]
  simp only [h2, dite_false, bind_assoc, pure_bind]

/-- The body at a grid point that is neither the first nor the last. -/
theorem body_middle (i : grid0.Coords) (arg1 : Memref sig .tc .smem S64 .i32) (harg1 : arg1.IsWhole) (arg2 : Memref sig .tc .vmem S96x2048 .bf16) (harg2 : arg2.IsWhole) (arg3 : Memref sig .tc .vmem S96x6 .i32) (harg3 : arg3.IsWhole) (arg4 : Memref sig .tc .vmem S96x6 .f32) (harg4 : arg4.IsWhole) (arg5 : Memref sig .tc .vmem S1x2048x1408 .i8) (harg5 : arg5.IsWhole) (arg6 : Memref sig .tc .vmem S1x16x1408 .bf16) (harg6 : arg6.IsWhole) (arg7 : Memref sig .tc .vmem S1x16x1408 .bf16) (harg7 : arg7.IsWhole) (arg8 : Memref sig .tc .vmem S1x16x1408 .bf16) (harg8 : arg8.IsWhole) (arg9 : Memref sig .tc .vmem S1x16x1408 .bf16) (harg9 : arg9.IsWhole) (arg10 : Memref sig .tc .vmem S1x1408x1024 .i8) (harg10 : arg10.IsWhole) (arg11 : Memref sig .tc .vmem S1x11x2048 .bf16) (harg11 : arg11.IsWhole) (arg12 : Memref sig .tc .vmem S1x11x2048 .bf16) (harg12 : arg12.IsWhole) (arg13 : Memref sig .tc .vmem S96x2048 .bf16) (harg13 : arg13.IsWhole) (arg14 : Memref sig .tc .vmem S96x1 .f32) (harg14 : arg14.IsWhole) (arg15 : Memref sig .tc .vmem S6x96x2048 .f32) (harg15 : arg15.IsWhole) (arg16 : Memref sig .tc .vmem S96x6 .i32) (harg16 : arg16.IsWhole) (arg17 : Memref sig .tc .vmem S96x6 .f32) (harg17 : arg17.IsWhole) (arg18 : Memref sig .tc .vmem S96x1408 .bf16) (harg18 : arg18.IsWhole) (arg19 : Memref sig .tc .vmem S96x2048 .f32) (harg19 : arg19.IsWhole) (h : ¬ k0_cond1 i = 1#1) (h2 : ¬ k0_cond2 i = 1#1) :
    cc0__body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 = mid i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 := by
  rw [cc0__body_eq_skeleton]; unfold cc0__body_skel mid
  rw [part65_neg _ _ _ _ _ _ _ _ _ _ _ _ _ _ _ _ _ _ _ _ _ _ _ _ _ _ _ _ _ _ _ _ _ _ _ _ _ _ _ h]
  simp only [h2, dite_false, bind_assoc, pure_bind]

/-- The body at the last grid point. -/
theorem body_last (i : grid0.Coords) (arg1 : Memref sig .tc .smem S64 .i32) (harg1 : arg1.IsWhole) (arg2 : Memref sig .tc .vmem S96x2048 .bf16) (harg2 : arg2.IsWhole) (arg3 : Memref sig .tc .vmem S96x6 .i32) (harg3 : arg3.IsWhole) (arg4 : Memref sig .tc .vmem S96x6 .f32) (harg4 : arg4.IsWhole) (arg5 : Memref sig .tc .vmem S1x2048x1408 .i8) (harg5 : arg5.IsWhole) (arg6 : Memref sig .tc .vmem S1x16x1408 .bf16) (harg6 : arg6.IsWhole) (arg7 : Memref sig .tc .vmem S1x16x1408 .bf16) (harg7 : arg7.IsWhole) (arg8 : Memref sig .tc .vmem S1x16x1408 .bf16) (harg8 : arg8.IsWhole) (arg9 : Memref sig .tc .vmem S1x16x1408 .bf16) (harg9 : arg9.IsWhole) (arg10 : Memref sig .tc .vmem S1x1408x1024 .i8) (harg10 : arg10.IsWhole) (arg11 : Memref sig .tc .vmem S1x11x2048 .bf16) (harg11 : arg11.IsWhole) (arg12 : Memref sig .tc .vmem S1x11x2048 .bf16) (harg12 : arg12.IsWhole) (arg13 : Memref sig .tc .vmem S96x2048 .bf16) (harg13 : arg13.IsWhole) (arg14 : Memref sig .tc .vmem S96x1 .f32) (harg14 : arg14.IsWhole) (arg15 : Memref sig .tc .vmem S6x96x2048 .f32) (harg15 : arg15.IsWhole) (arg16 : Memref sig .tc .vmem S96x6 .i32) (harg16 : arg16.IsWhole) (arg17 : Memref sig .tc .vmem S96x6 .f32) (harg17 : arg17.IsWhole) (arg18 : Memref sig .tc .vmem S96x1408 .bf16) (harg18 : arg18.IsWhole) (arg19 : Memref sig .tc .vmem S96x2048 .f32) (harg19 : arg19.IsWhole) (h : ¬ k0_cond1 i = 1#1) (h2 : k0_cond2 i = 1#1) :
    cc0__body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 = mid i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 >>= fun _ => fin0 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 := by
  rw [cc0__body_eq_skeleton]; unfold cc0__body_skel mid fin0
  rw [part65_neg _ _ _ _ _ _ _ _ _ _ _ _ _ _ _ _ _ _ _ _ _ _ _ _ _ _ _ _ _ _ _ _ _ _ _ _ _ _ _ h]
  simp only [h2, dite_true, bind_assoc, pure_bind]

end Cert.KernelIdeal.Hand

end
-- ==== Proof.RunMid.lean ====
/- The run of the middle stretch of the body. -/
module

public import proofs.«01_k».proof.Proof.Cut

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the middle stretch leaves in the buffers it stores into, as pieces (last first), with the
    proof that it runs to them from given contents. -/
noncomputable def runMid (c : Dev nD) (i : grid0.Coords) (arg1 : Memref sig .tc .smem S64 .i32) (harg1 : arg1.IsWhole) (arg2 : Memref sig .tc .vmem S96x2048 .bf16) (harg2 : arg2.IsWhole) (arg3 : Memref sig .tc .vmem S96x6 .i32) (harg3 : arg3.IsWhole) (arg4 : Memref sig .tc .vmem S96x6 .f32) (harg4 : arg4.IsWhole) (arg5 : Memref sig .tc .vmem S1x2048x1408 .i8) (harg5 : arg5.IsWhole) (arg6 : Memref sig .tc .vmem S1x16x1408 .bf16) (harg6 : arg6.IsWhole) (arg7 : Memref sig .tc .vmem S1x16x1408 .bf16) (harg7 : arg7.IsWhole) (arg8 : Memref sig .tc .vmem S1x16x1408 .bf16) (harg8 : arg8.IsWhole) (arg9 : Memref sig .tc .vmem S1x16x1408 .bf16) (harg9 : arg9.IsWhole) (arg10 : Memref sig .tc .vmem S1x1408x1024 .i8) (harg10 : arg10.IsWhole) (arg11 : Memref sig .tc .vmem S1x11x2048 .bf16) (harg11 : arg11.IsWhole) (arg12 : Memref sig .tc .vmem S1x11x2048 .bf16) (harg12 : arg12.IsWhole) (arg13 : Memref sig .tc .vmem S96x2048 .bf16) (harg13 : arg13.IsWhole) (arg14 : Memref sig .tc .vmem S96x1 .f32) (harg14 : arg14.IsWhole) (arg15 : Memref sig .tc .vmem S6x96x2048 .f32) (harg15 : arg15.IsWhole) (arg16 : Memref sig .tc .vmem S96x6 .i32) (harg16 : arg16.IsWhole) (arg17 : Memref sig .tc .vmem S96x6 .f32) (harg17 : arg17.IsWhole) (arg18 : Memref sig .tc .vmem S96x1408 .bf16) (harg18 : arg18.IsWhole) (arg19 : Memref sig .tc .vmem S96x2048 .f32) (harg19 : arg19.IsWhole)
    (x1 : Vec F S96x2048 .bf16) (x4 : Vec F S1x2048x1408 .i8) (x5 : Vec F S1x16x1408 .bf16) (x6 : Vec F S1x16x1408 .bf16) (x7 : Vec F S1x16x1408 .bf16) (x8 : Vec F S1x16x1408 .bf16) (x9 : Vec F S1x1408x1024 .i8) (x10 : Vec F S1x11x2048 .bf16) (x11 : Vec F S1x11x2048 .bf16) (xs0 : Vec F S96x6 .i32) (xs1 : Vec F S96x6 .f32) (x14 : Vec F S6x96x2048 .f32) (xs3 : Vec F S96x2048 .f32) :
    Σ' (L14 : List (View.Piece (Elt F) S6x96x2048 .f32)), Σ' (LT2 : List (View.Piece (Elt F) S96x1408 .bf16)), { LS3 : List (View.Piece (Elt F) S96x2048 .f32) //
      ∀ (E : Set ℕ) (K : PUnit → sProp 𝕄),
        iprop(owns (c : Thread nD τ) arg2 fullShare x1 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg16 fullShare xs0 ∗ owns (c : Thread nD τ) arg17 fullShare xs1 ∗ owns (c : Thread nD τ) arg15 fullShare x14 ∗ (∃ d, owns (c : Thread nD τ) arg18 fullShare d) ∗ owns (c : Thread nD τ) arg19 fullShare xs3
            ∗ (iprop(owns (c : Thread nD τ) arg2 fullShare x1 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg16 fullShare xs0 ∗ owns (c : Thread nD τ) arg17 fullShare xs1 ∗ (∃ f, arg15.view.loc (c : Thread nD τ) ↦[arg15.view.set]{fullShare} arg15.view.writes (Elt F) f L14) ∗ (∃ f, arg18.view.loc (c : Thread nD τ) ↦[arg18.view.set]{fullShare} arg18.view.writes (Elt F) f LT2) ∗ (∃ f, arg19.view.loc (c : Thread nD τ) ↦[arg19.view.set]{fullShare} arg19.view.writes (Elt F) f LS3)) -∗ K ⟨⟩))
          ⊢ wp frame (wpE (defs₀ (F := F)) Variants.none c none) E (mid i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, fun E K => ?run⟩
  case run =>
    unfold mid
    unfold rest65 rest9
    simp only [k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%g0, %hg0, G0⟩, ⟨%d1, %g1, -, G1⟩, ⟨%g2, %hg2, G2⟩, Hk⟩
    obtain rfl := harg2.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7; obtain rfl := harg12.eq_unread hf8; obtain rfl := harg16.eq_unread hf9; obtain rfl := harg17.eq_unread hf10; obtain rfl := harg15.eq_unread hg0; obtain rfl := harg19.eq_unread hg2
    sl_exec
    sl_step
    iapply Hk
    isplitl [H0]
    · iexists _; isplitr; · ipureintro; exact harg2.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]
    · iexists _; isplitr; · ipureintro; exact harg11.read_unread _
      iexact H7
    isplitl [H8]
    · iexists _; isplitr; · ipureintro; exact harg12.read_unread _
      iexact H8
    isplitl [H9]
    · iexists _; isplitr; · ipureintro; exact harg16.read_unread _
      iexact H9
    isplitl [H10]
    · iexists _; isplitr; · ipureintro; exact harg17.read_unread _
      iexact H10
    isplitl [G0]; · iexists _; iexact G0
    isplitl [G1]; · iexists _; iexact G1
    iexists _; iexact G2

end Cert.KernelIdeal.Hand

end
-- ==== Proof.Vocab.lean ====
/- The intermediate values of the body under uniform names, and what each is worth at an index over the extended reals. -/
module

public import Idealize.ShloMosaic.Lib.Pipeline.ValueKit
public import Idealize.ShloMosaic.Lib.Pipeline.Value
public import Idealize.ShloMosaic.Lib.BitcastFour
public import Idealize.ShloMosaic.Lib.MatmulPlain
public import Idealize.ShloMosaic.Lib.ValueIdx
public import Idealize.ShloMosaic.Lib.ValueIdxCoords

@[expose] public section

noncomputable section

namespace Cert.KernelIdeal.Hand

open Idealize.ShloMosaic hiding ix2
open Idealize.ShloMosaic.ValueIdx

variable {F : FTy → Type} [FloatOps F]

/-- A matrix shape. -/
abbrev sh (a b : ℕ) : Shape := ⟨2, ![a, b]⟩

/-- The low four bits of every byte, through words of four bytes. -/
def low {K Q C : ℕ} (h1 : (sh K C).Bitcasts 8 (sh Q C) 32) (h2 : (sh Q C).Bitcasts 32 (sh K C) 8) (v : IVec (sh K C) 8) : FVec F (sh K C) .bf16 :=
  sitofp .bf16 (bitcast (sh K C) 8 (andi (bitcast (sh Q C) 32 v h1) (broadcast (sh Q C) 252645135#32)) h2)

/-- The high four bits of every byte, through words of four bytes. -/
def high {K Q C : ℕ} (h1 : (sh K C).Bitcasts 8 (sh Q C) 32) (h2 : (sh Q C).Bitcasts 32 (sh K C) 8) (v : IVec (sh K C) 8) : FVec F (sh K C) .bf16 :=
  sitofp .bf16 (bitcast (sh K C) 8 (andi (shrui (bitcast (sh Q C) 32 v h1) (broadcast (sh Q C) 4#32)) (broadcast (sh Q C) 252645135#32)) h2)

/-- One group of 128 rows, scaled. -/
def grp (G K C : ℕ) (hs : ∀ r < G, (sh K C).Slices ![128 * r, 0] (sh 128 C)) (hg : ∀ r < G, (sh G C).Slices ![r, 0] (sh 1 C))
    (hb : (sh 1 C).Broadcasts (sh 128 C)) (c : FVec F (sh K C) .bf16) (s z : FVec F (sh G C) .bf16) (r : Fin G) : FVec F (sh 128 C) .bf16 :=
  mulf (subf (extractStridedSlice (sh 128 C) ![128 * r.val, 0] c (hs r r.isLt))
      (broadcastTo (sh 128 C) (extractStridedSlice (sh 1 C) ![r.val, 0] z (hg r r.isLt)) hb))
    (broadcastTo (sh 128 C) (extractStridedSlice (sh 1 C) ![r.val, 0] s (hg r r.isLt)) hb)

/-- The groups stacked: the dequantized weights. -/
def deq (G K C : ℕ) (hs : ∀ r < G, (sh K C).Slices ![128 * r, 0] (sh 128 C)) (hg : ∀ r < G, (sh G C).Slices ![r, 0] (sh 1 C))
    (hb : (sh 1 C).Broadcasts (sh 128 C))
    (hc : Shape.Concatenates ((List.ofFn fun n : Fin G => (⟨sh 128 C, fun _ => n⟩ : (s : Shape) × (s.Idx → Fin G))).map (·.1)) (sh K C) 0)
    (c : FVec F (sh K C) .bf16) (s z : FVec F (sh G C) .bf16) : FVec F (sh K C) .bf16 :=
  concatenate (sh K C) 0 (List.ofFn fun r : Fin G => (⟨sh 128 C, grp G K C hs hg hb c s z r⟩ : (s : Shape) × (s.Idx → F .bf16)))
    (by simpa [List.map_ofFn, Function.comp_def] using hc)

/-! ## At an index -/

/-- The byte's low four bits as an extended real. -/
def nibLo (b : BitVec 8) : EReal := (((b.toNat % 16 : ℕ) : ℝ) : EReal)
/-- The byte's high four bits as an extended real. -/
def nibHi (b : BitVec 8) : EReal := (((b.toNat / 16 : ℕ) : ℝ) : EReal)

theorem bitcast_32_8_getLsbD_ix2 {R r n : ℕ} (x : (sh r n).Idx → BitVec 32) (h : (sh r n).Bitcasts 32 (sh R n) 8)
    (p : Fin R) (l : Fin n) (q : ℕ) (hq : q < 8) (a : Fin r) (ha : a.val = p.val / 4) :
    (bitcast (sh R n) 8 x h (ix2 p l)).getLsbD q = (x (ix2 a l)).getLsbD (8 * (p.val % 4) + q) := by
  rw [bitcast_getLsbD x h _ q hq (by decide)]
  have hrow : (sh R n).row (ix2 p l) = p.val := rfl
  have e1 : ((sh R n).row (ix2 p l) * 8 + q) / 32 = a.val := by rw [hrow, ha]; omega
  have e2 : ((sh R n).row (ix2 p l) * 8 + q) % 32 = 8 * (p.val % 4) + q := by rw [hrow]; omega
  have hr : ∀ c : Fin (sh r n).rank, c.val + 2 = (sh r n).rank → a.val < (sh r n).size c := by
    intro c hc
    match c with
    | ⟨0, _⟩ => exact a.isLt
    | ⟨1, _⟩ => exact absurd hc (by show ¬ 1 + 2 = 2; omega)
  rw [h.srcIdx_congr _ e1 (hp' := hr), e2]
  congr 2
  funext c
  match c with
  | ⟨0, _⟩ => exact Fin.ext (h.srcIdx_row _ _ _ ⟨0, Nat.zero_lt_two⟩ rfl)
  | ⟨1, _⟩ => exact Fin.ext (h.srcIdx_other _ _ _ ⟨1, Nat.one_lt_two⟩ (by show ¬ 1 + 2 = 2; omega))

theorem mask_bit : ∀ k < 4, ∀ q < 8, (252645135#32).getLsbD (8 * k + q) = decide (q < 4) := by decide

theorem mask8 : ∀ q < 8, decide (q < 4) = (15#8).getLsbD q := by decide

theorem toInt_lo (b : BitVec 8) : (b &&& 15#8).toInt = ((b.toNat % 16 : ℕ) : ℤ) := by
  revert b; decide +kernel

theorem toInt_hi (b : BitVec 8) : (b >>> 4).toInt = ((b.toNat / 16 : ℕ) : ℤ) := by
  revert b; decide +kernel

theorem low_apply {K Q C : ℕ} (h1 : (sh K C).Bitcasts 8 (sh Q C) 32) (h2 : (sh Q C).Bitcasts 32 (sh K C) 8) (hK : K = 4 * Q)
    (v : IVec (sh K C) 8) (p : Fin K) (l : Fin C) : low (F := Ideal) h1 h2 v (ix2 p l) = nibLo (v (ix2 p l)) := by
  have hb : bitcast (sh K C) 8 (andi (bitcast (sh Q C) 32 v h1) (broadcast (sh Q C) 252645135#32)) h2 (ix2 p l) = v (ix2 p l) &&& 15#8 := by
    apply BitVec.eq_of_getLsbD_eq
    intro q hq
    have hp := p.isLt
    rw [bitcast_32_8_getLsbD_ix2 _ h2 p l q hq ⟨p.val / 4, by omega⟩ rfl]
    show (IntOp.andi (bitcast (sh Q C) 32 v h1 (ix2 _ l)) 252645135#32).getLsbD _ = _
    unfold IntOp.andi
    rw [BitVec.getLsbD_and, BitVec.getLsbD_and, mask_bit _ (Nat.mod_lt _ (by decide)) _ hq,
      bitcast_8_32_getLsbD_ix2 v h1 _ l _ (by omega) p (by show p.val = 4 * (p.val / 4) + _; omega)]
    have e : (8 * (p.val % 4) + q) % 8 = q := by omega
    rw [e]
    congr 1
    exact mask8 q hq
  show (((_ : BitVec 8).toInt : ℝ) : EReal) = _
  rw [hb, toInt_lo]; rfl

theorem high_apply {K Q C : ℕ} (h1 : (sh K C).Bitcasts 8 (sh Q C) 32) (h2 : (sh Q C).Bitcasts 32 (sh K C) 8) (hK : K = 4 * Q)
    (v : IVec (sh K C) 8) (p : Fin K) (l : Fin C) : high (F := Ideal) h1 h2 v (ix2 p l) = nibHi (v (ix2 p l)) := by
  have hb : bitcast (sh K C) 8 (andi (shrui (bitcast (sh Q C) 32 v h1) (broadcast (sh Q C) 4#32)) (broadcast (sh Q C) 252645135#32)) h2 (ix2 p l) = v (ix2 p l) >>> 4 := by
    apply BitVec.eq_of_getLsbD_eq
    intro q hq
    have hp := p.isLt
    rw [bitcast_32_8_getLsbD_ix2 _ h2 p l q hq ⟨p.val / 4, by omega⟩ rfl]
    show (IntOp.andi (bitcast (sh Q C) 32 v h1 (ix2 _ l) >>> 4) 252645135#32).getLsbD _ = _
    unfold IntOp.andi
    rw [BitVec.getLsbD_and, mask_bit _ (Nat.mod_lt _ (by decide)) _ hq, BitVec.getLsbD_ushiftRight, BitVec.getLsbD_ushiftRight]
    by_cases h4 : q < 4
    · rw [bitcast_8_32_getLsbD_ix2 v h1 _ l _ (by omega) p (by show p.val = 4 * (p.val / 4) + _; omega)]
      have e : (4 + (8 * (p.val % 4) + q)) % 8 = 4 + q := by omega
      rw [e]; simp [h4]
    · rw [BitVec.getLsbD_of_ge (v (ix2 p l)) (4 + q) (by omega)]; simp [h4]
  show (((_ : BitVec 8).toInt : ℝ) : EReal) = _
  rw [hb, toInt_hi]; rfl

theorem deq_apply (G K C : ℕ) (hs : ∀ r < G, (sh K C).Slices ![128 * r, 0] (sh 128 C)) (hg : ∀ r < G, (sh G C).Slices ![r, 0] (sh 1 C))
    (hb : (sh 1 C).Broadcasts (sh 128 C))
    (hc : Shape.Concatenates ((List.ofFn fun n : Fin G => (⟨sh 128 C, fun _ => n⟩ : (s : Shape) × (s.Idx → Fin G))).map (·.1)) (sh K C) 0)
    (hK : K = 128 * G) (c : FVec Ideal (sh K C) .bf16) (s z : FVec Ideal (sh G C) .bf16) (p : Fin K) (l : Fin C) :
    deq G K C hs hg hb hc c s z (ix2 p l)
      = (c (ix2 p l) - z (ix2 ⟨p.val / 128, by omega⟩ l)) * s (ix2 ⟨p.val / 128, by omega⟩ l) := by
  unfold deq
  rw [concatenate_ofFn_apply (t := sh K C) (s₁ := sh 128 C) 0 _ _ rfl 128 rfl (ix2 p l) ⟨p.val / 128, by omega⟩ rfl (ix2 ⟨p.val % 128, Nat.mod_lt _ (by decide)⟩ l) rfl
    (by intro b hb'; match b with
        | ⟨0, _⟩ => exact absurd rfl hb'
        | ⟨1, _⟩ => rfl)]
  unfold grp
  rw [mulf_apply, subf_apply]
  have hbc : ∀ (x : FVec Ideal (sh 1 C) .bf16) (a : Fin 128), broadcastTo (sh 128 C) x hb (ix2 a l) = x (ix2 0 l) := by
    intro x a
    unfold broadcastTo
    refine congrArg x (funext fun d => ?_)
    match d with
    | ⟨0, _⟩ => rfl
    | ⟨1, _⟩ =>
      apply Fin.ext
      dsimp only
      split
      · rename_i h1
        have h1' : C = 1 := h1
        show 0 = l.val
        omega
      · rfl
  rw [hbc, hbc]
  unfold extractStridedSlice
  refine congrArg₂ (· * ·) (congrArg₂ (· - ·) (congrArg c (funext fun d => ?_)) (congrArg z (funext fun d => ?_))) (congrArg s (funext fun d => ?_))
  · match d with
    | ⟨0, _⟩ => exact Fin.ext (Nat.div_add_mod p.val 128)
    | ⟨1, _⟩ => exact Fin.ext (Nat.zero_add _)
  · match d with
    | ⟨0, _⟩ => rfl
    | ⟨1, _⟩ => exact Fin.ext (Nat.zero_add _)
  · match d with
    | ⟨0, _⟩ => rfl
    | ⟨1, _⟩ => exact Fin.ext (Nat.zero_add _)

end Cert.KernelIdeal.Hand

end
-- ==== Proof.Mid.lean ====
/- The pieces the body stores, under uniform names. -/
module

public import proofs.«01_k».proof.Proof.Gen.KernelIdeal.Skeleton
public import proofs.«01_k».proof.Proof.Vocab

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A rank-three shape. -/
abbrev sh3 (a b c : ℕ) : Shape := ⟨3, ![a, b, c]⟩

/-- The shape facts of one dequantization: `G` groups of 128 rows, `K` rows in all, `Q` rows of words, `C` columns. -/
structure Df (G K Q C : ℕ) : Prop where
  hs : ∀ r < G, (sh K C).Slices ![128 * r, 0] (sh 128 C)
  hg : ∀ r < G, (sh G C).Slices ![r, 0] (sh 1 C)
  hb : (sh 1 C).Broadcasts (sh 128 C)
  hc : Shape.Concatenates ((List.ofFn fun n : Fin G => (⟨sh 128 C, fun _ => n⟩ : (s : Shape) × (s.Idx → Fin G))).map (·.1)) (sh K C) 0
  h1 : (sh K C).Bitcasts 8 (sh Q C) 32
  h2 : (sh Q C).Bitcasts 32 (sh K C) 8
  k : (sh3 1 K C).ShapeCasts (sh K C)
  g : (sh3 1 G C).ShapeCasts (sh G C)

theorem df256 : Df 16 2048 512 256 := ⟨by decide, by decide, by decide, by decide, by decide, by decide, by decide, by decide⟩
theorem df128 : Df 16 2048 512 128 := ⟨by decide, by decide, by decide, by decide, by decide, by decide, by decide, by decide⟩
theorem dfd : Df 11 1408 352 256 := ⟨by decide, by decide, by decide, by decide, by decide, by decide, by decide, by decide⟩

/-- The weights in the low halves of the codes, dequantized. -/
def wlow {G K Q C : ℕ} (D : Df G K Q C) (c : IVec (sh3 1 K C) 8) (s z : FVec F (sh3 1 G C) .bf16) : FVec F (sh K C) .bf16 :=
  deq G K C D.hs D.hg D.hb D.hc (low D.h1 D.h2 (shapeCast (sh K C) c D.k)) (shapeCast (sh G C) s D.g) (shapeCast (sh G C) z D.g)

/-- The weights in the high halves of the codes, dequantized. -/
def whigh {G K Q C : ℕ} (D : Df G K Q C) (c : IVec (sh3 1 K C) 8) (s z : FVec F (sh3 1 G C) .bf16) : FVec F (sh K C) .bf16 :=
  deq G K C D.hs D.hg D.hb D.hc (high D.h1 D.h2 (shapeCast (sh K C) c D.k)) (shapeCast (sh G C) s D.g) (shapeCast (sh G C) z D.g)

/-- A matrix product from zero. -/
def mm {M K N : ℕ} (a : FVec F (sh M K) .bf16) (b : FVec F (sh K N) .bf16) : FVec F (sh M N) .f32 :=
  matmul (DotDims.plain M K N) none a b (constant (sh M N) .f32 0x00000000#32)

/-- One chunk of the hidden layer. -/
def hch {C : ℕ} (D : Df 16 2048 512 C) (hC : (sh 96 C).ShapeCasts (sh 96 C)) (x : FVec F (sh 96 2048) .bf16) (c : IVec (sh3 1 2048 C) 8)
    (sg zg su zu : FVec F (sh3 1 16 C) .bf16) : FVec F (sh 96 C) .bf16 :=
  shapeCast (sh 96 C) (truncf .bf16 (mulf (mulf (mm (shapeCast (sh 96 2048) x (by decide)) (wlow D c sg zg)) (logistic (mm (shapeCast (sh 96 2048) x (by decide)) (wlow D c sg zg))))
    (mm (shapeCast (sh 96 2048) x (by decide)) (whigh D c su zu))) bitsLt_bf16_f32) hC

/-- Which tokens chose the slot as their `k`-th. -/
def hit (a : BitVec 32) (slot : IVec (sh 96 6) 32) (k : ℕ) (h : (sh 96 6).Slices ![0, k] (sh 96 1)) : IVec (sh 96 1) 1 :=
  cmpi .eq (extractStridedSlice (sh 96 1) ![0, k] slot h) (broadcast (sh 96 1) a)

/-- One term of the slot's weight. -/
def wterm (a : BitVec 32) (slot : IVec (sh 96 6) 32) (w : FVec F (sh 96 6) .f32) (k : ℕ) (h : (sh 96 6).Slices ![0, k] (sh 96 1)) : FVec F (sh 96 1) .f32 :=
  select (hit a slot k h) (extractStridedSlice (sh 96 1) ![0, k] w h) (broadcast (sh 96 1) (Scalar.ofBits .f32 0x00000000#32))

/-- The slot's weight for every token. -/
def wsel (a : BitVec 32) (slot : IVec (sh 96 6) 32) (w : FVec F (sh 96 6) .f32) : FVec F (sh 96 1) .f32 :=
  addf (addf (addf (addf (addf (addf (broadcast (sh 96 1) (Scalar.ofBits .f32 0x00000000#32)) (wterm a slot w 0 (by decide))) (wterm a slot w 1 (by decide)))
    (wterm a slot w 2 (by decide))) (wterm a slot w 3 (by decide))) (wterm a slot w 4 (by decide))) (wterm a slot w 5 (by decide))

/-- The running sum with one slot's contribution. -/
def accp (yy : FVec F (sh 96 256) .f32) (ws : FVec F (sh 96 1) .f32) (prev : FVec F (sh 96 256) .f32) : FVec F (sh 96 256) .f32 :=
  shapeCast (sh 96 256) (addf prev (mulf yy (broadcastTo (sh 96 256) ws (by decide)))) (by decide)

/-- The per-choice result with one slot's contribution. -/
def outp (b : IVec (sh 96 1) 1) (yy : FVec F (sh 96 256) .f32) (prev : FVec F (sh3 1 96 256) .f32) : FVec F (sh3 1 96 256) .f32 :=
  shapeCast (sh3 1 96 256) (select (broadcastTo (sh 96 256) (shapeCast (sh 96 1) b (by decide)) (by decide)) yy (shapeCast (sh 96 256) prev (by decide))) (by decide)

/-- The hidden layer's chunks, last first. -/
def hPieces (x1 : Vec F S96x2048 .bf16) (x4 : Vec F S1x2048x1408 .i8) (x5 : Vec F S1x16x1408 .bf16) (x6 : Vec F S1x16x1408 .bf16) (x7 : Vec F S1x16x1408 .bf16) (x8 : Vec F S1x16x1408 .bf16) : List (View.Piece (Elt F) S96x1408 .bf16) :=
  [
    ⟨Rect.unit (s := S96x1408) ![0, 1280] ![96, 128] inb_S96x1408_S96x128_0_1280, hch df128 (by decide) (View.ld x1 (Rect.unit (s := S96x2048) ![0, 0] ![96, 2048] inb_S96x2048_S96x2048_0_0)) (View.ld x4 (Rect.unit (s := S1x2048x1408) ![0, 0, 1280] ![1, 2048, 128] inb_S1x2048x1408_S1x2048x128_0_0_1280)) (View.ld x5 (Rect.unit (s := S1x16x1408) ![0, 0, 1280] ![1, 16, 128] inb_S1x16x1408_S1x16x128_0_0_1280)) (View.ld x6 (Rect.unit (s := S1x16x1408) ![0, 0, 1280] ![1, 16, 128] inb_S1x16x1408_S1x16x128_0_0_1280)) (View.ld x7 (Rect.unit (s := S1x16x1408) ![0, 0, 1280] ![1, 16, 128] inb_S1x16x1408_S1x16x128_0_0_1280)) (View.ld x8 (Rect.unit (s := S1x16x1408) ![0, 0, 1280] ![1, 16, 128] inb_S1x16x1408_S1x16x128_0_0_1280))⟩,
    ⟨Rect.unit (s := S96x1408) ![0, 1024] ![96, 256] inb_S96x1408_S96x256_0_1024, hch df256 (by decide) (View.ld x1 (Rect.unit (s := S96x2048) ![0, 0] ![96, 2048] inb_S96x2048_S96x2048_0_0)) (View.ld x4 (Rect.unit (s := S1x2048x1408) ![0, 0, 1024] ![1, 2048, 256] inb_S1x2048x1408_S1x2048x256_0_0_1024)) (View.ld x5 (Rect.unit (s := S1x16x1408) ![0, 0, 1024] ![1, 16, 256] inb_S1x16x1408_S1x16x256_0_0_1024)) (View.ld x6 (Rect.unit (s := S1x16x1408) ![0, 0, 1024] ![1, 16, 256] inb_S1x16x1408_S1x16x256_0_0_1024)) (View.ld x7 (Rect.unit (s := S1x16x1408) ![0, 0, 1024] ![1, 16, 256] inb_S1x16x1408_S1x16x256_0_0_1024)) (View.ld x8 (Rect.unit (s := S1x16x1408) ![0, 0, 1024] ![1, 16, 256] inb_S1x16x1408_S1x16x256_0_0_1024))⟩,
    ⟨Rect.unit (s := S96x1408) ![0, 768] ![96, 256] inb_S96x1408_S96x256_0_768, hch df256 (by decide) (View.ld x1 (Rect.unit (s := S96x2048) ![0, 0] ![96, 2048] inb_S96x2048_S96x2048_0_0)) (View.ld x4 (Rect.unit (s := S1x2048x1408) ![0, 0, 768] ![1, 2048, 256] inb_S1x2048x1408_S1x2048x256_0_0_768)) (View.ld x5 (Rect.unit (s := S1x16x1408) ![0, 0, 768] ![1, 16, 256] inb_S1x16x1408_S1x16x256_0_0_768)) (View.ld x6 (Rect.unit (s := S1x16x1408) ![0, 0, 768] ![1, 16, 256] inb_S1x16x1408_S1x16x256_0_0_768)) (View.ld x7 (Rect.unit (s := S1x16x1408) ![0, 0, 768] ![1, 16, 256] inb_S1x16x1408_S1x16x256_0_0_768)) (View.ld x8 (Rect.unit (s := S1x16x1408) ![0, 0, 768] ![1, 16, 256] inb_S1x16x1408_S1x16x256_0_0_768))⟩,
    ⟨Rect.unit (s := S96x1408) ![0, 512] ![96, 256] inb_S96x1408_S96x256_0_512, hch df256 (by decide) (View.ld x1 (Rect.unit (s := S96x2048) ![0, 0] ![96, 2048] inb_S96x2048_S96x2048_0_0)) (View.ld x4 (Rect.unit (s := S1x2048x1408) ![0, 0, 512] ![1, 2048, 256] inb_S1x2048x1408_S1x2048x256_0_0_512)) (View.ld x5 (Rect.unit (s := S1x16x1408) ![0, 0, 512] ![1, 16, 256] inb_S1x16x1408_S1x16x256_0_0_512)) (View.ld x6 (Rect.unit (s := S1x16x1408) ![0, 0, 512] ![1, 16, 256] inb_S1x16x1408_S1x16x256_0_0_512)) (View.ld x7 (Rect.unit (s := S1x16x1408) ![0, 0, 512] ![1, 16, 256] inb_S1x16x1408_S1x16x256_0_0_512)) (View.ld x8 (Rect.unit (s := S1x16x1408) ![0, 0, 512] ![1, 16, 256] inb_S1x16x1408_S1x16x256_0_0_512))⟩,
    ⟨Rect.unit (s := S96x1408) ![0, 256] ![96, 256] inb_S96x1408_S96x256_0_256, hch df256 (by decide) (View.ld x1 (Rect.unit (s := S96x2048) ![0, 0] ![96, 2048] inb_S96x2048_S96x2048_0_0)) (View.ld x4 (Rect.unit (s := S1x2048x1408) ![0, 0, 256] ![1, 2048, 256] inb_S1x2048x1408_S1x2048x256_0_0_256)) (View.ld x5 (Rect.unit (s := S1x16x1408) ![0, 0, 256] ![1, 16, 256] inb_S1x16x1408_S1x16x256_0_0_256)) (View.ld x6 (Rect.unit (s := S1x16x1408) ![0, 0, 256] ![1, 16, 256] inb_S1x16x1408_S1x16x256_0_0_256)) (View.ld x7 (Rect.unit (s := S1x16x1408) ![0, 0, 256] ![1, 16, 256] inb_S1x16x1408_S1x16x256_0_0_256)) (View.ld x8 (Rect.unit (s := S1x16x1408) ![0, 0, 256] ![1, 16, 256] inb_S1x16x1408_S1x16x256_0_0_256))⟩,
    ⟨Rect.unit (s := S96x1408) ![0, 0] ![96, 256] inb_S96x1408_S96x256_0_0, hch df256 (by decide) (View.ld x1 (Rect.unit (s := S96x2048) ![0, 0] ![96, 2048] inb_S96x2048_S96x2048_0_0)) (View.ld x4 (Rect.unit (s := S1x2048x1408) ![0, 0, 0] ![1, 2048, 256] inb_S1x2048x1408_S1x2048x256_0_0_0)) (View.ld x5 (Rect.unit (s := S1x16x1408) ![0, 0, 0] ![1, 16, 256] inb_S1x16x1408_S1x16x256_0_0_0)) (View.ld x6 (Rect.unit (s := S1x16x1408) ![0, 0, 0] ![1, 16, 256] inb_S1x16x1408_S1x16x256_0_0_0)) (View.ld x7 (Rect.unit (s := S1x16x1408) ![0, 0, 0] ![1, 16, 256] inb_S1x16x1408_S1x16x256_0_0_0)) (View.ld x8 (Rect.unit (s := S1x16x1408) ![0, 0, 0] ![1, 16, 256] inb_S1x16x1408_S1x16x256_0_0_0))⟩]

/-- The running sum's pieces, last first. -/
def accPieces (a : BitVec 32) (H : FVec F (sh 96 1408) .bf16) (x9 : Vec F S1x1408x1024 .i8) (x10 : Vec F S1x11x2048 .bf16) (x11 : Vec F S1x11x2048 .bf16) (xs0 : Vec F S96x6 .i32) (xs1 : Vec F S96x6 .f32) (xs3 : Vec F S96x2048 .f32) : List (View.Piece (Elt F) S96x2048 .f32) :=
  [
    ⟨Rect.unit (s := S96x2048) ![0, 1792] ![96, 256] inb_S96x2048_S96x256_0_1792, accp (mm H (whigh dfd (View.ld x9 (Rect.unit (s := S1x1408x1024) ![0, 0, 768] ![1, 1408, 256] inb_S1x1408x1024_S1x1408x256_0_0_768)) (View.ld x10 (Rect.unit (s := S1x11x2048) ![0, 0, 1792] ![1, 11, 256] inb_S1x11x2048_S1x11x256_0_0_1792)) (View.ld x11 (Rect.unit (s := S1x11x2048) ![0, 0, 1792] ![1, 11, 256] inb_S1x11x2048_S1x11x256_0_0_1792)))) (wsel a (View.ld xs0 (Rect.unit (s := S96x6) ![0, 0] ![96, 6] inb_S96x6_S96x6_0_0)) (View.ld xs1 (Rect.unit (s := S96x6) ![0, 0] ![96, 6] inb_S96x6_S96x6_0_0))) (View.ld xs3 (Rect.unit (s := S96x2048) ![0, 1792] ![96, 256] inb_S96x2048_S96x256_0_1792))⟩,
    ⟨Rect.unit (s := S96x2048) ![0, 768] ![96, 256] inb_S96x2048_S96x256_0_768, accp (mm H (wlow dfd (View.ld x9 (Rect.unit (s := S1x1408x1024) ![0, 0, 768] ![1, 1408, 256] inb_S1x1408x1024_S1x1408x256_0_0_768)) (View.ld x10 (Rect.unit (s := S1x11x2048) ![0, 0, 768] ![1, 11, 256] inb_S1x11x2048_S1x11x256_0_0_768)) (View.ld x11 (Rect.unit (s := S1x11x2048) ![0, 0, 768] ![1, 11, 256] inb_S1x11x2048_S1x11x256_0_0_768)))) (wsel a (View.ld xs0 (Rect.unit (s := S96x6) ![0, 0] ![96, 6] inb_S96x6_S96x6_0_0)) (View.ld xs1 (Rect.unit (s := S96x6) ![0, 0] ![96, 6] inb_S96x6_S96x6_0_0))) (View.ld xs3 (Rect.unit (s := S96x2048) ![0, 768] ![96, 256] inb_S96x2048_S96x256_0_768))⟩,
    ⟨Rect.unit (s := S96x2048) ![0, 1536] ![96, 256] inb_S96x2048_S96x256_0_1536, accp (mm H (whigh dfd (View.ld x9 (Rect.unit (s := S1x1408x1024) ![0, 0, 512] ![1, 1408, 256] inb_S1x1408x1024_S1x1408x256_0_0_512)) (View.ld x10 (Rect.unit (s := S1x11x2048) ![0, 0, 1536] ![1, 11, 256] inb_S1x11x2048_S1x11x256_0_0_1536)) (View.ld x11 (Rect.unit (s := S1x11x2048) ![0, 0, 1536] ![1, 11, 256] inb_S1x11x2048_S1x11x256_0_0_1536)))) (wsel a (View.ld xs0 (Rect.unit (s := S96x6) ![0, 0] ![96, 6] inb_S96x6_S96x6_0_0)) (View.ld xs1 (Rect.unit (s := S96x6) ![0, 0] ![96, 6] inb_S96x6_S96x6_0_0))) (View.ld xs3 (Rect.unit (s := S96x2048) ![0, 1536] ![96, 256] inb_S96x2048_S96x256_0_1536))⟩,
    ⟨Rect.unit (s := S96x2048) ![0, 512] ![96, 256] inb_S96x2048_S96x256_0_512, accp (mm H (wlow dfd (View.ld x9 (Rect.unit (s := S1x1408x1024) ![0, 0, 512] ![1, 1408, 256] inb_S1x1408x1024_S1x1408x256_0_0_512)) (View.ld x10 (Rect.unit (s := S1x11x2048) ![0, 0, 512] ![1, 11, 256] inb_S1x11x2048_S1x11x256_0_0_512)) (View.ld x11 (Rect.unit (s := S1x11x2048) ![0, 0, 512] ![1, 11, 256] inb_S1x11x2048_S1x11x256_0_0_512)))) (wsel a (View.ld xs0 (Rect.unit (s := S96x6) ![0, 0] ![96, 6] inb_S96x6_S96x6_0_0)) (View.ld xs1 (Rect.unit (s := S96x6) ![0, 0] ![96, 6] inb_S96x6_S96x6_0_0))) (View.ld xs3 (Rect.unit (s := S96x2048) ![0, 512] ![96, 256] inb_S96x2048_S96x256_0_512))⟩,
    ⟨Rect.unit (s := S96x2048) ![0, 1280] ![96, 256] inb_S96x2048_S96x256_0_1280, accp (mm H (whigh dfd (View.ld x9 (Rect.unit (s := S1x1408x1024) ![0, 0, 256] ![1, 1408, 256] inb_S1x1408x1024_S1x1408x256_0_0_256)) (View.ld x10 (Rect.unit (s := S1x11x2048) ![0, 0, 1280] ![1, 11, 256] inb_S1x11x2048_S1x11x256_0_0_1280)) (View.ld x11 (Rect.unit (s := S1x11x2048) ![0, 0, 1280] ![1, 11, 256] inb_S1x11x2048_S1x11x256_0_0_1280)))) (wsel a (View.ld xs0 (Rect.unit (s := S96x6) ![0, 0] ![96, 6] inb_S96x6_S96x6_0_0)) (View.ld xs1 (Rect.unit (s := S96x6) ![0, 0] ![96, 6] inb_S96x6_S96x6_0_0))) (View.ld xs3 (Rect.unit (s := S96x2048) ![0, 1280] ![96, 256] inb_S96x2048_S96x256_0_1280))⟩,
    ⟨Rect.unit (s := S96x2048) ![0, 256] ![96, 256] inb_S96x2048_S96x256_0_256, accp (mm H (wlow dfd (View.ld x9 (Rect.unit (s := S1x1408x1024) ![0, 0, 256] ![1, 1408, 256] inb_S1x1408x1024_S1x1408x256_0_0_256)) (View.ld x10 (Rect.unit (s := S1x11x2048) ![0, 0, 256] ![1, 11, 256] inb_S1x11x2048_S1x11x256_0_0_256)) (View.ld x11 (Rect.unit (s := S1x11x2048) ![0, 0, 256] ![1, 11, 256] inb_S1x11x2048_S1x11x256_0_0_256)))) (wsel a (View.ld xs0 (Rect.unit (s := S96x6) ![0, 0] ![96, 6] inb_S96x6_S96x6_0_0)) (View.ld xs1 (Rect.unit (s := S96x6) ![0, 0] ![96, 6] inb_S96x6_S96x6_0_0))) (View.ld xs3 (Rect.unit (s := S96x2048) ![0, 256] ![96, 256] inb_S96x2048_S96x256_0_256))⟩,
    ⟨Rect.unit (s := S96x2048) ![0, 1024] ![96, 256] inb_S96x2048_S96x256_0_1024, accp (mm H (whigh dfd (View.ld x9 (Rect.unit (s := S1x1408x1024) ![0, 0, 0] ![1, 1408, 256] inb_S1x1408x1024_S1x1408x256_0_0_0)) (View.ld x10 (Rect.unit (s := S1x11x2048) ![0, 0, 1024] ![1, 11, 256] inb_S1x11x2048_S1x11x256_0_0_1024)) (View.ld x11 (Rect.unit (s := S1x11x2048) ![0, 0, 1024] ![1, 11, 256] inb_S1x11x2048_S1x11x256_0_0_1024)))) (wsel a (View.ld xs0 (Rect.unit (s := S96x6) ![0, 0] ![96, 6] inb_S96x6_S96x6_0_0)) (View.ld xs1 (Rect.unit (s := S96x6) ![0, 0] ![96, 6] inb_S96x6_S96x6_0_0))) (View.ld xs3 (Rect.unit (s := S96x2048) ![0, 1024] ![96, 256] inb_S96x2048_S96x256_0_1024))⟩,
    ⟨Rect.unit (s := S96x2048) ![0, 0] ![96, 256] inb_S96x2048_S96x256_0_0, accp (mm H (wlow dfd (View.ld x9 (Rect.unit (s := S1x1408x1024) ![0, 0, 0] ![1, 1408, 256] inb_S1x1408x1024_S1x1408x256_0_0_0)) (View.ld x10 (Rect.unit (s := S1x11x2048) ![0, 0, 0] ![1, 11, 256] inb_S1x11x2048_S1x11x256_0_0_0)) (View.ld x11 (Rect.unit (s := S1x11x2048) ![0, 0, 0] ![1, 11, 256] inb_S1x11x2048_S1x11x256_0_0_0)))) (wsel a (View.ld xs0 (Rect.unit (s := S96x6) ![0, 0] ![96, 6] inb_S96x6_S96x6_0_0)) (View.ld xs1 (Rect.unit (s := S96x6) ![0, 0] ![96, 6] inb_S96x6_S96x6_0_0))) (View.ld xs3 (Rect.unit (s := S96x2048) ![0, 0] ![96, 256] inb_S96x2048_S96x256_0_0))⟩]

/-- The per-choice result's pieces, last first. -/
def outPieces (a : BitVec 32) (H : FVec F (sh 96 1408) .bf16) (x9 : Vec F S1x1408x1024 .i8) (x10 : Vec F S1x11x2048 .bf16) (x11 : Vec F S1x11x2048 .bf16) (xs0 : Vec F S96x6 .i32) (x14 : Vec F S6x96x2048 .f32) : List (View.Piece (Elt F) S6x96x2048 .f32) :=
  [
    ⟨Rect.unit (s := S6x96x2048) ![5, 0, 1792] ![1, 96, 256] inb_S6x96x2048_S1x96x256_5_0_1792, outp (hit a (View.ld xs0 (Rect.unit (s := S96x6) ![0, 0] ![96, 6] inb_S96x6_S96x6_0_0)) 5 (by decide)) (mm H (whigh dfd (View.ld x9 (Rect.unit (s := S1x1408x1024) ![0, 0, 768] ![1, 1408, 256] inb_S1x1408x1024_S1x1408x256_0_0_768)) (View.ld x10 (Rect.unit (s := S1x11x2048) ![0, 0, 1792] ![1, 11, 256] inb_S1x11x2048_S1x11x256_0_0_1792)) (View.ld x11 (Rect.unit (s := S1x11x2048) ![0, 0, 1792] ![1, 11, 256] inb_S1x11x2048_S1x11x256_0_0_1792)))) (View.ld x14 (Rect.unit (s := S6x96x2048) ![5, 0, 1792] ![1, 96, 256] inb_S6x96x2048_S1x96x256_5_0_1792))⟩,
    ⟨Rect.unit (s := S6x96x2048) ![4, 0, 1792] ![1, 96, 256] inb_S6x96x2048_S1x96x256_4_0_1792, outp (hit a (View.ld xs0 (Rect.unit (s := S96x6) ![0, 0] ![96, 6] inb_S96x6_S96x6_0_0)) 4 (by decide)) (mm H (whigh dfd (View.ld x9 (Rect.unit (s := S1x1408x1024) ![0, 0, 768] ![1, 1408, 256] inb_S1x1408x1024_S1x1408x256_0_0_768)) (View.ld x10 (Rect.unit (s := S1x11x2048) ![0, 0, 1792] ![1, 11, 256] inb_S1x11x2048_S1x11x256_0_0_1792)) (View.ld x11 (Rect.unit (s := S1x11x2048) ![0, 0, 1792] ![1, 11, 256] inb_S1x11x2048_S1x11x256_0_0_1792)))) (View.ld x14 (Rect.unit (s := S6x96x2048) ![4, 0, 1792] ![1, 96, 256] inb_S6x96x2048_S1x96x256_4_0_1792))⟩,
    ⟨Rect.unit (s := S6x96x2048) ![3, 0, 1792] ![1, 96, 256] inb_S6x96x2048_S1x96x256_3_0_1792, outp (hit a (View.ld xs0 (Rect.unit (s := S96x6) ![0, 0] ![96, 6] inb_S96x6_S96x6_0_0)) 3 (by decide)) (mm H (whigh dfd (View.ld x9 (Rect.unit (s := S1x1408x1024) ![0, 0, 768] ![1, 1408, 256] inb_S1x1408x1024_S1x1408x256_0_0_768)) (View.ld x10 (Rect.unit (s := S1x11x2048) ![0, 0, 1792] ![1, 11, 256] inb_S1x11x2048_S1x11x256_0_0_1792)) (View.ld x11 (Rect.unit (s := S1x11x2048) ![0, 0, 1792] ![1, 11, 256] inb_S1x11x2048_S1x11x256_0_0_1792)))) (View.ld x14 (Rect.unit (s := S6x96x2048) ![3, 0, 1792] ![1, 96, 256] inb_S6x96x2048_S1x96x256_3_0_1792))⟩,
    ⟨Rect.unit (s := S6x96x2048) ![2, 0, 1792] ![1, 96, 256] inb_S6x96x2048_S1x96x256_2_0_1792, outp (hit a (View.ld xs0 (Rect.unit (s := S96x6) ![0, 0] ![96, 6] inb_S96x6_S96x6_0_0)) 2 (by decide)) (mm H (whigh dfd (View.ld x9 (Rect.unit (s := S1x1408x1024) ![0, 0, 768] ![1, 1408, 256] inb_S1x1408x1024_S1x1408x256_0_0_768)) (View.ld x10 (Rect.unit (s := S1x11x2048) ![0, 0, 1792] ![1, 11, 256] inb_S1x11x2048_S1x11x256_0_0_1792)) (View.ld x11 (Rect.unit (s := S1x11x2048) ![0, 0, 1792] ![1, 11, 256] inb_S1x11x2048_S1x11x256_0_0_1792)))) (View.ld x14 (Rect.unit (s := S6x96x2048) ![2, 0, 1792] ![1, 96, 256] inb_S6x96x2048_S1x96x256_2_0_1792))⟩,
    ⟨Rect.unit (s := S6x96x2048) ![1, 0, 1792] ![1, 96, 256] inb_S6x96x2048_S1x96x256_1_0_1792, outp (hit a (View.ld xs0 (Rect.unit (s := S96x6) ![0, 0] ![96, 6] inb_S96x6_S96x6_0_0)) 1 (by decide)) (mm H (whigh dfd (View.ld x9 (Rect.unit (s := S1x1408x1024) ![0, 0, 768] ![1, 1408, 256] inb_S1x1408x1024_S1x1408x256_0_0_768)) (View.ld x10 (Rect.unit (s := S1x11x2048) ![0, 0, 1792] ![1, 11, 256] inb_S1x11x2048_S1x11x256_0_0_1792)) (View.ld x11 (Rect.unit (s := S1x11x2048) ![0, 0, 1792] ![1, 11, 256] inb_S1x11x2048_S1x11x256_0_0_1792)))) (View.ld x14 (Rect.unit (s := S6x96x2048) ![1, 0, 1792] ![1, 96, 256] inb_S6x96x2048_S1x96x256_1_0_1792))⟩,
    ⟨Rect.unit (s := S6x96x2048) ![0, 0, 1792] ![1, 96, 256] inb_S6x96x2048_S1x96x256_0_0_1792, outp (hit a (View.ld xs0 (Rect.unit (s := S96x6) ![0, 0] ![96, 6] inb_S96x6_S96x6_0_0)) 0 (by decide)) (mm H (whigh dfd (View.ld x9 (Rect.unit (s := S1x1408x1024) ![0, 0, 768] ![1, 1408, 256] inb_S1x1408x1024_S1x1408x256_0_0_768)) (View.ld x10 (Rect.unit (s := S1x11x2048) ![0, 0, 1792] ![1, 11, 256] inb_S1x11x2048_S1x11x256_0_0_1792)) (View.ld x11 (Rect.unit (s := S1x11x2048) ![0, 0, 1792] ![1, 11, 256] inb_S1x11x2048_S1x11x256_0_0_1792)))) (View.ld x14 (Rect.unit (s := S6x96x2048) ![0, 0, 1792] ![1, 96, 256] inb_S6x96x2048_S1x96x256_0_0_1792))⟩,
    ⟨Rect.unit (s := S6x96x2048) ![5, 0, 768] ![1, 96, 256] inb_S6x96x2048_S1x96x256_5_0_768, outp (hit a (View.ld xs0 (Rect.unit (s := S96x6) ![0, 0] ![96, 6] inb_S96x6_S96x6_0_0)) 5 (by decide)) (mm H (wlow dfd (View.ld x9 (Rect.unit (s := S1x1408x1024) ![0, 0, 768] ![1, 1408, 256] inb_S1x1408x1024_S1x1408x256_0_0_768)) (View.ld x10 (Rect.unit (s := S1x11x2048) ![0, 0, 768] ![1, 11, 256] inb_S1x11x2048_S1x11x256_0_0_768)) (View.ld x11 (Rect.unit (s := S1x11x2048) ![0, 0, 768] ![1, 11, 256] inb_S1x11x2048_S1x11x256_0_0_768)))) (View.ld x14 (Rect.unit (s := S6x96x2048) ![5, 0, 768] ![1, 96, 256] inb_S6x96x2048_S1x96x256_5_0_768))⟩,
    ⟨Rect.unit (s := S6x96x2048) ![4, 0, 768] ![1, 96, 256] inb_S6x96x2048_S1x96x256_4_0_768, outp (hit a (View.ld xs0 (Rect.unit (s := S96x6) ![0, 0] ![96, 6] inb_S96x6_S96x6_0_0)) 4 (by decide)) (mm H (wlow dfd (View.ld x9 (Rect.unit (s := S1x1408x1024) ![0, 0, 768] ![1, 1408, 256] inb_S1x1408x1024_S1x1408x256_0_0_768)) (View.ld x10 (Rect.unit (s := S1x11x2048) ![0, 0, 768] ![1, 11, 256] inb_S1x11x2048_S1x11x256_0_0_768)) (View.ld x11 (Rect.unit (s := S1x11x2048) ![0, 0, 768] ![1, 11, 256] inb_S1x11x2048_S1x11x256_0_0_768)))) (View.ld x14 (Rect.unit (s := S6x96x2048) ![4, 0, 768] ![1, 96, 256] inb_S6x96x2048_S1x96x256_4_0_768))⟩,
    ⟨Rect.unit (s := S6x96x2048) ![3, 0, 768] ![1, 96, 256] inb_S6x96x2048_S1x96x256_3_0_768, outp (hit a (View.ld xs0 (Rect.unit (s := S96x6) ![0, 0] ![96, 6] inb_S96x6_S96x6_0_0)) 3 (by decide)) (mm H (wlow dfd (View.ld x9 (Rect.unit (s := S1x1408x1024) ![0, 0, 768] ![1, 1408, 256] inb_S1x1408x1024_S1x1408x256_0_0_768)) (View.ld x10 (Rect.unit (s := S1x11x2048) ![0, 0, 768] ![1, 11, 256] inb_S1x11x2048_S1x11x256_0_0_768)) (View.ld x11 (Rect.unit (s := S1x11x2048) ![0, 0, 768] ![1, 11, 256] inb_S1x11x2048_S1x11x256_0_0_768)))) (View.ld x14 (Rect.unit (s := S6x96x2048) ![3, 0, 768] ![1, 96, 256] inb_S6x96x2048_S1x96x256_3_0_768))⟩,
    ⟨Rect.unit (s := S6x96x2048) ![2, 0, 768] ![1, 96, 256] inb_S6x96x2048_S1x96x256_2_0_768, outp (hit a (View.ld xs0 (Rect.unit (s := S96x6) ![0, 0] ![96, 6] inb_S96x6_S96x6_0_0)) 2 (by decide)) (mm H (wlow dfd (View.ld x9 (Rect.unit (s := S1x1408x1024) ![0, 0, 768] ![1, 1408, 256] inb_S1x1408x1024_S1x1408x256_0_0_768)) (View.ld x10 (Rect.unit (s := S1x11x2048) ![0, 0, 768] ![1, 11, 256] inb_S1x11x2048_S1x11x256_0_0_768)) (View.ld x11 (Rect.unit (s := S1x11x2048) ![0, 0, 768] ![1, 11, 256] inb_S1x11x2048_S1x11x256_0_0_768)))) (View.ld x14 (Rect.unit (s := S6x96x2048) ![2, 0, 768] ![1, 96, 256] inb_S6x96x2048_S1x96x256_2_0_768))⟩,
    ⟨Rect.unit (s := S6x96x2048) ![1, 0, 768] ![1, 96, 256] inb_S6x96x2048_S1x96x256_1_0_768, outp (hit a (View.ld xs0 (Rect.unit (s := S96x6) ![0, 0] ![96, 6] inb_S96x6_S96x6_0_0)) 1 (by decide)) (mm H (wlow dfd (View.ld x9 (Rect.unit (s := S1x1408x1024) ![0, 0, 768] ![1, 1408, 256] inb_S1x1408x1024_S1x1408x256_0_0_768)) (View.ld x10 (Rect.unit (s := S1x11x2048) ![0, 0, 768] ![1, 11, 256] inb_S1x11x2048_S1x11x256_0_0_768)) (View.ld x11 (Rect.unit (s := S1x11x2048) ![0, 0, 768] ![1, 11, 256] inb_S1x11x2048_S1x11x256_0_0_768)))) (View.ld x14 (Rect.unit (s := S6x96x2048) ![1, 0, 768] ![1, 96, 256] inb_S6x96x2048_S1x96x256_1_0_768))⟩,
    ⟨Rect.unit (s := S6x96x2048) ![0, 0, 768] ![1, 96, 256] inb_S6x96x2048_S1x96x256_0_0_768, outp (hit a (View.ld xs0 (Rect.unit (s := S96x6) ![0, 0] ![96, 6] inb_S96x6_S96x6_0_0)) 0 (by decide)) (mm H (wlow dfd (View.ld x9 (Rect.unit (s := S1x1408x1024) ![0, 0, 768] ![1, 1408, 256] inb_S1x1408x1024_S1x1408x256_0_0_768)) (View.ld x10 (Rect.unit (s := S1x11x2048) ![0, 0, 768] ![1, 11, 256] inb_S1x11x2048_S1x11x256_0_0_768)) (View.ld x11 (Rect.unit (s := S1x11x2048) ![0, 0, 768] ![1, 11, 256] inb_S1x11x2048_S1x11x256_0_0_768)))) (View.ld x14 (Rect.unit (s := S6x96x2048) ![0, 0, 768] ![1, 96, 256] inb_S6x96x2048_S1x96x256_0_0_768))⟩,
    ⟨Rect.unit (s := S6x96x2048) ![5, 0, 1536] ![1, 96, 256] inb_S6x96x2048_S1x96x256_5_0_1536, outp (hit a (View.ld xs0 (Rect.unit (s := S96x6) ![0, 0] ![96, 6] inb_S96x6_S96x6_0_0)) 5 (by decide)) (mm H (whigh dfd (View.ld x9 (Rect.unit (s := S1x1408x1024) ![0, 0, 512] ![1, 1408, 256] inb_S1x1408x1024_S1x1408x256_0_0_512)) (View.ld x10 (Rect.unit (s := S1x11x2048) ![0, 0, 1536] ![1, 11, 256] inb_S1x11x2048_S1x11x256_0_0_1536)) (View.ld x11 (Rect.unit (s := S1x11x2048) ![0, 0, 1536] ![1, 11, 256] inb_S1x11x2048_S1x11x256_0_0_1536)))) (View.ld x14 (Rect.unit (s := S6x96x2048) ![5, 0, 1536] ![1, 96, 256] inb_S6x96x2048_S1x96x256_5_0_1536))⟩,
    ⟨Rect.unit (s := S6x96x2048) ![4, 0, 1536] ![1, 96, 256] inb_S6x96x2048_S1x96x256_4_0_1536, outp (hit a (View.ld xs0 (Rect.unit (s := S96x6) ![0, 0] ![96, 6] inb_S96x6_S96x6_0_0)) 4 (by decide)) (mm H (whigh dfd (View.ld x9 (Rect.unit (s := S1x1408x1024) ![0, 0, 512] ![1, 1408, 256] inb_S1x1408x1024_S1x1408x256_0_0_512)) (View.ld x10 (Rect.unit (s := S1x11x2048) ![0, 0, 1536] ![1, 11, 256] inb_S1x11x2048_S1x11x256_0_0_1536)) (View.ld x11 (Rect.unit (s := S1x11x2048) ![0, 0, 1536] ![1, 11, 256] inb_S1x11x2048_S1x11x256_0_0_1536)))) (View.ld x14 (Rect.unit (s := S6x96x2048) ![4, 0, 1536] ![1, 96, 256] inb_S6x96x2048_S1x96x256_4_0_1536))⟩,
    ⟨Rect.unit (s := S6x96x2048) ![3, 0, 1536] ![1, 96, 256] inb_S6x96x2048_S1x96x256_3_0_1536, outp (hit a (View.ld xs0 (Rect.unit (s := S96x6) ![0, 0] ![96, 6] inb_S96x6_S96x6_0_0)) 3 (by decide)) (mm H (whigh dfd (View.ld x9 (Rect.unit (s := S1x1408x1024) ![0, 0, 512] ![1, 1408, 256] inb_S1x1408x1024_S1x1408x256_0_0_512)) (View.ld x10 (Rect.unit (s := S1x11x2048) ![0, 0, 1536] ![1, 11, 256] inb_S1x11x2048_S1x11x256_0_0_1536)) (View.ld x11 (Rect.unit (s := S1x11x2048) ![0, 0, 1536] ![1, 11, 256] inb_S1x11x2048_S1x11x256_0_0_1536)))) (View.ld x14 (Rect.unit (s := S6x96x2048) ![3, 0, 1536] ![1, 96, 256] inb_S6x96x2048_S1x96x256_3_0_1536))⟩,
    ⟨Rect.unit (s := S6x96x2048) ![2, 0, 1536] ![1, 96, 256] inb_S6x96x2048_S1x96x256_2_0_1536, outp (hit a (View.ld xs0 (Rect.unit (s := S96x6) ![0, 0] ![96, 6] inb_S96x6_S96x6_0_0)) 2 (by decide)) (mm H (whigh dfd (View.ld x9 (Rect.unit (s := S1x1408x1024) ![0, 0, 512] ![1, 1408, 256] inb_S1x1408x1024_S1x1408x256_0_0_512)) (View.ld x10 (Rect.unit (s := S1x11x2048) ![0, 0, 1536] ![1, 11, 256] inb_S1x11x2048_S1x11x256_0_0_1536)) (View.ld x11 (Rect.unit (s := S1x11x2048) ![0, 0, 1536] ![1, 11, 256] inb_S1x11x2048_S1x11x256_0_0_1536)))) (View.ld x14 (Rect.unit (s := S6x96x2048) ![2, 0, 1536] ![1, 96, 256] inb_S6x96x2048_S1x96x256_2_0_1536))⟩,
    ⟨Rect.unit (s := S6x96x2048) ![1, 0, 1536] ![1, 96, 256] inb_S6x96x2048_S1x96x256_1_0_1536, outp (hit a (View.ld xs0 (Rect.unit (s := S96x6) ![0, 0] ![96, 6] inb_S96x6_S96x6_0_0)) 1 (by decide)) (mm H (whigh dfd (View.ld x9 (Rect.unit (s := S1x1408x1024) ![0, 0, 512] ![1, 1408, 256] inb_S1x1408x1024_S1x1408x256_0_0_512)) (View.ld x10 (Rect.unit (s := S1x11x2048) ![0, 0, 1536] ![1, 11, 256] inb_S1x11x2048_S1x11x256_0_0_1536)) (View.ld x11 (Rect.unit (s := S1x11x2048) ![0, 0, 1536] ![1, 11, 256] inb_S1x11x2048_S1x11x256_0_0_1536)))) (View.ld x14 (Rect.unit (s := S6x96x2048) ![1, 0, 1536] ![1, 96, 256] inb_S6x96x2048_S1x96x256_1_0_1536))⟩,
    ⟨Rect.unit (s := S6x96x2048) ![0, 0, 1536] ![1, 96, 256] inb_S6x96x2048_S1x96x256_0_0_1536, outp (hit a (View.ld xs0 (Rect.unit (s := S96x6) ![0, 0] ![96, 6] inb_S96x6_S96x6_0_0)) 0 (by decide)) (mm H (whigh dfd (View.ld x9 (Rect.unit (s := S1x1408x1024) ![0, 0, 512] ![1, 1408, 256] inb_S1x1408x1024_S1x1408x256_0_0_512)) (View.ld x10 (Rect.unit (s := S1x11x2048) ![0, 0, 1536] ![1, 11, 256] inb_S1x11x2048_S1x11x256_0_0_1536)) (View.ld x11 (Rect.unit (s := S1x11x2048) ![0, 0, 1536] ![1, 11, 256] inb_S1x11x2048_S1x11x256_0_0_1536)))) (View.ld x14 (Rect.unit (s := S6x96x2048) ![0, 0, 1536] ![1, 96, 256] inb_S6x96x2048_S1x96x256_0_0_1536))⟩,
    ⟨Rect.unit (s := S6x96x2048) ![5, 0, 512] ![1, 96, 256] inb_S6x96x2048_S1x96x256_5_0_512, outp (hit a (View.ld xs0 (Rect.unit (s := S96x6) ![0, 0] ![96, 6] inb_S96x6_S96x6_0_0)) 5 (by decide)) (mm H (wlow dfd (View.ld x9 (Rect.unit (s := S1x1408x1024) ![0, 0, 512] ![1, 1408, 256] inb_S1x1408x1024_S1x1408x256_0_0_512)) (View.ld x10 (Rect.unit (s := S1x11x2048) ![0, 0, 512] ![1, 11, 256] inb_S1x11x2048_S1x11x256_0_0_512)) (View.ld x11 (Rect.unit (s := S1x11x2048) ![0, 0, 512] ![1, 11, 256] inb_S1x11x2048_S1x11x256_0_0_512)))) (View.ld x14 (Rect.unit (s := S6x96x2048) ![5, 0, 512] ![1, 96, 256] inb_S6x96x2048_S1x96x256_5_0_512))⟩,
    ⟨Rect.unit (s := S6x96x2048) ![4, 0, 512] ![1, 96, 256] inb_S6x96x2048_S1x96x256_4_0_512, outp (hit a (View.ld xs0 (Rect.unit (s := S96x6) ![0, 0] ![96, 6] inb_S96x6_S96x6_0_0)) 4 (by decide)) (mm H (wlow dfd (View.ld x9 (Rect.unit (s := S1x1408x1024) ![0, 0, 512] ![1, 1408, 256] inb_S1x1408x1024_S1x1408x256_0_0_512)) (View.ld x10 (Rect.unit (s := S1x11x2048) ![0, 0, 512] ![1, 11, 256] inb_S1x11x2048_S1x11x256_0_0_512)) (View.ld x11 (Rect.unit (s := S1x11x2048) ![0, 0, 512] ![1, 11, 256] inb_S1x11x2048_S1x11x256_0_0_512)))) (View.ld x14 (Rect.unit (s := S6x96x2048) ![4, 0, 512] ![1, 96, 256] inb_S6x96x2048_S1x96x256_4_0_512))⟩,
    ⟨Rect.unit (s := S6x96x2048) ![3, 0, 512] ![1, 96, 256] inb_S6x96x2048_S1x96x256_3_0_512, outp (hit a (View.ld xs0 (Rect.unit (s := S96x6) ![0, 0] ![96, 6] inb_S96x6_S96x6_0_0)) 3 (by decide)) (mm H (wlow dfd (View.ld x9 (Rect.unit (s := S1x1408x1024) ![0, 0, 512] ![1, 1408, 256] inb_S1x1408x1024_S1x1408x256_0_0_512)) (View.ld x10 (Rect.unit (s := S1x11x2048) ![0, 0, 512] ![1, 11, 256] inb_S1x11x2048_S1x11x256_0_0_512)) (View.ld x11 (Rect.unit (s := S1x11x2048) ![0, 0, 512] ![1, 11, 256] inb_S1x11x2048_S1x11x256_0_0_512)))) (View.ld x14 (Rect.unit (s := S6x96x2048) ![3, 0, 512] ![1, 96, 256] inb_S6x96x2048_S1x96x256_3_0_512))⟩,
    ⟨Rect.unit (s := S6x96x2048) ![2, 0, 512] ![1, 96, 256] inb_S6x96x2048_S1x96x256_2_0_512, outp (hit a (View.ld xs0 (Rect.unit (s := S96x6) ![0, 0] ![96, 6] inb_S96x6_S96x6_0_0)) 2 (by decide)) (mm H (wlow dfd (View.ld x9 (Rect.unit (s := S1x1408x1024) ![0, 0, 512] ![1, 1408, 256] inb_S1x1408x1024_S1x1408x256_0_0_512)) (View.ld x10 (Rect.unit (s := S1x11x2048) ![0, 0, 512] ![1, 11, 256] inb_S1x11x2048_S1x11x256_0_0_512)) (View.ld x11 (Rect.unit (s := S1x11x2048) ![0, 0, 512] ![1, 11, 256] inb_S1x11x2048_S1x11x256_0_0_512)))) (View.ld x14 (Rect.unit (s := S6x96x2048) ![2, 0, 512] ![1, 96, 256] inb_S6x96x2048_S1x96x256_2_0_512))⟩,
    ⟨Rect.unit (s := S6x96x2048) ![1, 0, 512] ![1, 96, 256] inb_S6x96x2048_S1x96x256_1_0_512, outp (hit a (View.ld xs0 (Rect.unit (s := S96x6) ![0, 0] ![96, 6] inb_S96x6_S96x6_0_0)) 1 (by decide)) (mm H (wlow dfd (View.ld x9 (Rect.unit (s := S1x1408x1024) ![0, 0, 512] ![1, 1408, 256] inb_S1x1408x1024_S1x1408x256_0_0_512)) (View.ld x10 (Rect.unit (s := S1x11x2048) ![0, 0, 512] ![1, 11, 256] inb_S1x11x2048_S1x11x256_0_0_512)) (View.ld x11 (Rect.unit (s := S1x11x2048) ![0, 0, 512] ![1, 11, 256] inb_S1x11x2048_S1x11x256_0_0_512)))) (View.ld x14 (Rect.unit (s := S6x96x2048) ![1, 0, 512] ![1, 96, 256] inb_S6x96x2048_S1x96x256_1_0_512))⟩,
    ⟨Rect.unit (s := S6x96x2048) ![0, 0, 512] ![1, 96, 256] inb_S6x96x2048_S1x96x256_0_0_512, outp (hit a (View.ld xs0 (Rect.unit (s := S96x6) ![0, 0] ![96, 6] inb_S96x6_S96x6_0_0)) 0 (by decide)) (mm H (wlow dfd (View.ld x9 (Rect.unit (s := S1x1408x1024) ![0, 0, 512] ![1, 1408, 256] inb_S1x1408x1024_S1x1408x256_0_0_512)) (View.ld x10 (Rect.unit (s := S1x11x2048) ![0, 0, 512] ![1, 11, 256] inb_S1x11x2048_S1x11x256_0_0_512)) (View.ld x11 (Rect.unit (s := S1x11x2048) ![0, 0, 512] ![1, 11, 256] inb_S1x11x2048_S1x11x256_0_0_512)))) (View.ld x14 (Rect.unit (s := S6x96x2048) ![0, 0, 512] ![1, 96, 256] inb_S6x96x2048_S1x96x256_0_0_512))⟩,
    ⟨Rect.unit (s := S6x96x2048) ![5, 0, 1280] ![1, 96, 256] inb_S6x96x2048_S1x96x256_5_0_1280, outp (hit a (View.ld xs0 (Rect.unit (s := S96x6) ![0, 0] ![96, 6] inb_S96x6_S96x6_0_0)) 5 (by decide)) (mm H (whigh dfd (View.ld x9 (Rect.unit (s := S1x1408x1024) ![0, 0, 256] ![1, 1408, 256] inb_S1x1408x1024_S1x1408x256_0_0_256)) (View.ld x10 (Rect.unit (s := S1x11x2048) ![0, 0, 1280] ![1, 11, 256] inb_S1x11x2048_S1x11x256_0_0_1280)) (View.ld x11 (Rect.unit (s := S1x11x2048) ![0, 0, 1280] ![1, 11, 256] inb_S1x11x2048_S1x11x256_0_0_1280)))) (View.ld x14 (Rect.unit (s := S6x96x2048) ![5, 0, 1280] ![1, 96, 256] inb_S6x96x2048_S1x96x256_5_0_1280))⟩,
    ⟨Rect.unit (s := S6x96x2048) ![4, 0, 1280] ![1, 96, 256] inb_S6x96x2048_S1x96x256_4_0_1280, outp (hit a (View.ld xs0 (Rect.unit (s := S96x6) ![0, 0] ![96, 6] inb_S96x6_S96x6_0_0)) 4 (by decide)) (mm H (whigh dfd (View.ld x9 (Rect.unit (s := S1x1408x1024) ![0, 0, 256] ![1, 1408, 256] inb_S1x1408x1024_S1x1408x256_0_0_256)) (View.ld x10 (Rect.unit (s := S1x11x2048) ![0, 0, 1280] ![1, 11, 256] inb_S1x11x2048_S1x11x256_0_0_1280)) (View.ld x11 (Rect.unit (s := S1x11x2048) ![0, 0, 1280] ![1, 11, 256] inb_S1x11x2048_S1x11x256_0_0_1280)))) (View.ld x14 (Rect.unit (s := S6x96x2048) ![4, 0, 1280] ![1, 96, 256] inb_S6x96x2048_S1x96x256_4_0_1280))⟩,
    ⟨Rect.unit (s := S6x96x2048) ![3, 0, 1280] ![1, 96, 256] inb_S6x96x2048_S1x96x256_3_0_1280, outp (hit a (View.ld xs0 (Rect.unit (s := S96x6) ![0, 0] ![96, 6] inb_S96x6_S96x6_0_0)) 3 (by decide)) (mm H (whigh dfd (View.ld x9 (Rect.unit (s := S1x1408x1024) ![0, 0, 256] ![1, 1408, 256] inb_S1x1408x1024_S1x1408x256_0_0_256)) (View.ld x10 (Rect.unit (s := S1x11x2048) ![0, 0, 1280] ![1, 11, 256] inb_S1x11x2048_S1x11x256_0_0_1280)) (View.ld x11 (Rect.unit (s := S1x11x2048) ![0, 0, 1280] ![1, 11, 256] inb_S1x11x2048_S1x11x256_0_0_1280)))) (View.ld x14 (Rect.unit (s := S6x96x2048) ![3, 0, 1280] ![1, 96, 256] inb_S6x96x2048_S1x96x256_3_0_1280))⟩,
    ⟨Rect.unit (s := S6x96x2048) ![2, 0, 1280] ![1, 96, 256] inb_S6x96x2048_S1x96x256_2_0_1280, outp (hit a (View.ld xs0 (Rect.unit (s := S96x6) ![0, 0] ![96, 6] inb_S96x6_S96x6_0_0)) 2 (by decide)) (mm H (whigh dfd (View.ld x9 (Rect.unit (s := S1x1408x1024) ![0, 0, 256] ![1, 1408, 256] inb_S1x1408x1024_S1x1408x256_0_0_256)) (View.ld x10 (Rect.unit (s := S1x11x2048) ![0, 0, 1280] ![1, 11, 256] inb_S1x11x2048_S1x11x256_0_0_1280)) (View.ld x11 (Rect.unit (s := S1x11x2048) ![0, 0, 1280] ![1, 11, 256] inb_S1x11x2048_S1x11x256_0_0_1280)))) (View.ld x14 (Rect.unit (s := S6x96x2048) ![2, 0, 1280] ![1, 96, 256] inb_S6x96x2048_S1x96x256_2_0_1280))⟩,
    ⟨Rect.unit (s := S6x96x2048) ![1, 0, 1280] ![1, 96, 256] inb_S6x96x2048_S1x96x256_1_0_1280, outp (hit a (View.ld xs0 (Rect.unit (s := S96x6) ![0, 0] ![96, 6] inb_S96x6_S96x6_0_0)) 1 (by decide)) (mm H (whigh dfd (View.ld x9 (Rect.unit (s := S1x1408x1024) ![0, 0, 256] ![1, 1408, 256] inb_S1x1408x1024_S1x1408x256_0_0_256)) (View.ld x10 (Rect.unit (s := S1x11x2048) ![0, 0, 1280] ![1, 11, 256] inb_S1x11x2048_S1x11x256_0_0_1280)) (View.ld x11 (Rect.unit (s := S1x11x2048) ![0, 0, 1280] ![1, 11, 256] inb_S1x11x2048_S1x11x256_0_0_1280)))) (View.ld x14 (Rect.unit (s := S6x96x2048) ![1, 0, 1280] ![1, 96, 256] inb_S6x96x2048_S1x96x256_1_0_1280))⟩,
    ⟨Rect.unit (s := S6x96x2048) ![0, 0, 1280] ![1, 96, 256] inb_S6x96x2048_S1x96x256_0_0_1280, outp (hit a (View.ld xs0 (Rect.unit (s := S96x6) ![0, 0] ![96, 6] inb_S96x6_S96x6_0_0)) 0 (by decide)) (mm H (whigh dfd (View.ld x9 (Rect.unit (s := S1x1408x1024) ![0, 0, 256] ![1, 1408, 256] inb_S1x1408x1024_S1x1408x256_0_0_256)) (View.ld x10 (Rect.unit (s := S1x11x2048) ![0, 0, 1280] ![1, 11, 256] inb_S1x11x2048_S1x11x256_0_0_1280)) (View.ld x11 (Rect.unit (s := S1x11x2048) ![0, 0, 1280] ![1, 11, 256] inb_S1x11x2048_S1x11x256_0_0_1280)))) (View.ld x14 (Rect.unit (s := S6x96x2048) ![0, 0, 1280] ![1, 96, 256] inb_S6x96x2048_S1x96x256_0_0_1280))⟩,
    ⟨Rect.unit (s := S6x96x2048) ![5, 0, 256] ![1, 96, 256] inb_S6x96x2048_S1x96x256_5_0_256, outp (hit a (View.ld xs0 (Rect.unit (s := S96x6) ![0, 0] ![96, 6] inb_S96x6_S96x6_0_0)) 5 (by decide)) (mm H (wlow dfd (View.ld x9 (Rect.unit (s := S1x1408x1024) ![0, 0, 256] ![1, 1408, 256] inb_S1x1408x1024_S1x1408x256_0_0_256)) (View.ld x10 (Rect.unit (s := S1x11x2048) ![0, 0, 256] ![1, 11, 256] inb_S1x11x2048_S1x11x256_0_0_256)) (View.ld x11 (Rect.unit (s := S1x11x2048) ![0, 0, 256] ![1, 11, 256] inb_S1x11x2048_S1x11x256_0_0_256)))) (View.ld x14 (Rect.unit (s := S6x96x2048) ![5, 0, 256] ![1, 96, 256] inb_S6x96x2048_S1x96x256_5_0_256))⟩,
    ⟨Rect.unit (s := S6x96x2048) ![4, 0, 256] ![1, 96, 256] inb_S6x96x2048_S1x96x256_4_0_256, outp (hit a (View.ld xs0 (Rect.unit (s := S96x6) ![0, 0] ![96, 6] inb_S96x6_S96x6_0_0)) 4 (by decide)) (mm H (wlow dfd (View.ld x9 (Rect.unit (s := S1x1408x1024) ![0, 0, 256] ![1, 1408, 256] inb_S1x1408x1024_S1x1408x256_0_0_256)) (View.ld x10 (Rect.unit (s := S1x11x2048) ![0, 0, 256] ![1, 11, 256] inb_S1x11x2048_S1x11x256_0_0_256)) (View.ld x11 (Rect.unit (s := S1x11x2048) ![0, 0, 256] ![1, 11, 256] inb_S1x11x2048_S1x11x256_0_0_256)))) (View.ld x14 (Rect.unit (s := S6x96x2048) ![4, 0, 256] ![1, 96, 256] inb_S6x96x2048_S1x96x256_4_0_256))⟩,
    ⟨Rect.unit (s := S6x96x2048) ![3, 0, 256] ![1, 96, 256] inb_S6x96x2048_S1x96x256_3_0_256, outp (hit a (View.ld xs0 (Rect.unit (s := S96x6) ![0, 0] ![96, 6] inb_S96x6_S96x6_0_0)) 3 (by decide)) (mm H (wlow dfd (View.ld x9 (Rect.unit (s := S1x1408x1024) ![0, 0, 256] ![1, 1408, 256] inb_S1x1408x1024_S1x1408x256_0_0_256)) (View.ld x10 (Rect.unit (s := S1x11x2048) ![0, 0, 256] ![1, 11, 256] inb_S1x11x2048_S1x11x256_0_0_256)) (View.ld x11 (Rect.unit (s := S1x11x2048) ![0, 0, 256] ![1, 11, 256] inb_S1x11x2048_S1x11x256_0_0_256)))) (View.ld x14 (Rect.unit (s := S6x96x2048) ![3, 0, 256] ![1, 96, 256] inb_S6x96x2048_S1x96x256_3_0_256))⟩,
    ⟨Rect.unit (s := S6x96x2048) ![2, 0, 256] ![1, 96, 256] inb_S6x96x2048_S1x96x256_2_0_256, outp (hit a (View.ld xs0 (Rect.unit (s := S96x6) ![0, 0] ![96, 6] inb_S96x6_S96x6_0_0)) 2 (by decide)) (mm H (wlow dfd (View.ld x9 (Rect.unit (s := S1x1408x1024) ![0, 0, 256] ![1, 1408, 256] inb_S1x1408x1024_S1x1408x256_0_0_256)) (View.ld x10 (Rect.unit (s := S1x11x2048) ![0, 0, 256] ![1, 11, 256] inb_S1x11x2048_S1x11x256_0_0_256)) (View.ld x11 (Rect.unit (s := S1x11x2048) ![0, 0, 256] ![1, 11, 256] inb_S1x11x2048_S1x11x256_0_0_256)))) (View.ld x14 (Rect.unit (s := S6x96x2048) ![2, 0, 256] ![1, 96, 256] inb_S6x96x2048_S1x96x256_2_0_256))⟩,
    ⟨Rect.unit (s := S6x96x2048) ![1, 0, 256] ![1, 96, 256] inb_S6x96x2048_S1x96x256_1_0_256, outp (hit a (View.ld xs0 (Rect.unit (s := S96x6) ![0, 0] ![96, 6] inb_S96x6_S96x6_0_0)) 1 (by decide)) (mm H (wlow dfd (View.ld x9 (Rect.unit (s := S1x1408x1024) ![0, 0, 256] ![1, 1408, 256] inb_S1x1408x1024_S1x1408x256_0_0_256)) (View.ld x10 (Rect.unit (s := S1x11x2048) ![0, 0, 256] ![1, 11, 256] inb_S1x11x2048_S1x11x256_0_0_256)) (View.ld x11 (Rect.unit (s := S1x11x2048) ![0, 0, 256] ![1, 11, 256] inb_S1x11x2048_S1x11x256_0_0_256)))) (View.ld x14 (Rect.unit (s := S6x96x2048) ![1, 0, 256] ![1, 96, 256] inb_S6x96x2048_S1x96x256_1_0_256))⟩,
    ⟨Rect.unit (s := S6x96x2048) ![0, 0, 256] ![1, 96, 256] inb_S6x96x2048_S1x96x256_0_0_256, outp (hit a (View.ld xs0 (Rect.unit (s := S96x6) ![0, 0] ![96, 6] inb_S96x6_S96x6_0_0)) 0 (by decide)) (mm H (wlow dfd (View.ld x9 (Rect.unit (s := S1x1408x1024) ![0, 0, 256] ![1, 1408, 256] inb_S1x1408x1024_S1x1408x256_0_0_256)) (View.ld x10 (Rect.unit (s := S1x11x2048) ![0, 0, 256] ![1, 11, 256] inb_S1x11x2048_S1x11x256_0_0_256)) (View.ld x11 (Rect.unit (s := S1x11x2048) ![0, 0, 256] ![1, 11, 256] inb_S1x11x2048_S1x11x256_0_0_256)))) (View.ld x14 (Rect.unit (s := S6x96x2048) ![0, 0, 256] ![1, 96, 256] inb_S6x96x2048_S1x96x256_0_0_256))⟩,
    ⟨Rect.unit (s := S6x96x2048) ![5, 0, 1024] ![1, 96, 256] inb_S6x96x2048_S1x96x256_5_0_1024, outp (hit a (View.ld xs0 (Rect.unit (s := S96x6) ![0, 0] ![96, 6] inb_S96x6_S96x6_0_0)) 5 (by decide)) (mm H (whigh dfd (View.ld x9 (Rect.unit (s := S1x1408x1024) ![0, 0, 0] ![1, 1408, 256] inb_S1x1408x1024_S1x1408x256_0_0_0)) (View.ld x10 (Rect.unit (s := S1x11x2048) ![0, 0, 1024] ![1, 11, 256] inb_S1x11x2048_S1x11x256_0_0_1024)) (View.ld x11 (Rect.unit (s := S1x11x2048) ![0, 0, 1024] ![1, 11, 256] inb_S1x11x2048_S1x11x256_0_0_1024)))) (View.ld x14 (Rect.unit (s := S6x96x2048) ![5, 0, 1024] ![1, 96, 256] inb_S6x96x2048_S1x96x256_5_0_1024))⟩,
    ⟨Rect.unit (s := S6x96x2048) ![4, 0, 1024] ![1, 96, 256] inb_S6x96x2048_S1x96x256_4_0_1024, outp (hit a (View.ld xs0 (Rect.unit (s := S96x6) ![0, 0] ![96, 6] inb_S96x6_S96x6_0_0)) 4 (by decide)) (mm H (whigh dfd (View.ld x9 (Rect.unit (s := S1x1408x1024) ![0, 0, 0] ![1, 1408, 256] inb_S1x1408x1024_S1x1408x256_0_0_0)) (View.ld x10 (Rect.unit (s := S1x11x2048) ![0, 0, 1024] ![1, 11, 256] inb_S1x11x2048_S1x11x256_0_0_1024)) (View.ld x11 (Rect.unit (s := S1x11x2048) ![0, 0, 1024] ![1, 11, 256] inb_S1x11x2048_S1x11x256_0_0_1024)))) (View.ld x14 (Rect.unit (s := S6x96x2048) ![4, 0, 1024] ![1, 96, 256] inb_S6x96x2048_S1x96x256_4_0_1024))⟩,
    ⟨Rect.unit (s := S6x96x2048) ![3, 0, 1024] ![1, 96, 256] inb_S6x96x2048_S1x96x256_3_0_1024, outp (hit a (View.ld xs0 (Rect.unit (s := S96x6) ![0, 0] ![96, 6] inb_S96x6_S96x6_0_0)) 3 (by decide)) (mm H (whigh dfd (View.ld x9 (Rect.unit (s := S1x1408x1024) ![0, 0, 0] ![1, 1408, 256] inb_S1x1408x1024_S1x1408x256_0_0_0)) (View.ld x10 (Rect.unit (s := S1x11x2048) ![0, 0, 1024] ![1, 11, 256] inb_S1x11x2048_S1x11x256_0_0_1024)) (View.ld x11 (Rect.unit (s := S1x11x2048) ![0, 0, 1024] ![1, 11, 256] inb_S1x11x2048_S1x11x256_0_0_1024)))) (View.ld x14 (Rect.unit (s := S6x96x2048) ![3, 0, 1024] ![1, 96, 256] inb_S6x96x2048_S1x96x256_3_0_1024))⟩,
    ⟨Rect.unit (s := S6x96x2048) ![2, 0, 1024] ![1, 96, 256] inb_S6x96x2048_S1x96x256_2_0_1024, outp (hit a (View.ld xs0 (Rect.unit (s := S96x6) ![0, 0] ![96, 6] inb_S96x6_S96x6_0_0)) 2 (by decide)) (mm H (whigh dfd (View.ld x9 (Rect.unit (s := S1x1408x1024) ![0, 0, 0] ![1, 1408, 256] inb_S1x1408x1024_S1x1408x256_0_0_0)) (View.ld x10 (Rect.unit (s := S1x11x2048) ![0, 0, 1024] ![1, 11, 256] inb_S1x11x2048_S1x11x256_0_0_1024)) (View.ld x11 (Rect.unit (s := S1x11x2048) ![0, 0, 1024] ![1, 11, 256] inb_S1x11x2048_S1x11x256_0_0_1024)))) (View.ld x14 (Rect.unit (s := S6x96x2048) ![2, 0, 1024] ![1, 96, 256] inb_S6x96x2048_S1x96x256_2_0_1024))⟩,
    ⟨Rect.unit (s := S6x96x2048) ![1, 0, 1024] ![1, 96, 256] inb_S6x96x2048_S1x96x256_1_0_1024, outp (hit a (View.ld xs0 (Rect.unit (s := S96x6) ![0, 0] ![96, 6] inb_S96x6_S96x6_0_0)) 1 (by decide)) (mm H (whigh dfd (View.ld x9 (Rect.unit (s := S1x1408x1024) ![0, 0, 0] ![1, 1408, 256] inb_S1x1408x1024_S1x1408x256_0_0_0)) (View.ld x10 (Rect.unit (s := S1x11x2048) ![0, 0, 1024] ![1, 11, 256] inb_S1x11x2048_S1x11x256_0_0_1024)) (View.ld x11 (Rect.unit (s := S1x11x2048) ![0, 0, 1024] ![1, 11, 256] inb_S1x11x2048_S1x11x256_0_0_1024)))) (View.ld x14 (Rect.unit (s := S6x96x2048) ![1, 0, 1024] ![1, 96, 256] inb_S6x96x2048_S1x96x256_1_0_1024))⟩,
    ⟨Rect.unit (s := S6x96x2048) ![0, 0, 1024] ![1, 96, 256] inb_S6x96x2048_S1x96x256_0_0_1024, outp (hit a (View.ld xs0 (Rect.unit (s := S96x6) ![0, 0] ![96, 6] inb_S96x6_S96x6_0_0)) 0 (by decide)) (mm H (whigh dfd (View.ld x9 (Rect.unit (s := S1x1408x1024) ![0, 0, 0] ![1, 1408, 256] inb_S1x1408x1024_S1x1408x256_0_0_0)) (View.ld x10 (Rect.unit (s := S1x11x2048) ![0, 0, 1024] ![1, 11, 256] inb_S1x11x2048_S1x11x256_0_0_1024)) (View.ld x11 (Rect.unit (s := S1x11x2048) ![0, 0, 1024] ![1, 11, 256] inb_S1x11x2048_S1x11x256_0_0_1024)))) (View.ld x14 (Rect.unit (s := S6x96x2048) ![0, 0, 1024] ![1, 96, 256] inb_S6x96x2048_S1x96x256_0_0_1024))⟩,
    ⟨Rect.unit (s := S6x96x2048) ![5, 0, 0] ![1, 96, 256] inb_S6x96x2048_S1x96x256_5_0_0, outp (hit a (View.ld xs0 (Rect.unit (s := S96x6) ![0, 0] ![96, 6] inb_S96x6_S96x6_0_0)) 5 (by decide)) (mm H (wlow dfd (View.ld x9 (Rect.unit (s := S1x1408x1024) ![0, 0, 0] ![1, 1408, 256] inb_S1x1408x1024_S1x1408x256_0_0_0)) (View.ld x10 (Rect.unit (s := S1x11x2048) ![0, 0, 0] ![1, 11, 256] inb_S1x11x2048_S1x11x256_0_0_0)) (View.ld x11 (Rect.unit (s := S1x11x2048) ![0, 0, 0] ![1, 11, 256] inb_S1x11x2048_S1x11x256_0_0_0)))) (View.ld x14 (Rect.unit (s := S6x96x2048) ![5, 0, 0] ![1, 96, 256] inb_S6x96x2048_S1x96x256_5_0_0))⟩,
    ⟨Rect.unit (s := S6x96x2048) ![4, 0, 0] ![1, 96, 256] inb_S6x96x2048_S1x96x256_4_0_0, outp (hit a (View.ld xs0 (Rect.unit (s := S96x6) ![0, 0] ![96, 6] inb_S96x6_S96x6_0_0)) 4 (by decide)) (mm H (wlow dfd (View.ld x9 (Rect.unit (s := S1x1408x1024) ![0, 0, 0] ![1, 1408, 256] inb_S1x1408x1024_S1x1408x256_0_0_0)) (View.ld x10 (Rect.unit (s := S1x11x2048) ![0, 0, 0] ![1, 11, 256] inb_S1x11x2048_S1x11x256_0_0_0)) (View.ld x11 (Rect.unit (s := S1x11x2048) ![0, 0, 0] ![1, 11, 256] inb_S1x11x2048_S1x11x256_0_0_0)))) (View.ld x14 (Rect.unit (s := S6x96x2048) ![4, 0, 0] ![1, 96, 256] inb_S6x96x2048_S1x96x256_4_0_0))⟩,
    ⟨Rect.unit (s := S6x96x2048) ![3, 0, 0] ![1, 96, 256] inb_S6x96x2048_S1x96x256_3_0_0, outp (hit a (View.ld xs0 (Rect.unit (s := S96x6) ![0, 0] ![96, 6] inb_S96x6_S96x6_0_0)) 3 (by decide)) (mm H (wlow dfd (View.ld x9 (Rect.unit (s := S1x1408x1024) ![0, 0, 0] ![1, 1408, 256] inb_S1x1408x1024_S1x1408x256_0_0_0)) (View.ld x10 (Rect.unit (s := S1x11x2048) ![0, 0, 0] ![1, 11, 256] inb_S1x11x2048_S1x11x256_0_0_0)) (View.ld x11 (Rect.unit (s := S1x11x2048) ![0, 0, 0] ![1, 11, 256] inb_S1x11x2048_S1x11x256_0_0_0)))) (View.ld x14 (Rect.unit (s := S6x96x2048) ![3, 0, 0] ![1, 96, 256] inb_S6x96x2048_S1x96x256_3_0_0))⟩,
    ⟨Rect.unit (s := S6x96x2048) ![2, 0, 0] ![1, 96, 256] inb_S6x96x2048_S1x96x256_2_0_0, outp (hit a (View.ld xs0 (Rect.unit (s := S96x6) ![0, 0] ![96, 6] inb_S96x6_S96x6_0_0)) 2 (by decide)) (mm H (wlow dfd (View.ld x9 (Rect.unit (s := S1x1408x1024) ![0, 0, 0] ![1, 1408, 256] inb_S1x1408x1024_S1x1408x256_0_0_0)) (View.ld x10 (Rect.unit (s := S1x11x2048) ![0, 0, 0] ![1, 11, 256] inb_S1x11x2048_S1x11x256_0_0_0)) (View.ld x11 (Rect.unit (s := S1x11x2048) ![0, 0, 0] ![1, 11, 256] inb_S1x11x2048_S1x11x256_0_0_0)))) (View.ld x14 (Rect.unit (s := S6x96x2048) ![2, 0, 0] ![1, 96, 256] inb_S6x96x2048_S1x96x256_2_0_0))⟩,
    ⟨Rect.unit (s := S6x96x2048) ![1, 0, 0] ![1, 96, 256] inb_S6x96x2048_S1x96x256_1_0_0, outp (hit a (View.ld xs0 (Rect.unit (s := S96x6) ![0, 0] ![96, 6] inb_S96x6_S96x6_0_0)) 1 (by decide)) (mm H (wlow dfd (View.ld x9 (Rect.unit (s := S1x1408x1024) ![0, 0, 0] ![1, 1408, 256] inb_S1x1408x1024_S1x1408x256_0_0_0)) (View.ld x10 (Rect.unit (s := S1x11x2048) ![0, 0, 0] ![1, 11, 256] inb_S1x11x2048_S1x11x256_0_0_0)) (View.ld x11 (Rect.unit (s := S1x11x2048) ![0, 0, 0] ![1, 11, 256] inb_S1x11x2048_S1x11x256_0_0_0)))) (View.ld x14 (Rect.unit (s := S6x96x2048) ![1, 0, 0] ![1, 96, 256] inb_S6x96x2048_S1x96x256_1_0_0))⟩,
    ⟨Rect.unit (s := S6x96x2048) ![0, 0, 0] ![1, 96, 256] inb_S6x96x2048_S1x96x256_0_0_0, outp (hit a (View.ld xs0 (Rect.unit (s := S96x6) ![0, 0] ![96, 6] inb_S96x6_S96x6_0_0)) 0 (by decide)) (mm H (wlow dfd (View.ld x9 (Rect.unit (s := S1x1408x1024) ![0, 0, 0] ![1, 1408, 256] inb_S1x1408x1024_S1x1408x256_0_0_0)) (View.ld x10 (Rect.unit (s := S1x11x2048) ![0, 0, 0] ![1, 11, 256] inb_S1x11x2048_S1x11x256_0_0_0)) (View.ld x11 (Rect.unit (s := S1x11x2048) ![0, 0, 0] ![1, 11, 256] inb_S1x11x2048_S1x11x256_0_0_0)))) (View.ld x14 (Rect.unit (s := S6x96x2048) ![0, 0, 0] ![1, 96, 256] inb_S6x96x2048_S1x96x256_0_0_0))⟩]
end Cert.KernelIdeal.Hand

end
-- ==== Proof.MidA.lean ====
/- The running sum the run finds is the uniform one. -/
module

public import proofs.«01_k».proof.Proof.RunMid
public import proofs.«01_k».proof.Proof.Mid

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem mid_acc (c : Dev nD) (i : grid0.Coords) (arg1 : Memref sig .tc .smem S64 .i32) (harg1 : arg1.IsWhole) (arg2 : Memref sig .tc .vmem S96x2048 .bf16) (harg2 : arg2.IsWhole) (arg3 : Memref sig .tc .vmem S96x6 .i32) (harg3 : arg3.IsWhole) (arg4 : Memref sig .tc .vmem S96x6 .f32) (harg4 : arg4.IsWhole) (arg5 : Memref sig .tc .vmem S1x2048x1408 .i8) (harg5 : arg5.IsWhole) (arg6 : Memref sig .tc .vmem S1x16x1408 .bf16) (harg6 : arg6.IsWhole) (arg7 : Memref sig .tc .vmem S1x16x1408 .bf16) (harg7 : arg7.IsWhole) (arg8 : Memref sig .tc .vmem S1x16x1408 .bf16) (harg8 : arg8.IsWhole) (arg9 : Memref sig .tc .vmem S1x16x1408 .bf16) (harg9 : arg9.IsWhole) (arg10 : Memref sig .tc .vmem S1x1408x1024 .i8) (harg10 : arg10.IsWhole) (arg11 : Memref sig .tc .vmem S1x11x2048 .bf16) (harg11 : arg11.IsWhole) (arg12 : Memref sig .tc .vmem S1x11x2048 .bf16) (harg12 : arg12.IsWhole) (arg13 : Memref sig .tc .vmem S96x2048 .bf16) (harg13 : arg13.IsWhole) (arg14 : Memref sig .tc .vmem S96x1 .f32) (harg14 : arg14.IsWhole) (arg15 : Memref sig .tc .vmem S6x96x2048 .f32) (harg15 : arg15.IsWhole) (arg16 : Memref sig .tc .vmem S96x6 .i32) (harg16 : arg16.IsWhole) (arg17 : Memref sig .tc .vmem S96x6 .f32) (harg17 : arg17.IsWhole) (arg18 : Memref sig .tc .vmem S96x1408 .bf16) (harg18 : arg18.IsWhole) (arg19 : Memref sig .tc .vmem S96x2048 .f32) (harg19 : arg19.IsWhole)
    (x1 : Vec F S96x2048 .bf16) (x4 : Vec F S1x2048x1408 .i8) (x5 : Vec F S1x16x1408 .bf16) (x6 : Vec F S1x16x1408 .bf16) (x7 : Vec F S1x16x1408 .bf16) (x8 : Vec F S1x16x1408 .bf16) (x9 : Vec F S1x1408x1024 .i8) (x10 : Vec F S1x11x2048 .bf16) (x11 : Vec F S1x11x2048 .bf16) (xs0 : Vec F S96x6 .i32) (xs1 : Vec F S96x6 .f32) (x14 : Vec F S6x96x2048 .f32) (xs3 : Vec F S96x2048 .f32) :
    (runMid (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x4 x5 x6 x7 x8 x9 x10 x11 xs0 xs1 x14 xs3).2.2.1 = accPieces (BitVec.ofNat 32 (i 0).val) (View.readCov arg18.view (hPieces x1 x4 x5 x6 x7 x8) (Rect.unit (s := S96x1408) ![0, 0] ![96, 1408] inb_S96x1408_S96x1408_0_0).toLoadRect) x9 x10 x11 xs0 xs1 xs3 := by
  unfold runMid; dsimp only
  sl_unfold_words
  simp only [View.readAt_eq_ld, Memref.IsWhole.read_unread]
  rfl
end Cert.KernelIdeal.Hand

end
-- ==== Proof.MidO.lean ====
/- The per-choice result the run finds is the uniform one. -/
module

public import proofs.«01_k».proof.Proof.RunMid
public import proofs.«01_k».proof.Proof.Mid

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem mid_out (c : Dev nD) (i : grid0.Coords) (arg1 : Memref sig .tc .smem S64 .i32) (harg1 : arg1.IsWhole) (arg2 : Memref sig .tc .vmem S96x2048 .bf16) (harg2 : arg2.IsWhole) (arg3 : Memref sig .tc .vmem S96x6 .i32) (harg3 : arg3.IsWhole) (arg4 : Memref sig .tc .vmem S96x6 .f32) (harg4 : arg4.IsWhole) (arg5 : Memref sig .tc .vmem S1x2048x1408 .i8) (harg5 : arg5.IsWhole) (arg6 : Memref sig .tc .vmem S1x16x1408 .bf16) (harg6 : arg6.IsWhole) (arg7 : Memref sig .tc .vmem S1x16x1408 .bf16) (harg7 : arg7.IsWhole) (arg8 : Memref sig .tc .vmem S1x16x1408 .bf16) (harg8 : arg8.IsWhole) (arg9 : Memref sig .tc .vmem S1x16x1408 .bf16) (harg9 : arg9.IsWhole) (arg10 : Memref sig .tc .vmem S1x1408x1024 .i8) (harg10 : arg10.IsWhole) (arg11 : Memref sig .tc .vmem S1x11x2048 .bf16) (harg11 : arg11.IsWhole) (arg12 : Memref sig .tc .vmem S1x11x2048 .bf16) (harg12 : arg12.IsWhole) (arg13 : Memref sig .tc .vmem S96x2048 .bf16) (harg13 : arg13.IsWhole) (arg14 : Memref sig .tc .vmem S96x1 .f32) (harg14 : arg14.IsWhole) (arg15 : Memref sig .tc .vmem S6x96x2048 .f32) (harg15 : arg15.IsWhole) (arg16 : Memref sig .tc .vmem S96x6 .i32) (harg16 : arg16.IsWhole) (arg17 : Memref sig .tc .vmem S96x6 .f32) (harg17 : arg17.IsWhole) (arg18 : Memref sig .tc .vmem S96x1408 .bf16) (harg18 : arg18.IsWhole) (arg19 : Memref sig .tc .vmem S96x2048 .f32) (harg19 : arg19.IsWhole)
    (x1 : Vec F S96x2048 .bf16) (x4 : Vec F S1x2048x1408 .i8) (x5 : Vec F S1x16x1408 .bf16) (x6 : Vec F S1x16x1408 .bf16) (x7 : Vec F S1x16x1408 .bf16) (x8 : Vec F S1x16x1408 .bf16) (x9 : Vec F S1x1408x1024 .i8) (x10 : Vec F S1x11x2048 .bf16) (x11 : Vec F S1x11x2048 .bf16) (xs0 : Vec F S96x6 .i32) (xs1 : Vec F S96x6 .f32) (x14 : Vec F S6x96x2048 .f32) (xs3 : Vec F S96x2048 .f32) :
    (runMid (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x4 x5 x6 x7 x8 x9 x10 x11 xs0 xs1 x14 xs3).1 = outPieces (BitVec.ofNat 32 (i 0).val) (View.readCov arg18.view (hPieces x1 x4 x5 x6 x7 x8) (Rect.unit (s := S96x1408) ![0, 0] ![96, 1408] inb_S96x1408_S96x1408_0_0).toLoadRect) x9 x10 x11 xs0 x14 := by
  unfold runMid; dsimp only
  sl_unfold_words
  simp only [View.readAt_eq_ld, Memref.IsWhole.read_unread]
  rfl
end Cert.KernelIdeal.Hand

end
-- ==== Proof.Triples.lean ====
/- Whole buffers from the pieces written. -/
module

public import proofs.«01_k».proof.Proof.Mid
public import proofs.«01_k».proof.Proof.Cut

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the set-up leaves in the accumulator. -/
abbrev ACC0 : Vec F S96x2048 .f32 := shapeCast S96x2048 (broadcast S96x2048 (Scalar.ofBits .f32 0x00000000#32)) shapeCasts_S96x2048_S96x2048

/-- What the closing stretch stores. -/
abbrev YF (xs3 : Vec F S96x2048 .f32) : Vec F S96x2048 .bf16 := truncf .bf16 (View.ld xs3 (Rect.unit (s := S96x2048) ![0, 0] ![96, 2048] inb_S96x2048_S96x2048_0_0)) bitsLt_bf16_f32

/-- The hidden activations the middle stretch leaves and loads. -/
def Hv (x1 : Vec F S96x2048 .bf16) (x4 : Vec F S1x2048x1408 .i8) (x5 : Vec F S1x16x1408 .bf16) (x6 : Vec F S1x16x1408 .bf16) (x7 : Vec F S1x16x1408 .bf16) (x8 : Vec F S1x16x1408 .bf16) : FVec F (sh 96 1408) .bf16 :=
  View.readCov (Memref.whole cc0_scratch2).view (hPieces x1 x4 x5 x6 x7 x8) (Rect.unit (s := S96x1408) ![0, 0] ![96, 1408] inb_S96x1408_S96x1408_0_0).toLoadRect

/-- It does not depend on the buffer. -/
theorem Hv_eq (arg18 : Memref sig .tc .vmem S96x1408 .bf16) (x1 : Vec F S96x2048 .bf16) (x4 : Vec F S1x2048x1408 .i8) (x5 : Vec F S1x16x1408 .bf16) (x6 : Vec F S1x16x1408 .bf16) (x7 : Vec F S1x16x1408 .bf16) (x8 : Vec F S1x16x1408 .bf16) :
    View.readCov arg18.view (hPieces x1 x4 x5 x6 x7 x8) (Rect.unit (s := S96x1408) ![0, 0] ![96, 1408] inb_S96x1408_S96x1408_0_0).toLoadRect = Hv x1 x4 x5 x6 x7 x8 := by
  unfold Hv
  rw [View.readCov_eq_canon', View.readCov_eq_canon']
  rfl

/-- A buffer written all over holds the pieces' canonical contents. -/
theorem owns_of_writes {sp : Space} {S : Shape} {e : EltTy} (c : Dev nD) (M : Memref sig .tc sp S e) (L : List (View.Piece (Elt F) S e)) (v : Vec F S e)
    (h : (∀ y, ∃ p ∈ L, y ∈ p.1.set) ∧ View.canon L = v) :
    iprop(∃ f, M.view.loc (c : Thread nD τ) ↦[M.view.set]{fullShare} M.view.writes (Elt F) f L) ⊢ (owns (c : Thread nD τ) M fullShare v : sProp 𝕄) := by
  iintro ⟨%f, G⟩
  unfold owns
  iexists _
  isplitr
  swap
  · iexact G
  ipureintro
  rw [← h.2]
  exact View.read_writes_eq_canon _ _ _ h.1

/-- A buffer written somewhere holds something. -/
theorem owns_some {sp : Space} {S : Shape} {e : EltTy} (c : Dev nD) (M : Memref sig .tc sp S e) (L : List (View.Piece (Elt F) S e)) :
    iprop(∃ f, M.view.loc (c : Thread nD τ) ↦[M.view.set]{fullShare} M.view.writes (Elt F) f L) ⊢ (iprop(∃ d, owns (c : Thread nD τ) M fullShare d) : sProp 𝕄) := by
  iintro ⟨%f, G⟩
  iexists _
  unfold owns
  iexists _
  isplitr
  swap
  · iexact G
  ipureintro
  rfl

/-- One piece that is the whole buffer. -/
theorem one_piece {S : Shape} {e : EltTy} (off : Fin S.rank → ℕ) (h : ∀ k, off k = 0) (inb) (v : Vec F S e) :
    (∀ y, ∃ p ∈ ([⟨Rect.unit (s := S) off S.size inb, v⟩] : List (View.Piece (Elt F) S e)), y ∈ p.1.set) ∧ View.canon ([⟨Rect.unit (s := S) off S.size inb, v⟩] : List (View.Piece (Elt F) S e)) = v := by
  refine ⟨fun y => ⟨_, List.mem_singleton_self _, ?_⟩, View.canon_unit_zero (S := S) (funext h) inb v⟩
  refine (Rect.mem_set_unit (s := S) (off := off) (size := S.size) (inb := inb)).mpr fun a => ?_
  rw [h a]
  exact ⟨Nat.zero_le _, by simpa using (y a).isLt⟩

theorem z2 : ∀ k : Fin 2, (![0, 0] : Fin 2 → ℕ) k = 0 := by decide
theorem z3 : ∀ k : Fin 3, (![0, 0, 0] : Fin 3 → ℕ) k = 0 := by decide

theorem acc_cover (a : BitVec 32) (H : FVec F (sh 96 1408) .bf16) (x9 : Vec F S1x1408x1024 .i8) (x10 x11 : Vec F S1x11x2048 .bf16) (xs0 : Vec F S96x6 .i32) (xs1 : Vec F S96x6 .f32) (xs3 : Vec F S96x2048 .f32) :
    ∀ y, ∃ p ∈ accPieces a H x9 x10 x11 xs0 xs1 xs3, y ∈ p.1.set := by
  intro y; unfold accPieces
  exact View.cover_of_tiled_head _ _ _ (by rfl) _

theorem out_cover (a : BitVec 32) (H : FVec F (sh 96 1408) .bf16) (x9 : Vec F S1x1408x1024 .i8) (x10 x11 : Vec F S1x11x2048 .bf16) (xs0 : Vec F S96x6 .i32) (x14 : Vec F S6x96x2048 .f32) :
    ∀ y, ∃ p ∈ outPieces a H x9 x10 x11 xs0 x14, y ∈ p.1.set := by
  intro y; unfold outPieces
  exact View.cover_of_tiled_head _ _ _ (by rfl) _

end Cert.KernelIdeal.Hand

end
-- ==== Proof.TripMid.lean ====
/- The middle stretch of the body as a triple between stated contents. -/
module

public import proofs.«01_k».proof.Proof.MidA
public import proofs.«01_k».proof.Proof.MidO
public import proofs.«01_k».proof.Proof.Triples

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The middle stretch, in values. -/
theorem mid_triple (c : Dev nD) (i : grid0.Coords) (arg1 : Memref sig .tc .smem S64 .i32) (harg1 : arg1.IsWhole) (arg2 : Memref sig .tc .vmem S96x2048 .bf16) (harg2 : arg2.IsWhole) (arg3 : Memref sig .tc .vmem S96x6 .i32) (harg3 : arg3.IsWhole) (arg4 : Memref sig .tc .vmem S96x6 .f32) (harg4 : arg4.IsWhole) (arg5 : Memref sig .tc .vmem S1x2048x1408 .i8) (harg5 : arg5.IsWhole) (arg6 : Memref sig .tc .vmem S1x16x1408 .bf16) (harg6 : arg6.IsWhole) (arg7 : Memref sig .tc .vmem S1x16x1408 .bf16) (harg7 : arg7.IsWhole) (arg8 : Memref sig .tc .vmem S1x16x1408 .bf16) (harg8 : arg8.IsWhole) (arg9 : Memref sig .tc .vmem S1x16x1408 .bf16) (harg9 : arg9.IsWhole) (arg10 : Memref sig .tc .vmem S1x1408x1024 .i8) (harg10 : arg10.IsWhole) (arg11 : Memref sig .tc .vmem S1x11x2048 .bf16) (harg11 : arg11.IsWhole) (arg12 : Memref sig .tc .vmem S1x11x2048 .bf16) (harg12 : arg12.IsWhole) (arg13 : Memref sig .tc .vmem S96x2048 .bf16) (harg13 : arg13.IsWhole) (arg14 : Memref sig .tc .vmem S96x1 .f32) (harg14 : arg14.IsWhole) (arg15 : Memref sig .tc .vmem S6x96x2048 .f32) (harg15 : arg15.IsWhole) (arg16 : Memref sig .tc .vmem S96x6 .i32) (harg16 : arg16.IsWhole) (arg17 : Memref sig .tc .vmem S96x6 .f32) (harg17 : arg17.IsWhole) (arg18 : Memref sig .tc .vmem S96x1408 .bf16) (harg18 : arg18.IsWhole) (arg19 : Memref sig .tc .vmem S96x2048 .f32) (harg19 : arg19.IsWhole)
    (x1 : Vec F S96x2048 .bf16) (x4 : Vec F S1x2048x1408 .i8) (x5 : Vec F S1x16x1408 .bf16) (x6 : Vec F S1x16x1408 .bf16) (x7 : Vec F S1x16x1408 .bf16) (x8 : Vec F S1x16x1408 .bf16) (x9 : Vec F S1x1408x1024 .i8) (x10 : Vec F S1x11x2048 .bf16) (x11 : Vec F S1x11x2048 .bf16) (xs0 : Vec F S96x6 .i32) (xs1 : Vec F S96x6 .f32) (x14 : Vec F S6x96x2048 .f32) (xs3 : Vec F S96x2048 .f32) (E : Set ℕ) (K : PUnit → sProp 𝕄) :
    iprop(owns (c : Thread nD τ) arg2 fullShare x1 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg16 fullShare xs0 ∗ owns (c : Thread nD τ) arg17 fullShare xs1 ∗ owns (c : Thread nD τ) arg15 fullShare x14 ∗ (∃ d, owns (c : Thread nD τ) arg18 fullShare d) ∗ owns (c : Thread nD τ) arg19 fullShare xs3
        ∗ (iprop(owns (c : Thread nD τ) arg2 fullShare x1 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg16 fullShare xs0 ∗ owns (c : Thread nD τ) arg17 fullShare xs1 ∗ owns (c : Thread nD τ) arg15 fullShare (View.canon (outPieces (BitVec.ofNat 32 (i 0).val) (Hv x1 x4 x5 x6 x7 x8) x9 x10 x11 xs0 x14)) ∗ (∃ d, owns (c : Thread nD τ) arg18 fullShare d) ∗ owns (c : Thread nD τ) arg19 fullShare (View.canon (accPieces (BitVec.ofNat 32 (i 0).val) (Hv x1 x4 x5 x6 x7 x8) x9 x10 x11 xs0 xs1 xs3))) -∗ K ⟨⟩))
      ⊢ wp frame (wpE (defs₀ (F := F)) Variants.none c none) E (mid i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  have e0 := mid_out (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x4 x5 x6 x7 x8 x9 x10 x11 xs0 xs1 x14 xs3
  have e1 := mid_acc (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x4 x5 x6 x7 x8 x9 x10 x11 xs0 xs1 x14 xs3
  rw [Hv_eq arg18] at e0 e1
  generalize runMid (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x4 x5 x6 x7 x8 x9 x10 x11 xs0 xs1 x14 xs3 = R at e0 e1
  obtain ⟨L0, L1, L2, hrun⟩ := R
  dsimp only at e0 e1
  subst e0; subst e1
  iintro ⟨H0, H1, H2, H3, H4, H5, H6, H7, H8, H9, H10, G0, G1, G2, Hk⟩
  iapply (hrun E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [G0]; · iexact G0
  isplitl [G1]; · iexact G1
  isplitl [G2]; · iexact G2
  iintro ⟨H0, H1, H2, H3, H4, H5, H6, H7, H8, H9, H10, G0, G1, G2⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [G0]; · iapply (owns_of_writes c arg15 _ _ ⟨out_cover _ _ _ _ _ _ _, rfl⟩); iexact G0
  isplitl [G1]; · iapply (owns_some c arg18 _); iexact G1
  iapply (owns_of_writes c arg19 _ _ ⟨acc_cover _ _ _ _ _ _ _ _, rfl⟩); iexact G2

end Cert.KernelIdeal.Hand

end
-- ==== Proof.RunInit.lean ====
/- The runs of the set-up and the closing stretch of the body. -/
module

public import proofs.«01_k».proof.Proof.Cut

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the set-up stretch leaves in the buffers it stores into, as pieces (last first), with the
    proof that it runs to them. -/
noncomputable def runInit (c : Dev nD) (i : grid0.Coords) (arg1 : Memref sig .tc .smem S64 .i32) (harg1 : arg1.IsWhole) (arg2 : Memref sig .tc .vmem S96x2048 .bf16) (harg2 : arg2.IsWhole) (arg3 : Memref sig .tc .vmem S96x6 .i32) (harg3 : arg3.IsWhole) (arg4 : Memref sig .tc .vmem S96x6 .f32) (harg4 : arg4.IsWhole) (arg5 : Memref sig .tc .vmem S1x2048x1408 .i8) (harg5 : arg5.IsWhole) (arg6 : Memref sig .tc .vmem S1x16x1408 .bf16) (harg6 : arg6.IsWhole) (arg7 : Memref sig .tc .vmem S1x16x1408 .bf16) (harg7 : arg7.IsWhole) (arg8 : Memref sig .tc .vmem S1x16x1408 .bf16) (harg8 : arg8.IsWhole) (arg9 : Memref sig .tc .vmem S1x16x1408 .bf16) (harg9 : arg9.IsWhole) (arg10 : Memref sig .tc .vmem S1x1408x1024 .i8) (harg10 : arg10.IsWhole) (arg11 : Memref sig .tc .vmem S1x11x2048 .bf16) (harg11 : arg11.IsWhole) (arg12 : Memref sig .tc .vmem S1x11x2048 .bf16) (harg12 : arg12.IsWhole) (arg13 : Memref sig .tc .vmem S96x2048 .bf16) (harg13 : arg13.IsWhole) (arg14 : Memref sig .tc .vmem S96x1 .f32) (harg14 : arg14.IsWhole) (arg15 : Memref sig .tc .vmem S6x96x2048 .f32) (harg15 : arg15.IsWhole) (arg16 : Memref sig .tc .vmem S96x6 .i32) (harg16 : arg16.IsWhole) (arg17 : Memref sig .tc .vmem S96x6 .f32) (harg17 : arg17.IsWhole) (arg18 : Memref sig .tc .vmem S96x1408 .bf16) (harg18 : arg18.IsWhole) (arg19 : Memref sig .tc .vmem S96x2048 .f32) (harg19 : arg19.IsWhole)
    (x0 : Vec F S64 .i32) (x2 : Vec F S96x6 .i32) (x3 : Vec F S96x6 .f32)  :
    Σ' (L13 : List (View.Piece (Elt F) S96x1 .f32)), Σ' (L14 : List (View.Piece (Elt F) S6x96x2048 .f32)), Σ' (LS0 : List (View.Piece (Elt F) S96x6 .i32)), Σ' (LS1 : List (View.Piece (Elt F) S96x6 .f32)), { LS3 : List (View.Piece (Elt F) S96x2048 .f32) //
      ∀ (E : Set ℕ) (K : PUnit → sProp 𝕄),
        iprop(owns (c : Thread nD τ) arg1 fullShare x0 ∗ owns (c : Thread nD τ) arg3 fullShare x2 ∗ owns (c : Thread nD τ) arg4 fullShare x3 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg19 fullShare d)
            ∗ (iprop(owns (c : Thread nD τ) arg1 fullShare x0 ∗ owns (c : Thread nD τ) arg3 fullShare x2 ∗ owns (c : Thread nD τ) arg4 fullShare x3 ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f LS0) ∗ (∃ f, arg17.view.loc (c : Thread nD τ) ↦[arg17.view.set]{fullShare} arg17.view.writes (Elt F) f LS1) ∗ (∃ f, arg19.view.loc (c : Thread nD τ) ↦[arg19.view.set]{fullShare} arg19.view.writes (Elt F) f LS3)) -∗ K ⟨⟩))
          ⊢ wp frame (wpE (defs₀ (F := F)) Variants.none c none) E (init0 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, fun E K => ?run⟩
  case run =>
    unfold init0
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%d0, %g0, -, G0⟩, ⟨%d1, %g1, -, G1⟩, ⟨%d2, %g2, -, G2⟩, ⟨%d3, %g3, -, G3⟩, ⟨%d4, %g4, -, G4⟩, Hk⟩
    obtain rfl := harg1.eq_unread hf0; obtain rfl := harg3.eq_unread hf1; obtain rfl := harg4.eq_unread hf2
    sl_exec
    sl_step
    iapply Hk
    isplitl [H0]
    · iexists _; isplitr; · ipureintro; exact harg1.read_unread _
      iexact H0
    isplitl [H1]
    · iexists _; isplitr; · ipureintro; exact harg3.read_unread _
      iexact H1
    isplitl [H2]
    · iexists _; isplitr; · ipureintro; exact harg4.read_unread _
      iexact H2
    isplitl [G0]; · iexists _; iexact G0
    isplitl [G1]; · iexists _; iexact G1
    isplitl [G2]; · iexists _; iexact G2
    isplitl [G3]; · iexists _; iexact G3
    iexists _; iexact G4

set_option maxHeartbeats 4000000 in
/-- What the closing stretch leaves in the buffer it stores into. -/
noncomputable def runFin (c : Dev nD) (i : grid0.Coords) (arg1 : Memref sig .tc .smem S64 .i32) (harg1 : arg1.IsWhole) (arg2 : Memref sig .tc .vmem S96x2048 .bf16) (harg2 : arg2.IsWhole) (arg3 : Memref sig .tc .vmem S96x6 .i32) (harg3 : arg3.IsWhole) (arg4 : Memref sig .tc .vmem S96x6 .f32) (harg4 : arg4.IsWhole) (arg5 : Memref sig .tc .vmem S1x2048x1408 .i8) (harg5 : arg5.IsWhole) (arg6 : Memref sig .tc .vmem S1x16x1408 .bf16) (harg6 : arg6.IsWhole) (arg7 : Memref sig .tc .vmem S1x16x1408 .bf16) (harg7 : arg7.IsWhole) (arg8 : Memref sig .tc .vmem S1x16x1408 .bf16) (harg8 : arg8.IsWhole) (arg9 : Memref sig .tc .vmem S1x16x1408 .bf16) (harg9 : arg9.IsWhole) (arg10 : Memref sig .tc .vmem S1x1408x1024 .i8) (harg10 : arg10.IsWhole) (arg11 : Memref sig .tc .vmem S1x11x2048 .bf16) (harg11 : arg11.IsWhole) (arg12 : Memref sig .tc .vmem S1x11x2048 .bf16) (harg12 : arg12.IsWhole) (arg13 : Memref sig .tc .vmem S96x2048 .bf16) (harg13 : arg13.IsWhole) (arg14 : Memref sig .tc .vmem S96x1 .f32) (harg14 : arg14.IsWhole) (arg15 : Memref sig .tc .vmem S6x96x2048 .f32) (harg15 : arg15.IsWhole) (arg16 : Memref sig .tc .vmem S96x6 .i32) (harg16 : arg16.IsWhole) (arg17 : Memref sig .tc .vmem S96x6 .f32) (harg17 : arg17.IsWhole) (arg18 : Memref sig .tc .vmem S96x1408 .bf16) (harg18 : arg18.IsWhole) (arg19 : Memref sig .tc .vmem S96x2048 .f32) (harg19 : arg19.IsWhole)
    (xs3 : Vec F S96x2048 .f32)  :
    { L12 : List (View.Piece (Elt F) S96x2048 .bf16) //
      ∀ (E : Set ℕ) (K : PUnit → sProp 𝕄),
        iprop(owns (c : Thread nD τ) arg19 fullShare xs3 ∗ (∃ d, owns (c : Thread nD τ) arg13 fullShare d)
            ∗ (iprop(owns (c : Thread nD τ) arg19 fullShare xs3 ∗ (∃ f, arg13.view.loc (c : Thread nD τ) ↦[arg13.view.set]{fullShare} arg13.view.writes (Elt F) f L12)) -∗ K ⟨⟩))
          ⊢ wp frame (wpE (defs₀ (F := F)) Variants.none c none) E (fin0 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, fun E K => ?run⟩
  case run =>
    unfold fin0
    unfold owns
    iintro ⟨⟨%f0, %hf0, H0⟩, ⟨%d0, %g0, -, G0⟩, Hk⟩
    obtain rfl := harg19.eq_unread hf0
    sl_exec
    sl_step
    iapply Hk
    isplitl [H0]
    · iexists _; isplitr; · ipureintro; exact harg19.read_unread _
      iexact H0
    iexists _; iexact G0

end Cert.KernelIdeal.Hand

end
-- ==== Proof.Init.lean ====
/- The set-up stretch’s values, under uniform names. -/
module

public import proofs.«01_k».proof.Proof.Mid

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The table's word for expert `e`. -/
def e2sAt (x0 : Vec F S64 .i32) (e : ℕ) (h : ∀ a : Fin S64.rank, (![e] : Fin S64.rank → ℕ) a + (![1] : Fin S64.rank → ℕ) a ≤ S64.size a) : BitVec 32 := View.ld x0 (Rect.unit (s := S64) ![e] ![1] h) (Shape.Idx.first (s := S1) (by decide))

theorem inb64 (e : ℕ) (h : e < 64) : ∀ a : Fin S64.rank, (![e] : Fin S64.rank → ℕ) a + (![1] : Fin S64.rank → ℕ) a ≤ S64.size a := by
  intro a; match a with | ⟨0, _⟩ => exact h

/-- The slots after the first `n` experts were looked up. -/
def slotN (x0 : Vec F S64 .i32) (ids : IVec (sh 96 6) 32) : (n : ℕ) → n ≤ 64 → IVec (sh 96 6) 32
  | 0, _ => broadcast (sh 96 6) 4294967295#32
  | n + 1, h => select (cmpi .eq ids (broadcast (sh 96 6) (BitVec.ofNat 32 n))) (broadcast (sh 96 6) (e2sAt x0 n (inb64 n (by omega)))) (slotN x0 ids n (by omega))

/-- The slots. -/
def slotv (x0 : Vec F S64 .i32) (x2 : Vec F S96x6 .i32) : IVec (sh 96 6) 32 :=
  shapeCast (sh 96 6) (slotN x0 (shapeCast (sh 96 6) (View.ld x2 (Rect.unit (s := S96x6) ![0, 0] ![96, 6] inb_S96x6_S96x6_0_0)) (by decide)) 64 (le_refl _)) (by decide)

/-- One where the slot is present. -/
def vfv (x0 : Vec F S64 .i32) (x2 : Vec F S96x6 .i32) : FVec F (sh 96 6) .f32 :=
  sitofp .f32 (extui 32 (cmpi .sge (slotN x0 (shapeCast (sh 96 6) (View.ld x2 (Rect.unit (s := S96x6) ![0, 0] ![96, 6] inb_S96x6_S96x6_0_0)) (by decide)) 64 (le_refl _)) (broadcast (sh 96 6) 0#32)) natLt_1_32)

/-- The gates as loaded. -/
def gv (x3 : Vec F S96x6 .f32) : FVec F (sh 96 6) .f32 := shapeCast (sh 96 6) (View.ld x3 (Rect.unit (s := S96x6) ![0, 0] ![96, 6] inb_S96x6_S96x6_0_0)) (by decide)

/-- A sum over the choices, as a column. -/
def rsum (v : FVec F (sh 96 6) .f32) : FVec F (sh 96 1) .f32 :=
  shapeCast (sh 96 1) (multiReduction .add [1] S96 v 0x00000000#32 reduces_S96x6_S96 (.inl rfl) rfl) shapeCasts_S96_S96x1

/-- The gate weight of the missing experts. -/
def missv (x0 : Vec F S64 .i32) (x2 : Vec F S96x6 .i32) (x3 : Vec F S96x6 .f32) : FVec F (sh 96 1) .f32 :=
  rsum (mulf (gv x3) (subf (broadcast (sh 96 6) (Scalar.ofBits .f32 0x3F800000#32)) (vfv x0 x2)))

/-- The gate weight of the experts present. -/
def rv (x0 : Vec F S64 .i32) (x2 : Vec F S96x6 .i32) (x3 : Vec F S96x6 .f32) : FVec F (sh 96 1) .f32 := rsum (mulf (gv x3) (vfv x0 x2))

/-- The renormalized weights. -/
def wv (x0 : Vec F S64 .i32) (x2 : Vec F S96x6 .i32) (x3 : Vec F S96x6 .f32) : FVec F (sh 96 6) .f32 :=
  shapeCast (sh 96 6) (divf (mulf (gv x3) (vfv x0 x2)) (broadcastTo (sh 96 6)
    (select (cmpf .ogt (rv x0 x2 x3) (broadcast (sh 96 1) (Scalar.ofBits .f32 0x00000000#32))) (rv x0 x2 x3) (broadcast (sh 96 1) (Scalar.ofBits .f32 0x3F800000#32))) (by decide))) (by decide)
end Cert.KernelIdeal.Hand

end
-- ==== Proof.InitEq.lean ====
/- What the set-up and closing runs find is the uniform values. -/
module

public import proofs.«01_k».proof.Proof.RunInit
public import proofs.«01_k».proof.Proof.Init

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem init_miss (c : Dev nD) (i : grid0.Coords) (arg1 : Memref sig .tc .smem S64 .i32) (harg1 : arg1.IsWhole) (arg2 : Memref sig .tc .vmem S96x2048 .bf16) (harg2 : arg2.IsWhole) (arg3 : Memref sig .tc .vmem S96x6 .i32) (harg3 : arg3.IsWhole) (arg4 : Memref sig .tc .vmem S96x6 .f32) (harg4 : arg4.IsWhole) (arg5 : Memref sig .tc .vmem S1x2048x1408 .i8) (harg5 : arg5.IsWhole) (arg6 : Memref sig .tc .vmem S1x16x1408 .bf16) (harg6 : arg6.IsWhole) (arg7 : Memref sig .tc .vmem S1x16x1408 .bf16) (harg7 : arg7.IsWhole) (arg8 : Memref sig .tc .vmem S1x16x1408 .bf16) (harg8 : arg8.IsWhole) (arg9 : Memref sig .tc .vmem S1x16x1408 .bf16) (harg9 : arg9.IsWhole) (arg10 : Memref sig .tc .vmem S1x1408x1024 .i8) (harg10 : arg10.IsWhole) (arg11 : Memref sig .tc .vmem S1x11x2048 .bf16) (harg11 : arg11.IsWhole) (arg12 : Memref sig .tc .vmem S1x11x2048 .bf16) (harg12 : arg12.IsWhole) (arg13 : Memref sig .tc .vmem S96x2048 .bf16) (harg13 : arg13.IsWhole) (arg14 : Memref sig .tc .vmem S96x1 .f32) (harg14 : arg14.IsWhole) (arg15 : Memref sig .tc .vmem S6x96x2048 .f32) (harg15 : arg15.IsWhole) (arg16 : Memref sig .tc .vmem S96x6 .i32) (harg16 : arg16.IsWhole) (arg17 : Memref sig .tc .vmem S96x6 .f32) (harg17 : arg17.IsWhole) (arg18 : Memref sig .tc .vmem S96x1408 .bf16) (harg18 : arg18.IsWhole) (arg19 : Memref sig .tc .vmem S96x2048 .f32) (harg19 : arg19.IsWhole)
    (x0 : Vec F S64 .i32) (x2 : Vec F S96x6 .i32) (x3 : Vec F S96x6 .f32) :
    (runInit (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x2 x3).1 = [⟨Rect.unit (s := S96x1) ![0, 0] ![96, 1] inb_S96x1_S96x1_0_0, missv x0 x2 x3⟩] := by
  unfold runInit; dsimp only
  sl_unfold_words
  simp only [View.readAt_eq_ld, Memref.IsWhole.read_unread]
  rfl

set_option maxHeartbeats 4000000 in
theorem init_out (c : Dev nD) (i : grid0.Coords) (arg1 : Memref sig .tc .smem S64 .i32) (harg1 : arg1.IsWhole) (arg2 : Memref sig .tc .vmem S96x2048 .bf16) (harg2 : arg2.IsWhole) (arg3 : Memref sig .tc .vmem S96x6 .i32) (harg3 : arg3.IsWhole) (arg4 : Memref sig .tc .vmem S96x6 .f32) (harg4 : arg4.IsWhole) (arg5 : Memref sig .tc .vmem S1x2048x1408 .i8) (harg5 : arg5.IsWhole) (arg6 : Memref sig .tc .vmem S1x16x1408 .bf16) (harg6 : arg6.IsWhole) (arg7 : Memref sig .tc .vmem S1x16x1408 .bf16) (harg7 : arg7.IsWhole) (arg8 : Memref sig .tc .vmem S1x16x1408 .bf16) (harg8 : arg8.IsWhole) (arg9 : Memref sig .tc .vmem S1x16x1408 .bf16) (harg9 : arg9.IsWhole) (arg10 : Memref sig .tc .vmem S1x1408x1024 .i8) (harg10 : arg10.IsWhole) (arg11 : Memref sig .tc .vmem S1x11x2048 .bf16) (harg11 : arg11.IsWhole) (arg12 : Memref sig .tc .vmem S1x11x2048 .bf16) (harg12 : arg12.IsWhole) (arg13 : Memref sig .tc .vmem S96x2048 .bf16) (harg13 : arg13.IsWhole) (arg14 : Memref sig .tc .vmem S96x1 .f32) (harg14 : arg14.IsWhole) (arg15 : Memref sig .tc .vmem S6x96x2048 .f32) (harg15 : arg15.IsWhole) (arg16 : Memref sig .tc .vmem S96x6 .i32) (harg16 : arg16.IsWhole) (arg17 : Memref sig .tc .vmem S96x6 .f32) (harg17 : arg17.IsWhole) (arg18 : Memref sig .tc .vmem S96x1408 .bf16) (harg18 : arg18.IsWhole) (arg19 : Memref sig .tc .vmem S96x2048 .f32) (harg19 : arg19.IsWhole)
    (x0 : Vec F S64 .i32) (x2 : Vec F S96x6 .i32) (x3 : Vec F S96x6 .f32) :
    (runInit (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x2 x3).2.1 = [⟨Rect.unit (s := S6x96x2048) ![0, 0, 0] ![6, 96, 2048] inb_S6x96x2048_S6x96x2048_0_0_0, broadcast S6x96x2048 (Scalar.ofBits .f32 0x00000000#32)⟩] := by
  unfold runInit; dsimp only
  sl_unfold_words
  rfl

set_option maxHeartbeats 4000000 in
theorem init_slot (c : Dev nD) (i : grid0.Coords) (arg1 : Memref sig .tc .smem S64 .i32) (harg1 : arg1.IsWhole) (arg2 : Memref sig .tc .vmem S96x2048 .bf16) (harg2 : arg2.IsWhole) (arg3 : Memref sig .tc .vmem S96x6 .i32) (harg3 : arg3.IsWhole) (arg4 : Memref sig .tc .vmem S96x6 .f32) (harg4 : arg4.IsWhole) (arg5 : Memref sig .tc .vmem S1x2048x1408 .i8) (harg5 : arg5.IsWhole) (arg6 : Memref sig .tc .vmem S1x16x1408 .bf16) (harg6 : arg6.IsWhole) (arg7 : Memref sig .tc .vmem S1x16x1408 .bf16) (harg7 : arg7.IsWhole) (arg8 : Memref sig .tc .vmem S1x16x1408 .bf16) (harg8 : arg8.IsWhole) (arg9 : Memref sig .tc .vmem S1x16x1408 .bf16) (harg9 : arg9.IsWhole) (arg10 : Memref sig .tc .vmem S1x1408x1024 .i8) (harg10 : arg10.IsWhole) (arg11 : Memref sig .tc .vmem S1x11x2048 .bf16) (harg11 : arg11.IsWhole) (arg12 : Memref sig .tc .vmem S1x11x2048 .bf16) (harg12 : arg12.IsWhole) (arg13 : Memref sig .tc .vmem S96x2048 .bf16) (harg13 : arg13.IsWhole) (arg14 : Memref sig .tc .vmem S96x1 .f32) (harg14 : arg14.IsWhole) (arg15 : Memref sig .tc .vmem S6x96x2048 .f32) (harg15 : arg15.IsWhole) (arg16 : Memref sig .tc .vmem S96x6 .i32) (harg16 : arg16.IsWhole) (arg17 : Memref sig .tc .vmem S96x6 .f32) (harg17 : arg17.IsWhole) (arg18 : Memref sig .tc .vmem S96x1408 .bf16) (harg18 : arg18.IsWhole) (arg19 : Memref sig .tc .vmem S96x2048 .f32) (harg19 : arg19.IsWhole)
    (x0 : Vec F S64 .i32) (x2 : Vec F S96x6 .i32) (x3 : Vec F S96x6 .f32) :
    (runInit (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x2 x3).2.2.1 = [⟨Rect.unit (s := S96x6) ![0, 0] ![96, 6] inb_S96x6_S96x6_0_0, slotv x0 x2⟩] := by
  unfold runInit; dsimp only
  sl_unfold_words
  simp only [View.readAt_eq_ld, Memref.IsWhole.read_unread]
  rfl

set_option maxHeartbeats 4000000 in
theorem init_w (c : Dev nD) (i : grid0.Coords) (arg1 : Memref sig .tc .smem S64 .i32) (harg1 : arg1.IsWhole) (arg2 : Memref sig .tc .vmem S96x2048 .bf16) (harg2 : arg2.IsWhole) (arg3 : Memref sig .tc .vmem S96x6 .i32) (harg3 : arg3.IsWhole) (arg4 : Memref sig .tc .vmem S96x6 .f32) (harg4 : arg4.IsWhole) (arg5 : Memref sig .tc .vmem S1x2048x1408 .i8) (harg5 : arg5.IsWhole) (arg6 : Memref sig .tc .vmem S1x16x1408 .bf16) (harg6 : arg6.IsWhole) (arg7 : Memref sig .tc .vmem S1x16x1408 .bf16) (harg7 : arg7.IsWhole) (arg8 : Memref sig .tc .vmem S1x16x1408 .bf16) (harg8 : arg8.IsWhole) (arg9 : Memref sig .tc .vmem S1x16x1408 .bf16) (harg9 : arg9.IsWhole) (arg10 : Memref sig .tc .vmem S1x1408x1024 .i8) (harg10 : arg10.IsWhole) (arg11 : Memref sig .tc .vmem S1x11x2048 .bf16) (harg11 : arg11.IsWhole) (arg12 : Memref sig .tc .vmem S1x11x2048 .bf16) (harg12 : arg12.IsWhole) (arg13 : Memref sig .tc .vmem S96x2048 .bf16) (harg13 : arg13.IsWhole) (arg14 : Memref sig .tc .vmem S96x1 .f32) (harg14 : arg14.IsWhole) (arg15 : Memref sig .tc .vmem S6x96x2048 .f32) (harg15 : arg15.IsWhole) (arg16 : Memref sig .tc .vmem S96x6 .i32) (harg16 : arg16.IsWhole) (arg17 : Memref sig .tc .vmem S96x6 .f32) (harg17 : arg17.IsWhole) (arg18 : Memref sig .tc .vmem S96x1408 .bf16) (harg18 : arg18.IsWhole) (arg19 : Memref sig .tc .vmem S96x2048 .f32) (harg19 : arg19.IsWhole)
    (x0 : Vec F S64 .i32) (x2 : Vec F S96x6 .i32) (x3 : Vec F S96x6 .f32) :
    (runInit (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x2 x3).2.2.2.1 = [⟨Rect.unit (s := S96x6) ![0, 0] ![96, 6] inb_S96x6_S96x6_0_0, wv x0 x2 x3⟩] := by
  unfold runInit; dsimp only
  sl_unfold_words
  simp only [View.readAt_eq_ld, Memref.IsWhole.read_unread]
  rfl

set_option maxHeartbeats 4000000 in
theorem init_acc (c : Dev nD) (i : grid0.Coords) (arg1 : Memref sig .tc .smem S64 .i32) (harg1 : arg1.IsWhole) (arg2 : Memref sig .tc .vmem S96x2048 .bf16) (harg2 : arg2.IsWhole) (arg3 : Memref sig .tc .vmem S96x6 .i32) (harg3 : arg3.IsWhole) (arg4 : Memref sig .tc .vmem S96x6 .f32) (harg4 : arg4.IsWhole) (arg5 : Memref sig .tc .vmem S1x2048x1408 .i8) (harg5 : arg5.IsWhole) (arg6 : Memref sig .tc .vmem S1x16x1408 .bf16) (harg6 : arg6.IsWhole) (arg7 : Memref sig .tc .vmem S1x16x1408 .bf16) (harg7 : arg7.IsWhole) (arg8 : Memref sig .tc .vmem S1x16x1408 .bf16) (harg8 : arg8.IsWhole) (arg9 : Memref sig .tc .vmem S1x16x1408 .bf16) (harg9 : arg9.IsWhole) (arg10 : Memref sig .tc .vmem S1x1408x1024 .i8) (harg10 : arg10.IsWhole) (arg11 : Memref sig .tc .vmem S1x11x2048 .bf16) (harg11 : arg11.IsWhole) (arg12 : Memref sig .tc .vmem S1x11x2048 .bf16) (harg12 : arg12.IsWhole) (arg13 : Memref sig .tc .vmem S96x2048 .bf16) (harg13 : arg13.IsWhole) (arg14 : Memref sig .tc .vmem S96x1 .f32) (harg14 : arg14.IsWhole) (arg15 : Memref sig .tc .vmem S6x96x2048 .f32) (harg15 : arg15.IsWhole) (arg16 : Memref sig .tc .vmem S96x6 .i32) (harg16 : arg16.IsWhole) (arg17 : Memref sig .tc .vmem S96x6 .f32) (harg17 : arg17.IsWhole) (arg18 : Memref sig .tc .vmem S96x1408 .bf16) (harg18 : arg18.IsWhole) (arg19 : Memref sig .tc .vmem S96x2048 .f32) (harg19 : arg19.IsWhole)
    (x0 : Vec F S64 .i32) (x2 : Vec F S96x6 .i32) (x3 : Vec F S96x6 .f32) :
    (runInit (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x2 x3).2.2.2.2.1 = [⟨Rect.unit (s := S96x2048) ![0, 0] ![96, 2048] inb_S96x2048_S96x2048_0_0, shapeCast S96x2048 (broadcast S96x2048 (Scalar.ofBits .f32 0x00000000#32)) shapeCasts_S96x2048_S96x2048⟩] := by
  unfold runInit; dsimp only
  sl_unfold_words
  rfl

theorem fin_y (c : Dev nD) (i : grid0.Coords) (arg1 : Memref sig .tc .smem S64 .i32) (harg1 : arg1.IsWhole) (arg2 : Memref sig .tc .vmem S96x2048 .bf16) (harg2 : arg2.IsWhole) (arg3 : Memref sig .tc .vmem S96x6 .i32) (harg3 : arg3.IsWhole) (arg4 : Memref sig .tc .vmem S96x6 .f32) (harg4 : arg4.IsWhole) (arg5 : Memref sig .tc .vmem S1x2048x1408 .i8) (harg5 : arg5.IsWhole) (arg6 : Memref sig .tc .vmem S1x16x1408 .bf16) (harg6 : arg6.IsWhole) (arg7 : Memref sig .tc .vmem S1x16x1408 .bf16) (harg7 : arg7.IsWhole) (arg8 : Memref sig .tc .vmem S1x16x1408 .bf16) (harg8 : arg8.IsWhole) (arg9 : Memref sig .tc .vmem S1x16x1408 .bf16) (harg9 : arg9.IsWhole) (arg10 : Memref sig .tc .vmem S1x1408x1024 .i8) (harg10 : arg10.IsWhole) (arg11 : Memref sig .tc .vmem S1x11x2048 .bf16) (harg11 : arg11.IsWhole) (arg12 : Memref sig .tc .vmem S1x11x2048 .bf16) (harg12 : arg12.IsWhole) (arg13 : Memref sig .tc .vmem S96x2048 .bf16) (harg13 : arg13.IsWhole) (arg14 : Memref sig .tc .vmem S96x1 .f32) (harg14 : arg14.IsWhole) (arg15 : Memref sig .tc .vmem S6x96x2048 .f32) (harg15 : arg15.IsWhole) (arg16 : Memref sig .tc .vmem S96x6 .i32) (harg16 : arg16.IsWhole) (arg17 : Memref sig .tc .vmem S96x6 .f32) (harg17 : arg17.IsWhole) (arg18 : Memref sig .tc .vmem S96x1408 .bf16) (harg18 : arg18.IsWhole) (arg19 : Memref sig .tc .vmem S96x2048 .f32) (harg19 : arg19.IsWhole) (xs3 : Vec F S96x2048 .f32) :
    (runFin (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 xs3).1 = [⟨Rect.unit (s := S96x2048) ![0, 0] ![96, 2048] inb_S96x2048_S96x2048_0_0, truncf .bf16 (View.ld xs3 (Rect.unit (s := S96x2048) ![0, 0] ![96, 2048] inb_S96x2048_S96x2048_0_0)) bitsLt_bf16_f32⟩] := by
  unfold runFin; dsimp only
  sl_unfold_words
  simp only [View.readAt_eq_ld, Memref.IsWhole.read_unread]
  rfl
end Cert.KernelIdeal.Hand

end
-- ==== Proof.TripInit.lean ====
/- The set-up and the closing stretch as triples between stated contents. -/
module

public import proofs.«01_k».proof.Proof.InitEq
public import proofs.«01_k».proof.Proof.Triples

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The set-up stretch, in values. -/
theorem init_triple (c : Dev nD) (i : grid0.Coords) (arg1 : Memref sig .tc .smem S64 .i32) (harg1 : arg1.IsWhole) (arg2 : Memref sig .tc .vmem S96x2048 .bf16) (harg2 : arg2.IsWhole) (arg3 : Memref sig .tc .vmem S96x6 .i32) (harg3 : arg3.IsWhole) (arg4 : Memref sig .tc .vmem S96x6 .f32) (harg4 : arg4.IsWhole) (arg5 : Memref sig .tc .vmem S1x2048x1408 .i8) (harg5 : arg5.IsWhole) (arg6 : Memref sig .tc .vmem S1x16x1408 .bf16) (harg6 : arg6.IsWhole) (arg7 : Memref sig .tc .vmem S1x16x1408 .bf16) (harg7 : arg7.IsWhole) (arg8 : Memref sig .tc .vmem S1x16x1408 .bf16) (harg8 : arg8.IsWhole) (arg9 : Memref sig .tc .vmem S1x16x1408 .bf16) (harg9 : arg9.IsWhole) (arg10 : Memref sig .tc .vmem S1x1408x1024 .i8) (harg10 : arg10.IsWhole) (arg11 : Memref sig .tc .vmem S1x11x2048 .bf16) (harg11 : arg11.IsWhole) (arg12 : Memref sig .tc .vmem S1x11x2048 .bf16) (harg12 : arg12.IsWhole) (arg13 : Memref sig .tc .vmem S96x2048 .bf16) (harg13 : arg13.IsWhole) (arg14 : Memref sig .tc .vmem S96x1 .f32) (harg14 : arg14.IsWhole) (arg15 : Memref sig .tc .vmem S6x96x2048 .f32) (harg15 : arg15.IsWhole) (arg16 : Memref sig .tc .vmem S96x6 .i32) (harg16 : arg16.IsWhole) (arg17 : Memref sig .tc .vmem S96x6 .f32) (harg17 : arg17.IsWhole) (arg18 : Memref sig .tc .vmem S96x1408 .bf16) (harg18 : arg18.IsWhole) (arg19 : Memref sig .tc .vmem S96x2048 .f32) (harg19 : arg19.IsWhole)
    (x0 : Vec F S64 .i32) (x2 : Vec F S96x6 .i32) (x3 : Vec F S96x6 .f32) (E : Set ℕ) (K : PUnit → sProp 𝕄) :
    iprop(owns (c : Thread nD τ) arg1 fullShare x0 ∗ owns (c : Thread nD τ) arg3 fullShare x2 ∗ owns (c : Thread nD τ) arg4 fullShare x3 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg19 fullShare d)
        ∗ (iprop(owns (c : Thread nD τ) arg1 fullShare x0 ∗ owns (c : Thread nD τ) arg3 fullShare x2 ∗ owns (c : Thread nD τ) arg4 fullShare x3 ∗ owns (c : Thread nD τ) arg14 fullShare (missv x0 x2 x3) ∗ owns (c : Thread nD τ) arg15 fullShare (broadcast S6x96x2048 (Scalar.ofBits .f32 0x00000000#32) : Vec F S6x96x2048 .f32) ∗ owns (c : Thread nD τ) arg16 fullShare (slotv x0 x2) ∗ owns (c : Thread nD τ) arg17 fullShare (wv x0 x2 x3) ∗ owns (c : Thread nD τ) arg19 fullShare (ACC0 : Vec F S96x2048 .f32)) -∗ K ⟨⟩))
      ⊢ wp frame (wpE (defs₀ (F := F)) Variants.none c none) E (init0 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  have e0 := init_miss (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x2 x3
  have e1 := init_out (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x2 x3
  have e2 := init_slot (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x2 x3
  have e3 := init_w (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x2 x3
  have e4 := init_acc (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x2 x3
  generalize runInit (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x2 x3 = R at e0 e1 e2 e3 e4
  obtain ⟨L0, L1, L2, L3, L4, hrun⟩ := R
  dsimp only at e0 e1 e2 e3 e4
  subst e0; subst e1; subst e2; subst e3; subst e4
  iintro ⟨H0, H1, H2, G0, G1, G2, G3, G4, Hk⟩
  iapply (hrun E K)
  isplitl [H0]; · iexact H0
  isplitl [H1]; · iexact H1
  isplitl [H2]; · iexact H2
  isplitl [G0]; · iexact G0
  isplitl [G1]; · iexact G1
  isplitl [G2]; · iexact G2
  isplitl [G3]; · iexact G3
  isplitl [G4]; · iexact G4
  iintro ⟨H0, H1, H2, G0, G1, G2, G3, G4⟩
  iapply Hk
  isplitl [H0]; · iexact H0
  isplitl [H1]; · iexact H1
  isplitl [H2]; · iexact H2
  isplitl [G0]; · iapply (owns_of_writes c arg14 _ _ (one_piece (S := S96x1) ![0, 0] z2 _ _)); iexact G0
  isplitl [G1]; · iapply (owns_of_writes c arg15 _ _ (one_piece (S := S6x96x2048) ![0, 0, 0] z3 _ _)); iexact G1
  isplitl [G2]; · iapply (owns_of_writes c arg16 _ _ (one_piece (S := S96x6) ![0, 0] z2 _ _)); iexact G2
  isplitl [G3]; · iapply (owns_of_writes c arg17 _ _ (one_piece (S := S96x6) ![0, 0] z2 _ _)); iexact G3
  iapply (owns_of_writes c arg19 _ _ (one_piece (S := S96x2048) ![0, 0] z2 _ _)); iexact G4

set_option maxHeartbeats 4000000 in
/-- The closing stretch, in values. -/
theorem fin_triple (c : Dev nD) (i : grid0.Coords) (arg1 : Memref sig .tc .smem S64 .i32) (harg1 : arg1.IsWhole) (arg2 : Memref sig .tc .vmem S96x2048 .bf16) (harg2 : arg2.IsWhole) (arg3 : Memref sig .tc .vmem S96x6 .i32) (harg3 : arg3.IsWhole) (arg4 : Memref sig .tc .vmem S96x6 .f32) (harg4 : arg4.IsWhole) (arg5 : Memref sig .tc .vmem S1x2048x1408 .i8) (harg5 : arg5.IsWhole) (arg6 : Memref sig .tc .vmem S1x16x1408 .bf16) (harg6 : arg6.IsWhole) (arg7 : Memref sig .tc .vmem S1x16x1408 .bf16) (harg7 : arg7.IsWhole) (arg8 : Memref sig .tc .vmem S1x16x1408 .bf16) (harg8 : arg8.IsWhole) (arg9 : Memref sig .tc .vmem S1x16x1408 .bf16) (harg9 : arg9.IsWhole) (arg10 : Memref sig .tc .vmem S1x1408x1024 .i8) (harg10 : arg10.IsWhole) (arg11 : Memref sig .tc .vmem S1x11x2048 .bf16) (harg11 : arg11.IsWhole) (arg12 : Memref sig .tc .vmem S1x11x2048 .bf16) (harg12 : arg12.IsWhole) (arg13 : Memref sig .tc .vmem S96x2048 .bf16) (harg13 : arg13.IsWhole) (arg14 : Memref sig .tc .vmem S96x1 .f32) (harg14 : arg14.IsWhole) (arg15 : Memref sig .tc .vmem S6x96x2048 .f32) (harg15 : arg15.IsWhole) (arg16 : Memref sig .tc .vmem S96x6 .i32) (harg16 : arg16.IsWhole) (arg17 : Memref sig .tc .vmem S96x6 .f32) (harg17 : arg17.IsWhole) (arg18 : Memref sig .tc .vmem S96x1408 .bf16) (harg18 : arg18.IsWhole) (arg19 : Memref sig .tc .vmem S96x2048 .f32) (harg19 : arg19.IsWhole)
    (xs3 : Vec F S96x2048 .f32) (E : Set ℕ) (K : PUnit → sProp 𝕄) :
    iprop(owns (c : Thread nD τ) arg19 fullShare xs3 ∗ (∃ d, owns (c : Thread nD τ) arg13 fullShare d)
        ∗ (iprop(owns (c : Thread nD τ) arg19 fullShare xs3 ∗ owns (c : Thread nD τ) arg13 fullShare (YF xs3)) -∗ K ⟨⟩))
      ⊢ wp frame (wpE (defs₀ (F := F)) Variants.none c none) E (fin0 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  have e0 := fin_y (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 xs3
  generalize runFin (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 xs3 = R at e0
  obtain ⟨L0, hrun⟩ := R
  dsimp only at e0
  subst e0
  iintro ⟨H0, G0, Hk⟩
  iapply (hrun E K)
  isplitl [H0]; · iexact H0
  isplitl [G0]; · iexact G0
  iintro ⟨H0, G0⟩
  iapply Hk
  isplitl [H0]; · iexact H0
  iapply (owns_of_writes c arg13 _ _ (one_piece (S := S96x2048) ![0, 0] z2 _ _)); iexact G0

end Cert.KernelIdeal.Hand

end
-- ==== Proof.RunK.lean ====
/- The run of the whole kernel, its outputs and scratches at stated contents. -/
module

public import proofs.«01_k».proof.Proof.TripMid
public import proofs.«01_k».proof.Proof.TripInit
public import Idealize.ShloMosaic.Lib.Pipeline.TableIdle

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 24 = 0 :=
  (fun t => by
    have ht : t.val < 24 := Nat.lt_of_lt_of_eq t.isLt N_0
    have e0 : (grid0.coords t 0).val = t.val / 1 % 24 := Pipeline.Grid.coords_val t 0 (by decide) rfl
    simp only [cond0_0, k0_cond1, e0]
    word_cmp
   : ∀ t : Fin grid0.N, cond0_0 (grid0.coords t) ↔ t.val % 24 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 24 = 23 :=
  (fun t => by
    have ht : t.val < 24 := Nat.lt_of_lt_of_eq t.isLt N_0
    have e0 : (grid0.coords t 0).val = t.val / 1 % 24 := Pipeline.Grid.coords_val t 0 (by decide) rfl
    simp only [cond0_1, k0_cond2, e0]
    word_cmp
   : ∀ t : Fin grid0.N, cond0_1 (grid0.coords t) ↔ t.val % 24 = 23)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S64 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S96x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S96x6 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S96x6 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048x1408 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x16x1408 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x16x1408 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x16x1408 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x16x1408 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1408x1024 .i8 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x11x2048 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x11x2048 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S96x2048 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S96x1 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S6x96x2048 .f32 := win0_14.stage (cfg0.slots t 14)
abbrev hs0_14 (t : Fin cfg0.N) : (ms0_14 t).IsWhole := hstage0_14 ((cfg0.slots t 14).cast nbuf0_14)
/-- The scratch operands: whole scoped buffers of the kernel's own, passed beside the windows. -/
abbrev scM0_0 : Memref sig .tc .vmem S96x6 .i32 := Memref.whole cc0_scratch0
abbrev scM0_1 : Memref sig .tc .vmem S96x6 .f32 := Memref.whole cc0_scratch1
abbrev scM0_2 : Memref sig .tc .vmem S96x1408 .bf16 := Memref.whole cc0_scratch2
abbrev scM0_3 : Memref sig .tc .vmem S96x2048 .f32 := Memref.whole cc0_scratch3
/-- Window 12 is live exactly where its condition holds. -/
theorem idleAt0_12 (t : Fin cfg0.N) (h : ¬ cond0_1 (grid0.coords t)) : cfg0.idle 12 (grid0.coords t) = true := by
  show (!(k0_cond2 (grid0.coords t) == 1#1)) = true
  have : (k0_cond2 (grid0.coords t) == 1#1) = false := by simpa using h
  rw [this]; rfl
theorem liveAt0_12 (t : Fin cfg0.N) (h : cond0_1 (grid0.coords t)) : cfg0.idle 12 (grid0.coords t) = false := by
  show (!(k0_cond2 (grid0.coords t) == 1#1)) = false
  have : (k0_cond2 (grid0.coords t) == 1#1) = true := by simpa using h
  rw [this]; rfl

/-- Window 13 is live exactly where its condition holds. -/
theorem idleAt0_13 (t : Fin cfg0.N) (h : ¬ cond0_0 (grid0.coords t)) : cfg0.idle 13 (grid0.coords t) = true := by
  show (!(k0_cond1 (grid0.coords t) == 1#1)) = true
  have : (k0_cond1 (grid0.coords t) == 1#1) = false := by simpa using h
  rw [this]; rfl
theorem liveAt0_13 (t : Fin cfg0.N) (h : cond0_0 (grid0.coords t)) : cfg0.idle 13 (grid0.coords t) = false := by
  show (!(k0_cond1 (grid0.coords t) == 1#1)) = false
  have : (k0_cond1 (grid0.coords t) == 1#1) = true := by simpa using h
  rw [this]; rfl

/-- Window 14 is never idle. -/
theorem liveAt0_14 : ∀ t : Fin cfg0.N, cfg0.idle 14 (grid0.coords t) = false := fun _ => rfl

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

variable (m : (ℓ : Loc nD τ sig) → Buf (Elt F) ℓ) (ρ : Dev nD → PrngReg)

/-- The grid's first point. -/
def p0 : Fin cfg0.N := ⟨0, by rw [show cfg0.N = 24 from N_0]; decide⟩

/-- The slot table the first point leaves. -/
def slotF (c : Dev nD) : Vec F S96x6 .i32 := slotv (iblk m c 0 p0) (iblk m c 2 p0)
/-- The weight table the first point leaves. -/
def wF (c : Dev nD) : Vec F S96x6 .f32 := wv (iblk m c 0 p0) (iblk m c 2 p0) (iblk m c 3 p0)
/-- The missing weight the first point stores. -/
def missF (c : Dev nD) : Vec F S96x1 .f32 := missv (iblk m c 0 p0) (iblk m c 2 p0) (iblk m c 3 p0)

/-- The hidden activations of point `t`. -/
def HF (c : Dev nD) (t : Fin cfg0.N) : FVec F (sh 96 1408) .bf16 := Hv (iblk m c 1 t) (iblk m c 4 t) (iblk m c 5 t) (iblk m c 6 t) (iblk m c 7 t) (iblk m c 8 t)

/-- One point's step of the accumulator. -/
def stepA (c : Dev nD) (t : Fin cfg0.N) (a : Vec F S96x2048 .f32) : Vec F S96x2048 .f32 :=
  View.canon (accPieces (BitVec.ofNat 32 (grid0.coords t 0).val) (HF m c t) (iblk m c 9 t) (iblk m c 10 t) (iblk m c 11 t) (slotF m c) (wF m c) a)
/-- One point's step of the expert outputs. -/
def stepO (c : Dev nD) (t : Fin cfg0.N) (o : Vec F S6x96x2048 .f32) : Vec F S6x96x2048 .f32 :=
  View.canon (outPieces (BitVec.ofNat 32 (grid0.coords t 0).val) (HF m c t) (iblk m c 9 t) (iblk m c 10 t) (iblk m c 11 t) (slotF m c) o)

/-- The accumulator after point `n`. -/
def accN (c : Dev nD) : (n : ℕ) → n < cfg0.N → Vec F S96x2048 .f32
  | 0, h => stepA m c ⟨0, h⟩ ACC0
  | n + 1, h => stepA m c ⟨n + 1, h⟩ (accN c n (Nat.lt_of_succ_lt h))
/-- The expert outputs after point `n`. -/
def outN (c : Dev nD) : (n : ℕ) → n < cfg0.N → Vec F S6x96x2048 .f32
  | 0, h => stepO m c ⟨0, h⟩ (broadcast S6x96x2048 (Scalar.ofBits .f32 0x00000000#32))
  | n + 1, h => stepO m c ⟨n + 1, h⟩ (outN c n (Nat.lt_of_succ_lt h))

theorem accN_p0 (c : Dev nD) (h : (p0).val < cfg0.N) : accN m c (p0).val h = stepA m c p0 ACC0 := rfl
theorem outN_p0 (c : Dev nD) (h : (p0).val < cfg0.N) : outN m c (p0).val h = stepO m c p0 (broadcast S6x96x2048 (Scalar.ofBits .f32 0x00000000#32)) := rfl
theorem accN_pos (c : Dev nD) (t : Fin cfg0.N) (h : t.val ≠ 0) : accN m c t.val t.isLt = stepA m c t (accN m c (t.val - 1) (by omega)) := by
  obtain ⟨n, hn⟩ := t; cases n with
  | zero => exact absurd rfl h
  | succ n => rfl
theorem outN_pos (c : Dev nD) (t : Fin cfg0.N) (h : t.val ≠ 0) : outN m c t.val t.isLt = stepO m c t (outN m c (t.val - 1) (by omega)) := by
  obtain ⟨n, hn⟩ := t; cases n with
  | zero => exact absurd rfl h
  | succ n => rfl

/-- What the scratches hold after point `n`. -/
def PhiAt (c : Dev nD) (n : ℕ) (hn : n < cfg0.N) : sProp 𝕄 :=
  iprop(iprop(owns (c : Thread nD τ) scM0_0 fullShare (slotF m c) ∗ owns (c : Thread nD τ) scM0_1 fullShare (wF m c) ∗ (∃ d, owns (c : Thread nD τ) scM0_2 fullShare d) ∗ owns (c : Thread nD τ) scM0_3 fullShare (accN m c n hn)) ∗ (∃ r, prngReg c r))

/-- The invariant before position `n`. -/
def PhiS (c : Dev nD) : (n : ℕ) → n ≤ cfg0.N → sProp 𝕄
  | 0, _ => Pipeline.ΦA spec0 c
  | n + 1, hn => PhiAt m c n hn

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) : PhiS m c (n + 1) hn = PhiAt m c n hn := rfl
theorem PhiS_pos (c : Dev nD) (n : ℕ) (h : n ≤ cfg0.N) (hz : n ≠ 0) : PhiS m c n h = PhiAt m c (n - 1) (by omega) := by
  cases n with
  | zero => exact absurd rfl hz
  | succ n => rfl

/-- What the last point stores as the weighted sum. -/
def yF (c : Dev nD) : Vec F S96x2048 .bf16 := YF (accN m c 23 (by rw [show cfg0.N = 24 from N_0]; decide))

/-- The proof data: the arrays as the region finds them; each input's block; the outputs' contents; the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => yF m c
    | ⟨13, _⟩ => missF m c
    | ⟨14, _⟩ => outN m c t.val t.isLt
  Φ t := PhiS m c t.val (Nat.le_of_lt_succ t.isLt)
  q _ := fullShare
  owed _ := 0

/-- The proof data's arrays are the region-entry contents: the proof data's definition projected , so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

theorem after0_12 (c : Dev nD) (t : Fin cfg0.N) : (dats m 0 c).after 12 t = yF m c := by dsimp only [dats]
theorem after0_13 (c : Dev nD) (t : Fin cfg0.N) : (dats m 0 c).after 13 t = missF m c := by dsimp only [dats]
theorem after0_14 (c : Dev nD) (t : Fin cfg0.N) : (dats m 0 c).after 14 t = outN m c t.val t.isLt := by dsimp only [dats]

theorem flush0_13' (t : Fin cfg0.N) (h : ¬ t.val % 24 = 23) : (cfg0.win 13).flush t = false := by
  cases hf : (cfg0.win 13).flush t with
  | false => rfl
  | true => exact absurd ((flush0_13 t).mp hf) h
theorem flush0_12' (t : Fin cfg0.N) (h : ¬ t.val % 24 = 23) : (cfg0.win 12).flush t = false := by
  cases hf : (cfg0.win 12).flush t with
  | false => rfl
  | true => exact absurd ((flush0_12 t).mp hf) h
theorem flush0_14' (t : Fin cfg0.N) (h : ¬ t.val % 24 = 23) : (cfg0.win 14).flush t = false := by
  cases hf : (cfg0.win 14).flush t with
  | false => rfl
  | true => exact absurd ((flush0_14 t).mp hf) h

/-- After the first point the missing weight's buffer is not fresh any more. -/
theorem fresh0_13 (n : ℕ) (h : n + 1 < cfg0.N) : cfg0.fresh 13 (n + 1) = false := by
  have hN : cfg0.N = 24 := N_0
  induction n with
  | zero =>
    rw [Pipeline.Cfg.fresh_succ cfg0 13 0 (by omega), flush0_13' ⟨0, by omega⟩ (by simp),
      liveAt0_13 ⟨0, by omega⟩ ((hcond0_0 _).mpr (by simp))]
    rfl
  | succ n ih =>
    rw [Pipeline.Cfg.fresh_succ cfg0 13 (n + 1) (by omega), flush0_13' ⟨n + 1, by omega⟩ (by show ¬ (n + 1) % 24 = 23; omega), ih (by omega)]
    simp
theorem fresh0_14 (n : ℕ) (h : n + 1 < cfg0.N) : cfg0.fresh 14 (n + 1) = false := by
  have hN : cfg0.N = 24 := N_0
  rw [Pipeline.Cfg.fresh_succ cfg0 14 n (by omega), flush0_14' ⟨n, by omega⟩ (by show ¬ n % 24 = 23; omega), liveAt0_14]
  rfl

/-- Before a later point the missing weight's buffer holds the first point's store. -/
theorem before0_13 (c : Dev nD) (t : Fin cfg0.N) (h : t.val ≠ 0) (d) : (dats m 0 c).before 13 t d = missF m c := by
  rw [(dats m 0 c).before_out_traj 13 rfl (fun _ _ => rfl) (fun t _ _ _ => by rw [after0_13, after0_13]) t.val t rfl d]
  obtain ⟨n, hn⟩ := t; cases n with
  | zero => exact absurd rfl h
  | succ n => rw [fresh0_13 n hn, after0_13]; rfl
/-- Before a later point the expert outputs' buffer holds what the point before left. -/
theorem before0_14 (c : Dev nD) (t : Fin cfg0.N) (h : t.val ≠ 0) (d) : (dats m 0 c).before 14 t d = outN m c (t.val - 1) (by omega) := by
  rw [(dats m 0 c).before_out_traj 14 rfl (fun _ _ => rfl) (fun t _ hi _ => absurd (hi.symm.trans (liveAt0_14 t)) (by decide)) t.val t rfl d]
  obtain ⟨n, hn⟩ := t; cases n with
  | zero => exact absurd rfl h
  | succ n => rw [fresh0_14 n hn, after0_14]; rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

theorem leaves0_0 (c : Dev nD) (t : Fin cfg0.N) : (dats m 0 c).leavesExact 0 t = owns (c : Thread nD τ) (ms0_0 t) fullShare (iblk m c 0 t) := by
  rw [← after0_0 m c t]
theorem leaves0_1 (c : Dev nD) (t : Fin cfg0.N) : (dats m 0 c).leavesExact 1 t = owns (c : Thread nD τ) (ms0_1 t) fullShare (iblk m c 1 t) := by
  rw [← after0_1 m c t]
theorem leaves0_2 (c : Dev nD) (t : Fin cfg0.N) : (dats m 0 c).leavesExact 2 t = owns (c : Thread nD τ) (ms0_2 t) fullShare (iblk m c 2 t) := by
  rw [← after0_2 m c t]
theorem leaves0_3 (c : Dev nD) (t : Fin cfg0.N) : (dats m 0 c).leavesExact 3 t = owns (c : Thread nD τ) (ms0_3 t) fullShare (iblk m c 3 t) := by
  rw [← after0_3 m c t]
theorem leaves0_4 (c : Dev nD) (t : Fin cfg0.N) : (dats m 0 c).leavesExact 4 t = owns (c : Thread nD τ) (ms0_4 t) fullShare (iblk m c 4 t) := by
  rw [← after0_4 m c t]
theorem leaves0_5 (c : Dev nD) (t : Fin cfg0.N) : (dats m 0 c).leavesExact 5 t = owns (c : Thread nD τ) (ms0_5 t) fullShare (iblk m c 5 t) := by
  rw [← after0_5 m c t]
theorem leaves0_6 (c : Dev nD) (t : Fin cfg0.N) : (dats m 0 c).leavesExact 6 t = owns (c : Thread nD τ) (ms0_6 t) fullShare (iblk m c 6 t) := by
  rw [← after0_6 m c t]
theorem leaves0_7 (c : Dev nD) (t : Fin cfg0.N) : (dats m 0 c).leavesExact 7 t = owns (c : Thread nD τ) (ms0_7 t) fullShare (iblk m c 7 t) := by
  rw [← after0_7 m c t]
theorem leaves0_8 (c : Dev nD) (t : Fin cfg0.N) : (dats m 0 c).leavesExact 8 t = owns (c : Thread nD τ) (ms0_8 t) fullShare (iblk m c 8 t) := by
  rw [← after0_8 m c t]
theorem leaves0_9 (c : Dev nD) (t : Fin cfg0.N) : (dats m 0 c).leavesExact 9 t = owns (c : Thread nD τ) (ms0_9 t) fullShare (iblk m c 9 t) := by
  rw [← after0_9 m c t]
theorem leaves0_10 (c : Dev nD) (t : Fin cfg0.N) : (dats m 0 c).leavesExact 10 t = owns (c : Thread nD τ) (ms0_10 t) fullShare (iblk m c 10 t) := by
  rw [← after0_10 m c t]
theorem leaves0_11 (c : Dev nD) (t : Fin cfg0.N) : (dats m 0 c).leavesExact 11 t = owns (c : Thread nD τ) (ms0_11 t) fullShare (iblk m c 11 t) := by
  rw [← after0_11 m c t]
theorem leaves0_14 (c : Dev nD) (t : Fin cfg0.N) : (dats m 0 c).leavesExact 14 t = owns (c : Thread nD τ) (ms0_14 t) fullShare (outN m c t.val t.isLt) := by
  rw [← after0_14 m c t]
theorem leaves0_12_live (c : Dev nD) (t : Fin cfg0.N) (h : cond0_1 (grid0.coords t)) : (dats m 0 c).leavesExact 12 t = owns (c : Thread nD τ) (ms0_12 t) fullShare (yF m c) := by
  rw [← after0_12 m c t]; unfold Dat.leavesExact; rw [liveAt0_12 t h]
theorem leaves0_12_idle (c : Dev nD) (t : Fin cfg0.N) (h : ¬ cond0_1 (grid0.coords t)) (hf : ¬ t.val % 24 = 23) : (dats m 0 c).leavesExact 12 t = iprop(∃ d, owns (c : Thread nD τ) (ms0_12 t) fullShare ((dats m 0 c).before 12 t d)) :=
  Dat.leavesExact_idle _ 12 t (idleAt0_12 t h) (flush0_12' t hf)
theorem leaves0_13_live (c : Dev nD) (t : Fin cfg0.N) (h : cond0_0 (grid0.coords t)) : (dats m 0 c).leavesExact 13 t = owns (c : Thread nD τ) (ms0_13 t) fullShare (missF m c) := by
  rw [← after0_13 m c t]; unfold Dat.leavesExact; rw [liveAt0_13 t h]
theorem leaves0_13_idle (c : Dev nD) (t : Fin cfg0.N) (h : ¬ cond0_0 (grid0.coords t)) (hf : ¬ t.val % 24 = 23) : (dats m 0 c).leavesExact 13 t = iprop(∃ d, owns (c : Thread nD τ) (ms0_13 t) fullShare ((dats m 0 c).before 13 t d)) :=
  Dat.leavesExact_idle _ 13 t (idleAt0_13 t h) (flush0_13' t hf)
theorem leaves0_13_last (c : Dev nD) (t : Fin cfg0.N) (h : ¬ cond0_0 (grid0.coords t)) (hf : t.val % 24 = 23) : (dats m 0 c).leavesExact 13 t = owns (c : Thread nD τ) (ms0_13 t) fullShare (missF m c) := by
  rw [← after0_13 m c t]; unfold Dat.leavesExact; rw [idleAt0_13 t h, (flush0_13 t).mpr hf]

set_option maxHeartbeats 4000000 in
/-- The body at the first point. -/
theorem sound_first (c : Dev nD) :
    bodyPre m c p0 ⊢ wp frame (wpE (defs₀ (F := F)) Variants.none c none) Set.univ (bodyAt0 p0) (fun _ => bodyPost m c p0) := by
  have h0 : cond0_0 (grid0.coords p0) := (hcond0_0 p0).mpr rfl
  have h1 : ¬ cond0_1 (grid0.coords p0) := fun h => absurd ((hcond0_1 p0).mp h) (by decide)
  unfold bodyPre bodyPost
  simp only [before0_0, before0_1, before0_2, before0_3, before0_4, before0_5, before0_6, before0_7, before0_8, before0_9, before0_10, before0_11]
  rw [show (dats m 0 c).owesAt () (p0).succ = (dats m 0 c).owesAt () (p0).castSucc from rfl]
  rw [show (dats m 0 c).Φ (p0).succ = PhiS m c ((p0).val + 1) (p0).isLt from rfl, PhiS_succ, PhiS_castSucc m c (p0)]
  rw [leaves0_0, leaves0_1, leaves0_2, leaves0_3, leaves0_4, leaves0_5, leaves0_6, leaves0_7, leaves0_8, leaves0_9, leaves0_10, leaves0_11, leaves0_14]
  rw [PhiS_zero m c (p0).val _ rfl, PhiA0_eq, leaves0_12_idle m c p0 h1 (by decide), leaves0_13_live m c p0 h0, outN_p0]
  rw [show bodyAt0 p0 = _ from body_first (F := F) (grid0.coords p0) _ _ _ _ _ _ _ _ _ _ _ _ _ _ _ _ _ _ _ _ _ _ _ _ _ _ _ _ _ _ _ _ _ _ _ _ _ _ h0 h1]
  rw [wp_bind]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (init_triple (F := F) c (grid0.coords p0) _ _ _ _ _ _ _ _ _ _ _ _ _ _ _ _ _ _ _ _ _ _ _ _ _ _ _ _ _ _ _ _ _ _ _ _ _ _ (iblk m c 0 p0) (iblk m c 2 p0) (iblk m c 3 p0) Set.univ _)
  isplitl [H0]; · iexact H0
  isplitl [H2]; · iexact H2
  isplitl [H3]; · iexact H3
  isplitl [H13]; · iexists _; iexact H13
  isplitl [H14]; · iexists _; iexact H14
  isplitl [HS0]; · iexact HS0
  isplitl [HS1]; · iexact HS1
  isplitl [HS3]; · iexact HS3
  iintro ⟨H0, H2, H3, H13, H14, HS0, HS1, HS3⟩
  iapply (mid_triple (F := F) c (grid0.coords p0) _ _ _ _ _ _ _ _ _ _ _ _ _ _ _ _ _ _ _ _ _ _ _ _ _ _ _ _ _ _ _ _ _ _ _ _ _ _ (iblk m c 1 p0) (iblk m c 4 p0) (iblk m c 5 p0) (iblk m c 6 p0) (iblk m c 7 p0) (iblk m c 8 p0) (iblk m c 9 p0) (iblk m c 10 p0) (iblk m c 11 p0) (slotF m c) (wF m c) (broadcast S6x96x2048 (Scalar.ofBits .f32 0x00000000#32)) ACC0 Set.univ _)
  isplitl [H1]; · iexact H1
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [H14]; · iexact H14
  isplitl [HS2]; · iexact HS2
  isplitl [HS3]; · iexact HS3
  iintro ⟨H1, H4, H5, H6, H7, H8, H9, H10, H11, HS0, HS1, H14, HS2, HS3⟩
  unfold PhiAt
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexact H13
  iexact H14

set_option maxHeartbeats 4000000 in
/-- The body at a middle point. -/
theorem sound_middle (c : Dev nD) (t : Fin cfg0.N) (hz : t.val ≠ 0) (h2 : ¬ t.val % 24 = 23) :
    bodyPre m c t ⊢ wp frame (wpE (defs₀ (F := F)) Variants.none c none) Set.univ (bodyAt0 t) (fun _ => bodyPost m c t) := by
  have hN : t.val < 24 := lt_of_lt_of_eq t.isLt (show cfg0.N = 24 from N_0)
  have h0 : ¬ cond0_0 (grid0.coords t) := fun h => hz (by have := (hcond0_0 t).mp h; omega)
  have h1 : ¬ cond0_1 (grid0.coords t) := fun h => h2 ((hcond0_1 t).mp h)
  unfold bodyPre bodyPost
  simp only [before0_0, before0_1, before0_2, before0_3, before0_4, before0_5, before0_6, before0_7, before0_8, before0_9, before0_10, before0_11]
  rw [show (dats m 0 c).owesAt () (t).succ = (dats m 0 c).owesAt () (t).castSucc from rfl]
  rw [show (dats m 0 c).Φ (t).succ = PhiS m c ((t).val + 1) (t).isLt from rfl, PhiS_succ, PhiS_castSucc m c (t)]
  rw [leaves0_0, leaves0_1, leaves0_2, leaves0_3, leaves0_4, leaves0_5, leaves0_6, leaves0_7, leaves0_8, leaves0_9, leaves0_10, leaves0_11, leaves0_14]
  simp only [before0_14 m c t hz]
  rw [PhiS_pos m c _ _ hz, leaves0_12_idle m c t h1 h2, leaves0_13_idle m c t h0 h2, outN_pos m c t hz]
  rw [show bodyAt0 t = _ from body_middle (F := F) (grid0.coords t) _ _ _ _ _ _ _ _ _ _ _ _ _ _ _ _ _ _ _ _ _ _ _ _ _ _ _ _ _ _ _ _ _ _ _ _ _ _ h0 h1]
  unfold PhiAt
  rw [accN_pos m c t hz]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (mid_triple (F := F) c (grid0.coords t) _ _ _ _ _ _ _ _ _ _ _ _ _ _ _ _ _ _ _ _ _ _ _ _ _ _ _ _ _ _ _ _ _ _ _ _ _ _ (iblk m c 1 t) (iblk m c 4 t) (iblk m c 5 t) (iblk m c 6 t) (iblk m c 7 t) (iblk m c 8 t) (iblk m c 9 t) (iblk m c 10 t) (iblk m c 11 t) (slotF m c) (wF m c) (outN m c (t.val - 1) (by omega)) (accN m c (t.val - 1) (by omega)) Set.univ _)
  isplitl [H1]; · iexact H1
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [H14]; · iexact H14
  isplitl [HS2]; · iexact HS2
  isplitl [HS3]; · iexact HS3
  iintro ⟨H1, H4, H5, H6, H7, H8, H9, H10, H11, HS0, HS1, H14, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  iexact H14

set_option maxHeartbeats 4000000 in
/-- The body at the last point. -/
theorem sound_last (c : Dev nD) (t : Fin cfg0.N) (hz : t.val ≠ 0) (h2 : t.val % 24 = 23) :
    bodyPre m c t ⊢ wp frame (wpE (defs₀ (F := F)) Variants.none c none) Set.univ (bodyAt0 t) (fun _ => bodyPost m c t) := by
  have hN : t.val < 24 := lt_of_lt_of_eq t.isLt (show cfg0.N = 24 from N_0)
  have h0 : ¬ cond0_0 (grid0.coords t) := fun h => hz (by have := (hcond0_0 t).mp h; omega)
  have h1 : cond0_1 (grid0.coords t) := (hcond0_1 t).mpr h2
  unfold bodyPre bodyPost
  simp only [before0_0, before0_1, before0_2, before0_3, before0_4, before0_5, before0_6, before0_7, before0_8, before0_9, before0_10, before0_11]
  rw [show (dats m 0 c).owesAt () (t).succ = (dats m 0 c).owesAt () (t).castSucc from rfl]
  rw [show (dats m 0 c).Φ (t).succ = PhiS m c ((t).val + 1) (t).isLt from rfl, PhiS_succ, PhiS_castSucc m c (t)]
  rw [leaves0_0, leaves0_1, leaves0_2, leaves0_3, leaves0_4, leaves0_5, leaves0_6, leaves0_7, leaves0_8, leaves0_9, leaves0_10, leaves0_11, leaves0_14]
  simp only [before0_14 m c t hz]
  simp only [before0_13 m c t hz]
  rw [PhiS_pos m c _ _ hz, leaves0_12_live m c t h1, leaves0_13_last m c t h0 h2, outN_pos m c t hz]
  have hy : YF (accN m c t.val t.isLt) = yF m c := by
    have e : t = ⟨23, by rw [show cfg0.N = 24 from N_0]; decide⟩ := Fin.ext (by show t.val = 23; omega)
    subst e; rfl
  rw [← hy]
  rw [show bodyAt0 t = _ from body_last (F := F) (grid0.coords t) _ _ _ _ _ _ _ _ _ _ _ _ _ _ _ _ _ _ _ _ _ _ _ _ _ _ _ _ _ _ _ _ _ _ _ _ _ _ h0 h1]
  rw [wp_bind]
  unfold PhiAt
  rw [accN_pos m c t hz]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (mid_triple (F := F) c (grid0.coords t) _ _ _ _ _ _ _ _ _ _ _ _ _ _ _ _ _ _ _ _ _ _ _ _ _ _ _ _ _ _ _ _ _ _ _ _ _ _ (iblk m c 1 t) (iblk m c 4 t) (iblk m c 5 t) (iblk m c 6 t) (iblk m c 7 t) (iblk m c 8 t) (iblk m c 9 t) (iblk m c 10 t) (iblk m c 11 t) (slotF m c) (wF m c) (outN m c (t.val - 1) (by omega)) (accN m c (t.val - 1) (by omega)) Set.univ _)
  isplitl [H1]; · iexact H1
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [H14]; · iexact H14
  isplitl [HS2]; · iexact HS2
  isplitl [HS3]; · iexact HS3
  iintro ⟨H1, H4, H5, H6, H7, H8, H9, H10, H11, HS0, HS1, H14, HS2, HS3⟩
  iapply (fin_triple (F := F) c (grid0.coords t) _ _ _ _ _ _ _ _ _ _ _ _ _ _ _ _ _ _ _ _ _ _ _ _ _ _ _ _ _ _ _ _ _ _ _ _ _ _ (stepA m c t (accN m c (t.val - 1) (by omega))) Set.univ _)
  isplitl [HS3]; · iexact HS3
  isplitl [H12]; · iexists _; iexact H12
  iintro ⟨HS3, H12⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The body at any point. -/
theorem sound_body (c : Dev nD) (t : Fin cfg0.N) :
    bodyPre m c t ⊢ wp frame (wpE (defs₀ (F := F)) Variants.none c none) Set.univ (bodyAt0 t) (fun _ => bodyPost m c t) := by
  by_cases hz : t.val = 0
  · have e : t = p0 := Fin.ext hz
    subst e; exact sound_first m c
  · by_cases h2 : t.val % 24 = 23
    · exact sound_last m c t hz h2
    · exact sound_middle m c t hz h2

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  unfold PhiAt
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexact HS2
    iexists _; iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 24 := N_0; omega)

set_option backward.isDefEq.respectTransparency.types false in
set_option maxHeartbeats 800000 in
/-- The run: every final state has the arrays at what the proof data says, and every counter at zero. -/
theorem run_main : θ_run defs (onTc (τ := τ) (main (F := F))) (s₀ m ρ) (fun r => Pipeline.FramePost cfgs (dats m) 0 (Pipeline.afterTail₀ cfgs (dats m) 0 (V0 m) [hostOps1]) r ∧ r.2.sem = fun _ => 0) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m) (Q' := _) (fun _ h => h)

end Cert.KernelIdeal.Hand

end
-- ==== Proof.Tail.lean ====
/- What the kernel leaves: the frame and the three results. -/
module

public import proofs.«01_k».proof.Proof.RunK
public import Idealize.ShloMosaic.Lib.Pipeline.ValueKit.Geometry
public import Idealize.ShloMosaic.Lib.Claim

@[expose] public section

set_option maxRecDepth 16384

noncomputable section

namespace Cert.KernelIdeal.Hand

open Cert.KernelIdeal Cert.KernelIdeal.Gen
open Idealize.ShloMosaic hiding ix1 ix2 ix3 ix4 eq_ix1 eq_ix2 eq_ix3 eq_ix4
open Idealize.ShloMosaic.ValueIdx

variable {F : FTy → Type} [FloatOps F] (m : (ℓ : Loc nD τ sig) → Buf (Elt F) ℓ) (ρ : Dev nD → PrngReg)

theorem lt23 : 23 < cfg0.N := by rw [show cfg0.N = 24 from N_0]; decide

theorem t23 (t : Fin cfg0.N) (h : t.val % 24 = 23) : t.val = 23 := by
  have := t.isLt.trans_eq (show cfg0.N = 24 from N_0)
  omega

theorem oemb_12 (t : Fin cfg0.N) (y : (sh 96 2048).Idx) : ((cfg0.win 12).blk t).view.emb y = y := by
  funext a; apply Fin.ext
  match a with
  | ⟨0, _⟩ => show win0_12.index t (0 : Fin 2) * 96 + 1 * (y 0).val = (y 0).val; rw [show win0_12.index t (0 : Fin 2) = 0 from rfl]; omega
  | ⟨1, _⟩ => show win0_12.index t (1 : Fin 2) * 2048 + 1 * (y 1).val = (y 1).val; rw [show win0_12.index t (1 : Fin 2) = 0 from rfl]; omega

theorem arr12 (c : Dev nD) : (dats m 0 c).arrAt 12 (cfgs 0).N = yF m c := by
  refine (dats m 0 c).arrAt_eq_of_covers 12 _ (by decide +kernel) fun t hf y => ?_
  refine Eq.trans ?_ (congrArg (yF m c) (oemb_12 t y)).symm
  rw [after0_12]
  rfl

theorem oemb_13 (t : Fin cfg0.N) (y : (sh 96 1).Idx) : ((cfg0.win 13).blk t).view.emb y = y := by
  funext a; apply Fin.ext
  match a with
  | ⟨0, _⟩ => show win0_13.index t (0 : Fin 2) * 96 + 1 * (y 0).val = (y 0).val; rw [show win0_13.index t (0 : Fin 2) = 0 from rfl]; omega
  | ⟨1, _⟩ => show win0_13.index t (1 : Fin 2) * 1 + 1 * (y 1).val = (y 1).val; rw [show win0_13.index t (1 : Fin 2) = 0 from rfl]; omega

theorem arr13 (c : Dev nD) : (dats m 0 c).arrAt 13 (cfgs 0).N = missF m c := by
  refine (dats m 0 c).arrAt_eq_of_covers 13 _ (by decide +kernel) fun t hf y => ?_
  refine Eq.trans ?_ (congrArg (missF m c) (oemb_13 t y)).symm
  rw [after0_13]
  rfl

theorem oemb_14 (t : Fin cfg0.N) (y : (sh3 6 96 2048).Idx) : ((cfg0.win 14).blk t).view.emb y = y := by
  funext a; apply Fin.ext
  match a with
  | ⟨0, _⟩ => show win0_14.index t (0 : Fin 3) * 6 + 1 * (y 0).val = (y 0).val; rw [show win0_14.index t (0 : Fin 3) = 0 from rfl]; omega
  | ⟨1, _⟩ => show win0_14.index t (1 : Fin 3) * 96 + 1 * (y 1).val = (y 1).val; rw [show win0_14.index t (1 : Fin 3) = 0 from rfl]; omega
  | ⟨2, _⟩ => show win0_14.index t (2 : Fin 3) * 2048 + 1 * (y 2).val = (y 2).val; rw [show win0_14.index t (2 : Fin 3) = 0 from rfl]; omega

theorem outN_congr (c : Dev nD) (n n' : ℕ) (e : n = n') (h : n < cfg0.N) (h' : n' < cfg0.N) : outN m c n h = outN m c n' h' := by
  subst e; rfl

theorem arr14 (c : Dev nD) : (dats m 0 c).arrAt 14 (cfgs 0).N = outN m c 23 lt23 := by
  refine (dats m 0 c).arrAt_eq_of_covers 14 _ (by decide +kernel) fun t hf y => ?_
  refine Eq.trans ?_ (congrArg (outN m c 23 lt23) (oemb_14 t y)).symm
  rw [after0_14, outN_congr m c _ _ (t23 t ((flush0_14 t).mp hf)) t.isLt lt23]
  generalize outN m c 23 lt23 = O
  rfl

/-- The kernel's run, its results as terms. -/
theorem run_vals : θ_run defs (onTc (τ := τ) (main (F := F))) (s₀ m ρ) (fun r => (∀ c : Dev nD,
      r.2.mem ((c.tc : Thread nD τ).loc main_v4) = shapeCast S96x1x2048 (yF m c) shapeCasts_S96x2048_S96x1x2048
      ∧ r.2.mem ((c.tc : Thread nD τ).loc main_v3_1) = missF m c
      ∧ r.2.mem ((c.tc : Thread nD τ).loc main_v6) = shapeCast S96x1x6x2048 (transpose S96x6x2048 [1, 0, 2] (outN m c 23 lt23) transposes_S6x96x2048_S96x6x2048_1_0_2) shapeCasts_S96x6x2048_S96x1x6x2048)
      ∧ r.2.sem = fun _ => 0) := by
  refine (θ_run defs _ _).mono (fun r h => ⟨fun c => ⟨?_, ?_, ?_⟩, h.2⟩) (run_main m ρ)
  · refine ((h.1 c).2 main_v4 (by decide)).trans ?_
    unfold Pipeline.afterTail₀
    show StableHlo.after hostOps1 _ (Proc.devRef .tc main_v4) = _
    after_results
    rw [← arr12 m c]
    refine congrArg (fun v => shapeCast S96x1x2048 v shapeCasts_S96x2048_S96x1x2048) ?_
    exact Pipeline.withArrays_arr spec0 launch0.win.arr_inj c (V0 m c) (fun w => (dats m 0 c).arrAt w (cfgs 0).N) 12
  · exact ((h.1 c).1 13).trans (arr13 m c)
  · refine ((h.1 c).2 main_v6 (by decide)).trans ?_
    unfold Pipeline.afterTail₀
    show StableHlo.after hostOps1 _ (Proc.devRef .tc main_v6) = _
    after_results
    rw [← arr14 m c]
    refine congrArg (fun v => shapeCast S96x1x6x2048 (transpose S96x6x2048 [1, 0, 2] v transposes_S6x96x2048_S96x6x2048_1_0_2) shapeCasts_S96x6x2048_S96x1x6x2048) ?_
    exact Pipeline.withArrays_arr spec0 launch0.win.arr_inj c (V0 m c) (fun w => (dats m 0 c).arrAt w (cfgs 0).N) 14

end Cert.KernelIdeal.Hand

end
-- ==== Proof.Sem.lean ====
/- What the pieces the body stores are worth at an index, over the extended reals. -/
module

public import proofs.«01_k».proof.Proof.Mid
public import Idealize.ShloMosaic.Lib.Pipeline.ValueKit.Tiles

@[expose] public section

set_option maxRecDepth 16384

noncomputable section

namespace Cert.KernelIdeal.Hand

open Cert.KernelIdeal Cert.KernelIdeal.Gen
open Idealize.ShloMosaic hiding ix2 ix3 eq_ix2 eq_ix3
open Idealize.ShloMosaic.ValueIdx

/-- A dequantized weight: code minus zero, times scale; row `p`, the code in column `lc`, its scale and zero in column `ls`. -/
def dqv (nib : BitVec 8 → EReal) {K G C C' : ℕ} (hK : K = 128 * G) (c : IVec (sh3 1 K C) 8) (s z : FVec Ideal (sh3 1 G C') .bf16)
    (p : Fin K) (lc : Fin C) (ls : Fin C') : EReal :=
  (nib (c (ix3 0 p lc)) - z (ix3 0 ⟨p.val / 128, by have := p.isLt; omega⟩ ls)) * s (ix3 0 ⟨p.val / 128, by have := p.isLt; omega⟩ ls)

theorem cast3 {α : Type} {K C : ℕ} (v : (sh3 1 K C).Idx → α) (h : (sh3 1 K C).ShapeCasts (sh K C)) (p : Fin K) (l : Fin C) :
    shapeCast (sh K C) v h (ix2 p l) = v (ix3 0 p l) := by
  refine (shapeCast_dropUnit_apply ![K, C] v h (ix2 p l)).trans (congrArg v ?_)
  funext a
  match a with
  | ⟨0, _⟩ => rfl
  | ⟨1, _⟩ => rfl
  | ⟨2, _⟩ => rfl

theorem cast3' {α : Type} {K C : ℕ} (v : (sh K C).Idx → α) (h : (sh K C).ShapeCasts (sh3 1 K C)) (p : Fin K) (l : Fin C) :
    shapeCast (sh3 1 K C) v h (ix3 0 p l) = v (ix2 p l) := by
  refine (shapeCast_addUnit_apply ![K, C] v h (ix3 0 p l)).trans (congrArg v ?_)
  funext a
  match a with
  | ⟨0, _⟩ => rfl
  | ⟨1, _⟩ => rfl

theorem wlow_apply {G K Q C : ℕ} (D : Df G K Q C) (hQ : K = 4 * Q) (hK : K = 128 * G) (c : IVec (sh3 1 K C) 8) (s z : FVec Ideal (sh3 1 G C) .bf16)
    (p : Fin K) (l : Fin C) : wlow D c s z (ix2 p l) = dqv nibLo hK c s z p l l := by
  unfold wlow dqv
  rw [deq_apply G K C _ _ _ _ hK, low_apply _ _ hQ, cast3, cast3, cast3]

theorem whigh_apply {G K Q C : ℕ} (D : Df G K Q C) (hQ : K = 4 * Q) (hK : K = 128 * G) (c : IVec (sh3 1 K C) 8) (s z : FVec Ideal (sh3 1 G C) .bf16)
    (p : Fin K) (l : Fin C) : whigh D c s z (ix2 p l) = dqv nibHi hK c s z p l l := by
  unfold whigh dqv
  rw [deq_apply G K C _ _ _ _ hK, high_apply _ _ hQ, cast3, cast3, cast3]

theorem ld3 {Val : EltTy → Type} {e : EltTy} {A K N n0 C a : ℕ} (X : (sh3 A K N).Idx → Val e)
    (inb : ∀ i : Fin 3, (![a, 0, n0] : Fin 3 → ℕ) i + (![1, K, C] : Fin 3 → ℕ) i ≤ (sh3 A K N).size i)
    (p : Fin K) (l : Fin C) (ha : a < A) (hl : n0 + l.val < N) :
    View.ld X (Rect.unit (s := sh3 A K N) ![a, 0, n0] ![1, K, C] inb) (ix3 (0 : Fin 1) p l) = X (ix3 ⟨a, ha⟩ p ⟨n0 + l.val, hl⟩) :=
  View.ld_unit_apply_of X _ _ _ _ _ fun i => by
    match i with
    | ⟨0, _⟩ => show a = a + 0; omega
    | ⟨1, _⟩ => show p.val = 0 + p.val; omega
    | ⟨2, _⟩ => rfl

theorem ld2 {Val : EltTy → Type} {e : EltTy} {M N n0 C : ℕ} (X : (sh M N).Idx → Val e)
    (inb : ∀ i : Fin 2, (![0, n0] : Fin 2 → ℕ) i + (![M, C] : Fin 2 → ℕ) i ≤ (sh M N).size i)
    (p : Fin M) (l : Fin C) (hl : n0 + l.val < N) :
    View.ld X (Rect.unit (s := sh M N) ![0, n0] ![M, C] inb) (ix2 p l) = X (ix2 p ⟨n0 + l.val, hl⟩) :=
  View.ld_unit_apply_of X _ _ _ _ _ fun i => by
    match i with
    | ⟨0, _⟩ => show p.val = 0 + p.val; omega
    | ⟨1, _⟩ => rfl

theorem ldw2 {Val : EltTy → Type} {e : EltTy} {M N : ℕ} (X : (sh M N).Idx → Val e)
    (inb : ∀ i : Fin 2, (![0, 0] : Fin 2 → ℕ) i + (![M, N] : Fin 2 → ℕ) i ≤ (sh M N).size i) :
    View.ld X (Rect.unit (s := sh M N) ![0, 0] ![M, N] inb) = X := by
  funext j
  rw [eq_ix2 j]
  refine (ld2 X inb _ _ (by have := (j 1).isLt; simpa using this)).trans (congrArg X ?_)
  funext a
  match a with
  | ⟨0, _⟩ => rfl
  | ⟨1, _⟩ => exact Fin.ext (Nat.zero_add _)

theorem emb2 {M N n0 C : ℕ} (inb : ∀ i : Fin 2, (![0, n0] : Fin 2 → ℕ) i + (![M, C] : Fin 2 → ℕ) i ≤ (sh M N).size i)
    (p : Fin M) (l : Fin C) (hl : n0 + l.val < N) :
    (Rect.unit (s := sh M N) ![0, n0] ![M, C] inb).emb (ix2 p l) = ix2 p ⟨n0 + l.val, hl⟩ := by
  funext i
  apply Fin.ext
  match i with
  | ⟨0, _⟩ => show 0 + 1 * p.val = p.val; omega
  | ⟨1, _⟩ => show n0 + 1 * l.val = n0 + l.val; omega

theorem emb3 {A K N n0 C a : ℕ} (inb : ∀ i : Fin 3, (![a, 0, n0] : Fin 3 → ℕ) i + (![1, K, C] : Fin 3 → ℕ) i ≤ (sh3 A K N).size i)
    (p : Fin K) (l : Fin C) (ha : a < A) (hl : n0 + l.val < N) :
    (Rect.unit (s := sh3 A K N) ![a, 0, n0] ![1, K, C] inb).emb (ix3 (0 : Fin 1) p l) = ix3 ⟨a, ha⟩ p ⟨n0 + l.val, hl⟩ := by
  funext i
  apply Fin.ext
  match i with
  | ⟨0, _⟩ => show a + 1 * 0 = a; omega
  | ⟨1, _⟩ => show 0 + 1 * p.val = p.val; omega
  | ⟨2, _⟩ => show n0 + 1 * l.val = n0 + l.val; omega

theorem mm_apply {M K N : ℕ} (a : FVec Ideal (sh M K) .bf16) (b : FVec Ideal (sh K N) .bf16) (r : Fin M) (c : Fin N) :
    mm a b (ix2 r c) = ∑ k, a (ix2 r k) * b (ix2 k c) := by
  unfold mm
  refine (Ideal.matmul_plain_apply none a b _ r c).trans ?_
  rw [constant_apply]
  show Ideal.ofBits .f32 0#32 + _ = _
  rw [Ideal.ofBits_zero_f32]
  exact zero_add _

/-- The hidden layer at token `t` and column `f`. -/
def hval (x1 : Vec Ideal S96x2048 .bf16) (x4 : Vec Ideal S1x2048x1408 .i8) (x5 x6 x7 x8 : Vec Ideal S1x16x1408 .bf16) (t : Fin 96) (f : Fin 1408) : EReal :=
  (∑ d : Fin 2048, x1 (ix2 t d) * dqv nibLo (K := 2048) (G := 16) rfl x4 x5 x6 d f f)
    * Ideal.logistic (∑ d : Fin 2048, x1 (ix2 t d) * dqv nibLo (K := 2048) (G := 16) rfl x4 x5 x6 d f f)
    * (∑ d : Fin 2048, x1 (ix2 t d) * dqv nibHi (K := 2048) (G := 16) rfl x4 x7 x8 d f f)

theorem dqv_ld {G K N N' n0 n1 C : ℕ} (nib : BitVec 8 → EReal) (hK : K = 128 * G) (c : Vec Ideal (sh3 1 K N) .i8) (s z : Vec Ideal (sh3 1 G N') .bf16)
    (ic : ∀ i : Fin 3, (![0, 0, n0] : Fin 3 → ℕ) i + (![1, K, C] : Fin 3 → ℕ) i ≤ (sh3 1 K N).size i)
    (is : ∀ i : Fin 3, (![0, 0, n1] : Fin 3 → ℕ) i + (![1, G, C] : Fin 3 → ℕ) i ≤ (sh3 1 G N').size i)
    (iz : ∀ i : Fin 3, (![0, 0, n1] : Fin 3 → ℕ) i + (![1, G, C] : Fin 3 → ℕ) i ≤ (sh3 1 G N').size i)
    (p : Fin K) (l : Fin C) (hl : n0 + l.val < N) (hl' : n1 + l.val < N') :
    dqv nib hK (View.ld (Val := Elt Ideal) (e' := .i8) c (Rect.unit (s := sh3 1 K N) ![0, 0, n0] ![1, K, C] ic))
      (View.ld (Val := Elt Ideal) (e' := .bf16) s (Rect.unit (s := sh3 1 G N') ![0, 0, n1] ![1, G, C] is))
      (View.ld (Val := Elt Ideal) (e' := .bf16) z (Rect.unit (s := sh3 1 G N') ![0, 0, n1] ![1, G, C] iz)) p l l
      = dqv nib hK c s z p ⟨n0 + l.val, hl⟩ ⟨n1 + l.val, hl'⟩ := by
  unfold dqv
  rw [ld3 c ic _ _ (by decide) hl, ld3 s is _ _ (by decide) hl', ld3 z iz _ _ (by decide) hl']
  rfl

theorem silu_apply {C : ℕ} (g u : FVec Ideal (sh 96 C) .f32) (h : FTy.bits .bf16 < FTy.bits .f32) (j : (sh 96 C).Idx) :
    truncf .bf16 (mulf (mulf g (logistic g)) u) h j = (g j * Ideal.logistic (g j) * u j : EReal) := rfl

theorem hch_apply {C n0 : ℕ} (D : Df 16 2048 512 C) (hC : (sh 96 C).ShapeCasts (sh 96 C))
    (x1 : Vec Ideal S96x2048 .bf16) (x4 : Vec Ideal S1x2048x1408 .i8) (x5 x6 x7 x8 : Vec Ideal S1x16x1408 .bf16)
    (i1 : ∀ i : Fin 2, (![0, 0] : Fin 2 → ℕ) i + (![96, 2048] : Fin 2 → ℕ) i ≤ (sh 96 2048).size i)
    (i4 : ∀ i : Fin 3, (![0, 0, n0] : Fin 3 → ℕ) i + (![1, 2048, C] : Fin 3 → ℕ) i ≤ (sh3 1 2048 1408).size i)
    (i5 i6 i7 i8 : ∀ i : Fin 3, (![0, 0, n0] : Fin 3 → ℕ) i + (![1, 16, C] : Fin 3 → ℕ) i ≤ (sh3 1 16 1408).size i)
    (t : Fin 96) (l : Fin C) (hl : n0 + l.val < 1408) :
    hch (F := Ideal) D hC (View.ld (Val := Elt Ideal) (e' := .bf16) x1 (Rect.unit (s := S96x2048) ![0, 0] ![96, 2048] i1))
      (View.ld (Val := Elt Ideal) (e' := .i8) x4 (Rect.unit (s := S1x2048x1408) ![0, 0, n0] ![1, 2048, C] i4))
      (View.ld (Val := Elt Ideal) (e' := .bf16) x5 (Rect.unit (s := S1x16x1408) ![0, 0, n0] ![1, 16, C] i5))
      (View.ld (Val := Elt Ideal) (e' := .bf16) x6 (Rect.unit (s := S1x16x1408) ![0, 0, n0] ![1, 16, C] i6))
      (View.ld (Val := Elt Ideal) (e' := .bf16) x7 (Rect.unit (s := S1x16x1408) ![0, 0, n0] ![1, 16, C] i7))
      (View.ld (Val := Elt Ideal) (e' := .bf16) x8 (Rect.unit (s := S1x16x1408) ![0, 0, n0] ![1, 16, C] i8)) (ix2 t l)
      = hval x1 x4 x5 x6 x7 x8 t ⟨n0 + l.val, hl⟩ := by
  unfold hch hval
  rw [shapeCast_self, shapeCast_self, ldw2]
  rw [silu_apply, mm_apply, mm_apply]
  simp only [wlow_apply D rfl rfl, whigh_apply D rfl rfl]
  simp only [dqv_ld nibLo rfl x4 x5 x6 i4 i5 i6 _ _ hl hl, dqv_ld nibHi rfl x4 x7 x8 i4 i7 i8 _ _ hl hl]

theorem hPieces_apply (x1 : Vec Ideal S96x2048 .bf16) (x4 : Vec Ideal S1x2048x1408 .i8) (x5 x6 x7 x8 : Vec Ideal S1x16x1408 .bf16) (t : Fin 96) (f : Fin 1408) :
    View.canon (hPieces x1 x4 x5 x6 x7 x8) (ix2 t f) = hval x1 x4 x5 x6 x7 x8 t f := by
  refine View.canon_apply_of_pieces (Val := Elt Ideal) (e := .bf16) (fun y : S96x1408.Idx => hval x1 x4 x5 x6 x7 x8 (y 0) (y 1)) _ ?_ _ ?_
  · unfold hPieces
    refine List.forall_mem_cons.2 ⟨fun x => ?_, ?_⟩
    · obtain ⟨t, l, rfl⟩ : ∃ (t : Fin 96) (l : Fin 128), x = ix2 t l := ⟨x 0, x 1, eq_ix2 x⟩
      have hl := l.isLt
      rw [emb2 _ t l (by omega)]
      exact hch_apply _ _ x1 x4 x5 x6 x7 x8 _ _ _ _ _ _ t l (by omega)
    refine List.forall_mem_cons.2 ⟨fun x => ?_, ?_⟩
    · obtain ⟨t, l, rfl⟩ : ∃ (t : Fin 96) (l : Fin 256), x = ix2 t l := ⟨x 0, x 1, eq_ix2 x⟩
      have hl := l.isLt
      rw [emb2 _ t l (by omega)]
      exact hch_apply _ _ x1 x4 x5 x6 x7 x8 _ _ _ _ _ _ t l (by omega)
    refine List.forall_mem_cons.2 ⟨fun x => ?_, ?_⟩
    · obtain ⟨t, l, rfl⟩ : ∃ (t : Fin 96) (l : Fin 256), x = ix2 t l := ⟨x 0, x 1, eq_ix2 x⟩
      have hl := l.isLt
      rw [emb2 _ t l (by omega)]
      exact hch_apply _ _ x1 x4 x5 x6 x7 x8 _ _ _ _ _ _ t l (by omega)
    refine List.forall_mem_cons.2 ⟨fun x => ?_, ?_⟩
    · obtain ⟨t, l, rfl⟩ : ∃ (t : Fin 96) (l : Fin 256), x = ix2 t l := ⟨x 0, x 1, eq_ix2 x⟩
      have hl := l.isLt
      rw [emb2 _ t l (by omega)]
      exact hch_apply _ _ x1 x4 x5 x6 x7 x8 _ _ _ _ _ _ t l (by omega)
    refine List.forall_mem_cons.2 ⟨fun x => ?_, ?_⟩
    · obtain ⟨t, l, rfl⟩ : ∃ (t : Fin 96) (l : Fin 256), x = ix2 t l := ⟨x 0, x 1, eq_ix2 x⟩
      have hl := l.isLt
      rw [emb2 _ t l (by omega)]
      exact hch_apply _ _ x1 x4 x5 x6 x7 x8 _ _ _ _ _ _ t l (by omega)
    refine List.forall_mem_cons.2 ⟨fun x => ?_, ?_⟩
    · obtain ⟨t, l, rfl⟩ : ∃ (t : Fin 96) (l : Fin 256), x = ix2 t l := ⟨x 0, x 1, eq_ix2 x⟩
      have hl := l.isLt
      rw [emb2 _ t l (by omega)]
      exact hch_apply _ _ x1 x4 x5 x6 x7 x8 _ _ _ _ _ _ t l (by omega)
    · intro p hp; exact absurd hp List.not_mem_nil
  · have hf := f.isLt
    have ht := t.isLt
    unfold hPieces
    rcases (by omega : 1280 ≤ f.val ∨ (1024 ≤ f.val ∧ f.val < 1280) ∨ (768 ≤ f.val ∧ f.val < 1024) ∨ (512 ≤ f.val ∧ f.val < 768) ∨ (256 ≤ f.val ∧ f.val < 512) ∨ f.val < 256) with h | h | h | h | h | h
    · refine ⟨_, .head _, ?_⟩
      refine (Rect.mem_set_unit (s := S96x1408) (off := ![0, 1280]) (size := ![96, 128]) (inb := inb_S96x1408_S96x128_0_1280)).2 fun a => ?_
      match a with
      | ⟨0, _⟩ => show 0 ≤ t.val ∧ t.val < 0 + 96; omega
      | ⟨1, _⟩ => show 1280 ≤ f.val ∧ f.val < 1280 + 128; omega
    · refine ⟨_, .tail _ (.head _), ?_⟩
      refine (Rect.mem_set_unit (s := S96x1408) (off := ![0, 1024]) (size := ![96, 256]) (inb := inb_S96x1408_S96x256_0_1024)).2 fun a => ?_
      match a with
      | ⟨0, _⟩ => show 0 ≤ t.val ∧ t.val < 0 + 96; omega
      | ⟨1, _⟩ => show 1024 ≤ f.val ∧ f.val < 1024 + 256; omega
    · refine ⟨_, .tail _ (.tail _ (.head _)), ?_⟩
      refine (Rect.mem_set_unit (s := S96x1408) (off := ![0, 768]) (size := ![96, 256]) (inb := inb_S96x1408_S96x256_0_768)).2 fun a => ?_
      match a with
      | ⟨0, _⟩ => show 0 ≤ t.val ∧ t.val < 0 + 96; omega
      | ⟨1, _⟩ => show 768 ≤ f.val ∧ f.val < 768 + 256; omega
    · refine ⟨_, .tail _ (.tail _ (.tail _ (.head _))), ?_⟩
      refine (Rect.mem_set_unit (s := S96x1408) (off := ![0, 512]) (size := ![96, 256]) (inb := inb_S96x1408_S96x256_0_512)).2 fun a => ?_
      match a with
      | ⟨0, _⟩ => show 0 ≤ t.val ∧ t.val < 0 + 96; omega
      | ⟨1, _⟩ => show 512 ≤ f.val ∧ f.val < 512 + 256; omega
    · refine ⟨_, .tail _ (.tail _ (.tail _ (.tail _ (.head _)))), ?_⟩
      refine (Rect.mem_set_unit (s := S96x1408) (off := ![0, 256]) (size := ![96, 256]) (inb := inb_S96x1408_S96x256_0_256)).2 fun a => ?_
      match a with
      | ⟨0, _⟩ => show 0 ≤ t.val ∧ t.val < 0 + 96; omega
      | ⟨1, _⟩ => show 256 ≤ f.val ∧ f.val < 256 + 256; omega
    · refine ⟨_, .tail _ (.tail _ (.tail _ (.tail _ (.tail _ (.head _))))), ?_⟩
      refine (Rect.mem_set_unit (s := S96x1408) (off := ![0, 0]) (size := ![96, 256]) (inb := inb_S96x1408_S96x256_0_0)).2 fun a => ?_
      match a with
      | ⟨0, _⟩ => show 0 ≤ t.val ∧ t.val < 0 + 96; omega
      | ⟨1, _⟩ => show 0 ≤ f.val ∧ f.val < 0 + 256; omega

end Cert.KernelIdeal.Hand

end
-- ==== Proof.SemOut.lean ====
/- The two accumulated results at an index, over the extended reals. -/
module

public import proofs.«01_k».proof.Proof.Sem
public import Idealize.ShloMosaic.Lib.Pipeline.ValueKit.Tiles

@[expose] public section

set_option maxRecDepth 16384

noncomputable section

namespace Cert.KernelIdeal.Hand

open Cert.KernelIdeal Cert.KernelIdeal.Gen
open Idealize.ShloMosaic hiding ix2 ix3 eq_ix2 eq_ix3
open Idealize.ShloMosaic.ValueIdx

/-- A down-projection weight: the low halves of the codes hold the first 1024 columns, the high halves the last. -/
def wd (x9 : Vec Ideal S1x1408x1024 .i8) (x10 x11 : Vec Ideal S1x11x2048 .bf16) (f : Fin 1408) (d : Fin 2048) : EReal :=
  if h : d.val < 1024 then dqv nibLo (K := 1408) (G := 11) rfl x9 x10 x11 f (⟨d.val, h⟩ : Fin 1024) d
  else dqv nibHi (K := 1408) (G := 11) rfl x9 x10 x11 f (⟨d.val - 1024, by have := d.isLt; omega⟩ : Fin 1024) d

/-- One slot's output at token `t` and column `d`. -/
def yval (H : FVec Ideal (sh 96 1408) .bf16) (x9 : Vec Ideal S1x1408x1024 .i8) (x10 x11 : Vec Ideal S1x11x2048 .bf16) (t : Fin 96) (d : Fin 2048) : EReal :=
  ∑ f : Fin 1408, H (ix2 t f) * wd x9 x10 x11 f d

/-- One slot's weight for token `t`. -/
def wselv (a : BitVec 32) (slot : IVec (sh 96 6) 32) (w : FVec Ideal (sh 96 6) .f32) (t : Fin 96) : EReal :=
  ∑ k : Fin 6, if slot (ix2 t k) = a then w (ix2 t k) else 0

theorem mm_lo {n0 : ℕ} (H : FVec Ideal (sh 96 1408) .bf16) (x9 : Vec Ideal S1x1408x1024 .i8) (x10 x11 : Vec Ideal S1x11x2048 .bf16)
    (i9 : ∀ i : Fin 3, (![0, 0, n0] : Fin 3 → ℕ) i + (![1, 1408, 256] : Fin 3 → ℕ) i ≤ (sh3 1 1408 1024).size i)
    (i10 i11 : ∀ i : Fin 3, (![0, 0, n0] : Fin 3 → ℕ) i + (![1, 11, 256] : Fin 3 → ℕ) i ≤ (sh3 1 11 2048).size i)
    (t : Fin 96) (l : Fin 256) (hn : n0 + l.val < 1024) :
    mm H (wlow dfd (View.ld (Val := Elt Ideal) (e' := .i8) x9 (Rect.unit (s := S1x1408x1024) ![0, 0, n0] ![1, 1408, 256] i9))
      (View.ld (Val := Elt Ideal) (e' := .bf16) x10 (Rect.unit (s := S1x11x2048) ![0, 0, n0] ![1, 11, 256] i10))
      (View.ld (Val := Elt Ideal) (e' := .bf16) x11 (Rect.unit (s := S1x11x2048) ![0, 0, n0] ![1, 11, 256] i11))) (ix2 t l)
      = yval H x9 x10 x11 t ⟨n0 + l.val, by omega⟩ := by
  unfold yval
  rw [mm_apply]
  refine Finset.sum_congr rfl fun f _ => congrArg (H (ix2 t f) * ·) ?_
  rw [wlow_apply dfd rfl rfl, dqv_ld nibLo rfl x9 x10 x11 i9 i10 i11 _ _ hn (by omega)]
  unfold wd
  rw [dif_pos hn]

theorem mm_hi {n0 n1 : ℕ} (H : FVec Ideal (sh 96 1408) .bf16) (x9 : Vec Ideal S1x1408x1024 .i8) (x10 x11 : Vec Ideal S1x11x2048 .bf16)
    (i9 : ∀ i : Fin 3, (![0, 0, n0] : Fin 3 → ℕ) i + (![1, 1408, 256] : Fin 3 → ℕ) i ≤ (sh3 1 1408 1024).size i)
    (i10 i11 : ∀ i : Fin 3, (![0, 0, n1] : Fin 3 → ℕ) i + (![1, 11, 256] : Fin 3 → ℕ) i ≤ (sh3 1 11 2048).size i)
    (t : Fin 96) (l : Fin 256) (hn : n0 + l.val < 1024) (h1 : n1 = 1024 + n0) :
    mm H (whigh dfd (View.ld (Val := Elt Ideal) (e' := .i8) x9 (Rect.unit (s := S1x1408x1024) ![0, 0, n0] ![1, 1408, 256] i9))
      (View.ld (Val := Elt Ideal) (e' := .bf16) x10 (Rect.unit (s := S1x11x2048) ![0, 0, n1] ![1, 11, 256] i10))
      (View.ld (Val := Elt Ideal) (e' := .bf16) x11 (Rect.unit (s := S1x11x2048) ![0, 0, n1] ![1, 11, 256] i11))) (ix2 t l)
      = yval H x9 x10 x11 t ⟨n1 + l.val, by omega⟩ := by
  unfold yval
  rw [mm_apply]
  refine Finset.sum_congr rfl fun f _ => congrArg (H (ix2 t f) * ·) ?_
  rw [whigh_apply dfd rfl rfl, dqv_ld nibHi rfl x9 x10 x11 i9 i10 i11 _ _ hn (by omega)]
  unfold wd
  have e : (⟨n1 + l.val - 1024, by omega⟩ : Fin 1024) = ⟨n0 + l.val, hn⟩ := Fin.ext (by subst h1; show 1024 + n0 + l.val - 1024 = n0 + l.val; omega)
  rw [dif_neg (by subst h1; show ¬ 1024 + n0 + l.val < 1024; omega)]
  exact congrArg (fun q : Fin 1024 => dqv nibHi (K := 1408) (G := 11) rfl x9 x10 x11 f q ⟨n1 + l.val, by omega⟩) e.symm

theorem bcol {α : Type} (x : (sh 96 1).Idx → α) (h : (sh 96 1).Broadcasts (sh 96 256)) (t : Fin 96) (l : Fin 256) :
    broadcastTo (sh 96 256) x h (ix2 t l) = x (ix2 t 0) := by
  unfold broadcastTo
  refine congrArg x (funext fun d => ?_)
  match d with
  | ⟨0, _⟩ => rfl
  | ⟨1, _⟩ => rfl

theorem excol {α : Type} (x : (sh 96 6).Idx → α) {k : ℕ} (hk : k < 6) (h : (sh 96 6).Slices ![0, k] (sh 96 1)) (t : Fin 96) :
    extractStridedSlice (sh 96 1) ![0, k] x h (ix2 t 0) = x (ix2 t ⟨k, hk⟩) := by
  unfold extractStridedSlice
  refine congrArg x (funext fun d => ?_)
  match d with
  | ⟨0, _⟩ => exact Fin.ext (Nat.zero_add _)
  | ⟨1, _⟩ => rfl

theorem sel_eq {α : Type} (x y : BitVec 32) (u v : α) : Scalar.select (IntOp.cmpi .eq x y) u v = if x = y then u else v := by
  unfold Scalar.select IntOp.cmpi
  by_cases h : x = y
  · subst h; simp
  · have hb : (x == y) = false := by simpa using h
    rw [if_neg h]; show (if BitVec.ofBool (x == y) = 1#1 then u else v) = v
    rw [hb]; exact if_neg (by decide)

theorem wterm_apply (a : BitVec 32) (slot : IVec (sh 96 6) 32) (w : FVec Ideal (sh 96 6) .f32) {k : ℕ} (hk : k < 6) (h : (sh 96 6).Slices ![0, k] (sh 96 1)) (t : Fin 96) :
    wterm a slot w k h (ix2 t 0) = if slot (ix2 t ⟨k, hk⟩) = a then w (ix2 t ⟨k, hk⟩) else 0 := by
  unfold wterm hit
  rw [select_apply]
  show Scalar.select (IntOp.cmpi .eq (extractStridedSlice (sh 96 1) ![0, k] slot h (ix2 t 0)) a) _ (Ideal.ofBits .f32 0x00000000#32) = _
  rw [excol slot hk, excol w hk, sel_eq, Ideal.ofBits_zero_f32]

theorem wsel_apply (a : BitVec 32) (slot : IVec (sh 96 6) 32) (w : FVec Ideal (sh 96 6) .f32) (t : Fin 96) :
    wsel a slot w (ix2 t 0) = wselv a slot w t := by
  unfold wsel wselv
  simp only [addf_apply]
  rw [wterm_apply a slot w (by decide), wterm_apply a slot w (by decide), wterm_apply a slot w (by decide), wterm_apply a slot w (by decide), wterm_apply a slot w (by decide), wterm_apply a slot w (by decide)]
  show ((((((Ideal.ofBits .f32 0x00000000#32 + _) + _) + _) + _) + _) + _ : EReal) = _
  rw [Ideal.ofBits_zero_f32, zero_add, Fin.sum_univ_six]
  rfl

theorem accp_apply (yy : FVec Ideal (sh 96 256) .f32) (ws : FVec Ideal (sh 96 1) .f32) (prev : FVec Ideal (sh 96 256) .f32) (t : Fin 96) (l : Fin 256) :
    accp yy ws prev (ix2 t l) = prev (ix2 t l) + yy (ix2 t l) * ws (ix2 t 0) := by
  unfold accp
  rw [shapeCast_self, addf_apply, mulf_apply, bcol]

theorem outp_apply (a : BitVec 32) (slot : IVec (sh 96 6) 32) {k : ℕ} (hk : k < 6) (h : (sh 96 6).Slices ![0, k] (sh 96 1)) (yy : FVec Ideal (sh 96 256) .f32) (prev : FVec Ideal (sh3 1 96 256) .f32) (t : Fin 96) (l : Fin 256) :
    outp (hit a slot k h) yy prev (ix3 0 t l) = if slot (ix2 t ⟨k, hk⟩) = a then yy (ix2 t l) else prev (ix3 0 t l) := by
  unfold outp hit
  rw [cast3', select_apply, bcol, shapeCast_self, cast3]
  show Scalar.select (IntOp.cmpi .eq (extractStridedSlice (sh 96 1) ![0, k] slot h (ix2 t 0)) a) _ _ = _
  rw [excol slot hk, sel_eq]

theorem accPieces_apply (a : BitVec 32) (H : FVec Ideal (sh 96 1408) .bf16) (x9 : Vec Ideal S1x1408x1024 .i8) (x10 x11 : Vec Ideal S1x11x2048 .bf16)
    (xs0 : Vec Ideal S96x6 .i32) (xs1 : Vec Ideal S96x6 .f32) (xs3 : Vec Ideal S96x2048 .f32) (t : Fin 96) (d : Fin 2048) :
    View.canon (accPieces a H x9 x10 x11 xs0 xs1 xs3) (ix2 t d) = (xs3 (ix2 t d) + yval H x9 x10 x11 t d * wselv a xs0 xs1 t : EReal) := by
  refine View.canon_apply_of_pieces (Val := Elt Ideal) (e := .f32) (fun y : S96x2048.Idx => (xs3 (ix2 (y 0) (y 1)) + yval H x9 x10 x11 (y 0) (y 1) * wselv a xs0 xs1 (y 0) : EReal)) _ ?_ _ ?_
  · unfold accPieces
    refine List.forall_mem_cons.2 ⟨fun x => ?_, ?_⟩
    · obtain ⟨t, l, rfl⟩ : ∃ (t : Fin 96) (l : Fin 256), x = ix2 t l := ⟨x 0, x 1, eq_ix2 x⟩
      have hl := l.isLt
      rw [emb2 _ t l (by omega)]
      refine (accp_apply _ _ _ t l).trans ?_
      rw [ldw2 xs0, ldw2 xs1, wsel_apply]
      exact congrArg₂ (fun u v : EReal => u + v * wselv a xs0 xs1 t) (ld2 xs3 _ t l (by omega)) (mm_hi H x9 x10 x11 _ _ _ t l (by omega) rfl)
    refine List.forall_mem_cons.2 ⟨fun x => ?_, ?_⟩
    · obtain ⟨t, l, rfl⟩ : ∃ (t : Fin 96) (l : Fin 256), x = ix2 t l := ⟨x 0, x 1, eq_ix2 x⟩
      have hl := l.isLt
      rw [emb2 _ t l (by omega)]
      refine (accp_apply _ _ _ t l).trans ?_
      rw [ldw2 xs0, ldw2 xs1, wsel_apply]
      exact congrArg₂ (fun u v : EReal => u + v * wselv a xs0 xs1 t) (ld2 xs3 _ t l (by omega)) (mm_lo H x9 x10 x11 _ _ _ t l (by omega))
    refine List.forall_mem_cons.2 ⟨fun x => ?_, ?_⟩
    · obtain ⟨t, l, rfl⟩ : ∃ (t : Fin 96) (l : Fin 256), x = ix2 t l := ⟨x 0, x 1, eq_ix2 x⟩
      have hl := l.isLt
      rw [emb2 _ t l (by omega)]
      refine (accp_apply _ _ _ t l).trans ?_
      rw [ldw2 xs0, ldw2 xs1, wsel_apply]
      exact congrArg₂ (fun u v : EReal => u + v * wselv a xs0 xs1 t) (ld2 xs3 _ t l (by omega)) (mm_hi H x9 x10 x11 _ _ _ t l (by omega) rfl)
    refine List.forall_mem_cons.2 ⟨fun x => ?_, ?_⟩
    · obtain ⟨t, l, rfl⟩ : ∃ (t : Fin 96) (l : Fin 256), x = ix2 t l := ⟨x 0, x 1, eq_ix2 x⟩
      have hl := l.isLt
      rw [emb2 _ t l (by omega)]
      refine (accp_apply _ _ _ t l).trans ?_
      rw [ldw2 xs0, ldw2 xs1, wsel_apply]
      exact congrArg₂ (fun u v : EReal => u + v * wselv a xs0 xs1 t) (ld2 xs3 _ t l (by omega)) (mm_lo H x9 x10 x11 _ _ _ t l (by omega))
    refine List.forall_mem_cons.2 ⟨fun x => ?_, ?_⟩
    · obtain ⟨t, l, rfl⟩ : ∃ (t : Fin 96) (l : Fin 256), x = ix2 t l := ⟨x 0, x 1, eq_ix2 x⟩
      have hl := l.isLt
      rw [emb2 _ t l (by omega)]
      refine (accp_apply _ _ _ t l).trans ?_
      rw [ldw2 xs0, ldw2 xs1, wsel_apply]
      exact congrArg₂ (fun u v : EReal => u + v * wselv a xs0 xs1 t) (ld2 xs3 _ t l (by omega)) (mm_hi H x9 x10 x11 _ _ _ t l (by omega) rfl)
    refine List.forall_mem_cons.2 ⟨fun x => ?_, ?_⟩
    · obtain ⟨t, l, rfl⟩ : ∃ (t : Fin 96) (l : Fin 256), x = ix2 t l := ⟨x 0, x 1, eq_ix2 x⟩
      have hl := l.isLt
      rw [emb2 _ t l (by omega)]
      refine (accp_apply _ _ _ t l).trans ?_
      rw [ldw2 xs0, ldw2 xs1, wsel_apply]
      exact congrArg₂ (fun u v : EReal => u + v * wselv a xs0 xs1 t) (ld2 xs3 _ t l (by omega)) (mm_lo H x9 x10 x11 _ _ _ t l (by omega))
    refine List.forall_mem_cons.2 ⟨fun x => ?_, ?_⟩
    · obtain ⟨t, l, rfl⟩ : ∃ (t : Fin 96) (l : Fin 256), x = ix2 t l := ⟨x 0, x 1, eq_ix2 x⟩
      have hl := l.isLt
      rw [emb2 _ t l (by omega)]
      refine (accp_apply _ _ _ t l).trans ?_
      rw [ldw2 xs0, ldw2 xs1, wsel_apply]
      exact congrArg₂ (fun u v : EReal => u + v * wselv a xs0 xs1 t) (ld2 xs3 _ t l (by omega)) (mm_hi H x9 x10 x11 _ _ _ t l (by omega) rfl)
    refine List.forall_mem_cons.2 ⟨fun x => ?_, ?_⟩
    · obtain ⟨t, l, rfl⟩ : ∃ (t : Fin 96) (l : Fin 256), x = ix2 t l := ⟨x 0, x 1, eq_ix2 x⟩
      have hl := l.isLt
      rw [emb2 _ t l (by omega)]
      refine (accp_apply _ _ _ t l).trans ?_
      rw [ldw2 xs0, ldw2 xs1, wsel_apply]
      exact congrArg₂ (fun u v : EReal => u + v * wselv a xs0 xs1 t) (ld2 xs3 _ t l (by omega)) (mm_lo H x9 x10 x11 _ _ _ t l (by omega))
    · intro p hp; exact absurd hp List.not_mem_nil
  · exact View.cover_of_tiled_head _ _ _ (by rfl) _

theorem outPieces_apply (a : BitVec 32) (H : FVec Ideal (sh 96 1408) .bf16) (x9 : Vec Ideal S1x1408x1024 .i8) (x10 x11 : Vec Ideal S1x11x2048 .bf16)
    (xs0 : Vec Ideal S96x6 .i32) (x14 : Vec Ideal S6x96x2048 .f32) (k : Fin 6) (t : Fin 96) (d : Fin 2048) :
    View.canon (outPieces a H x9 x10 x11 xs0 x14) (ix3 k t d) = (if xs0 (ix2 t k) = a then yval H x9 x10 x11 t d else x14 (ix3 k t d) : EReal) := by
  refine View.canon_apply_of_pieces (Val := Elt Ideal) (e := .f32) (fun y : S6x96x2048.Idx => (if xs0 (ix2 (y 1) (y 0)) = a then yval H x9 x10 x11 (y 1) (y 2) else x14 (ix3 (y 0) (y 1) (y 2)) : EReal)) _ ?_ _ ?_
  · unfold outPieces
    refine List.forall_mem_cons.2 ⟨fun x => ?_, ?_⟩
    · obtain ⟨t, l, rfl⟩ : ∃ (t : Fin 96) (l : Fin 256), x = ix3 0 t l := ⟨x 1, x 2, (eq_ix3 x).trans (congrArg (fun q => ix3 q (x 1) (x 2)) (Subsingleton.elim (α := Fin 1) _ _))⟩
      have hl := l.isLt
      rw [emb3 _ t l (by decide) (by omega)]
      refine (outp_apply a _ (by decide) _ _ _ t l).trans ?_
      rw [ldw2 xs0]
      exact congrArg₂ (fun u v : EReal => if xs0 (ix2 t (5 : Fin 6)) = a then u else v) (mm_hi H x9 x10 x11 _ _ _ t l (by omega) rfl) (ld3 x14 _ t l (by decide) (by omega))
    refine List.forall_mem_cons.2 ⟨fun x => ?_, ?_⟩
    · obtain ⟨t, l, rfl⟩ : ∃ (t : Fin 96) (l : Fin 256), x = ix3 0 t l := ⟨x 1, x 2, (eq_ix3 x).trans (congrArg (fun q => ix3 q (x 1) (x 2)) (Subsingleton.elim (α := Fin 1) _ _))⟩
      have hl := l.isLt
      rw [emb3 _ t l (by decide) (by omega)]
      refine (outp_apply a _ (by decide) _ _ _ t l).trans ?_
      rw [ldw2 xs0]
      exact congrArg₂ (fun u v : EReal => if xs0 (ix2 t (4 : Fin 6)) = a then u else v) (mm_hi H x9 x10 x11 _ _ _ t l (by omega) rfl) (ld3 x14 _ t l (by decide) (by omega))
    refine List.forall_mem_cons.2 ⟨fun x => ?_, ?_⟩
    · obtain ⟨t, l, rfl⟩ : ∃ (t : Fin 96) (l : Fin 256), x = ix3 0 t l := ⟨x 1, x 2, (eq_ix3 x).trans (congrArg (fun q => ix3 q (x 1) (x 2)) (Subsingleton.elim (α := Fin 1) _ _))⟩
      have hl := l.isLt
      rw [emb3 _ t l (by decide) (by omega)]
      refine (outp_apply a _ (by decide) _ _ _ t l).trans ?_
      rw [ldw2 xs0]
      exact congrArg₂ (fun u v : EReal => if xs0 (ix2 t (3 : Fin 6)) = a then u else v) (mm_hi H x9 x10 x11 _ _ _ t l (by omega) rfl) (ld3 x14 _ t l (by decide) (by omega))
    refine List.forall_mem_cons.2 ⟨fun x => ?_, ?_⟩
    · obtain ⟨t, l, rfl⟩ : ∃ (t : Fin 96) (l : Fin 256), x = ix3 0 t l := ⟨x 1, x 2, (eq_ix3 x).trans (congrArg (fun q => ix3 q (x 1) (x 2)) (Subsingleton.elim (α := Fin 1) _ _))⟩
      have hl := l.isLt
      rw [emb3 _ t l (by decide) (by omega)]
      refine (outp_apply a _ (by decide) _ _ _ t l).trans ?_
      rw [ldw2 xs0]
      exact congrArg₂ (fun u v : EReal => if xs0 (ix2 t (2 : Fin 6)) = a then u else v) (mm_hi H x9 x10 x11 _ _ _ t l (by omega) rfl) (ld3 x14 _ t l (by decide) (by omega))
    refine List.forall_mem_cons.2 ⟨fun x => ?_, ?_⟩
    · obtain ⟨t, l, rfl⟩ : ∃ (t : Fin 96) (l : Fin 256), x = ix3 0 t l := ⟨x 1, x 2, (eq_ix3 x).trans (congrArg (fun q => ix3 q (x 1) (x 2)) (Subsingleton.elim (α := Fin 1) _ _))⟩
      have hl := l.isLt
      rw [emb3 _ t l (by decide) (by omega)]
      refine (outp_apply a _ (by decide) _ _ _ t l).trans ?_
      rw [ldw2 xs0]
      exact congrArg₂ (fun u v : EReal => if xs0 (ix2 t (1 : Fin 6)) = a then u else v) (mm_hi H x9 x10 x11 _ _ _ t l (by omega) rfl) (ld3 x14 _ t l (by decide) (by omega))
    refine List.forall_mem_cons.2 ⟨fun x => ?_, ?_⟩
    · obtain ⟨t, l, rfl⟩ : ∃ (t : Fin 96) (l : Fin 256), x = ix3 0 t l := ⟨x 1, x 2, (eq_ix3 x).trans (congrArg (fun q => ix3 q (x 1) (x 2)) (Subsingleton.elim (α := Fin 1) _ _))⟩
      have hl := l.isLt
      rw [emb3 _ t l (by decide) (by omega)]
      refine (outp_apply a _ (by decide) _ _ _ t l).trans ?_
      rw [ldw2 xs0]
      exact congrArg₂ (fun u v : EReal => if xs0 (ix2 t (0 : Fin 6)) = a then u else v) (mm_hi H x9 x10 x11 _ _ _ t l (by omega) rfl) (ld3 x14 _ t l (by decide) (by omega))
    refine List.forall_mem_cons.2 ⟨fun x => ?_, ?_⟩
    · obtain ⟨t, l, rfl⟩ : ∃ (t : Fin 96) (l : Fin 256), x = ix3 0 t l := ⟨x 1, x 2, (eq_ix3 x).trans (congrArg (fun q => ix3 q (x 1) (x 2)) (Subsingleton.elim (α := Fin 1) _ _))⟩
      have hl := l.isLt
      rw [emb3 _ t l (by decide) (by omega)]
      refine (outp_apply a _ (by decide) _ _ _ t l).trans ?_
      rw [ldw2 xs0]
      exact congrArg₂ (fun u v : EReal => if xs0 (ix2 t (5 : Fin 6)) = a then u else v) (mm_lo H x9 x10 x11 _ _ _ t l (by omega)) (ld3 x14 _ t l (by decide) (by omega))
    refine List.forall_mem_cons.2 ⟨fun x => ?_, ?_⟩
    · obtain ⟨t, l, rfl⟩ : ∃ (t : Fin 96) (l : Fin 256), x = ix3 0 t l := ⟨x 1, x 2, (eq_ix3 x).trans (congrArg (fun q => ix3 q (x 1) (x 2)) (Subsingleton.elim (α := Fin 1) _ _))⟩
      have hl := l.isLt
      rw [emb3 _ t l (by decide) (by omega)]
      refine (outp_apply a _ (by decide) _ _ _ t l).trans ?_
      rw [ldw2 xs0]
      exact congrArg₂ (fun u v : EReal => if xs0 (ix2 t (4 : Fin 6)) = a then u else v) (mm_lo H x9 x10 x11 _ _ _ t l (by omega)) (ld3 x14 _ t l (by decide) (by omega))
    refine List.forall_mem_cons.2 ⟨fun x => ?_, ?_⟩
    · obtain ⟨t, l, rfl⟩ : ∃ (t : Fin 96) (l : Fin 256), x = ix3 0 t l := ⟨x 1, x 2, (eq_ix3 x).trans (congrArg (fun q => ix3 q (x 1) (x 2)) (Subsingleton.elim (α := Fin 1) _ _))⟩
      have hl := l.isLt
      rw [emb3 _ t l (by decide) (by omega)]
      refine (outp_apply a _ (by decide) _ _ _ t l).trans ?_
      rw [ldw2 xs0]
      exact congrArg₂ (fun u v : EReal => if xs0 (ix2 t (3 : Fin 6)) = a then u else v) (mm_lo H x9 x10 x11 _ _ _ t l (by omega)) (ld3 x14 _ t l (by decide) (by omega))
    refine List.forall_mem_cons.2 ⟨fun x => ?_, ?_⟩
    · obtain ⟨t, l, rfl⟩ : ∃ (t : Fin 96) (l : Fin 256), x = ix3 0 t l := ⟨x 1, x 2, (eq_ix3 x).trans (congrArg (fun q => ix3 q (x 1) (x 2)) (Subsingleton.elim (α := Fin 1) _ _))⟩
      have hl := l.isLt
      rw [emb3 _ t l (by decide) (by omega)]
      refine (outp_apply a _ (by decide) _ _ _ t l).trans ?_
      rw [ldw2 xs0]
      exact congrArg₂ (fun u v : EReal => if xs0 (ix2 t (2 : Fin 6)) = a then u else v) (mm_lo H x9 x10 x11 _ _ _ t l (by omega)) (ld3 x14 _ t l (by decide) (by omega))
    refine List.forall_mem_cons.2 ⟨fun x => ?_, ?_⟩
    · obtain ⟨t, l, rfl⟩ : ∃ (t : Fin 96) (l : Fin 256), x = ix3 0 t l := ⟨x 1, x 2, (eq_ix3 x).trans (congrArg (fun q => ix3 q (x 1) (x 2)) (Subsingleton.elim (α := Fin 1) _ _))⟩
      have hl := l.isLt
      rw [emb3 _ t l (by decide) (by omega)]
      refine (outp_apply a _ (by decide) _ _ _ t l).trans ?_
      rw [ldw2 xs0]
      exact congrArg₂ (fun u v : EReal => if xs0 (ix2 t (1 : Fin 6)) = a then u else v) (mm_lo H x9 x10 x11 _ _ _ t l (by omega)) (ld3 x14 _ t l (by decide) (by omega))
    refine List.forall_mem_cons.2 ⟨fun x => ?_, ?_⟩
    · obtain ⟨t, l, rfl⟩ : ∃ (t : Fin 96) (l : Fin 256), x = ix3 0 t l := ⟨x 1, x 2, (eq_ix3 x).trans (congrArg (fun q => ix3 q (x 1) (x 2)) (Subsingleton.elim (α := Fin 1) _ _))⟩
      have hl := l.isLt
      rw [emb3 _ t l (by decide) (by omega)]
      refine (outp_apply a _ (by decide) _ _ _ t l).trans ?_
      rw [ldw2 xs0]
      exact congrArg₂ (fun u v : EReal => if xs0 (ix2 t (0 : Fin 6)) = a then u else v) (mm_lo H x9 x10 x11 _ _ _ t l (by omega)) (ld3 x14 _ t l (by decide) (by omega))
    refine List.forall_mem_cons.2 ⟨fun x => ?_, ?_⟩
    · obtain ⟨t, l, rfl⟩ : ∃ (t : Fin 96) (l : Fin 256), x = ix3 0 t l := ⟨x 1, x 2, (eq_ix3 x).trans (congrArg (fun q => ix3 q (x 1) (x 2)) (Subsingleton.elim (α := Fin 1) _ _))⟩
      have hl := l.isLt
      rw [emb3 _ t l (by decide) (by omega)]
      refine (outp_apply a _ (by decide) _ _ _ t l).trans ?_
      rw [ldw2 xs0]
      exact congrArg₂ (fun u v : EReal => if xs0 (ix2 t (5 : Fin 6)) = a then u else v) (mm_hi H x9 x10 x11 _ _ _ t l (by omega) rfl) (ld3 x14 _ t l (by decide) (by omega))
    refine List.forall_mem_cons.2 ⟨fun x => ?_, ?_⟩
    · obtain ⟨t, l, rfl⟩ : ∃ (t : Fin 96) (l : Fin 256), x = ix3 0 t l := ⟨x 1, x 2, (eq_ix3 x).trans (congrArg (fun q => ix3 q (x 1) (x 2)) (Subsingleton.elim (α := Fin 1) _ _))⟩
      have hl := l.isLt
      rw [emb3 _ t l (by decide) (by omega)]
      refine (outp_apply a _ (by decide) _ _ _ t l).trans ?_
      rw [ldw2 xs0]
      exact congrArg₂ (fun u v : EReal => if xs0 (ix2 t (4 : Fin 6)) = a then u else v) (mm_hi H x9 x10 x11 _ _ _ t l (by omega) rfl) (ld3 x14 _ t l (by decide) (by omega))
    refine List.forall_mem_cons.2 ⟨fun x => ?_, ?_⟩
    · obtain ⟨t, l, rfl⟩ : ∃ (t : Fin 96) (l : Fin 256), x = ix3 0 t l := ⟨x 1, x 2, (eq_ix3 x).trans (congrArg (fun q => ix3 q (x 1) (x 2)) (Subsingleton.elim (α := Fin 1) _ _))⟩
      have hl := l.isLt
      rw [emb3 _ t l (by decide) (by omega)]
      refine (outp_apply a _ (by decide) _ _ _ t l).trans ?_
      rw [ldw2 xs0]
      exact congrArg₂ (fun u v : EReal => if xs0 (ix2 t (3 : Fin 6)) = a then u else v) (mm_hi H x9 x10 x11 _ _ _ t l (by omega) rfl) (ld3 x14 _ t l (by decide) (by omega))
    refine List.forall_mem_cons.2 ⟨fun x => ?_, ?_⟩
    · obtain ⟨t, l, rfl⟩ : ∃ (t : Fin 96) (l : Fin 256), x = ix3 0 t l := ⟨x 1, x 2, (eq_ix3 x).trans (congrArg (fun q => ix3 q (x 1) (x 2)) (Subsingleton.elim (α := Fin 1) _ _))⟩
      have hl := l.isLt
      rw [emb3 _ t l (by decide) (by omega)]
      refine (outp_apply a _ (by decide) _ _ _ t l).trans ?_
      rw [ldw2 xs0]
      exact congrArg₂ (fun u v : EReal => if xs0 (ix2 t (2 : Fin 6)) = a then u else v) (mm_hi H x9 x10 x11 _ _ _ t l (by omega) rfl) (ld3 x14 _ t l (by decide) (by omega))
    refine List.forall_mem_cons.2 ⟨fun x => ?_, ?_⟩
    · obtain ⟨t, l, rfl⟩ : ∃ (t : Fin 96) (l : Fin 256), x = ix3 0 t l := ⟨x 1, x 2, (eq_ix3 x).trans (congrArg (fun q => ix3 q (x 1) (x 2)) (Subsingleton.elim (α := Fin 1) _ _))⟩
      have hl := l.isLt
      rw [emb3 _ t l (by decide) (by omega)]
      refine (outp_apply a _ (by decide) _ _ _ t l).trans ?_
      rw [ldw2 xs0]
      exact congrArg₂ (fun u v : EReal => if xs0 (ix2 t (1 : Fin 6)) = a then u else v) (mm_hi H x9 x10 x11 _ _ _ t l (by omega) rfl) (ld3 x14 _ t l (by decide) (by omega))
    refine List.forall_mem_cons.2 ⟨fun x => ?_, ?_⟩
    · obtain ⟨t, l, rfl⟩ : ∃ (t : Fin 96) (l : Fin 256), x = ix3 0 t l := ⟨x 1, x 2, (eq_ix3 x).trans (congrArg (fun q => ix3 q (x 1) (x 2)) (Subsingleton.elim (α := Fin 1) _ _))⟩
      have hl := l.isLt
      rw [emb3 _ t l (by decide) (by omega)]
      refine (outp_apply a _ (by decide) _ _ _ t l).trans ?_
      rw [ldw2 xs0]
      exact congrArg₂ (fun u v : EReal => if xs0 (ix2 t (0 : Fin 6)) = a then u else v) (mm_hi H x9 x10 x11 _ _ _ t l (by omega) rfl) (ld3 x14 _ t l (by decide) (by omega))
    refine List.forall_mem_cons.2 ⟨fun x => ?_, ?_⟩
    · obtain ⟨t, l, rfl⟩ : ∃ (t : Fin 96) (l : Fin 256), x = ix3 0 t l := ⟨x 1, x 2, (eq_ix3 x).trans (congrArg (fun q => ix3 q (x 1) (x 2)) (Subsingleton.elim (α := Fin 1) _ _))⟩
      have hl := l.isLt
      rw [emb3 _ t l (by decide) (by omega)]
      refine (outp_apply a _ (by decide) _ _ _ t l).trans ?_
      rw [ldw2 xs0]
      exact congrArg₂ (fun u v : EReal => if xs0 (ix2 t (5 : Fin 6)) = a then u else v) (mm_lo H x9 x10 x11 _ _ _ t l (by omega)) (ld3 x14 _ t l (by decide) (by omega))
    refine List.forall_mem_cons.2 ⟨fun x => ?_, ?_⟩
    · obtain ⟨t, l, rfl⟩ : ∃ (t : Fin 96) (l : Fin 256), x = ix3 0 t l := ⟨x 1, x 2, (eq_ix3 x).trans (congrArg (fun q => ix3 q (x 1) (x 2)) (Subsingleton.elim (α := Fin 1) _ _))⟩
      have hl := l.isLt
      rw [emb3 _ t l (by decide) (by omega)]
      refine (outp_apply a _ (by decide) _ _ _ t l).trans ?_
      rw [ldw2 xs0]
      exact congrArg₂ (fun u v : EReal => if xs0 (ix2 t (4 : Fin 6)) = a then u else v) (mm_lo H x9 x10 x11 _ _ _ t l (by omega)) (ld3 x14 _ t l (by decide) (by omega))
    refine List.forall_mem_cons.2 ⟨fun x => ?_, ?_⟩
    · obtain ⟨t, l, rfl⟩ : ∃ (t : Fin 96) (l : Fin 256), x = ix3 0 t l := ⟨x 1, x 2, (eq_ix3 x).trans (congrArg (fun q => ix3 q (x 1) (x 2)) (Subsingleton.elim (α := Fin 1) _ _))⟩
      have hl := l.isLt
      rw [emb3 _ t l (by decide) (by omega)]
      refine (outp_apply a _ (by decide) _ _ _ t l).trans ?_
      rw [ldw2 xs0]
      exact congrArg₂ (fun u v : EReal => if xs0 (ix2 t (3 : Fin 6)) = a then u else v) (mm_lo H x9 x10 x11 _ _ _ t l (by omega)) (ld3 x14 _ t l (by decide) (by omega))
    refine List.forall_mem_cons.2 ⟨fun x => ?_, ?_⟩
    · obtain ⟨t, l, rfl⟩ : ∃ (t : Fin 96) (l : Fin 256), x = ix3 0 t l := ⟨x 1, x 2, (eq_ix3 x).trans (congrArg (fun q => ix3 q (x 1) (x 2)) (Subsingleton.elim (α := Fin 1) _ _))⟩
      have hl := l.isLt
      rw [emb3 _ t l (by decide) (by omega)]
      refine (outp_apply a _ (by decide) _ _ _ t l).trans ?_
      rw [ldw2 xs0]
      exact congrArg₂ (fun u v : EReal => if xs0 (ix2 t (2 : Fin 6)) = a then u else v) (mm_lo H x9 x10 x11 _ _ _ t l (by omega)) (ld3 x14 _ t l (by decide) (by omega))
    refine List.forall_mem_cons.2 ⟨fun x => ?_, ?_⟩
    · obtain ⟨t, l, rfl⟩ : ∃ (t : Fin 96) (l : Fin 256), x = ix3 0 t l := ⟨x 1, x 2, (eq_ix3 x).trans (congrArg (fun q => ix3 q (x 1) (x 2)) (Subsingleton.elim (α := Fin 1) _ _))⟩
      have hl := l.isLt
      rw [emb3 _ t l (by decide) (by omega)]
      refine (outp_apply a _ (by decide) _ _ _ t l).trans ?_
      rw [ldw2 xs0]
      exact congrArg₂ (fun u v : EReal => if xs0 (ix2 t (1 : Fin 6)) = a then u else v) (mm_lo H x9 x10 x11 _ _ _ t l (by omega)) (ld3 x14 _ t l (by decide) (by omega))
    refine List.forall_mem_cons.2 ⟨fun x => ?_, ?_⟩
    · obtain ⟨t, l, rfl⟩ : ∃ (t : Fin 96) (l : Fin 256), x = ix3 0 t l := ⟨x 1, x 2, (eq_ix3 x).trans (congrArg (fun q => ix3 q (x 1) (x 2)) (Subsingleton.elim (α := Fin 1) _ _))⟩
      have hl := l.isLt
      rw [emb3 _ t l (by decide) (by omega)]
      refine (outp_apply a _ (by decide) _ _ _ t l).trans ?_
      rw [ldw2 xs0]
      exact congrArg₂ (fun u v : EReal => if xs0 (ix2 t (0 : Fin 6)) = a then u else v) (mm_lo H x9 x10 x11 _ _ _ t l (by omega)) (ld3 x14 _ t l (by decide) (by omega))
    refine List.forall_mem_cons.2 ⟨fun x => ?_, ?_⟩
    · obtain ⟨t, l, rfl⟩ : ∃ (t : Fin 96) (l : Fin 256), x = ix3 0 t l := ⟨x 1, x 2, (eq_ix3 x).trans (congrArg (fun q => ix3 q (x 1) (x 2)) (Subsingleton.elim (α := Fin 1) _ _))⟩
      have hl := l.isLt
      rw [emb3 _ t l (by decide) (by omega)]
      refine (outp_apply a _ (by decide) _ _ _ t l).trans ?_
      rw [ldw2 xs0]
      exact congrArg₂ (fun u v : EReal => if xs0 (ix2 t (5 : Fin 6)) = a then u else v) (mm_hi H x9 x10 x11 _ _ _ t l (by omega) rfl) (ld3 x14 _ t l (by decide) (by omega))
    refine List.forall_mem_cons.2 ⟨fun x => ?_, ?_⟩
    · obtain ⟨t, l, rfl⟩ : ∃ (t : Fin 96) (l : Fin 256), x = ix3 0 t l := ⟨x 1, x 2, (eq_ix3 x).trans (congrArg (fun q => ix3 q (x 1) (x 2)) (Subsingleton.elim (α := Fin 1) _ _))⟩
      have hl := l.isLt
      rw [emb3 _ t l (by decide) (by omega)]
      refine (outp_apply a _ (by decide) _ _ _ t l).trans ?_
      rw [ldw2 xs0]
      exact congrArg₂ (fun u v : EReal => if xs0 (ix2 t (4 : Fin 6)) = a then u else v) (mm_hi H x9 x10 x11 _ _ _ t l (by omega) rfl) (ld3 x14 _ t l (by decide) (by omega))
    refine List.forall_mem_cons.2 ⟨fun x => ?_, ?_⟩
    · obtain ⟨t, l, rfl⟩ : ∃ (t : Fin 96) (l : Fin 256), x = ix3 0 t l := ⟨x 1, x 2, (eq_ix3 x).trans (congrArg (fun q => ix3 q (x 1) (x 2)) (Subsingleton.elim (α := Fin 1) _ _))⟩
      have hl := l.isLt
      rw [emb3 _ t l (by decide) (by omega)]
      refine (outp_apply a _ (by decide) _ _ _ t l).trans ?_
      rw [ldw2 xs0]
      exact congrArg₂ (fun u v : EReal => if xs0 (ix2 t (3 : Fin 6)) = a then u else v) (mm_hi H x9 x10 x11 _ _ _ t l (by omega) rfl) (ld3 x14 _ t l (by decide) (by omega))
    refine List.forall_mem_cons.2 ⟨fun x => ?_, ?_⟩
    · obtain ⟨t, l, rfl⟩ : ∃ (t : Fin 96) (l : Fin 256), x = ix3 0 t l := ⟨x 1, x 2, (eq_ix3 x).trans (congrArg (fun q => ix3 q (x 1) (x 2)) (Subsingleton.elim (α := Fin 1) _ _))⟩
      have hl := l.isLt
      rw [emb3 _ t l (by decide) (by omega)]
      refine (outp_apply a _ (by decide) _ _ _ t l).trans ?_
      rw [ldw2 xs0]
      exact congrArg₂ (fun u v : EReal => if xs0 (ix2 t (2 : Fin 6)) = a then u else v) (mm_hi H x9 x10 x11 _ _ _ t l (by omega) rfl) (ld3 x14 _ t l (by decide) (by omega))
    refine List.forall_mem_cons.2 ⟨fun x => ?_, ?_⟩
    · obtain ⟨t, l, rfl⟩ : ∃ (t : Fin 96) (l : Fin 256), x = ix3 0 t l := ⟨x 1, x 2, (eq_ix3 x).trans (congrArg (fun q => ix3 q (x 1) (x 2)) (Subsingleton.elim (α := Fin 1) _ _))⟩
      have hl := l.isLt
      rw [emb3 _ t l (by decide) (by omega)]
      refine (outp_apply a _ (by decide) _ _ _ t l).trans ?_
      rw [ldw2 xs0]
      exact congrArg₂ (fun u v : EReal => if xs0 (ix2 t (1 : Fin 6)) = a then u else v) (mm_hi H x9 x10 x11 _ _ _ t l (by omega) rfl) (ld3 x14 _ t l (by decide) (by omega))
    refine List.forall_mem_cons.2 ⟨fun x => ?_, ?_⟩
    · obtain ⟨t, l, rfl⟩ : ∃ (t : Fin 96) (l : Fin 256), x = ix3 0 t l := ⟨x 1, x 2, (eq_ix3 x).trans (congrArg (fun q => ix3 q (x 1) (x 2)) (Subsingleton.elim (α := Fin 1) _ _))⟩
      have hl := l.isLt
      rw [emb3 _ t l (by decide) (by omega)]
      refine (outp_apply a _ (by decide) _ _ _ t l).trans ?_
      rw [ldw2 xs0]
      exact congrArg₂ (fun u v : EReal => if xs0 (ix2 t (0 : Fin 6)) = a then u else v) (mm_hi H x9 x10 x11 _ _ _ t l (by omega) rfl) (ld3 x14 _ t l (by decide) (by omega))
    refine List.forall_mem_cons.2 ⟨fun x => ?_, ?_⟩
    · obtain ⟨t, l, rfl⟩ : ∃ (t : Fin 96) (l : Fin 256), x = ix3 0 t l := ⟨x 1, x 2, (eq_ix3 x).trans (congrArg (fun q => ix3 q (x 1) (x 2)) (Subsingleton.elim (α := Fin 1) _ _))⟩
      have hl := l.isLt
      rw [emb3 _ t l (by decide) (by omega)]
      refine (outp_apply a _ (by decide) _ _ _ t l).trans ?_
      rw [ldw2 xs0]
      exact congrArg₂ (fun u v : EReal => if xs0 (ix2 t (5 : Fin 6)) = a then u else v) (mm_lo H x9 x10 x11 _ _ _ t l (by omega)) (ld3 x14 _ t l (by decide) (by omega))
    refine List.forall_mem_cons.2 ⟨fun x => ?_, ?_⟩
    · obtain ⟨t, l, rfl⟩ : ∃ (t : Fin 96) (l : Fin 256), x = ix3 0 t l := ⟨x 1, x 2, (eq_ix3 x).trans (congrArg (fun q => ix3 q (x 1) (x 2)) (Subsingleton.elim (α := Fin 1) _ _))⟩
      have hl := l.isLt
      rw [emb3 _ t l (by decide) (by omega)]
      refine (outp_apply a _ (by decide) _ _ _ t l).trans ?_
      rw [ldw2 xs0]
      exact congrArg₂ (fun u v : EReal => if xs0 (ix2 t (4 : Fin 6)) = a then u else v) (mm_lo H x9 x10 x11 _ _ _ t l (by omega)) (ld3 x14 _ t l (by decide) (by omega))
    refine List.forall_mem_cons.2 ⟨fun x => ?_, ?_⟩
    · obtain ⟨t, l, rfl⟩ : ∃ (t : Fin 96) (l : Fin 256), x = ix3 0 t l := ⟨x 1, x 2, (eq_ix3 x).trans (congrArg (fun q => ix3 q (x 1) (x 2)) (Subsingleton.elim (α := Fin 1) _ _))⟩
      have hl := l.isLt
      rw [emb3 _ t l (by decide) (by omega)]
      refine (outp_apply a _ (by decide) _ _ _ t l).trans ?_
      rw [ldw2 xs0]
      exact congrArg₂ (fun u v : EReal => if xs0 (ix2 t (3 : Fin 6)) = a then u else v) (mm_lo H x9 x10 x11 _ _ _ t l (by omega)) (ld3 x14 _ t l (by decide) (by omega))
    refine List.forall_mem_cons.2 ⟨fun x => ?_, ?_⟩
    · obtain ⟨t, l, rfl⟩ : ∃ (t : Fin 96) (l : Fin 256), x = ix3 0 t l := ⟨x 1, x 2, (eq_ix3 x).trans (congrArg (fun q => ix3 q (x 1) (x 2)) (Subsingleton.elim (α := Fin 1) _ _))⟩
      have hl := l.isLt
      rw [emb3 _ t l (by decide) (by omega)]
      refine (outp_apply a _ (by decide) _ _ _ t l).trans ?_
      rw [ldw2 xs0]
      exact congrArg₂ (fun u v : EReal => if xs0 (ix2 t (2 : Fin 6)) = a then u else v) (mm_lo H x9 x10 x11 _ _ _ t l (by omega)) (ld3 x14 _ t l (by decide) (by omega))
    refine List.forall_mem_cons.2 ⟨fun x => ?_, ?_⟩
    · obtain ⟨t, l, rfl⟩ : ∃ (t : Fin 96) (l : Fin 256), x = ix3 0 t l := ⟨x 1, x 2, (eq_ix3 x).trans (congrArg (fun q => ix3 q (x 1) (x 2)) (Subsingleton.elim (α := Fin 1) _ _))⟩
      have hl := l.isLt
      rw [emb3 _ t l (by decide) (by omega)]
      refine (outp_apply a _ (by decide) _ _ _ t l).trans ?_
      rw [ldw2 xs0]
      exact congrArg₂ (fun u v : EReal => if xs0 (ix2 t (1 : Fin 6)) = a then u else v) (mm_lo H x9 x10 x11 _ _ _ t l (by omega)) (ld3 x14 _ t l (by decide) (by omega))
    refine List.forall_mem_cons.2 ⟨fun x => ?_, ?_⟩
    · obtain ⟨t, l, rfl⟩ : ∃ (t : Fin 96) (l : Fin 256), x = ix3 0 t l := ⟨x 1, x 2, (eq_ix3 x).trans (congrArg (fun q => ix3 q (x 1) (x 2)) (Subsingleton.elim (α := Fin 1) _ _))⟩
      have hl := l.isLt
      rw [emb3 _ t l (by decide) (by omega)]
      refine (outp_apply a _ (by decide) _ _ _ t l).trans ?_
      rw [ldw2 xs0]
      exact congrArg₂ (fun u v : EReal => if xs0 (ix2 t (0 : Fin 6)) = a then u else v) (mm_lo H x9 x10 x11 _ _ _ t l (by omega)) (ld3 x14 _ t l (by decide) (by omega))
    refine List.forall_mem_cons.2 ⟨fun x => ?_, ?_⟩
    · obtain ⟨t, l, rfl⟩ : ∃ (t : Fin 96) (l : Fin 256), x = ix3 0 t l := ⟨x 1, x 2, (eq_ix3 x).trans (congrArg (fun q => ix3 q (x 1) (x 2)) (Subsingleton.elim (α := Fin 1) _ _))⟩
      have hl := l.isLt
      rw [emb3 _ t l (by decide) (by omega)]
      refine (outp_apply a _ (by decide) _ _ _ t l).trans ?_
      rw [ldw2 xs0]
      exact congrArg₂ (fun u v : EReal => if xs0 (ix2 t (5 : Fin 6)) = a then u else v) (mm_hi H x9 x10 x11 _ _ _ t l (by omega) rfl) (ld3 x14 _ t l (by decide) (by omega))
    refine List.forall_mem_cons.2 ⟨fun x => ?_, ?_⟩
    · obtain ⟨t, l, rfl⟩ : ∃ (t : Fin 96) (l : Fin 256), x = ix3 0 t l := ⟨x 1, x 2, (eq_ix3 x).trans (congrArg (fun q => ix3 q (x 1) (x 2)) (Subsingleton.elim (α := Fin 1) _ _))⟩
      have hl := l.isLt
      rw [emb3 _ t l (by decide) (by omega)]
      refine (outp_apply a _ (by decide) _ _ _ t l).trans ?_
      rw [ldw2 xs0]
      exact congrArg₂ (fun u v : EReal => if xs0 (ix2 t (4 : Fin 6)) = a then u else v) (mm_hi H x9 x10 x11 _ _ _ t l (by omega) rfl) (ld3 x14 _ t l (by decide) (by omega))
    refine List.forall_mem_cons.2 ⟨fun x => ?_, ?_⟩
    · obtain ⟨t, l, rfl⟩ : ∃ (t : Fin 96) (l : Fin 256), x = ix3 0 t l := ⟨x 1, x 2, (eq_ix3 x).trans (congrArg (fun q => ix3 q (x 1) (x 2)) (Subsingleton.elim (α := Fin 1) _ _))⟩
      have hl := l.isLt
      rw [emb3 _ t l (by decide) (by omega)]
      refine (outp_apply a _ (by decide) _ _ _ t l).trans ?_
      rw [ldw2 xs0]
      exact congrArg₂ (fun u v : EReal => if xs0 (ix2 t (3 : Fin 6)) = a then u else v) (mm_hi H x9 x10 x11 _ _ _ t l (by omega) rfl) (ld3 x14 _ t l (by decide) (by omega))
    refine List.forall_mem_cons.2 ⟨fun x => ?_, ?_⟩
    · obtain ⟨t, l, rfl⟩ : ∃ (t : Fin 96) (l : Fin 256), x = ix3 0 t l := ⟨x 1, x 2, (eq_ix3 x).trans (congrArg (fun q => ix3 q (x 1) (x 2)) (Subsingleton.elim (α := Fin 1) _ _))⟩
      have hl := l.isLt
      rw [emb3 _ t l (by decide) (by omega)]
      refine (outp_apply a _ (by decide) _ _ _ t l).trans ?_
      rw [ldw2 xs0]
      exact congrArg₂ (fun u v : EReal => if xs0 (ix2 t (2 : Fin 6)) = a then u else v) (mm_hi H x9 x10 x11 _ _ _ t l (by omega) rfl) (ld3 x14 _ t l (by decide) (by omega))
    refine List.forall_mem_cons.2 ⟨fun x => ?_, ?_⟩
    · obtain ⟨t, l, rfl⟩ : ∃ (t : Fin 96) (l : Fin 256), x = ix3 0 t l := ⟨x 1, x 2, (eq_ix3 x).trans (congrArg (fun q => ix3 q (x 1) (x 2)) (Subsingleton.elim (α := Fin 1) _ _))⟩
      have hl := l.isLt
      rw [emb3 _ t l (by decide) (by omega)]
      refine (outp_apply a _ (by decide) _ _ _ t l).trans ?_
      rw [ldw2 xs0]
      exact congrArg₂ (fun u v : EReal => if xs0 (ix2 t (1 : Fin 6)) = a then u else v) (mm_hi H x9 x10 x11 _ _ _ t l (by omega) rfl) (ld3 x14 _ t l (by decide) (by omega))
    refine List.forall_mem_cons.2 ⟨fun x => ?_, ?_⟩
    · obtain ⟨t, l, rfl⟩ : ∃ (t : Fin 96) (l : Fin 256), x = ix3 0 t l := ⟨x 1, x 2, (eq_ix3 x).trans (congrArg (fun q => ix3 q (x 1) (x 2)) (Subsingleton.elim (α := Fin 1) _ _))⟩
      have hl := l.isLt
      rw [emb3 _ t l (by decide) (by omega)]
      refine (outp_apply a _ (by decide) _ _ _ t l).trans ?_
      rw [ldw2 xs0]
      exact congrArg₂ (fun u v : EReal => if xs0 (ix2 t (0 : Fin 6)) = a then u else v) (mm_hi H x9 x10 x11 _ _ _ t l (by omega) rfl) (ld3 x14 _ t l (by decide) (by omega))
    refine List.forall_mem_cons.2 ⟨fun x => ?_, ?_⟩
    · obtain ⟨t, l, rfl⟩ : ∃ (t : Fin 96) (l : Fin 256), x = ix3 0 t l := ⟨x 1, x 2, (eq_ix3 x).trans (congrArg (fun q => ix3 q (x 1) (x 2)) (Subsingleton.elim (α := Fin 1) _ _))⟩
      have hl := l.isLt
      rw [emb3 _ t l (by decide) (by omega)]
      refine (outp_apply a _ (by decide) _ _ _ t l).trans ?_
      rw [ldw2 xs0]
      exact congrArg₂ (fun u v : EReal => if xs0 (ix2 t (5 : Fin 6)) = a then u else v) (mm_lo H x9 x10 x11 _ _ _ t l (by omega)) (ld3 x14 _ t l (by decide) (by omega))
    refine List.forall_mem_cons.2 ⟨fun x => ?_, ?_⟩
    · obtain ⟨t, l, rfl⟩ : ∃ (t : Fin 96) (l : Fin 256), x = ix3 0 t l := ⟨x 1, x 2, (eq_ix3 x).trans (congrArg (fun q => ix3 q (x 1) (x 2)) (Subsingleton.elim (α := Fin 1) _ _))⟩
      have hl := l.isLt
      rw [emb3 _ t l (by decide) (by omega)]
      refine (outp_apply a _ (by decide) _ _ _ t l).trans ?_
      rw [ldw2 xs0]
      exact congrArg₂ (fun u v : EReal => if xs0 (ix2 t (4 : Fin 6)) = a then u else v) (mm_lo H x9 x10 x11 _ _ _ t l (by omega)) (ld3 x14 _ t l (by decide) (by omega))
    refine List.forall_mem_cons.2 ⟨fun x => ?_, ?_⟩
    · obtain ⟨t, l, rfl⟩ : ∃ (t : Fin 96) (l : Fin 256), x = ix3 0 t l := ⟨x 1, x 2, (eq_ix3 x).trans (congrArg (fun q => ix3 q (x 1) (x 2)) (Subsingleton.elim (α := Fin 1) _ _))⟩
      have hl := l.isLt
      rw [emb3 _ t l (by decide) (by omega)]
      refine (outp_apply a _ (by decide) _ _ _ t l).trans ?_
      rw [ldw2 xs0]
      exact congrArg₂ (fun u v : EReal => if xs0 (ix2 t (3 : Fin 6)) = a then u else v) (mm_lo H x9 x10 x11 _ _ _ t l (by omega)) (ld3 x14 _ t l (by decide) (by omega))
    refine List.forall_mem_cons.2 ⟨fun x => ?_, ?_⟩
    · obtain ⟨t, l, rfl⟩ : ∃ (t : Fin 96) (l : Fin 256), x = ix3 0 t l := ⟨x 1, x 2, (eq_ix3 x).trans (congrArg (fun q => ix3 q (x 1) (x 2)) (Subsingleton.elim (α := Fin 1) _ _))⟩
      have hl := l.isLt
      rw [emb3 _ t l (by decide) (by omega)]
      refine (outp_apply a _ (by decide) _ _ _ t l).trans ?_
      rw [ldw2 xs0]
      exact congrArg₂ (fun u v : EReal => if xs0 (ix2 t (2 : Fin 6)) = a then u else v) (mm_lo H x9 x10 x11 _ _ _ t l (by omega)) (ld3 x14 _ t l (by decide) (by omega))
    refine List.forall_mem_cons.2 ⟨fun x => ?_, ?_⟩
    · obtain ⟨t, l, rfl⟩ : ∃ (t : Fin 96) (l : Fin 256), x = ix3 0 t l := ⟨x 1, x 2, (eq_ix3 x).trans (congrArg (fun q => ix3 q (x 1) (x 2)) (Subsingleton.elim (α := Fin 1) _ _))⟩
      have hl := l.isLt
      rw [emb3 _ t l (by decide) (by omega)]
      refine (outp_apply a _ (by decide) _ _ _ t l).trans ?_
      rw [ldw2 xs0]
      exact congrArg₂ (fun u v : EReal => if xs0 (ix2 t (1 : Fin 6)) = a then u else v) (mm_lo H x9 x10 x11 _ _ _ t l (by omega)) (ld3 x14 _ t l (by decide) (by omega))
    refine List.forall_mem_cons.2 ⟨fun x => ?_, ?_⟩
    · obtain ⟨t, l, rfl⟩ : ∃ (t : Fin 96) (l : Fin 256), x = ix3 0 t l := ⟨x 1, x 2, (eq_ix3 x).trans (congrArg (fun q => ix3 q (x 1) (x 2)) (Subsingleton.elim (α := Fin 1) _ _))⟩
      have hl := l.isLt
      rw [emb3 _ t l (by decide) (by omega)]
      refine (outp_apply a _ (by decide) _ _ _ t l).trans ?_
      rw [ldw2 xs0]
      exact congrArg₂ (fun u v : EReal => if xs0 (ix2 t (0 : Fin 6)) = a then u else v) (mm_lo H x9 x10 x11 _ _ _ t l (by omega)) (ld3 x14 _ t l (by decide) (by omega))
    · intro p hp; exact absurd hp List.not_mem_nil
  · exact View.cover_of_tiled_head _ _ _ (by rfl) _

end Cert.KernelIdeal.Hand

end
-- ==== Proof.Spec.lean ====
/- The mathematics of one expert slot, as a function of the whole argument arrays. -/
module

public import proofs.«01_k».proof.Proof.SemOut

@[expose] public section

set_option maxRecDepth 16384

noncomputable section

namespace Cert.KernelIdeal.Hand

open Cert.KernelIdeal Cert.KernelIdeal.Gen
open Idealize.ShloMosaic hiding ix1 ix2 ix3 eq_ix1 eq_ix2 eq_ix3
open Idealize.ShloMosaic.ValueIdx

/-- Slab `s` of a stack of matrices, as a stack of one. -/
def row3 {α : Type} {A K C : ℕ} (a : (sh3 A K C).Idx → α) (s : Fin A) : (sh3 1 K C).Idx → α := fun i => a (ix3 s (i 1) (i 2))

/-- The tokens without their axis of size one. -/
def Xv (a0 : (sh3 96 1 2048).Idx → EReal) : (sh 96 2048).Idx → EReal := fun i => a0 (ix3 (i 0) 0 (i 1))

/-- The activation of slot `s` for token `t` at hidden unit `f`. -/
def hS (a0 : (sh3 96 1 2048).Idx → EReal) (a4 : (sh3 24 2048 1408).Idx → BitVec 8) (a5 a6 a7 a8 : (sh3 24 16 1408).Idx → EReal)
    (s : Fin 24) (t : Fin 96) (f : Fin 1408) : EReal :=
  hval (Xv a0) (row3 a4 s) (row3 a5 s) (row3 a6 s) (row3 a7 s) (row3 a8 s) t f

/-- The output of slot `s` for token `t` at column `d`. -/
def Yv (a0 : (sh3 96 1 2048).Idx → EReal) (a4 : (sh3 24 2048 1408).Idx → BitVec 8) (a5 a6 a7 a8 : (sh3 24 16 1408).Idx → EReal)
    (a9 : (sh3 24 1408 1024).Idx → BitVec 8) (a10 a11 : (sh3 24 11 2048).Idx → EReal) (s : Fin 24) (t : Fin 96) (d : Fin 2048) : EReal :=
  ∑ f : Fin 1408, hS a0 a4 a5 a6 a7 a8 s t f * wd (row3 a9 s) (row3 a10 s) (row3 a11 s) f d

/-- The slot of the `k`th expert chosen by token `t`, when the ids are in range. -/
def slotS (a1 : (sh3 96 1 6).Idx → BitVec 32) (a3 : (⟨1, ![64]⟩ : Shape).Idx → BitVec 32) (t : Fin 96) (k : Fin 6) : BitVec 32 :=
  a3 (ix1 ⟨min (a1 (ix3 t 0 k)).toNat 63, by omega⟩)

/-- One where that slot is present, zero where the expert is missing. -/
def vfS (a1 : (sh3 96 1 6).Idx → BitVec 32) (a3 : (⟨1, ![64]⟩ : Shape).Idx → BitVec 32) (t : Fin 96) (k : Fin 6) : EReal :=
  (((IntOp.cmpi .sge (slotS a1 a3 t k) 0#32).toNat : ℝ) : EReal)

/-- The gate weight of the experts present. -/
def rS (a1 : (sh3 96 1 6).Idx → BitVec 32) (a2 : (sh3 96 1 6).Idx → EReal) (a3 : (⟨1, ![64]⟩ : Shape).Idx → BitVec 32) (t : Fin 96) : EReal :=
  ∑ k : Fin 6, a2 (ix3 t 0 k) * vfS a1 a3 t k

/-- The gate weight of the missing experts. -/
def missS (a1 : (sh3 96 1 6).Idx → BitVec 32) (a2 : (sh3 96 1 6).Idx → EReal) (a3 : (⟨1, ![64]⟩ : Shape).Idx → BitVec 32) (t : Fin 96) : EReal :=
  ∑ k : Fin 6, a2 (ix3 t 0 k) * (1 - vfS a1 a3 t k)

/-- The renormalized weight. -/
def wS (a1 : (sh3 96 1 6).Idx → BitVec 32) (a2 : (sh3 96 1 6).Idx → EReal) (a3 : (⟨1, ![64]⟩ : Shape).Idx → BitVec 32) (t : Fin 96) (k : Fin 6) : EReal :=
  Ideal.div (a2 (ix3 t 0 k) * vfS a1 a3 t k) (Scalar.select (Ideal.cmp .ogt (rS a1 a2 a3 t) 0) (rS a1 a2 a3 t) 1)

/-- What the `k`th expert chosen by token `t` gives: its slot's output, or zero where it is missing. -/
def oS (Y : Fin 24 → Fin 96 → Fin 2048 → EReal) (sl : BitVec 32) (t : Fin 96) (d : Fin 2048) : EReal :=
  if h : sl.toNat < 24 then Y ⟨sl.toNat, h⟩ t d else 0

end Cert.KernelIdeal.Hand

end
-- ==== Proof.Blocks.lean ====
/- The blocks the pipeline hands to the body, in terms of the argument arrays. -/
module

public import proofs.«01_k».proof.Proof.RunK
public import proofs.«01_k».proof.Proof.Spec
public import Idealize.ShloMosaic.Lib.Pipeline.ValueKit.Geometry
public import Idealize.ShloMosaic.Lib.Claim

@[expose] public section

set_option maxRecDepth 16384

noncomputable section

namespace Cert.KernelIdeal.Hand

open Cert.KernelIdeal Cert.KernelIdeal.Gen
open Idealize.ShloMosaic hiding ix1 ix2 ix3 ix4 eq_ix1 eq_ix2 eq_ix3 eq_ix4
open Idealize.ShloMosaic.ValueIdx

variable (m : (ℓ : Loc nD τ sig) → Buf (Elt Ideal) ℓ) (ρ : Dev nD → PrngReg)

theorem t_lt (t : Fin cfg0.N) : t.val < 24 := t.isLt.trans_eq (show cfg0.N = 24 from N_0)
theorem coords_t (t : Fin cfg0.N) : (grid0.coords t 0).val = t.val := by
  have e0 : (grid0.coords t 0).val = t.val / 1 % 24 := Pipeline.Grid.coords_val t 0 (by decide) rfl
  have := t_lt t
  omega

theorem emb_4 (t : Fin cfg0.N) (y : (sh3 1 2048 1408).Idx) : ((cfg0.win 4).blk t).view.emb y = ix3 (n0 := 24) (n1 := 2048) (n2 := 1408) ⟨t.val, t_lt t⟩ (y 1) (y 2) := by
  have e := coords_t t
  have h0 : (y 0).val < 1 := (y 0).isLt
  have ei : win0_4.index t (0 : Fin 3) = t.val := by
    show (BitVec.ofNat 32 (grid0.coords t 0).val).toNat = t.val
    rw [e, BitVec.toNat_ofNat]; exact Nat.mod_eq_of_lt (by have := t_lt t; omega)
  funext a; apply Fin.ext
  match a with
  | ⟨0, _⟩ => show win0_4.index t (0 : Fin 3) * 1 + 1 * (y 0).val = t.val; omega
  | ⟨1, _⟩ => show win0_4.index t (1 : Fin 3) * 2048 + 1 * (y 1).val = (y 1).val; rw [show win0_4.index t (1 : Fin 3) = 0 from rfl]; omega
  | ⟨2, _⟩ => show win0_4.index t (2 : Fin 3) * 1408 + 1 * (y 2).val = (y 2).val; rw [show win0_4.index t (2 : Fin 3) = 0 from rfl]; omega

theorem iblk_4 (c : Dev nD) (t : Fin cfg0.N) : iblk m c 4 t = row3 (m ((c.tc : Thread nD τ).loc main_arg4)) ⟨t.val, t_lt t⟩ := by
  funext y
  show V m c main_arg4 (((cfg0.win 4).blk t).view.emb y) = _
  rw [emb_4, V_main_arg4]
  rfl

theorem emb_5 (t : Fin cfg0.N) (y : (sh3 1 16 1408).Idx) : ((cfg0.win 5).blk t).view.emb y = ix3 (n0 := 24) (n1 := 16) (n2 := 1408) ⟨t.val, t_lt t⟩ (y 1) (y 2) := by
  have e := coords_t t
  have h0 : (y 0).val < 1 := (y 0).isLt
  have ei : win0_5.index t (0 : Fin 3) = t.val := by
    show (BitVec.ofNat 32 (grid0.coords t 0).val).toNat = t.val
    rw [e, BitVec.toNat_ofNat]; exact Nat.mod_eq_of_lt (by have := t_lt t; omega)
  funext a; apply Fin.ext
  match a with
  | ⟨0, _⟩ => show win0_5.index t (0 : Fin 3) * 1 + 1 * (y 0).val = t.val; omega
  | ⟨1, _⟩ => show win0_5.index t (1 : Fin 3) * 16 + 1 * (y 1).val = (y 1).val; rw [show win0_5.index t (1 : Fin 3) = 0 from rfl]; omega
  | ⟨2, _⟩ => show win0_5.index t (2 : Fin 3) * 1408 + 1 * (y 2).val = (y 2).val; rw [show win0_5.index t (2 : Fin 3) = 0 from rfl]; omega

theorem iblk_5 (c : Dev nD) (t : Fin cfg0.N) : iblk m c 5 t = row3 (m ((c.tc : Thread nD τ).loc main_arg5)) ⟨t.val, t_lt t⟩ := by
  funext y
  show V m c main_arg5 (((cfg0.win 5).blk t).view.emb y) = _
  rw [emb_5, V_main_arg5]
  rfl

theorem emb_6 (t : Fin cfg0.N) (y : (sh3 1 16 1408).Idx) : ((cfg0.win 6).blk t).view.emb y = ix3 (n0 := 24) (n1 := 16) (n2 := 1408) ⟨t.val, t_lt t⟩ (y 1) (y 2) := by
  have e := coords_t t
  have h0 : (y 0).val < 1 := (y 0).isLt
  have ei : win0_6.index t (0 : Fin 3) = t.val := by
    show (BitVec.ofNat 32 (grid0.coords t 0).val).toNat = t.val
    rw [e, BitVec.toNat_ofNat]; exact Nat.mod_eq_of_lt (by have := t_lt t; omega)
  funext a; apply Fin.ext
  match a with
  | ⟨0, _⟩ => show win0_6.index t (0 : Fin 3) * 1 + 1 * (y 0).val = t.val; omega
  | ⟨1, _⟩ => show win0_6.index t (1 : Fin 3) * 16 + 1 * (y 1).val = (y 1).val; rw [show win0_6.index t (1 : Fin 3) = 0 from rfl]; omega
  | ⟨2, _⟩ => show win0_6.index t (2 : Fin 3) * 1408 + 1 * (y 2).val = (y 2).val; rw [show win0_6.index t (2 : Fin 3) = 0 from rfl]; omega

theorem iblk_6 (c : Dev nD) (t : Fin cfg0.N) : iblk m c 6 t = row3 (m ((c.tc : Thread nD τ).loc main_arg6)) ⟨t.val, t_lt t⟩ := by
  funext y
  show V m c main_arg6 (((cfg0.win 6).blk t).view.emb y) = _
  rw [emb_6, V_main_arg6]
  rfl

theorem emb_7 (t : Fin cfg0.N) (y : (sh3 1 16 1408).Idx) : ((cfg0.win 7).blk t).view.emb y = ix3 (n0 := 24) (n1 := 16) (n2 := 1408) ⟨t.val, t_lt t⟩ (y 1) (y 2) := by
  have e := coords_t t
  have h0 : (y 0).val < 1 := (y 0).isLt
  have ei : win0_7.index t (0 : Fin 3) = t.val := by
    show (BitVec.ofNat 32 (grid0.coords t 0).val).toNat = t.val
    rw [e, BitVec.toNat_ofNat]; exact Nat.mod_eq_of_lt (by have := t_lt t; omega)
  funext a; apply Fin.ext
  match a with
  | ⟨0, _⟩ => show win0_7.index t (0 : Fin 3) * 1 + 1 * (y 0).val = t.val; omega
  | ⟨1, _⟩ => show win0_7.index t (1 : Fin 3) * 16 + 1 * (y 1).val = (y 1).val; rw [show win0_7.index t (1 : Fin 3) = 0 from rfl]; omega
  | ⟨2, _⟩ => show win0_7.index t (2 : Fin 3) * 1408 + 1 * (y 2).val = (y 2).val; rw [show win0_7.index t (2 : Fin 3) = 0 from rfl]; omega

theorem iblk_7 (c : Dev nD) (t : Fin cfg0.N) : iblk m c 7 t = row3 (m ((c.tc : Thread nD τ).loc main_arg7)) ⟨t.val, t_lt t⟩ := by
  funext y
  show V m c main_arg7 (((cfg0.win 7).blk t).view.emb y) = _
  rw [emb_7, V_main_arg7]
  rfl

theorem emb_8 (t : Fin cfg0.N) (y : (sh3 1 16 1408).Idx) : ((cfg0.win 8).blk t).view.emb y = ix3 (n0 := 24) (n1 := 16) (n2 := 1408) ⟨t.val, t_lt t⟩ (y 1) (y 2) := by
  have e := coords_t t
  have h0 : (y 0).val < 1 := (y 0).isLt
  have ei : win0_8.index t (0 : Fin 3) = t.val := by
    show (BitVec.ofNat 32 (grid0.coords t 0).val).toNat = t.val
    rw [e, BitVec.toNat_ofNat]; exact Nat.mod_eq_of_lt (by have := t_lt t; omega)
  funext a; apply Fin.ext
  match a with
  | ⟨0, _⟩ => show win0_8.index t (0 : Fin 3) * 1 + 1 * (y 0).val = t.val; omega
  | ⟨1, _⟩ => show win0_8.index t (1 : Fin 3) * 16 + 1 * (y 1).val = (y 1).val; rw [show win0_8.index t (1 : Fin 3) = 0 from rfl]; omega
  | ⟨2, _⟩ => show win0_8.index t (2 : Fin 3) * 1408 + 1 * (y 2).val = (y 2).val; rw [show win0_8.index t (2 : Fin 3) = 0 from rfl]; omega

theorem iblk_8 (c : Dev nD) (t : Fin cfg0.N) : iblk m c 8 t = row3 (m ((c.tc : Thread nD τ).loc main_arg8)) ⟨t.val, t_lt t⟩ := by
  funext y
  show V m c main_arg8 (((cfg0.win 8).blk t).view.emb y) = _
  rw [emb_8, V_main_arg8]
  rfl

theorem emb_9 (t : Fin cfg0.N) (y : (sh3 1 1408 1024).Idx) : ((cfg0.win 9).blk t).view.emb y = ix3 (n0 := 24) (n1 := 1408) (n2 := 1024) ⟨t.val, t_lt t⟩ (y 1) (y 2) := by
  have e := coords_t t
  have h0 : (y 0).val < 1 := (y 0).isLt
  have ei : win0_9.index t (0 : Fin 3) = t.val := by
    show (BitVec.ofNat 32 (grid0.coords t 0).val).toNat = t.val
    rw [e, BitVec.toNat_ofNat]; exact Nat.mod_eq_of_lt (by have := t_lt t; omega)
  funext a; apply Fin.ext
  match a with
  | ⟨0, _⟩ => show win0_9.index t (0 : Fin 3) * 1 + 1 * (y 0).val = t.val; omega
  | ⟨1, _⟩ => show win0_9.index t (1 : Fin 3) * 1408 + 1 * (y 1).val = (y 1).val; rw [show win0_9.index t (1 : Fin 3) = 0 from rfl]; omega
  | ⟨2, _⟩ => show win0_9.index t (2 : Fin 3) * 1024 + 1 * (y 2).val = (y 2).val; rw [show win0_9.index t (2 : Fin 3) = 0 from rfl]; omega

theorem iblk_9 (c : Dev nD) (t : Fin cfg0.N) : iblk m c 9 t = row3 (m ((c.tc : Thread nD τ).loc main_arg9)) ⟨t.val, t_lt t⟩ := by
  funext y
  show V m c main_arg9 (((cfg0.win 9).blk t).view.emb y) = _
  rw [emb_9, V_main_arg9]
  rfl

theorem emb_10 (t : Fin cfg0.N) (y : (sh3 1 11 2048).Idx) : ((cfg0.win 10).blk t).view.emb y = ix3 (n0 := 24) (n1 := 11) (n2 := 2048) ⟨t.val, t_lt t⟩ (y 1) (y 2) := by
  have e := coords_t t
  have h0 : (y 0).val < 1 := (y 0).isLt
  have ei : win0_10.index t (0 : Fin 3) = t.val := by
    show (BitVec.ofNat 32 (grid0.coords t 0).val).toNat = t.val
    rw [e, BitVec.toNat_ofNat]; exact Nat.mod_eq_of_lt (by have := t_lt t; omega)
  funext a; apply Fin.ext
  match a with
  | ⟨0, _⟩ => show win0_10.index t (0 : Fin 3) * 1 + 1 * (y 0).val = t.val; omega
  | ⟨1, _⟩ => show win0_10.index t (1 : Fin 3) * 11 + 1 * (y 1).val = (y 1).val; rw [show win0_10.index t (1 : Fin 3) = 0 from rfl]; omega
  | ⟨2, _⟩ => show win0_10.index t (2 : Fin 3) * 2048 + 1 * (y 2).val = (y 2).val; rw [show win0_10.index t (2 : Fin 3) = 0 from rfl]; omega

theorem iblk_10 (c : Dev nD) (t : Fin cfg0.N) : iblk m c 10 t = row3 (m ((c.tc : Thread nD τ).loc main_arg10)) ⟨t.val, t_lt t⟩ := by
  funext y
  show V m c main_arg10 (((cfg0.win 10).blk t).view.emb y) = _
  rw [emb_10, V_main_arg10]
  rfl

theorem emb_11 (t : Fin cfg0.N) (y : (sh3 1 11 2048).Idx) : ((cfg0.win 11).blk t).view.emb y = ix3 (n0 := 24) (n1 := 11) (n2 := 2048) ⟨t.val, t_lt t⟩ (y 1) (y 2) := by
  have e := coords_t t
  have h0 : (y 0).val < 1 := (y 0).isLt
  have ei : win0_11.index t (0 : Fin 3) = t.val := by
    show (BitVec.ofNat 32 (grid0.coords t 0).val).toNat = t.val
    rw [e, BitVec.toNat_ofNat]; exact Nat.mod_eq_of_lt (by have := t_lt t; omega)
  funext a; apply Fin.ext
  match a with
  | ⟨0, _⟩ => show win0_11.index t (0 : Fin 3) * 1 + 1 * (y 0).val = t.val; omega
  | ⟨1, _⟩ => show win0_11.index t (1 : Fin 3) * 11 + 1 * (y 1).val = (y 1).val; rw [show win0_11.index t (1 : Fin 3) = 0 from rfl]; omega
  | ⟨2, _⟩ => show win0_11.index t (2 : Fin 3) * 2048 + 1 * (y 2).val = (y 2).val; rw [show win0_11.index t (2 : Fin 3) = 0 from rfl]; omega

theorem iblk_11 (c : Dev nD) (t : Fin cfg0.N) : iblk m c 11 t = row3 (m ((c.tc : Thread nD τ).loc main_arg11)) ⟨t.val, t_lt t⟩ := by
  funext y
  show V m c main_arg11 (((cfg0.win 11).blk t).view.emb y) = _
  rw [emb_11, V_main_arg11]
  rfl

theorem emb_1 (t : Fin cfg0.N) (y : (sh 96 2048).Idx) : ((cfg0.win 1).blk t).view.emb y = y := by
  funext a; apply Fin.ext
  match a with
  | ⟨0, _⟩ => show win0_1.index t (0 : Fin 2) * 96 + 1 * (y 0).val = (y 0).val; rw [show win0_1.index t (0 : Fin 2) = 0 from rfl]; omega
  | ⟨1, _⟩ => show win0_1.index t (1 : Fin 2) * 2048 + 1 * (y 1).val = (y 1).val; rw [show win0_1.index t (1 : Fin 2) = 0 from rfl]; omega

theorem V_main_v0 (c : Dev nD) : V m c main_v0 = shapeCast (sh 96 2048) (m ((c.tc : Thread nD τ).loc main_arg0)) shapeCasts_S96x1x2048_S96x2048 := by
  show StableHlo.after hostOps0 _ (Proc.devRef .tc main_v0) = _
  after_results
  rfl

theorem mid1_1 {α : Type} (v : (sh3 96 1 2048).Idx → α) (h : (sh3 96 1 2048).ShapeCasts (sh 96 2048)) (a : Fin 96) (b : Fin 2048) :
    shapeCast (sh 96 2048) v h (ix2 a b) = v (ix3 a 0 b) :=
  shapeCast_apply v h _ _ (by
    rw [Shape.rowMajor_val_three, Shape.rowMajor_val_two]
    show (a.val * 1 + 0) * 2048 + b.val = a.val * 2048 + b.val
    omega)

theorem iblk_1 (c : Dev nD) (t : Fin cfg0.N) : iblk m c 1 t = fun y : (sh 96 2048).Idx => m ((c.tc : Thread nD τ).loc main_arg0) (ix3 (y 0) 0 (y 1)) := by
  funext y
  show V m c main_v0 (((cfg0.win 1).blk t).view.emb y) = _
  rw [emb_1, V_main_v0]
  rw [show y = ix2 (y 0) (y 1) from eq_ix2 y]
  exact mid1_1 _ _ (y 0) (y 1)

theorem emb_2 (t : Fin cfg0.N) (y : (sh 96 6).Idx) : ((cfg0.win 2).blk t).view.emb y = y := by
  funext a; apply Fin.ext
  match a with
  | ⟨0, _⟩ => show win0_2.index t (0 : Fin 2) * 96 + 1 * (y 0).val = (y 0).val; rw [show win0_2.index t (0 : Fin 2) = 0 from rfl]; omega
  | ⟨1, _⟩ => show win0_2.index t (1 : Fin 2) * 6 + 1 * (y 1).val = (y 1).val; rw [show win0_2.index t (1 : Fin 2) = 0 from rfl]; omega

theorem V_main_v1 (c : Dev nD) : V m c main_v1 = shapeCast (sh 96 6) (m ((c.tc : Thread nD τ).loc main_arg1)) shapeCasts_S96x1x6_S96x6 := by
  show StableHlo.after hostOps0 _ (Proc.devRef .tc main_v1) = _
  after_results
  rfl

theorem mid1_2 {α : Type} (v : (sh3 96 1 6).Idx → α) (h : (sh3 96 1 6).ShapeCasts (sh 96 6)) (a : Fin 96) (b : Fin 6) :
    shapeCast (sh 96 6) v h (ix2 a b) = v (ix3 a 0 b) :=
  shapeCast_apply v h _ _ (by
    rw [Shape.rowMajor_val_three, Shape.rowMajor_val_two]
    show (a.val * 1 + 0) * 6 + b.val = a.val * 6 + b.val
    omega)

theorem iblk_2 (c : Dev nD) (t : Fin cfg0.N) : iblk m c 2 t = fun y : (sh 96 6).Idx => m ((c.tc : Thread nD τ).loc main_arg1) (ix3 (y 0) 0 (y 1)) := by
  funext y
  show V m c main_v1 (((cfg0.win 2).blk t).view.emb y) = _
  rw [emb_2, V_main_v1]
  rw [show y = ix2 (y 0) (y 1) from eq_ix2 y]
  exact mid1_2 _ _ (y 0) (y 1)

theorem emb_3 (t : Fin cfg0.N) (y : (sh 96 6).Idx) : ((cfg0.win 3).blk t).view.emb y = y := by
  funext a; apply Fin.ext
  match a with
  | ⟨0, _⟩ => show win0_3.index t (0 : Fin 2) * 96 + 1 * (y 0).val = (y 0).val; rw [show win0_3.index t (0 : Fin 2) = 0 from rfl]; omega
  | ⟨1, _⟩ => show win0_3.index t (1 : Fin 2) * 6 + 1 * (y 1).val = (y 1).val; rw [show win0_3.index t (1 : Fin 2) = 0 from rfl]; omega

theorem V_main_v2 (c : Dev nD) : V m c main_v2 = shapeCast (sh 96 6) (m ((c.tc : Thread nD τ).loc main_arg2)) shapeCasts_S96x1x6_S96x6 := by
  show StableHlo.after hostOps0 _ (Proc.devRef .tc main_v2) = _
  after_results
  rfl

theorem mid1_3 {α : Type} (v : (sh3 96 1 6).Idx → α) (h : (sh3 96 1 6).ShapeCasts (sh 96 6)) (a : Fin 96) (b : Fin 6) :
    shapeCast (sh 96 6) v h (ix2 a b) = v (ix3 a 0 b) :=
  shapeCast_apply v h _ _ (by
    rw [Shape.rowMajor_val_three, Shape.rowMajor_val_two]
    show (a.val * 1 + 0) * 6 + b.val = a.val * 6 + b.val
    omega)

theorem iblk_3 (c : Dev nD) (t : Fin cfg0.N) : iblk m c 3 t = fun y : (sh 96 6).Idx => m ((c.tc : Thread nD τ).loc main_arg2) (ix3 (y 0) 0 (y 1)) := by
  funext y
  show V m c main_v2 (((cfg0.win 3).blk t).view.emb y) = _
  rw [emb_3, V_main_v2]
  rw [show y = ix2 (y 0) (y 1) from eq_ix2 y]
  exact mid1_3 _ _ (y 0) (y 1)

theorem iblk_0 (c : Dev nD) (t : Fin cfg0.N) : iblk m c 0 t = m ((c.tc : Thread nD τ).loc main_arg3) := by
  funext y
  show V m c main_arg3 (((cfg0.win 0).blk t).view.emb y) = _
  rw [V_main_arg3]
  refine congrArg _ ?_
  funext a; apply Fin.ext
  match a with
  | ⟨0, _⟩ => show win0_0.index t (0 : Fin 1) * 64 + 1 * (y 0).val = (y 0).val; rw [show win0_0.index t (0 : Fin 1) = 0 from rfl]; omega

end Cert.KernelIdeal.Hand

end
-- ==== Proof.KerS.lean ====
/- The tables the first grid point leaves, at an index. -/
module

public import proofs.«01_k».proof.Proof.InitEq
public import proofs.«01_k».proof.Proof.Spec
public import Idealize.ShloMosaic.Lib.Pipeline.ValueKit.Geometry
public import Idealize.ShloMosaic.Lib.IdealHost
public import Idealize.ShloMosaic.Lib.Pipeline.Value

@[expose] public section

set_option maxRecDepth 16384

noncomputable section

namespace Cert.KernelIdeal.Hand

open Cert.KernelIdeal Cert.KernelIdeal.Gen
open Idealize.ShloMosaic hiding ix1 ix2 ix3 ix4 eq_ix1 eq_ix2 eq_ix3 eq_ix4
open Idealize.ShloMosaic.ValueIdx

variable (a0 : Vec Ideal S64 .i32) (a1 : (sh3 96 1 6).Idx → BitVec 32) (a2 : (sh3 96 1 6).Idx → EReal)

theorem e2sAt_eq (e : ℕ) (h : e < 64) (hb) : e2sAt (F := Ideal) a0 e hb = a0 (ix1 (n := 64) ⟨e, h⟩) := by
  unfold e2sAt
  show a0 _ = a0 _
  refine congrArg a0 ?_
  funext a
  match a with
  | ⟨0, _⟩ => exact Fin.ext (by show e + 1 * 0 = e; omega)

theorem slotN_at (ids : IVec (sh 96 6) 32) (i : (sh 96 6).Idx) (hi : (ids i).toNat < 64) : ∀ (n : ℕ) (h : n ≤ 64),
    slotN (F := Ideal) a0 ids n h i = if (ids i).toNat < n then a0 (ix1 (n := 64) ⟨(ids i).toNat, hi⟩) else 4294967295#32
  | 0, h => by rw [if_neg (by omega)]; rfl
  | n + 1, h => by
    have ih := slotN_at ids i hi n (by omega)
    show Scalar.select (BitVec.ofBool (ids i == BitVec.ofNat 32 n)) (e2sAt (F := Ideal) a0 n (inb64 n (by omega))) (slotN (F := Ideal) a0 ids n (by omega) i) = _
    rw [ih, e2sAt_eq a0 n (by omega)]
    have en : (BitVec.ofNat 32 n).toNat = n := by rw [BitVec.toNat_ofNat]; exact Nat.mod_eq_of_lt (by omega)
    by_cases e : (ids i).toNat = n
    · have e' : ids i = BitVec.ofNat 32 n := BitVec.eq_of_toNat_eq (by rw [en, e])
      rw [if_pos (by omega : (ids i).toNat < n + 1), show (ids i == BitVec.ofNat 32 n) = true from by rw [e']; simp]
      exact congrArg a0 (congrArg ix1 (Fin.ext e.symm))
    · have e' : ids i ≠ BitVec.ofNat 32 n := fun q => e (by rw [q, en])
      rw [show (ids i == BitVec.ofNat 32 n) = false from by simpa using e']
      show (if (ids i).toNat < n then _ else _) = _
      by_cases h1 : (ids i).toNat < n
      · rw [if_pos h1, if_pos (by omega)]
      · rw [if_neg h1, if_neg (by omega)]

/-- An array without its middle axis of size one. -/
abbrev flat {α : Type} (a : (sh3 96 1 6).Idx → α) : (sh 96 6).Idx → α := fun y => a (ix3 (y 0) 0 (y 1))

theorem load_ids (x2 : Vec Ideal S96x6 .i32) (h) : shapeCast (sh 96 6) (View.ld x2 (Rect.unit (s := S96x6) ![0, 0] ![96, 6] inb_S96x6_S96x6_0_0)) h = x2 := by
  rw [ldw2]; exact shapeCast_self x2 _

theorem gv_eq (x3 : Vec Ideal S96x6 .f32) : gv x3 = x3 := by
  unfold gv
  rw [ldw2]; exact shapeCast_self x3 _

variable (t : Fin 96) (k : Fin 6)

theorem slotN64_at (h : (a1 (ix3 t 0 k)).toNat < 64) (h64) : slotN (F := Ideal) a0 (flat a1) 64 h64 (ix2 t k) = slotS a1 a0 t k := by
  rw [slotN_at a0 (flat a1) (ix2 t k) h 64 (le_refl _)]
  rw [if_pos (show (flat a1 (ix2 t k)).toNat < 64 from h)]
  unfold slotS
  exact congrArg a0 (congrArg ix1 (Fin.ext (by show (a1 (ix3 t 0 k)).toNat = min (a1 (ix3 t 0 k)).toNat 63; omega)))

theorem slotv_at (h : (a1 (ix3 t 0 k)).toNat < 64) : slotv (F := Ideal) a0 (flat a1) (ix2 t k) = slotS a1 a0 t k := by
  unfold slotv
  rw [load_ids, shapeCast_self]
  exact slotN64_at a0 a1 t k h _

theorem ext1 (b : BitVec 1) : (b.setWidth 32).toInt = (b.toNat : ℤ) := by revert b; decide

theorem vfv_at (h : (a1 (ix3 t 0 k)).toNat < 64) : vfv (F := Ideal) a0 (flat a1) (ix2 t k) = vfS a1 a0 t k := by
  unfold vfv vfS
  rw [load_ids]
  show ((((IntOp.cmpi .sge (slotN (F := Ideal) a0 (flat a1) 64 _ (ix2 t k)) 0#32).setWidth 32).toInt : ℝ) : EReal) = _
  rw [slotN64_at a0 a1 t k h, ext1, Int.cast_natCast]

theorem rsum_at (v : FVec Ideal (sh 96 6) .f32) : rsum v (ix2 t 0) = ∑ k : Fin 6, (v (ix2 t k) : EReal) := by
  unfold rsum
  refine (shapeCast_apply (s := ⟨1, ![96]⟩) (t := sh 96 1) _ _ (ix2 t 0) (ix1 t) (by
    rw [Shape.rowMajor_val_one, Shape.rowMajor_val_two]
    show t.val = t.val * 1 + 0
    omega)).trans ?_
  refine (Ideal.multiReduction_add_single v _ _ _ _ (ix1 t)).trans ?_
  refine Finset.sum_congr rfl fun k _ => congrArg v ?_
  funext a
  match a with
  | ⟨0, _⟩ => rfl
  | ⟨1, _⟩ => rfl

theorem missv_at (h : ∀ k, (a1 (ix3 t 0 k)).toNat < 64) : missv (F := Ideal) a0 (flat a1) (flat a2) (ix2 t 0) = missS a1 a2 a0 t := by
  unfold missv
  rw [rsum_at]
  refine Finset.sum_congr rfl fun k _ => ?_
  rw [gv_eq]
  show a2 (ix3 t 0 k) * (Ideal.ofBits .f32 0x3F800000#32 - vfv (F := Ideal) a0 (flat a1) (ix2 t k)) = _
  rw [Ideal.ofBits_one_f32, vfv_at a0 a1 t k (h k)]

theorem rv_at (h : ∀ k, (a1 (ix3 t 0 k)).toNat < 64) : rv (F := Ideal) a0 (flat a1) (flat a2) (ix2 t 0) = rS a1 a2 a0 t := by
  unfold rv
  rw [rsum_at]
  refine Finset.sum_congr rfl fun k _ => ?_
  rw [gv_eq]
  show a2 (ix3 t 0 k) * vfv (F := Ideal) a0 (flat a1) (ix2 t k) = _
  rw [vfv_at a0 a1 t k (h k)]

theorem wv_at (h : ∀ k, (a1 (ix3 t 0 k)).toNat < 64) : wv (F := Ideal) a0 (flat a1) (flat a2) (ix2 t k) = wS a1 a2 a0 t k := by
  unfold wv
  rw [shapeCast_self, gv_eq]
  show Ideal.div (a2 (ix3 t 0 k) * vfv (F := Ideal) a0 (flat a1) (ix2 t k)) (broadcastTo (sh 96 6) _ _ (ix2 t k)) = _
  rw [broadcastTo_apply (s := sh 96 1) (t := sh 96 6) _ _ (ix2 t k) (ix2 t 0) (fun a => by
    match a with
    | ⟨0, _⟩ => rfl
    | ⟨1, _⟩ => rfl)]
  show Ideal.div _ (Scalar.select (Ideal.cmp .ogt (rv (F := Ideal) a0 (flat a1) (flat a2) (ix2 t 0)) (Ideal.ofBits .f32 0x00000000#32)) (rv (F := Ideal) a0 (flat a1) (flat a2) (ix2 t 0)) (Ideal.ofBits .f32 0x3F800000#32)) = _
  rw [rv_at a0 a1 a2 t h, vfv_at a0 a1 t k (h k), Ideal.ofBits_one_f32, Ideal.ofBits_zero_f32]
  rfl

end Cert.KernelIdeal.Hand

end
-- ==== Proof.AccC.lean ====
/- The accumulator and the expert outputs after the last grid point, at an index. -/
module

public import proofs.«01_k».proof.Proof.Blocks
public import proofs.«01_k».proof.Proof.KerS
public import Idealize.ShloMosaic.Lib.Pipeline.ValueKit.Geometry
public import Idealize.ShloMosaic.Lib.Claim

@[expose] public section

set_option maxRecDepth 16384

noncomputable section

namespace Cert.KernelIdeal.Hand

open Cert.KernelIdeal Cert.KernelIdeal.Gen
open Idealize.ShloMosaic hiding ix1 ix2 ix3 ix4 eq_ix1 eq_ix2 eq_ix3 eq_ix4
open Idealize.ShloMosaic.ValueIdx

/-- A number times a sum of nonnegative ones. -/
theorem mul_sum_nonneg {n : ℕ} (c : EReal) (u : Fin n → EReal) (hu : ∀ k, 0 ≤ u k) : c * ∑ k, u k = ∑ k, c * u k := by
  classical
  have H : ∀ s : Finset (Fin n), c * ∑ k ∈ s, u k = ∑ k ∈ s, c * u k := fun s => by
    induction s using Finset.induction_on with
    | empty => simp
    | insert a s ha ih =>
      rw [Finset.sum_insert ha, Finset.sum_insert ha, EReal.left_distrib_of_nonneg (hu a) (Finset.sum_nonneg fun k _ => hu k), ih]
  exact H Finset.univ

/-- Weights collected slot by slot, or choice by choice. -/
theorem collect (Y : ℕ → EReal) (w : Fin 6 → EReal) (hw : ∀ k, 0 ≤ w k) (sl : Fin 6 → ℕ) :
    ∑ n ∈ Finset.range 24, Y n * ∑ k : Fin 6, (if sl k = n then w k else 0) = ∑ k : Fin 6, w k * (if sl k < 24 then Y (sl k) else 0) := by
  have e : ∀ n, Y n * ∑ k : Fin 6, (if sl k = n then w k else 0) = ∑ k : Fin 6, Y n * (if sl k = n then w k else 0) := fun n =>
    mul_sum_nonneg _ _ fun k => by split_ifs; exacts [hw k, le_refl _]
  rw [Finset.sum_congr rfl fun n _ => e n, Finset.sum_comm]
  refine Finset.sum_congr rfl fun k _ => ?_
  by_cases h : sl k < 24
  · rw [if_pos h, Finset.sum_eq_single (sl k) (fun n _ hn => by rw [if_neg (Ne.symm hn), mul_zero]) (fun hn => absurd (Finset.mem_range.2 h) hn), if_pos rfl, mul_comm]
  · rw [if_neg h, mul_zero]
    exact Finset.sum_eq_zero fun n hn => by rw [if_neg (fun q => h (by rw [q]; exact Finset.mem_range.1 hn)), mul_zero]

variable (m : (ℓ : Loc nD τ sig) → Buf (Elt Ideal) ℓ)

/-- The kernel's slot outputs, of its argument arrays. -/
def YK (c : Dev nD) : Fin 24 → Fin 96 → Fin 2048 → EReal :=
  Yv (m ((c.tc : Thread nD τ).loc main_arg0)) (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))

theorem HF_at (c : Dev nD) (p : Fin cfg0.N) (t : Fin 96) (f : Fin 1408) :
    HF m c p (ix2 t f) = hS (m ((c.tc : Thread nD τ).loc main_arg0)) (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) ⟨p.val, t_lt p⟩ t f := by
  unfold HF Hv hS
  rw [View.readCov_eq_canon', iblk_1, iblk_4, iblk_5, iblk_6, iblk_7, iblk_8]
  refine Eq.trans (congrArg _ ?_) (hPieces_apply _ _ _ _ _ _ t f)
  funext a
  match a with
  | ⟨0, _⟩ => exact Fin.ext (by show 0 + 1 * t.val = t.val; omega)
  | ⟨1, _⟩ => exact Fin.ext (by show 0 + 1 * f.val = f.val; omega)

theorem yval_at (c : Dev nD) (p : Fin cfg0.N) (t : Fin 96) (d : Fin 2048) :
    yval (HF m c p) (iblk m c 9 p) (iblk m c 10 p) (iblk m c 11 p) t d = YK m c ⟨p.val, t_lt p⟩ t d := by
  unfold yval YK Yv
  refine Finset.sum_congr rfl fun f _ => ?_
  rw [HF_at, iblk_9, iblk_10, iblk_11]

/-- The same at a plain number. -/
def YN (c : Dev nD) (t : Fin 96) (d : Fin 2048) (n : ℕ) : EReal := if h : n < 24 then YK m c ⟨n, h⟩ t d else 0

theorem ofNat_eq (b : BitVec 32) (n : ℕ) (h : n < 24) : b = BitVec.ofNat 32 n ↔ b.toNat = n := by
  have en : (BitVec.ofNat 32 n).toNat = n := by rw [BitVec.toNat_ofNat]; exact Nat.mod_eq_of_lt (by omega)
  exact ⟨fun e => by rw [e, en], fun e => BitVec.eq_of_toNat_eq (by rw [en, e])⟩

theorem stepA_at (c : Dev nD) (p : Fin cfg0.N) (a : Vec Ideal S96x2048 .f32) (t : Fin 96) (d : Fin 2048) :
    stepA m c p a (ix2 t d) = (a (ix2 t d) + YN m c t d p.val * ∑ k : Fin 6, (if (slotF m c (ix2 t k)).toNat = p.val then wF m c (ix2 t k) else 0) : EReal) := by
  unfold stepA
  rw [accPieces_apply, yval_at, coords_t]
  unfold YN wselv
  rw [dif_pos (t_lt p)]
  simp only [ofNat_eq _ _ (t_lt p)]

theorem stepO_at (c : Dev nD) (p : Fin cfg0.N) (o : Vec Ideal S6x96x2048 .f32) (k : Fin 6) (t : Fin 96) (d : Fin 2048) :
    stepO m c p o (ix3 k t d) = (if (slotF m c (ix2 t k)).toNat = p.val then YN m c t d p.val else o (ix3 k t d) : EReal) := by
  unfold stepO
  rw [outPieces_apply, yval_at, coords_t]
  unfold YN
  rw [dif_pos (t_lt p)]
  simp only [ofNat_eq _ _ (t_lt p)]

theorem ACC0_at (t : Fin 96) (d : Fin 2048) : (ACC0 (F := Ideal)) (ix2 t d) = (0 : EReal) := by
  unfold ACC0
  rw [shapeCast_self]
  exact Ideal.ofBits_zero_f32

theorem accN_at (c : Dev nD) (t : Fin 96) (d : Fin 2048) : ∀ (n : ℕ) (h : n < cfg0.N),
    accN m c n h (ix2 t d) = ∑ q ∈ Finset.range (n + 1), YN m c t d q * ∑ k : Fin 6, (if (slotF m c (ix2 t k)).toNat = q then (wF m c (ix2 t k) : EReal) else 0)
  | 0, h => by
    refine (stepA_at m c ⟨0, h⟩ ACC0 t d).trans ?_
    rw [ACC0_at, zero_add, Finset.sum_range_one]
  | n + 1, h => by
    refine (stepA_at m c ⟨n + 1, h⟩ (accN m c n (Nat.lt_of_succ_lt h)) t d).trans ?_
    rw [accN_at c t d n (Nat.lt_of_succ_lt h), Finset.sum_range_succ _ (n + 1)]

theorem outN_at (c : Dev nD) (k : Fin 6) (t : Fin 96) (d : Fin 2048) : ∀ (n : ℕ) (h : n < cfg0.N),
    outN m c n h (ix3 k t d) = (if (slotF m c (ix2 t k)).toNat < n + 1 then YN m c t d (slotF m c (ix2 t k)).toNat else 0 : EReal)
  | 0, h => by
    refine (stepO_at m c ⟨0, h⟩ _ k t d).trans ?_
    by_cases e : (slotF m c (ix2 t k)).toNat = 0
    · rw [if_pos e, if_pos (by omega), e]
    · rw [if_neg e, if_neg (by omega)]
      exact Ideal.ofBits_zero_f32
  | n + 1, h => by
    refine (stepO_at m c ⟨n + 1, h⟩ (outN m c n (Nat.lt_of_succ_lt h)) k t d).trans ?_
    rw [outN_at c k t d n (Nat.lt_of_succ_lt h)]
    show (if (slotF m c (ix2 t k)).toNat = n + 1 then _ else _) = _
    by_cases e : (slotF m c (ix2 t k)).toNat = n + 1
    · rw [if_pos e, if_pos (by omega), e]
    · rw [if_neg e]
      by_cases e' : (slotF m c (ix2 t k)).toNat < n + 1
      · rw [if_pos e', if_pos (by omega)]
      · rw [if_neg e', if_neg (by omega)]

end Cert.KernelIdeal.Hand

end
-- ==== Proof.RefY.lean ====
/- The reference's expert outputs at an index. -/
module

public import proofs.«01_k».proof.Proof.Spec
public import proofs.«01_k».proof.Proof.Gen.ReferenceIdeal.Read

@[expose] public section

set_option maxRecDepth 16384

noncomputable section

namespace Cert.KernelIdeal.Hand

open Cert.KernelIdeal Cert.KernelIdeal.Gen
open Cert.ReferenceIdeal.Read
open Idealize.ShloMosaic hiding ix1 ix2 ix3 ix4 eq_ix1 eq_ix2 eq_ix3 eq_ix4
open Idealize.ShloMosaic.ValueIdx

theorem nib_lo_eq (b : BitVec 8) : (((IntOp.andi (b.setWidth 32) 15#32).toInt : ℝ) : EReal) = nibLo b := by
  have h : (IntOp.andi (b.setWidth 32) 15#32).toInt = ((b.toNat % 16 : ℕ) : ℤ) := by
    revert b; decide +kernel
  unfold nibLo
  rw [h, Int.cast_natCast]

theorem nib_hi_eq (b : BitVec 8) : (((IntOp.shrsi .host (b.setWidth 32) 4#32).toInt : ℝ) : EReal) = nibHi b := by
  have h : (IntOp.shrsi .host (b.setWidth 32) 4#32).toInt = ((b.toNat / 16 : ℕ) : ℤ) := by
    unfold IntOp.shrsi
    rw [if_pos (by decide)]
    revert b; decide +kernel
  unfold nibHi
  rw [h, Int.cast_natCast]

variable (x0 : (sh3 96 1 2048).Idx → EReal) (x4 : (sh3 24 2048 1408).Idx → BitVec 8) (x5 x6 x7 x8 : (sh3 24 16 1408).Idx → EReal)
  (x9 : (sh3 24 1408 1024).Idx → BitVec 8) (x10 x11 : (sh3 24 11 2048).Idx → EReal)

theorem split13 (s : Fin 24) (d : Fin 2048) (f : Fin 1408) :
    idx_main_v37 (ix3 s d f) = ix4 (n0 := 24) (n1 := 16) (n2 := 128) (n3 := 1408) s ⟨d.val / 128, by omega⟩ ⟨d.val % 128, by omega⟩ f := by
  have hs := s.isLt; have hd := d.isLt; have hf := f.isLt
  funext a
  match a with
  | ⟨0, _⟩ => refine Fin.ext ?_; show ((s.val * 2048 + d.val) * 1408 + f.val) / 2883584 = s.val; omega
  | ⟨1, _⟩ => refine Fin.ext ?_; show ((s.val * 2048 + d.val) * 1408 + f.val) / 180224 % 16 = d.val / 128; omega
  | ⟨2, _⟩ => refine Fin.ext ?_; show ((s.val * 2048 + d.val) * 1408 + f.val) / 1408 % 128 = d.val % 128; omega
  | ⟨3, _⟩ => refine Fin.ext ?_; show ((s.val * 2048 + d.val) * 1408 + f.val) % 1408 = f.val; omega

theorem join13 (s : Fin 24) (g : Fin 16) (r : Fin 128) (f : Fin 1408) :
    idx_main_v30 (ix4 s g r f) = ix3 (n0 := 24) (n1 := 2048) (n2 := 1408) s ⟨g.val * 128 + r.val, by omega⟩ f := by
  have hs := s.isLt; have hd := g.isLt; have hr := r.isLt; have hf := f.isLt
  funext a
  match a with
  | ⟨0, _⟩ => refine Fin.ext ?_; show (((s.val * 16 + g.val) * 128 + r.val) * 1408 + f.val) / 2883584 = s.val; omega
  | ⟨1, _⟩ => refine Fin.ext ?_; show (((s.val * 16 + g.val) * 128 + r.val) * 1408 + f.val) / 1408 % 2048 = g.val * 128 + r.val; omega
  | ⟨2, _⟩ => refine Fin.ext ?_; show (((s.val * 16 + g.val) * 128 + r.val) * 1408 + f.val) % 1408 = f.val; omega

theorem scal13 (s : Fin 24) (g : Fin 16) (r : Fin 128) (f : Fin 1408) : idx_main_v31 (idx_main_v32 (ix4 s g r f)) = ix3 s g f := by
  funext a
  match a with
  | ⟨0, _⟩ => rfl
  | ⟨1, _⟩ => rfl
  | ⟨2, _⟩ => rfl

theorem back128 (d : Fin 2048) (h : d.val / 128 * 128 + d.val % 128 < 2048) : (⟨d.val / 128 * 128 + d.val % 128, h⟩ : Fin 2048) = d :=
  Fin.ext (Nat.div_add_mod' d.val 128)

theorem v37_at (s : Fin 24) (d : Fin 2048) (f : Fin 1408) :
    val_main_v37 (F := Ideal) x4 x5 x6 (ix3 s d f) = dqv nibLo (K := 2048) (G := 16) rfl (row3 x4 s) (row3 x5 s) (row3 x6 s) d f f := by
  rw [val_main_v37_apply, split13, val_main_v36_apply, val_main_v33_apply, val_main_v30_apply, val_main_v32_apply, val_main_v31_apply,
    val_main_v35_apply, val_main_v34_apply, val_main_v29_apply, val_main_v28_apply, val_main_v27_apply, val_main_v26_apply, join13, back128]
  have e1 := scal13 s ⟨d.val / 128, by omega⟩ ⟨d.val % 128, by omega⟩ f
  have e2 : idx_main_v34 (idx_main_v35 (ix4 s ⟨d.val / 128, by omega⟩ ⟨d.val % 128, by omega⟩ f)) = _ := e1
  rw [e1, e2]
  exact congrArg (fun q : EReal => (q - x6 (ix3 s ⟨d.val / 128, by omega⟩ f)) * x5 (ix3 s ⟨d.val / 128, by omega⟩ f)) (nib_lo_eq (x4 (ix3 s d f)))

theorem v49_at (s : Fin 24) (d : Fin 2048) (f : Fin 1408) :
    val_main_v49 (F := Ideal) x4 x7 x8 (ix3 s d f) = dqv nibHi (K := 2048) (G := 16) rfl (row3 x4 s) (row3 x7 s) (row3 x8 s) d f f := by
  have e0 : idx_main_v49 (ix3 s d f) = _ := split13 s d f
  have e3 : idx_main_v42 (ix4 s ⟨d.val / 128, by omega⟩ ⟨d.val % 128, by omega⟩ f) = _ := join13 s ⟨d.val / 128, by omega⟩ ⟨d.val % 128, by omega⟩ f
  rw [val_main_v49_apply, e0, val_main_v48_apply, val_main_v45_apply, val_main_v42_apply, val_main_v44_apply, val_main_v43_apply,
    val_main_v47_apply, val_main_v46_apply, val_main_v41_apply, val_main_v40_apply, val_main_v39_apply, val_main_v38_apply, e3, back128]
  have e1 : idx_main_v43 (idx_main_v44 (ix4 s ⟨d.val / 128, by omega⟩ ⟨d.val % 128, by omega⟩ f)) = _ := scal13 s ⟨d.val / 128, by omega⟩ ⟨d.val % 128, by omega⟩ f
  have e2 : idx_main_v46 (idx_main_v47 (ix4 s ⟨d.val / 128, by omega⟩ ⟨d.val % 128, by omega⟩ f)) = _ := scal13 s ⟨d.val / 128, by omega⟩ ⟨d.val % 128, by omega⟩ f
  rw [e1, e2]
  exact congrArg (fun q : EReal => (q - x8 (ix3 s ⟨d.val / 128, by omega⟩ f)) * x7 (ix3 s ⟨d.val / 128, by omega⟩ f)) (nib_hi_eq (x4 (ix3 s d f)))

theorem split2 (s : Fin 24) (f : Fin 1408) (d : Fin 1024) :
    idx_main_v70 (ix3 s f d) = ix4 (n0 := 24) (n1 := 11) (n2 := 128) (n3 := 1024) s ⟨f.val / 128, by omega⟩ ⟨f.val % 128, by omega⟩ d := by
  have hs := s.isLt; have hd := d.isLt; have hf := f.isLt
  funext a
  match a with
  | ⟨0, _⟩ => refine Fin.ext ?_; show ((s.val * 1408 + f.val) * 1024 + d.val) / 1441792 = s.val; omega
  | ⟨1, _⟩ => refine Fin.ext ?_; show ((s.val * 1408 + f.val) * 1024 + d.val) / 131072 % 11 = f.val / 128; omega
  | ⟨2, _⟩ => refine Fin.ext ?_; show ((s.val * 1408 + f.val) * 1024 + d.val) / 1024 % 128 = f.val % 128; omega
  | ⟨3, _⟩ => refine Fin.ext ?_; show ((s.val * 1408 + f.val) * 1024 + d.val) % 1024 = d.val; omega

theorem join2 (s : Fin 24) (g : Fin 11) (r : Fin 128) (d : Fin 1024) :
    idx_main_v63 (ix4 s g r d) = ix3 (n0 := 24) (n1 := 1408) (n2 := 1024) s ⟨g.val * 128 + r.val, by omega⟩ d := by
  have hs := s.isLt; have hg := g.isLt; have hr := r.isLt; have hd := d.isLt
  funext a
  match a with
  | ⟨0, _⟩ => refine Fin.ext ?_; show (((s.val * 11 + g.val) * 128 + r.val) * 1024 + d.val) / 1441792 = s.val; omega
  | ⟨1, _⟩ => refine Fin.ext ?_; show (((s.val * 11 + g.val) * 128 + r.val) * 1024 + d.val) / 1024 % 1408 = g.val * 128 + r.val; omega
  | ⟨2, _⟩ => refine Fin.ext ?_; show (((s.val * 11 + g.val) * 128 + r.val) * 1024 + d.val) % 1024 = d.val; omega

theorem back128' (d : Fin 1408) (h : d.val / 128 * 128 + d.val % 128 < 1408) : (⟨d.val / 128 * 128 + d.val % 128, h⟩ : Fin 1408) = d :=
  Fin.ext (Nat.div_add_mod' d.val 128)

theorem scal2lo (s : Fin 24) (g : Fin 11) (r : Fin 128) (d : Fin 1024) :
    idx_main_v61 (idx_main_v64 (idx_main_v65 (ix4 s g r d))) = ix3 (n0 := 24) (n1 := 11) (n2 := 2048) s g ⟨d.val, by omega⟩ := by
  funext a
  match a with
  | ⟨0, _⟩ => refine Fin.ext ?_; show _ = s.val; first | rfl | simp
  | ⟨1, _⟩ => refine Fin.ext ?_; show _ = g.val; first | rfl | simp
  | ⟨2, _⟩ => refine Fin.ext ?_; show _ = d.val; first | rfl | simp

theorem scal2hi (s : Fin 24) (g : Fin 11) (r : Fin 128) (d : Fin 1024) :
    idx_main_v75 (idx_main_v78 (idx_main_v79 (ix4 s g r d))) = ix3 (n0 := 24) (n1 := 11) (n2 := 2048) s g ⟨1024 + d.val, by omega⟩ := by
  funext a
  match a with
  | ⟨0, _⟩ => refine Fin.ext ?_; show _ = s.val; first | rfl | simp
  | ⟨1, _⟩ => refine Fin.ext ?_; show _ = g.val; first | rfl | simp
  | ⟨2, _⟩ => refine Fin.ext ?_; show _ = 1024 + d.val; first | rfl | simp | (show d.val + 1024 = _; omega)

theorem v70_at (s : Fin 24) (f : Fin 1408) (d : Fin 1024) :
    val_main_v70 (F := Ideal) x9 x10 x11 (ix3 s f d) = dqv nibLo (K := 1408) (G := 11) rfl (row3 x9 s) (row3 x10 s) (row3 x11 s) f d (⟨d.val, by omega⟩ : Fin 2048) := by
  rw [val_main_v70_apply, split2, val_main_v69_apply, val_main_v66_apply, val_main_v63_apply, val_main_v65_apply, val_main_v64_apply, val_main_v61_apply,
    val_main_v68_apply, val_main_v67_apply, val_main_v60_apply, val_main_v62_apply, val_main_v59_apply, val_main_v58_apply, val_main_v57_apply, join2, back128']
  have e1 := scal2lo s ⟨f.val / 128, by omega⟩ ⟨f.val % 128, by omega⟩ d
  have e2 : idx_main_v60 (idx_main_v67 (idx_main_v68 (ix4 s ⟨f.val / 128, by omega⟩ ⟨f.val % 128, by omega⟩ d))) = _ := e1
  rw [e1, e2]
  exact congrArg (fun q : EReal => (q - x11 (ix3 s ⟨f.val / 128, by omega⟩ ⟨d.val, by omega⟩)) * x10 (ix3 s ⟨f.val / 128, by omega⟩ ⟨d.val, by omega⟩)) (nib_lo_eq (x9 (ix3 s f d)))

theorem v84_at (s : Fin 24) (f : Fin 1408) (d : Fin 1024) :
    val_main_v84 (F := Ideal) x9 x10 x11 (ix3 s f d) = dqv nibHi (K := 1408) (G := 11) rfl (row3 x9 s) (row3 x10 s) (row3 x11 s) f d (⟨1024 + d.val, by omega⟩ : Fin 2048) := by
  have e0 : idx_main_v84 (ix3 s f d) = _ := split2 s f d
  have e3 : idx_main_v77 (ix4 s ⟨f.val / 128, by omega⟩ ⟨f.val % 128, by omega⟩ d) = _ := join2 s ⟨f.val / 128, by omega⟩ ⟨f.val % 128, by omega⟩ d
  rw [val_main_v84_apply, e0, val_main_v83_apply, val_main_v80_apply, val_main_v77_apply, val_main_v79_apply, val_main_v78_apply, val_main_v75_apply,
    val_main_v82_apply, val_main_v81_apply, val_main_v74_apply, val_main_v76_apply, val_main_v73_apply, val_main_v72_apply, val_main_v71_apply, e3, back128']
  have e1 := scal2hi s ⟨f.val / 128, by omega⟩ ⟨f.val % 128, by omega⟩ d
  have e2 : idx_main_v74 (idx_main_v81 (idx_main_v82 (ix4 s ⟨f.val / 128, by omega⟩ ⟨f.val % 128, by omega⟩ d))) = _ := e1
  rw [e1, e2]
  exact congrArg (fun q : EReal => (q - x11 (ix3 s ⟨f.val / 128, by omega⟩ ⟨1024 + d.val, by omega⟩)) * x10 (ix3 s ⟨f.val / 128, by omega⟩ ⟨1024 + d.val, by omega⟩)) (nib_hi_eq (x9 (ix3 s f d)))

end Cert.KernelIdeal.Hand

end
-- ==== Proof.RefS.lean ====
/- The reference's results at an index. -/
module

public import proofs.«01_k».proof.Proof.RefY
public import Idealize.ShloMosaic.Lib.ValueIdxCore
public import Idealize.ShloMosaic.Lib.IdealHost

@[expose] public section

set_option maxRecDepth 16384

noncomputable section

namespace Cert.KernelIdeal.Hand

open Cert.KernelIdeal Cert.KernelIdeal.Gen
open Cert.ReferenceIdeal.Read
open Idealize.ShloMosaic hiding ix1 ix2 ix3 ix4 eq_ix1 eq_ix2 eq_ix3 eq_ix4
open Idealize.ShloMosaic.ValueIdx

theorem not_slt0 (b : BitVec 32) (h : b.toNat < 64) : IntOp.cmpi .slt b 0#32 = 0#1 := by
  show BitVec.ofBool (b.slt 0#32) = 0#1
  rw [show b.slt 0#32 = false from by
    rw [BitVec.slt, BitVec.toInt_eq_toNat_of_lt (by omega)]; simp]
  rfl

theorem toInt_small (b : BitVec 32) (h : b.toNat < 64) : b.toInt.toNat = b.toNat := by
  rw [BitVec.toInt_eq_toNat_of_lt (by omega)]; simp

variable (x0 : (sh3 96 1 2048).Idx → EReal) (x1 : (sh3 96 1 6).Idx → BitVec 32) (x2 : (sh3 96 1 6).Idx → EReal) (x3 : (⟨1, ![64]⟩ : Shape).Idx → BitVec 32)
  (x4 : (sh3 24 2048 1408).Idx → BitVec 8) (x5 x6 x7 x8 : (sh3 24 16 1408).Idx → EReal)
  (x9 : (sh3 24 1408 1024).Idx → BitVec 8) (x10 x11 : (sh3 24 11 2048).Idx → EReal)

theorem idx1 (t : Fin 96) (k : Fin 6) : idx_main_v1 (ix2 t k) = ix3 (n0 := 96) (n1 := 1) (n2 := 6) t 0 k := by
  have ht := t.isLt; have hk := k.isLt
  funext a
  match a with
  | ⟨0, _⟩ => refine Fin.ext ?_; show (t.val * 6 + k.val) / 6 = t.val; omega
  | ⟨1, _⟩ => rfl
  | ⟨2, _⟩ => refine Fin.ext ?_; show (t.val * 6 + k.val) % 6 = k.val; omega

theorem v6_at (t : Fin 96) (k : Fin 6) (h : (x1 (ix3 t 0 k)).toNat < 64) : val_main_v6 (F := Ideal) x1 (ix2 t k) = x1 (ix3 t 0 k) := by
  rw [val_main_v6_apply, val_main_v3_apply, val_main_v1_apply, idx1]
  show Scalar.select (IntOp.cmpi .slt (x1 (ix3 t 0 k)) 0#32) _ _ = _
  rw [not_slt0 _ h]
  rfl

theorem v8_at (t : Fin 96) (k : Fin 6) (h : (x1 (ix3 t 0 k)).toNat < 64) : val_main_v8 (F := Ideal) x1 x3 (ix2 t k) = slotS x1 x3 t k := by
  unfold val_main_v8 slotS
  refine (gather_take_apply (N := 64) (R := 96) (C := 6) (by decide) Cert.ReferenceIdeal.gather_S64_S96x6x1_S96x6_n_0_n_n_0_2_1.wf x3 _ (ix2 t k)).trans ?_
  have e : val_main_v7 (F := Ideal) x1 (takeIdx (R := 96) (C := 6) (ix2 t k)) = x1 (ix3 t 0 k) := by
    rw [val_main_v7_apply]
    refine Eq.trans (congrArg _ ?_) (v6_at x1 t k h)
    funext a
    match a with
    | ⟨0, _⟩ => rfl
    | ⟨1, _⟩ => rfl
  refine congrArg x3 (congrArg ix1 (Fin.ext ?_))
  show min (BitVec.toInt (val_main_v7 (F := Ideal) x1 (takeIdx (R := 96) (C := 6) (ix2 t k)))).toNat (64 - 1) = min (x1 (ix3 t 0 k)).toNat 63
  rw [e, toInt_small _ h]

theorem v11_at (t : Fin 96) (k : Fin 6) (h : (x1 (ix3 t 0 k)).toNat < 64) : val_main_v11 (F := Ideal) x1 x3 (ix2 t k) = vfS x1 x3 t k := by
  rw [val_main_v11_apply, val_main_v10_apply, v8_at x1 x3 t k h]
  rfl

theorem v12_at (t : Fin 96) (k : Fin 6) : val_main_v12 (F := Ideal) x2 (ix2 t k) = x2 (ix3 t 0 k) := by
  rw [val_main_v12_apply]
  exact congrArg x2 (idx1 t k)

theorem one_add (x : EReal) : Ideal.ofBits .f32 0x00000000#32 + x = x := by rw [Ideal.ofBits_zero_f32, zero_add]

theorem v16_at (t : Fin 96) (h : ∀ k, (x1 (ix3 t 0 k)).toNat < 64) : val_main_v16 (F := Ideal) x1 x2 x3 (ix1 t) = missS x1 x2 x3 t := by
  rw [val_main_v16_apply]
  refine (one_add _).trans (Finset.sum_congr rfl fun k _ => ?_)
  rw [show idx_main_v16 (ix1 t) k = ix2 (n0 := 96) (n1 := 6) t k from by
    funext a
    match a with
    | ⟨0, _⟩ => rfl
    | ⟨1, _⟩ => rfl]
  rw [val_main_v15_apply, v12_at, val_main_v14_apply, v11_at x1 x3 t k (h k)]
  show x2 (ix3 t 0 k) * (Ideal.ofBits .f32 0x3F800000#32 - vfS x1 x3 t k) = _
  rw [Ideal.ofBits_one_f32]

theorem v18_at (t : Fin 96) (h : ∀ k, (x1 (ix3 t 0 k)).toNat < 64) : val_main_v18 (F := Ideal) x1 x2 x3 (ix1 t) = rS x1 x2 x3 t := by
  rw [val_main_v18_apply]
  refine (one_add _).trans (Finset.sum_congr rfl fun k _ => ?_)
  rw [show idx_main_v18 (ix1 t) k = ix2 (n0 := 96) (n1 := 6) t k from by
    funext a
    match a with
    | ⟨0, _⟩ => rfl
    | ⟨1, _⟩ => rfl]
  rw [val_main_v17_apply, v12_at, v11_at x1 x3 t k (h k)]
  rfl

theorem v25_at (t : Fin 96) (k : Fin 6) (h : ∀ k, (x1 (ix3 t 0 k)).toNat < 64) : val_main_v25 (F := Ideal) x1 x2 x3 (ix2 t k) = wS x1 x2 x3 t k := by
  rw [val_main_v25_apply, val_main_v19_apply, val_main_v24_apply, val_main_v23_apply, val_main_v22_apply, val_main_v21_apply, v12_at, v11_at x1 x3 t k (h k)]
  rw [show idx_main_v23 (idx_main_v24 (ix2 t k)) = ix1 (n := 96) t from by
    funext a
    match a with
    | ⟨0, _⟩ => rfl]
  rw [v18_at x1 x2 x3 t h]
  show Ideal.div (x2 (ix3 t 0 k) * vfS x1 x3 t k) (Scalar.select (Ideal.cmp .ogt (rS x1 x2 x3 t) (Ideal.ofBits .f32 0x00000000#32)) (rS x1 x2 x3 t) (Ideal.ofBits .f32 0x3F800000#32)) = _
  rw [Ideal.ofBits_one_f32, Ideal.ofBits_zero_f32]
  rfl

theorem v112_at (t : Fin 96) (h : ∀ k, (x1 (ix3 t 0 k)).toNat < 64) : val_main_v112 (F := Ideal) x1 x2 x3 (ix2 t 0) = missS x1 x2 x3 t := by
  rw [val_main_v112_apply]
  refine Eq.trans (congrArg _ ?_) (v16_at x1 x2 x3 t h)
  funext a
  match a with
  | ⟨0, _⟩ => refine Fin.ext ?_; show t.val * 1 + 0 = t.val; omega

theorem v50_at (s : Fin 24) (f : Fin 1408) (t : Fin 96) : val_main_v50 (F := Ideal) x0 x4 x5 x6 (ix3 s f t)
    = ∑ d : Fin 2048, Xv x0 (ix2 t d) * dqv nibLo (K := 2048) (G := 16) rfl (row3 x4 s) (row3 x5 s) (row3 x6 s) d f f := by
  rw [val_main_v50_apply]
  refine Finset.sum_congr rfl fun d _ => ?_
  rw [show lidx_main_v50 (ix3 s f t) d = ix3 (n0 := 24) (n1 := 2048) (n2 := 1408) s d f from by
    funext a
    match a with
    | ⟨0, _⟩ => rfl
    | ⟨1, _⟩ => rfl
    | ⟨2, _⟩ => rfl, v37_at, val_main_v0_apply, mul_comm]
  refine congrArg₂ (· * ·) (congrArg x0 ?_) rfl
  have ht := t.isLt; have hd := d.isLt
  funext a
  match a with
  | ⟨0, _⟩ => refine Fin.ext ?_; show (t.val * 2048 + d.val) / 2048 = t.val; omega
  | ⟨1, _⟩ => rfl
  | ⟨2, _⟩ => refine Fin.ext ?_; show (t.val * 2048 + d.val) % 2048 = d.val; omega

theorem v52_at (s : Fin 24) (f : Fin 1408) (t : Fin 96) : val_main_v52 (F := Ideal) x0 x4 x7 x8 (ix3 s f t)
    = ∑ d : Fin 2048, Xv x0 (ix2 t d) * dqv nibHi (K := 2048) (G := 16) rfl (row3 x4 s) (row3 x7 s) (row3 x8 s) d f f := by
  rw [val_main_v52_apply]
  refine Finset.sum_congr rfl fun d _ => ?_
  rw [show lidx_main_v52 (ix3 s f t) d = ix3 (n0 := 24) (n1 := 2048) (n2 := 1408) s d f from by
    funext a
    match a with
    | ⟨0, _⟩ => rfl
    | ⟨1, _⟩ => rfl
    | ⟨2, _⟩ => rfl, v49_at, val_main_v0_apply, mul_comm]
  refine congrArg₂ (· * ·) (congrArg x0 ?_) rfl
  have ht := t.isLt; have hd := d.isLt
  funext a
  match a with
  | ⟨0, _⟩ => refine Fin.ext ?_; show (t.val * 2048 + d.val) / 2048 = t.val; omega
  | ⟨1, _⟩ => rfl
  | ⟨2, _⟩ => refine Fin.ext ?_; show (t.val * 2048 + d.val) % 2048 = d.val; omega

theorem v56_at (s : Fin 24) (t : Fin 96) (f : Fin 1408) : val_main_v56 (F := Ideal) x0 x4 x5 x6 x7 x8 (ix3 s t f) = hS x0 x4 x5 x6 x7 x8 s t f := by
  have e1 : idx_main_v51 (ix3 s t f) = ix3 (n0 := 24) (n1 := 1408) (n2 := 96) s f t := by
    funext a
    match a with
    | ⟨0, _⟩ => rfl
    | ⟨1, _⟩ => rfl
    | ⟨2, _⟩ => rfl
  have e2 : idx_main_v53 (ix3 s t f) = ix3 (n0 := 24) (n1 := 1408) (n2 := 96) s f t := e1
  rw [val_main_v56_apply, val_main_v55_apply, val_main_v54_apply, val_main_call1_v5_apply, val_main_call1_v3_apply, val_main_call1_v1_apply,
    val_main_call1_v0_apply, val_main_v51_apply, val_main_v53_apply, e1, e2, v50_at, v52_at]
  unfold hS hval
  generalize (∑ d : Fin 2048, Xv x0 (ix2 t d) * dqv nibLo (K := 2048) (G := 16) rfl (row3 x4 s) (row3 x5 s) (row3 x6 s) d f f) = g
  generalize (∑ d : Fin 2048, Xv x0 (ix2 t d) * dqv nibHi (K := 2048) (G := 16) rfl (row3 x4 s) (row3 x7 s) (row3 x8 s) d f f) = u
  show g * Ideal.div (Ideal.ofBits .f32 0x3F800000#32) (Ideal.ofBits .f32 0x3F800000#32 + _) * u = _
  rw [Ideal.ofBits_one_f32]
  rfl

theorem v85_at (s : Fin 24) (t : Fin 96) (d : Fin 1024) : val_main_v85 (F := Ideal) x0 x4 x5 x6 x7 x8 x9 x10 x11 (ix3 s t d)
    = Yv x0 x4 x5 x6 x7 x8 x9 x10 x11 s t ⟨d.val, by omega⟩ := by
  rw [val_main_v85_apply]
  refine Finset.sum_congr rfl fun f _ => ?_
  rw [show lidx_main_v85 (ix3 s t d) f = ix3 (n0 := 24) (n1 := 96) (n2 := 1408) s t f from by
    funext a
    match a with
    | ⟨0, _⟩ => rfl
    | ⟨1, _⟩ => rfl
    | ⟨2, _⟩ => rfl, show ridx_main_v85 (ix3 s t d) f = ix3 (n0 := 24) (n1 := 1408) (n2 := 1024) s f d from by
    funext a
    match a with
    | ⟨0, _⟩ => rfl
    | ⟨1, _⟩ => rfl
    | ⟨2, _⟩ => rfl, v56_at, v70_at]
  unfold wd
  rw [dif_pos d.isLt]

theorem v86_at (s : Fin 24) (t : Fin 96) (d : Fin 1024) : val_main_v86 (F := Ideal) x0 x4 x5 x6 x7 x8 x9 x10 x11 (ix3 s t d)
    = Yv x0 x4 x5 x6 x7 x8 x9 x10 x11 s t ⟨1024 + d.val, by omega⟩ := by
  rw [val_main_v86_apply]
  refine Finset.sum_congr rfl fun f _ => ?_
  rw [show lidx_main_v86 (ix3 s t d) f = ix3 (n0 := 24) (n1 := 96) (n2 := 1408) s t f from by
    funext a
    match a with
    | ⟨0, _⟩ => rfl
    | ⟨1, _⟩ => rfl
    | ⟨2, _⟩ => rfl, show ridx_main_v86 (ix3 s t d) f = ix3 (n0 := 24) (n1 := 1408) (n2 := 1024) s f d from by
    funext a
    match a with
    | ⟨0, _⟩ => rfl
    | ⟨1, _⟩ => rfl
    | ⟨2, _⟩ => rfl, v56_at, v84_at]
  unfold wd
  rw [dif_neg (by show ¬ 1024 + d.val < 1024; omega)]
  have e : d = (⟨1024 + d.val - 1024, by omega⟩ : Fin 1024) := Fin.ext (by show d.val = 1024 + d.val - 1024; omega)
  exact congrArg (fun q : Fin 1024 => hS x0 x4 x5 x6 x7 x8 s t f * dqv nibHi (K := 1408) (G := 11) rfl (row3 x9 s) (row3 x10 s) (row3 x11 s) f q (⟨1024 + d.val, by omega⟩ : Fin 2048)) e

theorem v87_at (s : Fin 24) (t : Fin 96) (d : Fin 2048) : val_main_v87 (F := Ideal) x0 x4 x5 x6 x7 x8 x9 x10 x11 (ix3 s t d)
    = Yv x0 x4 x5 x6 x7 x8 x9 x10 x11 s t d := by
  unfold val_main_v87
  by_cases h : d.val < 1024
  · refine (concatenate_pair_apply_left (t := sh3 24 96 2048) (s₁ := sh3 24 96 1024) (s₂ := sh3 24 96 1024) 2 _ _ _ (ix3 s t d) rfl (ix3 s t ⟨d.val, h⟩) (fun b => ?_)).trans (v85_at x0 x4 x5 x6 x7 x8 x9 x10 x11 s t ⟨d.val, h⟩)
    match b with
    | ⟨0, _⟩ => rfl
    | ⟨1, _⟩ => rfl
    | ⟨2, _⟩ => rfl
  · have hd := d.isLt
    refine (concatenate_pair_apply_right (t := sh3 24 96 2048) (s₁ := sh3 24 96 1024) (s₂ := sh3 24 96 1024) 2 _ _ _ (ix3 s t d) rfl rfl (ix3 s t ⟨d.val - 1024, by omega⟩) (fun b hb => ?_) ?_).trans
      ((v86_at x0 x4 x5 x6 x7 x8 x9 x10 x11 s t ⟨d.val - 1024, by omega⟩).trans (congrArg _ (Fin.ext ?_)))
    · match b with
      | ⟨0, _⟩ => rfl
      | ⟨1, _⟩ => rfl
      | ⟨2, _⟩ => exact absurd rfl hb
    · show d.val - 1024 + 1024 = d.val; omega
    · show 1024 + (d.val - 1024) = d.val; omega

end Cert.KernelIdeal.Hand

end
-- ==== Proof.RefG.lean ====
/- The reference's gathered expert outputs and its output tokens at an index. -/
module

public import proofs.«01_k».proof.Proof.RefS
public import Idealize.ShloMosaic.Lib.ValueIdxCore
public import Idealize.ShloMosaic.Lib.IdealHost

@[expose] public section

set_option maxRecDepth 16384

noncomputable section

namespace Cert.KernelIdeal.Hand

open Cert.KernelIdeal Cert.KernelIdeal.Gen
open Cert.ReferenceIdeal.Read
open Idealize.ShloMosaic hiding ix1 ix2 ix3 ix4 eq_ix1 eq_ix2 eq_ix3 eq_ix4
open Idealize.ShloMosaic.ValueIdx

variable (x0 : (sh3 96 1 2048).Idx → EReal) (x1 : (sh3 96 1 6).Idx → BitVec 32) (x2 : (sh3 96 1 6).Idx → EReal) (x3 : (⟨1, ![64]⟩ : Shape).Idx → BitVec 32)
  (x4 : (sh3 24 2048 1408).Idx → BitVec 8) (x5 x6 x7 x8 : (sh3 24 16 1408).Idx → EReal)
  (x9 : (sh3 24 1408 1024).Idx → BitVec 8) (x10 x11 : (sh3 24 11 2048).Idx → EReal)

theorem clamp_nonneg (b : BitVec 32) (h : 0 ≤ b.toInt) : IntOp.maxsi b 0#32 = b := by
  unfold IntOp.maxsi
  by_cases h0 : (0#32 : BitVec 32).slt b = true
  · rw [if_pos h0]
  · rw [if_neg h0]
    have : ¬ (0 : ℤ) < b.toInt := fun q => h0 (by rw [BitVec.slt]; simpa using q)
    have e : b.toInt = 0 := by omega
    exact (BitVec.eq_of_toInt_eq (by rw [e]; rfl)).symm

theorem clamp_neg (b : BitVec 32) (h : b.toInt < 0) : IntOp.maxsi b 0#32 = 0#32 := by
  unfold IntOp.maxsi
  rw [if_neg (fun q => ?_)]
  rw [BitVec.slt] at q
  have : (0 : ℤ) < b.toInt := by simpa using q
  omega

theorem nonneg_small (b : BitVec 32) (h : 0 ≤ b.toInt) (h' : b.toInt < 24) : b.toNat < 24 := by
  rw [BitVec.toInt_eq_toNat_cond] at h h'
  split at h <;> simp_all <;> omega

theorem neg_big (b : BitVec 32) (h : b.toInt < 0) : ¬ b.toNat < 24 := by
  rw [BitVec.toInt_eq_toNat_cond] at h
  split at h <;> omega

/-- The clamped slot is a small number. -/
theorem clamp_small (b : BitVec 32) (h' : b.toInt < 24) : (IntOp.maxsi b 0#32).toNat < 64 := by
  by_cases h : 0 ≤ b.toInt
  · rw [clamp_nonneg b h]; have := nonneg_small b h h'; omega
  · rw [clamp_neg b (by omega)]; decide

theorem v96_at (t : Fin 96) (k : Fin 6) (h : (x1 (ix3 t 0 k)).toNat < 64) (h' : (slotS x1 x3 t k).toInt < 24) :
    val_main_v96 (F := Ideal) x1 x3 (ix2 t k) = IntOp.maxsi (slotS x1 x3 t k) 0#32 := by
  rw [val_main_v96_apply, val_main_v93_apply, val_main_v89_apply, v8_at x1 x3 t k h]
  show Scalar.select (IntOp.cmpi .slt (IntOp.maxsi (slotS x1 x3 t k) 0#32) 0#32) _ (IntOp.maxsi (slotS x1 x3 t k) 0#32) = _
  rw [not_slt0 _ (clamp_small _ h')]
  rfl

theorem v105_0 (t : Fin 96) (k : Fin 6) (h : (x1 (ix3 t 0 k)).toNat < 64) (h' : (slotS x1 x3 t k).toInt < 24) :
    val_main_v105 (F := Ideal) x1 x3 (ix3 (n0 := 96) (n1 := 6) (n2 := 2) t k 0) = IntOp.maxsi (slotS x1 x3 t k) 0#32 := by
  unfold val_main_v105
  refine (concatenate_pair_apply_left (t := sh3 96 6 2) (s₁ := sh3 96 6 1) (s₂ := sh3 96 6 1) 2 _ _ _ (ix3 t k 0) rfl (ix3 t k 0) (fun b => ?_)).trans ?_
  · match b with
    | ⟨0, _⟩ => rfl
    | ⟨1, _⟩ => rfl
    | ⟨2, _⟩ => rfl
  rw [val_main_v103_apply]
  refine Eq.trans (congrArg _ ?_) (v96_at x1 x3 t k h h')
  funext a
  match a with
  | ⟨0, _⟩ => rfl
  | ⟨1, _⟩ => rfl

theorem v101_at (i : (sh 96 1).Idx) : (val_main_v101 (F := Ideal) i).toInt.toNat = (i 0).val := by
  have hi : (i 0).val < 96 := (i 0).isLt
  have e : val_main_v91 (F := Ideal) i = BitVec.ofNat 32 (i 0).val := by
    rw [val_main_v91_apply, val_main_v90_apply]
  have e' : (BitVec.ofNat 32 (i 0).val).toNat = (i 0).val := by rw [BitVec.toNat_ofNat]; exact Nat.mod_eq_of_lt (by omega)
  rw [val_main_v101_apply, val_main_v98_apply, e]
  show (BitVec.toInt (n := 32) (Scalar.select (IntOp.cmpi .slt (BitVec.ofNat 32 (i 0).val) 0#32) _ _)).toNat = _
  rw [show IntOp.cmpi .slt (BitVec.ofNat 32 (i 0).val) 0#32 = 0#1 from by
    show BitVec.ofBool ((BitVec.ofNat 32 (i 0).val).slt 0#32) = 0#1
    rw [show (BitVec.ofNat 32 (i 0).val).slt 0#32 = false from by
      rw [BitVec.slt, BitVec.toInt_eq_toNat_of_lt (by omega)]; simp; omega]
    rfl]
  show (BitVec.ofNat 32 (i 0).val).toInt.toNat = _
  rw [BitVec.toInt_eq_toNat_of_lt (by omega), e']; simp

theorem v105_1 (t : Fin 96) (k : Fin 6) :
    (val_main_v105 (F := Ideal) x1 x3 (ix3 (n0 := 96) (n1 := 6) (n2 := 2) t k 1)).toInt.toNat = t.val := by
  unfold val_main_v105
  rw [concatenate_pair_apply_right (t := sh3 96 6 2) (s₁ := sh3 96 6 1) (s₂ := sh3 96 6 1) 2 _ _ _ (ix3 t k 1) rfl rfl (ix3 t k 0) (fun b hb => by
    match b with
    | ⟨0, _⟩ => rfl
    | ⟨1, _⟩ => rfl
    | ⟨2, _⟩ => exact absurd rfl hb) rfl]
  rw [val_main_v104_apply, val_main_v102_apply]
  exact v101_at _

theorem gather3 {α : Type} (x : (sh3 24 96 2048).Idx → α) (idx : IVec (sh3 96 6 2) 32) (t : Fin 96) (k : Fin 6) (d : Fin 2048) (s : Fin 24)
    (h0 : (idx (ix3 t k 0)).toInt.toNat = s.val) (h1 : (idx (ix3 t k 1)).toInt.toNat = t.val) :
    Host.gather Cert.ReferenceIdeal.gather_S24x96x2048_S96x6x2_S96x6x2048_2_01_n_n_01_2_112048 x idx (ix3 t k d) = x (ix3 s t d) := by
  unfold Host.gather
  congr 1
  funext a
  refine Fin.ext ?_
  generalize hD : Cert.ReferenceIdeal.gather_S24x96x2048_S96x6x2_S96x6x2048_2_01_n_n_01_2_112048 = D
  show D.start (ix3 t k d) idx a + D.batchCoord (ix3 t k d) a + D.offCoord (ix3 t k d) a = _
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  have hs := s.isLt
  have ht := t.isLt
  subst hD
  rcases ha with rfl | rfl | rfl
  · rw [GatherDims.batchCoord_eq_zero _ _ _ (fun h => by simp [Cert.ReferenceIdeal.gather_S24x96x2048_S96x6x2_S96x6x2048_2_01_n_n_01_2_112048] at h),
      GatherDims.offCoord_eq_zero _ _ _ (fun h => ((GatherDims.mem_sKept _ _).mp h).1 (show (0 : Fin 3) ∈ [(0 : Fin 3), 1] by decide))]
    simp only [Nat.add_zero]
    unfold GatherDims.start
    rw [dif_pos (show (0 : Fin Cert.ReferenceIdeal.S24x96x2048.rank) ∈ Cert.ReferenceIdeal.gather_S24x96x2048_S96x6x2_S96x6x2048_2_01_n_n_01_2_112048.startIndexMap by decide)]
    refine (congrArg (fun q : (sh3 96 6 2).Idx => min (idx q).toInt.toNat (24 - 1)) (show _ = ix3 t k 0 from ?_)).trans (by show min (idx (ix3 t k 0)).toInt.toNat 23 = s.val; omega)
    funext b; refine Fin.ext ?_
    match b with
    | ⟨0, _⟩ => rfl
    | ⟨1, _⟩ => rfl
    | ⟨2, _⟩ => rfl
  · rw [GatherDims.batchCoord_eq_zero _ _ _ (fun h => by simp [Cert.ReferenceIdeal.gather_S24x96x2048_S96x6x2_S96x6x2048_2_01_n_n_01_2_112048] at h),
      GatherDims.offCoord_eq_zero _ _ _ (fun h => ((GatherDims.mem_sKept _ _).mp h).1 (show (1 : Fin 3) ∈ [(0 : Fin 3), 1] by decide))]
    simp only [Nat.add_zero]
    unfold GatherDims.start
    rw [dif_pos (show (1 : Fin Cert.ReferenceIdeal.S24x96x2048.rank) ∈ Cert.ReferenceIdeal.gather_S24x96x2048_S96x6x2_S96x6x2048_2_01_n_n_01_2_112048.startIndexMap by decide)]
    refine (congrArg (fun q : (sh3 96 6 2).Idx => min (idx q).toInt.toNat (96 - 1)) (show _ = ix3 t k 1 from ?_)).trans (by show min (idx (ix3 t k 1)).toInt.toNat 95 = t.val; omega)
    funext b; refine Fin.ext ?_
    match b with
    | ⟨0, _⟩ => rfl
    | ⟨1, _⟩ => rfl
    | ⟨2, _⟩ => rfl
  · rw [GatherDims.batchCoord_eq_zero _ _ _ (fun h => by simp [Cert.ReferenceIdeal.gather_S24x96x2048_S96x6x2_S96x6x2048_2_01_n_n_01_2_112048] at h)]
    unfold GatherDims.start
    rw [dif_neg (show ¬ (2 : Fin Cert.ReferenceIdeal.S24x96x2048.rank) ∈ Cert.ReferenceIdeal.gather_S24x96x2048_S96x6x2_S96x6x2048_2_01_n_n_01_2_112048.startIndexMap by decide)]
    unfold GatherDims.offCoord
    rw [dif_pos ((GatherDims.mem_sKept _ _).mpr ⟨show ¬ (2 : Fin 3) ∈ [(0 : Fin 3), 1] by decide, show ¬ (2 : Fin 3) ∈ ([] : List (Fin 3)) by decide⟩)]
    simp only [Nat.zero_add]
    rfl

theorem v108_at (t : Fin 96) (k : Fin 6) (d : Fin 2048) (h : (x1 (ix3 t 0 k)).toNat < 64) (h' : (slotS x1 x3 t k).toInt < 24) :
    val_main_v108 (F := Ideal) x0 x1 x3 x4 x5 x6 x7 x8 x9 x10 x11 (ix3 t k d)
      = oS (Yv x0 x4 x5 x6 x7 x8 x9 x10 x11) (slotS x1 x3 t k) t d := by
  rw [val_main_v108_apply, val_main_call2_v1_apply, val_main_v107_apply, val_main_v10_apply]
  rw [show idx_main_v107 (idx_main_call2_v1 (ix3 t k d)) = ix2 (n0 := 96) (n1 := 6) t k from by
    funext a
    match a with
    | ⟨0, _⟩ => rfl
    | ⟨1, _⟩ => rfl, v8_at x1 x3 t k h]
  generalize hsl : slotS x1 x3 t k = sl at h' ⊢
  show Scalar.select (IntOp.cmpi .sge sl 0#32) _ (Ideal.ofBits .f32 0x00000000#32) = _
  rw [Ideal.ofBits_zero_f32]
  unfold oS
  by_cases hs : 0 ≤ sl.toInt
  · have hn := nonneg_small sl hs h'
    rw [dif_pos hn]
    rw [show IntOp.cmpi .sge sl 0#32 = 1#1 from by
      show BitVec.ofBool ((0#32 : BitVec 32).sle sl) = 1#1
      rw [show (0#32 : BitVec 32).sle sl = true from by rw [BitVec.sle]; simpa using hs]
      rfl]
    show val_main_v106 (F := Ideal) x0 x1 x3 x4 x5 x6 x7 x8 x9 x10 x11 (ix3 t k d) = _
    unfold val_main_v106
    refine (gather3 _ _ t k d ⟨sl.toNat, hn⟩ ?_ (v105_1 x1 x3 t k)).trans (v87_at x0 x4 x5 x6 x7 x8 x9 x10 x11 _ t d)
    rw [v105_0 x1 x3 t k h (by rw [hsl]; exact h'), hsl, clamp_nonneg sl hs, toInt_small sl (by omega)]
  · rw [dif_neg (neg_big sl (by omega))]
    rw [show IntOp.cmpi .sge sl 0#32 = 0#1 from by
      show BitVec.ofBool ((0#32 : BitVec 32).sle sl) = 0#1
      rw [show (0#32 : BitVec 32).sle sl = false from by rw [BitVec.sle]; simpa using hs]
      rfl]
    rfl

theorem v111_at (t : Fin 96) (d : Fin 2048) (h : ∀ k, (x1 (ix3 t 0 k)).toNat < 64) (h' : ∀ k, (slotS x1 x3 t k).toInt < 24) :
    val_main_v111 (F := Ideal) x0 x1 x2 x3 x4 x5 x6 x7 x8 x9 x10 x11 (ix3 t 0 d)
      = ∑ k : Fin 6, wS x1 x2 x3 t k * oS (Yv x0 x4 x5 x6 x7 x8 x9 x10 x11) (slotS x1 x3 t k) t d := by
  rw [val_main_v111_apply, val_main_v110_apply]
  show val_main_v109 (F := Ideal) x0 x1 x2 x3 x4 x5 x6 x7 x8 x9 x10 x11 (idx_main_v110 (ix3 t 0 d)) = _
  have ht := t.isLt; have hd := d.isLt
  rw [show idx_main_v110 (ix3 t 0 d) = ix2 (n0 := 96) (n1 := 2048) t d from by
    funext a
    match a with
    | ⟨0, _⟩ => refine Fin.ext ?_; show ((t.val * 1 + 0) * 2048 + d.val) / 2048 = t.val; omega
    | ⟨1, _⟩ => refine Fin.ext ?_; show ((t.val * 1 + 0) * 2048 + d.val) % 2048 = d.val; omega]
  rw [val_main_v109_apply]
  refine Finset.sum_congr rfl fun k _ => ?_
  rw [show lidx_main_v109 (ix2 t d) k = ix2 (n0 := 96) (n1 := 6) t k from by
    funext a
    match a with
    | ⟨0, _⟩ => rfl
    | ⟨1, _⟩ => rfl, show ridx_main_v109 (ix2 t d) k = ix3 (n0 := 96) (n1 := 6) (n2 := 2048) t k d from by
    funext a
    match a with
    | ⟨0, _⟩ => rfl
    | ⟨1, _⟩ => rfl
    | ⟨2, _⟩ => rfl, v25_at x1 x2 x3 t k h, v108_at x0 x1 x3 x4 x5 x6 x7 x8 x9 x10 x11 t k d (h k) (h' k)]

theorem v113_at (t : Fin 96) (k : Fin 6) (d : Fin 2048) (h : (x1 (ix3 t 0 k)).toNat < 64) (h' : (slotS x1 x3 t k).toInt < 24) :
    val_main_v113 (F := Ideal) x0 x1 x3 x4 x5 x6 x7 x8 x9 x10 x11 (ix4 t 0 k d)
      = oS (Yv x0 x4 x5 x6 x7 x8 x9 x10 x11) (slotS x1 x3 t k) t d := by
  rw [val_main_v113_apply]
  refine Eq.trans (congrArg _ ?_) (v108_at x0 x1 x3 x4 x5 x6 x7 x8 x9 x10 x11 t k d h h')
  have ht := t.isLt; have hk := k.isLt; have hd := d.isLt
  funext a
  match a with
  | ⟨0, _⟩ => refine Fin.ext ?_; show (((t.val * 1 + 0) * 6 + k.val) * 2048 + d.val) / 12288 = t.val; omega
  | ⟨1, _⟩ => refine Fin.ext ?_; show (((t.val * 1 + 0) * 6 + k.val) * 2048 + d.val) / 2048 % 6 = k.val; omega
  | ⟨2, _⟩ => refine Fin.ext ?_; show (((t.val * 1 + 0) * 6 + k.val) * 2048 + d.val) % 2048 = d.val; omega

end Cert.KernelIdeal.Hand

end
-- ==== Proof.Final.lean ====
/- The kernel's three results and the reference's, at an index and as arrays. -/
module

public import proofs.«01_k».proof.Proof.Tail
public import proofs.«01_k».proof.Proof.AccC
public import proofs.«01_k».proof.Proof.RefG
public import proofs.«01_k».proof.Pre_routed

@[expose] public section

set_option maxRecDepth 16384

noncomputable section

namespace Cert.KernelIdeal.Hand

open Cert.KernelIdeal Cert.KernelIdeal.Gen
open Cert.ReferenceIdeal.Read
open Idealize.ShloMosaic hiding ix1 ix2 ix3 ix4 eq_ix1 eq_ix2 eq_ix3 eq_ix4
open Idealize.ShloMosaic.ValueIdx

section Weights

variable (a1 : (sh3 96 1 6).Idx → BitVec 32) (a2 : (sh3 96 1 6).Idx → EReal) (a3 : (⟨1, ![64]⟩ : Shape).Idx → BitVec 32)

theorem vfS_nonneg (t : Fin 96) (k : Fin 6) : 0 ≤ vfS a1 a3 t k := by
  unfold vfS
  exact EReal.coe_nonneg.2 (Nat.cast_nonneg _)

/-- Nonnegative gates give nonnegative weights. -/
theorem wS_nonneg (hg : ∀ i, 0 ≤ a2 i) (t : Fin 96) (k : Fin 6) : 0 ≤ wS a1 a2 a3 t k := by
  unfold wS
  generalize rS a1 a2 a3 t = r
  have hd : 0 < Scalar.select (Ideal.cmp .ogt r 0) r (1 : EReal) := by
    unfold Scalar.select
    by_cases h : 0 < r
    · rw [if_pos ((Ideal.cmp_ogt_eq_one _ _).2 h)]; exact h
    · rw [if_neg (fun e => h ((Ideal.cmp_ogt_eq_one _ _).1 e))]; exact zero_lt_one
  unfold Ideal.div
  rw [if_neg hd.ne']
  exact mul_nonneg (mul_nonneg (hg _) (vfS_nonneg a1 a3 t k)) (EReal.inv_nonneg_of_nonneg hd.le)

end Weights

/-- What the precondition says of the three arrays it reads. -/
structure Routed (a1 : (sh3 96 1 6).Idx → BitVec 32) (a2 : (sh3 96 1 6).Idx → EReal) (a3 : (⟨1, ![64]⟩ : Shape).Idx → BitVec 32) : Prop where
  ids : ∀ i, (a1 i).toNat < 64
  slots : ∀ i, (a3 i).toInt < 24
  gates : ∀ i, 0 ≤ a2 i

/-- The result `y` of the reference's mathematics. -/
def yS (x0 : (sh3 96 1 2048).Idx → EReal) (x1 : (sh3 96 1 6).Idx → BitVec 32) (x2 : (sh3 96 1 6).Idx → EReal) (x3 : (⟨1, ![64]⟩ : Shape).Idx → BitVec 32)
  (x4 : (sh3 24 2048 1408).Idx → BitVec 8) (x5 x6 x7 x8 : (sh3 24 16 1408).Idx → EReal)
  (x9 : (sh3 24 1408 1024).Idx → BitVec 8) (x10 x11 : (sh3 24 11 2048).Idx → EReal) (t : Fin 96) (d : Fin 2048) : EReal :=
  ∑ k : Fin 6, wS x1 x2 x3 t k * oS (Yv x0 x4 x5 x6 x7 x8 x9 x10 x11) (slotS x1 x3 t k) t d

variable (m : (ℓ : Loc nD τ sig) → Buf (Elt Ideal) ℓ) (c : Dev nD)

/-- The precondition at the kernel's memory. -/
abbrev RoutedK : Prop := Routed (m ((c.tc : Thread nD τ).loc main_arg1)) (m ((c.tc : Thread nD τ).loc main_arg2)) (m ((c.tc : Thread nD τ).loc main_arg3))

variable {m c}

theorem slotF_at (H : RoutedK m c) (t : Fin 96) (k : Fin 6) :
    slotF m c (ix2 t k) = slotS (m ((c.tc : Thread nD τ).loc main_arg1)) (m ((c.tc : Thread nD τ).loc main_arg3)) t k := by
  unfold slotF
  rw [iblk_0, iblk_2]
  exact slotv_at _ _ t k (H.ids _)

theorem wF_at (H : RoutedK m c) (t : Fin 96) (k : Fin 6) :
    wF m c (ix2 t k) = wS (m ((c.tc : Thread nD τ).loc main_arg1)) (m ((c.tc : Thread nD τ).loc main_arg2)) (m ((c.tc : Thread nD τ).loc main_arg3)) t k := by
  unfold wF
  rw [iblk_0, iblk_2, iblk_3]
  exact wv_at _ _ _ t k fun k => H.ids _

theorem missF_at (H : RoutedK m c) (t : Fin 96) :
    missF m c (ix2 t 0) = missS (m ((c.tc : Thread nD τ).loc main_arg1)) (m ((c.tc : Thread nD τ).loc main_arg2)) (m ((c.tc : Thread nD τ).loc main_arg3)) t := by
  unfold missF
  rw [iblk_0, iblk_2, iblk_3]
  exact missv_at _ _ _ t fun k => H.ids _

theorem oS_eq (t : Fin 96) (d : Fin 2048) (sl : BitVec 32) :
    (if sl.toNat < 24 then YN m c t d sl.toNat else 0) = oS (YK m c) sl t d := by
  unfold oS YN
  by_cases h : sl.toNat < 24
  · rw [if_pos h, dif_pos h]
  · rw [if_neg h, dif_neg h]

theorem out_at (H : RoutedK m c) (k : Fin 6) (t : Fin 96) (d : Fin 2048) :
    outN m c 23 lt23 (ix3 k t d) = oS (YK m c) (slotS (m ((c.tc : Thread nD τ).loc main_arg1)) (m ((c.tc : Thread nD τ).loc main_arg3)) t k) t d := by
  rw [outN_at m c k t d 23 lt23, slotF_at H t k]
  exact oS_eq t d _

theorem yF_eq (m : (ℓ : Loc nD τ sig) → Buf (Elt Ideal) ℓ) (c : Dev nD) (t : Fin 96) (d : Fin 2048) : yF m c (ix2 t d) = accN m c 23 lt23 (ix2 t d) := by
  unfold yF YF
  rw [ldw2]
  rfl

theorem y_at (H : RoutedK m c) (t : Fin 96) (d : Fin 2048) :
    yF m c (ix2 t d) = yS (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10)) (m ((c.tc : Thread nD τ).loc main_arg11)) t d := by
  rw [yF_eq, accN_at m c t d 23 lt23]
  refine (collect (YN m c t d) (fun k => wF m c (ix2 t k)) (fun k => ?_) (fun k => (slotF m c (ix2 t k)).toNat)).trans ?_
  · show (0 : EReal) ≤ wF m c (ix2 t k)
    rw [wF_at H t k]
    exact wS_nonneg _ _ _ H.gates t k
  · unfold yS
    refine Finset.sum_congr rfl fun k _ => ?_
    rw [slotF_at H t k, wF_at H t k, oS_eq]
    rfl

/-! The three results as arrays. -/

theorem res_y (H : RoutedK m c) : shapeCast S96x1x2048 (yF m c) shapeCasts_S96x2048_S96x1x2048
    = val_main_v111 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  funext i
  obtain ⟨t, z, d, rfl⟩ : ∃ (t : Fin 96) (z : Fin 1) (d : Fin 2048), i = ix3 t z d := ⟨i 0, i 1, i 2, eq_ix3 i⟩
  obtain rfl : z = 0 := Subsingleton.elim _ _
  refine Eq.trans (shapeCast_apply (yF m c) shapeCasts_S96x2048_S96x1x2048 (ix3 t 0 d) (ix2 t d) ?_) ?_
  · rw [Shape.rowMajor_val_two, Shape.rowMajor_val_three]
    show t.val * 2048 + d.val = (t.val * 1 + 0) * 2048 + d.val
    omega
  · exact (y_at H t d).trans (v111_at _ _ _ _ _ _ _ _ _ _ _ _ t d (fun k => H.ids _) (fun k => H.slots _)).symm

theorem res_miss (H : RoutedK m c) : missF m c = val_main_v112 (F := Ideal) (m ((c.tc : Thread nD τ).loc main_arg1)) (m ((c.tc : Thread nD τ).loc main_arg2)) (m ((c.tc : Thread nD τ).loc main_arg3)) := by
  funext i
  obtain ⟨t, z, rfl⟩ : ∃ (t : Fin 96) (z : Fin 1), i = ix2 t z := ⟨i 0, i 1, eq_ix2 i⟩
  obtain rfl : z = 0 := Subsingleton.elim _ _
  exact (missF_at H t).trans (v112_at _ _ _ t (fun k => H.ids _)).symm

theorem res_out (H : RoutedK m c) :
    shapeCast S96x1x6x2048 (transpose S96x6x2048 [1, 0, 2] (outN m c 23 lt23) transposes_S6x96x2048_S96x6x2048_1_0_2) shapeCasts_S96x6x2048_S96x1x6x2048
    = val_main_v113 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  funext i
  obtain ⟨t, z, k, d, rfl⟩ : ∃ (t : Fin 96) (z : Fin 1) (k : Fin 6) (d : Fin 2048), i = ix4 t z k d := ⟨i 0, i 1, i 2, i 3, eq_ix4 i⟩
  obtain rfl : z = 0 := Subsingleton.elim _ _
  refine Eq.trans ?_ ((out_at H k t d).trans (v113_at _ _ _ _ _ _ _ _ _ _ _ t k d (H.ids _) (H.slots _)).symm)
  generalize outN m c 23 lt23 = O
  refine Eq.trans (shapeCast_apply _ shapeCasts_S96x6x2048_S96x1x6x2048 (ix4 t 0 k d) (ix3 t k d) ?_) ?_
  · rw [Shape.rowMajor_val_three, Shape.rowMajor_val_four]
    show (t.val * 6 + k.val) * 2048 + d.val = ((t.val * 1 + 0) * 6 + k.val) * 2048 + d.val
    omega
  · refine transpose_apply [1, 0, 2] O _ (ix3 t k d) (ix3 k t d) fun b => ?_
    match b with
    | ⟨0, _⟩ => rfl
    | ⟨1, _⟩ => rfl
    | ⟨2, _⟩ => rfl

/-- The side conditions of the precondition's own operations. -/
theorem pre_facts : Cert.Pre_routed.Facts := ⟨by decide, by decide⟩

theorem and_one (a b : BitVec 1) (h : a &&& b = 1#1) : a = 1#1 ∧ b = 1#1 := by
  revert a b; decide

theorem ofBool_one (b : Bool) (h : BitVec.ofBool b = 1#1) : b = true := by
  revert b; decide

theorem sge_zero (b : BitVec 32) (h : IntOp.cmpi .sge b 0#32 = 1#1) : 0 ≤ b.toInt := by
  simpa using BitVec.sle_iff_toInt_le.1 (ofBool_one _ h)

theorem slt_64 (b : BitVec 32) (h : IntOp.cmpi .slt b 64#32 = 1#1) : b.toInt < 64 := by
  simpa using BitVec.slt_iff_toInt_lt.1 (ofBool_one _ h)

theorem slt_24 (b : BitVec 32) (h : IntOp.cmpi .slt b 24#32 = 1#1) : b.toInt < 24 := by
  simpa using BitVec.slt_iff_toInt_lt.1 (ofBool_one _ h)

theorem small_64 (b : BitVec 32) (h : 0 ≤ b.toInt) (h' : b.toInt < 64) : b.toNat < 64 := by
  rw [BitVec.toInt_eq_toNat_cond] at h h'
  split at h <;> simp_all <;> omega

/-- The precondition, unpacked. -/
theorem routed_of [Cert.Pre_routed.Facts] (a0 : (sh3 96 1 2048).Idx → EReal) (a1 : (sh3 96 1 6).Idx → BitVec 32) (a2 : (sh3 96 1 6).Idx → EReal) (a3 : (⟨1, ![64]⟩ : Shape).Idx → BitVec 32)
    (a4 : (sh3 24 2048 1408).Idx → BitVec 8) (a5 a6 a7 a8 : (sh3 24 16 1408).Idx → EReal) (a9 : (sh3 24 1408 1024).Idx → BitVec 8) (a10 a11 : (sh3 24 11 2048).Idx → EReal)
    (h1 : (Cert.Pre_routed.fn (F := Ideal) a0 a1 a2 a3 a4 a5 a6 a7 a8 a9 a10 a11).1 = fun _ => 1#1)
    (h2 : (Cert.Pre_routed.fn (F := Ideal) a0 a1 a2 a3 a4 a5 a6 a7 a8 a9 a10 a11).2.1 = fun _ => 1#1)
    (h3 : (Cert.Pre_routed.fn (F := Ideal) a0 a1 a2 a3 a4 a5 a6 a7 a8 a9 a10 a11).2.2 = fun _ => 1#1) : Routed a1 a2 a3 where
  ids i := by
    have e : IntOp.cmpi .sge (a1 i) 0#32 &&& IntOp.cmpi .slt (a1 i) 64#32 = 1#1 := congrFun h1 i
    obtain ⟨e1, e2⟩ := and_one _ _ e
    exact small_64 _ (sge_zero _ e1) (slt_64 _ e2)
  slots i := slt_24 _ (congrFun h2 i)
  gates i := by
    have e : Ideal.cmp .oge (a2 i) (Ideal.ofBits .f32 0x00000000#32) = 1#1 := congrFun h3 i
    rw [Ideal.ofBits_zero_f32] at e
    exact (Ideal.cmp_oge_eq_one _ _).1 e

end Cert.KernelIdeal.Hand

end
-- ==== Proof.FrameK.lean ====
/- The frame of the program, at every instance of the float operations. -/
module

public import proofs.«01_k».proof.Proof.RunK
public import proofs.«01_k».proof.Proof.Gen.Kernel
public import proofs.«01_k».proof.Defs

@[expose] public section

set_option maxRecDepth 65536

noncomputable section

namespace Cert.KernelIdeal.Hand

open Cert.KernelIdeal Cert.KernelIdeal.Gen
open Idealize.ShloMosaic Idealize.SL.Sem

variable {F : FTy → Type} [FloatOps F]

/-- At every instance of the float operations the program runs, leaves its arguments as they were and every semaphore at zero. -/
theorem frame_any (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) := by
  have h₁ := Cert.KernelIdeal.Gen.frame_of m ρ (dats m) (A_eq m) ((θ_run defs _ _).mono (fun r h => h.1) (run_main m ρ))
  exact (θ_run defs _ _).mono (fun r h => ⟨h.1, h.2.2⟩) (θ_run_and h₁ (run_main m ρ))

end Cert.KernelIdeal.Hand

end
-- ==== Proof.AtBits.Cut.lean ====
/- The kernel body in three stretches

The body of the kernel is: at the first grid point a set-up (the slot and weight tables, the missing marks, the zero
fills); at every grid point the work for one slot; at the last grid point the result written out.  The middle stretch is
the same program at every point, so it is stated here once. -/
module

public import proofs.«01_k».proof.Proof.Gen.Kernel.Frame
public import proofs.«01_k».proof.Proof.Gen.Kernel.Skeleton
public import Idealize.ShloMosaic.Lib.Pipeline.FrameBody
public import Idealize.ShloMosaic.Lib.Pipeline.FrameSuffix
public import Idealize.ShloMosaic.Lib.Tactic
public import Idealize.ShloMosaic.Lib.WordCmp

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The set-up stretch. -/
def init0 (i : grid0.Coords) (arg1 : Memref sig .tc .smem S64 .i32) (harg1 : arg1.IsWhole) (arg2 : Memref sig .tc .vmem S96x2048 .bf16) (harg2 : arg2.IsWhole) (arg3 : Memref sig .tc .vmem S96x6 .i32) (harg3 : arg3.IsWhole) (arg4 : Memref sig .tc .vmem S96x6 .f32) (harg4 : arg4.IsWhole) (arg5 : Memref sig .tc .vmem S1x2048x1408 .i8) (harg5 : arg5.IsWhole) (arg6 : Memref sig .tc .vmem S1x16x1408 .bf16) (harg6 : arg6.IsWhole) (arg7 : Memref sig .tc .vmem S1x16x1408 .bf16) (harg7 : arg7.IsWhole) (arg8 : Memref sig .tc .vmem S1x16x1408 .bf16) (harg8 : arg8.IsWhole) (arg9 : Memref sig .tc .vmem S1x16x1408 .bf16) (harg9 : arg9.IsWhole) (arg10 : Memref sig .tc .vmem S1x1408x1024 .i8) (harg10 : arg10.IsWhole) (arg11 : Memref sig .tc .vmem S1x11x2048 .bf16) (harg11 : arg11.IsWhole) (arg12 : Memref sig .tc .vmem S1x11x2048 .bf16) (harg12 : arg12.IsWhole) (arg13 : Memref sig .tc .vmem S96x2048 .bf16) (harg13 : arg13.IsWhole) (arg14 : Memref sig .tc .vmem S96x1 .f32) (harg14 : arg14.IsWhole) (arg15 : Memref sig .tc .vmem S6x96x2048 .f32) (harg15 : arg15.IsWhole) (arg16 : Memref sig .tc .vmem S96x6 .i32) (harg16 : arg16.IsWhole) (arg17 : Memref sig .tc .vmem S96x6 .f32) (harg17 : arg17.IsWhole) (arg18 : Memref sig .tc .vmem S96x1408 .bf16) (harg18 : arg18.IsWhole) (arg19 : Memref sig .tc .vmem S96x2048 .f32) (harg19 : arg19.IsWhole) :
    Prog (TpuEff nD τ sig (Elt F) Λ₀ .tc) PUnit := do
  let ⟨v2757, v2793, v2795, v2796⟩ : Σ' (v2757 : IVec S96x6 32) (v2793 : IVec S96x6 32) (v2795 : IVec S96x6 1), Elt F .i32 ← k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  let ⟨v2838, v2839⟩ : Σ' (v2838 : IVec S96x6 32), IVec S96x6 32 ← k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2757 v2793 v2795 v2796
  let ⟨v2878, v2880, v2882⟩ : Σ' (v2878 : IVec S96x6 32) (v2880 : IVec S96x6 1), IVec S96x6 32 ← k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2757 v2838 v2839
  let ⟨v2923, v2925⟩ : Σ' (v2923 : IVec S96x6 32), IVec S96x6 1 ← k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2757 v2878 v2880 v2882
  let v2968 : IVec S96x6 32 ← k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2757 v2923 v2925
  let ⟨v3008, v3010⟩ : Σ' (v3008 : IVec S96x6 32), IVec S96x6 1 ← k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2757 v2968
  let ⟨v3053, c59_i32⟩ : Σ' (v3053 : IVec S96x6 32), BitVec 32 ← k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2757 v3008 v3010
  let ⟨v3083, v3087⟩ : Σ' (v3083 : FVec F S96x6 .f32), FVec F S96x6 .f32 ← k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2757 v3053 c59_i32
  let v3104 : Vec F S96x6 .f32 ← Prog.lift (.load arg17 (Rect.unit (s := S96x6) ![0, 0] S96x6.size inb_S96x6_S96x6_0_0).toLoadRect (View.loadsAt_vmem h_S96x6))
  Prog.lift (.store arg17 (Rect.unit (s := S96x6) ![0, 0] S96x6.size inb_S96x6_S96x6_0_0) (k0_pay22 v3083 v3087) Finset.univ (View.stores_vmem_bits_univ h_S96x6 rfl) (.inl rfl))
  let v3108 : Vec F S96x2048 .f32 ← Prog.lift (.load arg19 (Rect.unit (s := S96x2048) ![0, 0] S96x2048.size inb_S96x2048_S96x2048_0_0).toLoadRect (View.loadsAt_vmem h_S96x2048))
  Prog.lift (.store arg19 (Rect.unit (s := S96x2048) ![0, 0] S96x2048.size inb_S96x2048_S96x2048_0_0) (k0_pay23 (F := F)) Finset.univ (View.stores_vmem_bits_univ h_S96x2048 rfl) (.inl rfl))
  let v3112 : Vec F S6x96x2048 .f32 ← Prog.lift (.load arg15 (Rect.unit (s := S6x96x2048) ![0, 0, 0] S6x96x2048.size inb_S6x96x2048_S6x96x2048_0_0_0).toLoadRect (View.loadsAt_vmem h_S6x96x2048))
  Prog.lift (.store arg15 (Rect.unit (s := S6x96x2048) ![0, 0, 0] S6x96x2048.size inb_S6x96x2048_S6x96x2048_0_0_0) (k0_pay24 (F := F)) Finset.univ (View.stores_vmem_bits_univ h_S6x96x2048 rfl) (.inl rfl))
  pure ⟨⟩

/-- The first part of the middle stretch. -/
def rest9 (i : grid0.Coords) (arg1 : Memref sig .tc .smem S64 .i32) (harg1 : arg1.IsWhole) (arg2 : Memref sig .tc .vmem S96x2048 .bf16) (harg2 : arg2.IsWhole) (arg3 : Memref sig .tc .vmem S96x6 .i32) (harg3 : arg3.IsWhole) (arg4 : Memref sig .tc .vmem S96x6 .f32) (harg4 : arg4.IsWhole) (arg5 : Memref sig .tc .vmem S1x2048x1408 .i8) (harg5 : arg5.IsWhole) (arg6 : Memref sig .tc .vmem S1x16x1408 .bf16) (harg6 : arg6.IsWhole) (arg7 : Memref sig .tc .vmem S1x16x1408 .bf16) (harg7 : arg7.IsWhole) (arg8 : Memref sig .tc .vmem S1x16x1408 .bf16) (harg8 : arg8.IsWhole) (arg9 : Memref sig .tc .vmem S1x16x1408 .bf16) (harg9 : arg9.IsWhole) (arg10 : Memref sig .tc .vmem S1x1408x1024 .i8) (harg10 : arg10.IsWhole) (arg11 : Memref sig .tc .vmem S1x11x2048 .bf16) (harg11 : arg11.IsWhole) (arg12 : Memref sig .tc .vmem S1x11x2048 .bf16) (harg12 : arg12.IsWhole) (arg13 : Memref sig .tc .vmem S96x2048 .bf16) (harg13 : arg13.IsWhole) (arg14 : Memref sig .tc .vmem S96x1 .f32) (harg14 : arg14.IsWhole) (arg15 : Memref sig .tc .vmem S6x96x2048 .f32) (harg15 : arg15.IsWhole) (arg16 : Memref sig .tc .vmem S96x6 .i32) (harg16 : arg16.IsWhole) (arg17 : Memref sig .tc .vmem S96x6 .f32) (harg17 : arg17.IsWhole) (arg18 : Memref sig .tc .vmem S96x1408 .bf16) (harg18 : arg18.IsWhole) (arg19 : Memref sig .tc .vmem S96x2048 .f32) (harg19 : arg19.IsWhole) :
    Prog (TpuEff nD τ sig (Elt F) Λ₀ .tc) (Σ' (arg0 : BitVec 32) (v4 : FVec F S96x2048 .bf16) (v6 : IVec S2048x256 8) (v11 : FVec F S2048x256 .bf16) (v13 : FVec F S16x256 .bf16) (v15 : FVec F S16x256 .bf16) (v22 : FVec F S128x256 .bf16) (v29 : FVec F S128x256 .bf16) (v36 : FVec F S128x256 .bf16), FVec F S128x256 .bf16) := do
  let arg0 : BitVec 32 := BitVec.ofNat 32 (i 0).val
  let v3 : Vec F S96x2048 .bf16 ← Prog.lift (.load arg2 (Rect.unit (s := S96x2048) ![0, 0] S96x2048.size inb_S96x2048_S96x2048_0_0).toLoadRect (View.loadsAt_vmem h_S96x2048))
  let v5 : Vec F S1x2048x256 .i8 ← Prog.lift (.load arg5 (Rect.unit (s := S1x2048x1408) ![0, 0, 0] S1x2048x256.size inb_S1x2048x1408_S1x2048x256_0_0_0).toLoadRect (View.loadsAt_vmem h_S1x2048x256))
  let v12 : Vec F S1x16x256 .bf16 ← Prog.lift (.load arg6 (Rect.unit (s := S1x16x1408) ![0, 0, 0] S1x16x256.size inb_S1x16x1408_S1x16x256_0_0_0).toLoadRect (View.loadsAt_vmem h_S1x16x256))
  let v14 : Vec F S1x16x256 .bf16 ← Prog.lift (.load arg7 (Rect.unit (s := S1x16x1408) ![0, 0, 0] S1x16x256.size inb_S1x16x1408_S1x16x256_0_0_0).toLoadRect (View.loadsAt_vmem h_S1x16x256))
  pure ⟨arg0, k0_pay25 v3, k0_pay26 v5, k0_pay27 v5, k0_pay28 v12, k0_pay29 v14, k0_pay30 v5 v12 v14, k0_pay31 v5 v12 v14, k0_pay32 v5 v12 v14, k0_pay33 v5 v12 v14⟩

/-- The middle stretch up to its last store. -/
def rest65 (i : grid0.Coords) (arg1 : Memref sig .tc .smem S64 .i32) (harg1 : arg1.IsWhole) (arg2 : Memref sig .tc .vmem S96x2048 .bf16) (harg2 : arg2.IsWhole) (arg3 : Memref sig .tc .vmem S96x6 .i32) (harg3 : arg3.IsWhole) (arg4 : Memref sig .tc .vmem S96x6 .f32) (harg4 : arg4.IsWhole) (arg5 : Memref sig .tc .vmem S1x2048x1408 .i8) (harg5 : arg5.IsWhole) (arg6 : Memref sig .tc .vmem S1x16x1408 .bf16) (harg6 : arg6.IsWhole) (arg7 : Memref sig .tc .vmem S1x16x1408 .bf16) (harg7 : arg7.IsWhole) (arg8 : Memref sig .tc .vmem S1x16x1408 .bf16) (harg8 : arg8.IsWhole) (arg9 : Memref sig .tc .vmem S1x16x1408 .bf16) (harg9 : arg9.IsWhole) (arg10 : Memref sig .tc .vmem S1x1408x1024 .i8) (harg10 : arg10.IsWhole) (arg11 : Memref sig .tc .vmem S1x11x2048 .bf16) (harg11 : arg11.IsWhole) (arg12 : Memref sig .tc .vmem S1x11x2048 .bf16) (harg12 : arg12.IsWhole) (arg13 : Memref sig .tc .vmem S96x2048 .bf16) (harg13 : arg13.IsWhole) (arg14 : Memref sig .tc .vmem S96x1 .f32) (harg14 : arg14.IsWhole) (arg15 : Memref sig .tc .vmem S6x96x2048 .f32) (harg15 : arg15.IsWhole) (arg16 : Memref sig .tc .vmem S96x6 .i32) (harg16 : arg16.IsWhole) (arg17 : Memref sig .tc .vmem S96x6 .f32) (harg17 : arg17.IsWhole) (arg18 : Memref sig .tc .vmem S96x1408 .bf16) (harg18 : arg18.IsWhole) (arg19 : Memref sig .tc .vmem S96x2048 .f32) (harg19 : arg19.IsWhole) :
    Prog (TpuEff nD τ sig (Elt F) Λ₀ .tc) (Σ' (arg0 : BitVec 32), FVec F S96x256 .f32) := do
  let ⟨arg0, v4, v6, v11, v13, v15, v22, v29, v36, v43⟩ : Σ' (arg0 : BitVec 32) (v4 : FVec F S96x2048 .bf16) (v6 : IVec S2048x256 8) (v11 : FVec F S2048x256 .bf16) (v13 : FVec F S16x256 .bf16) (v15 : FVec F S16x256 .bf16) (v22 : FVec F S128x256 .bf16) (v29 : FVec F S128x256 .bf16) (v36 : FVec F S128x256 .bf16), FVec F S128x256 .bf16 ← rest9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  let ⟨v50, v57, v64, v71, v78, v85, v92, v99, v103⟩ : Σ' (v50 : FVec F S128x256 .bf16) (v57 : FVec F S128x256 .bf16) (v64 : FVec F S128x256 .bf16) (v71 : FVec F S128x256 .bf16) (v78 : FVec F S128x256 .bf16) (v85 : FVec F S128x256 .bf16) (v92 : FVec F S128x256 .bf16) (v99 : FVec F S128x256 .bf16), FVec F S128x256 .bf16 ← k0_part10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v11 v13 v15
  let ⟨v129, v136, v138, v140, v147, v154⟩ : Σ' (v129 : FVec F S96x256 .f32) (v136 : FVec F S2048x256 .bf16) (v138 : FVec F S16x256 .bf16) (v140 : FVec F S16x256 .bf16) (v147 : FVec F S128x256 .bf16), FVec F S128x256 .bf16 ← k0_part11 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v4 v6 v11 v13 v15 v22 v29 v36 v43 v50 v57 v64 v71 v78 v85 v92 v99 v103
  let ⟨v161, v168, v175, v182, v189, v196, v203, v210, v214⟩ : Σ' (v161 : FVec F S128x256 .bf16) (v168 : FVec F S128x256 .bf16) (v175 : FVec F S128x256 .bf16) (v182 : FVec F S128x256 .bf16) (v189 : FVec F S128x256 .bf16) (v196 : FVec F S128x256 .bf16) (v203 : FVec F S128x256 .bf16) (v210 : FVec F S128x256 .bf16), FVec F S128x256 .bf16 ← k0_part12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v136 v138 v140
  let ⟨v263, v266⟩ : Σ' (v263 : IVec S2048x256 8), IVec S512x256 32 ← k0_part13 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v4 v129 v136 v138 v140 v147 v154 v161 v168 v175 v182 v189 v196 v203 v210 v214
  let ⟨v268, v270, v272, v279, v286, v293, v300, v307, v314, v318, v320⟩ : Σ' (v268 : FVec F S2048x256 .bf16) (v270 : FVec F S16x256 .bf16) (v272 : FVec F S16x256 .bf16) (v279 : FVec F S128x256 .bf16) (v286 : FVec F S128x256 .bf16) (v293 : FVec F S128x256 .bf16) (v300 : FVec F S128x256 .bf16) (v307 : FVec F S128x256 .bf16) (v314 : FVec F S128x256 .bf16) (v318 : FVec F S128x256 .bf16), FVec F S128x256 .bf16 ← k0_part14 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v266
  let ⟨v321, v328, v335, v342, v349, v356, v363, v370, v377, v378, v380⟩ : Σ' (v321 : FVec F S128x256 .bf16) (v328 : FVec F S128x256 .bf16) (v335 : FVec F S128x256 .bf16) (v342 : FVec F S128x256 .bf16) (v349 : FVec F S128x256 .bf16) (v356 : FVec F S128x256 .bf16) (v363 : FVec F S128x256 .bf16) (v370 : FVec F S128x256 .bf16) (v377 : FVec F S128x256 .bf16) (v378 : FVec F S128x256 .bf16), FVec F S128x256 .bf16 ← k0_part15 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v268 v270 v272 v318 v320
  let ⟨v386, v393, v395, v397, v404, v411, v418, v425, v429, v431⟩ : Σ' (v386 : FVec F S96x256 .f32) (v393 : FVec F S2048x256 .bf16) (v395 : FVec F S16x256 .bf16) (v397 : FVec F S16x256 .bf16) (v404 : FVec F S128x256 .bf16) (v411 : FVec F S128x256 .bf16) (v418 : FVec F S128x256 .bf16) (v425 : FVec F S128x256 .bf16) (v429 : FVec F S128x256 .bf16), FVec F S128x256 .bf16 ← k0_part16 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v4 v263 v270 v279 v286 v293 v300 v307 v314 v321 v328 v335 v342 v349 v356 v363 v370 v377 v378 v380
  let ⟨v432, v439, v446, v453, v460, v467, v474, v481, v488, v489, v491⟩ : Σ' (v432 : FVec F S128x256 .bf16) (v439 : FVec F S128x256 .bf16) (v446 : FVec F S128x256 .bf16) (v453 : FVec F S128x256 .bf16) (v460 : FVec F S128x256 .bf16) (v467 : FVec F S128x256 .bf16) (v474 : FVec F S128x256 .bf16) (v481 : FVec F S128x256 .bf16) (v488 : FVec F S128x256 .bf16) (v489 : FVec F S128x256 .bf16), FVec F S128x256 .bf16 ← k0_part17 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v393 v395 v397 v429 v431
  let ⟨v520, v525, v527, v529, v536, v537⟩ : Σ' (v520 : IVec S2048x256 8) (v525 : FVec F S2048x256 .bf16) (v527 : FVec F S16x256 .bf16) (v529 : FVec F S16x256 .bf16) (v536 : FVec F S128x256 .bf16), FVec F S128x256 .bf16 ← k0_part18 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v4 v386 v393 v395 v397 v404 v411 v418 v425 v432 v439 v446 v453 v460 v467 v474 v481 v488 v489 v491
  let ⟨v543, v550, v557, v564, v571, v578, v585, v592, v596, v597⟩ : Σ' (v543 : FVec F S128x256 .bf16) (v550 : FVec F S128x256 .bf16) (v557 : FVec F S128x256 .bf16) (v564 : FVec F S128x256 .bf16) (v571 : FVec F S128x256 .bf16) (v578 : FVec F S128x256 .bf16) (v585 : FVec F S128x256 .bf16) (v592 : FVec F S128x256 .bf16) (v596 : FVec F S128x256 .bf16), FVec F S1x256 .bf16 ← k0_part19 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v525 v527 v529 v537
  let ⟨v643, v650, v651⟩ : Σ' (v643 : FVec F S96x256 .f32) (v650 : FVec F S2048x256 .bf16), Vec F S1x16x256 .bf16 ← k0_part20 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v4 v520 v525 v527 v529 v536 v543 v550 v557 v564 v571 v578 v585 v592 v596 v597
  let ⟨v652, v654, v661, v668, v675, v682, v689, v696, v703, v707, v708⟩ : Σ' (v652 : FVec F S16x256 .bf16) (v654 : FVec F S16x256 .bf16) (v661 : FVec F S128x256 .bf16) (v668 : FVec F S128x256 .bf16) (v675 : FVec F S128x256 .bf16) (v682 : FVec F S128x256 .bf16) (v689 : FVec F S128x256 .bf16) (v696 : FVec F S128x256 .bf16) (v703 : FVec F S128x256 .bf16) (v707 : FVec F S128x256 .bf16), FVec F S1x256 .bf16 ← k0_part21 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v650 v651
  let ⟨v767, cst_60⟩ : Σ' (v767 : FVec F S2048x256 .bf16), FVec F S96x256 .f32 ← k0_part22 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v650 v652 v654 v661 v668 v675 v682 v689 v696 v703 v707 v708
  let ⟨v777, v782, v784, v786, v793, v800, v807, v814⟩ : Σ' (v777 : IVec S2048x256 8) (v782 : FVec F S2048x256 .bf16) (v784 : FVec F S16x256 .bf16) (v786 : FVec F S16x256 .bf16) (v793 : FVec F S128x256 .bf16) (v800 : FVec F S128x256 .bf16) (v807 : FVec F S128x256 .bf16), FVec F S128x256 .bf16 ← k0_part23 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v4 v643 v767 cst_60
  let ⟨v821, v828, v835, v842, v849, v856, v863, v870, v874⟩ : Σ' (v821 : FVec F S128x256 .bf16) (v828 : FVec F S128x256 .bf16) (v835 : FVec F S128x256 .bf16) (v842 : FVec F S128x256 .bf16) (v849 : FVec F S128x256 .bf16) (v856 : FVec F S128x256 .bf16) (v863 : FVec F S128x256 .bf16) (v870 : FVec F S128x256 .bf16), FVec F S128x256 .bf16 ← k0_part24 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v782 v784 v786
  let ⟨v900, v907, v909, v911, v918, v925⟩ : Σ' (v900 : FVec F S96x256 .f32) (v907 : FVec F S2048x256 .bf16) (v909 : FVec F S16x256 .bf16) (v911 : FVec F S16x256 .bf16) (v918 : FVec F S128x256 .bf16), FVec F S128x256 .bf16 ← k0_part25 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v4 v777 v782 v784 v786 v793 v800 v807 v814 v821 v828 v835 v842 v849 v856 v863 v870 v874
  let ⟨v932, v939, v946, v953, v960, v967, v974, v981, v985⟩ : Σ' (v932 : FVec F S128x256 .bf16) (v939 : FVec F S128x256 .bf16) (v946 : FVec F S128x256 .bf16) (v953 : FVec F S128x256 .bf16) (v960 : FVec F S128x256 .bf16) (v967 : FVec F S128x256 .bf16) (v974 : FVec F S128x256 .bf16) (v981 : FVec F S128x256 .bf16), FVec F S128x256 .bf16 ← k0_part26 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v907 v909 v911
  let ⟨v1034, v1037⟩ : Σ' (v1034 : IVec S2048x256 8), IVec S512x256 32 ← k0_part27 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v4 v900 v907 v909 v911 v918 v925 v932 v939 v946 v953 v960 v967 v974 v981 v985
  let ⟨v1039, v1041, v1043, v1050, v1057, v1064, v1071, v1078, v1085, v1089, v1091⟩ : Σ' (v1039 : FVec F S2048x256 .bf16) (v1041 : FVec F S16x256 .bf16) (v1043 : FVec F S16x256 .bf16) (v1050 : FVec F S128x256 .bf16) (v1057 : FVec F S128x256 .bf16) (v1064 : FVec F S128x256 .bf16) (v1071 : FVec F S128x256 .bf16) (v1078 : FVec F S128x256 .bf16) (v1085 : FVec F S128x256 .bf16) (v1089 : FVec F S128x256 .bf16), FVec F S128x256 .bf16 ← k0_part28 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1037
  let ⟨v1092, v1099, v1106, v1113, v1120, v1127, v1134, v1141, v1148, v1149, v1151⟩ : Σ' (v1092 : FVec F S128x256 .bf16) (v1099 : FVec F S128x256 .bf16) (v1106 : FVec F S128x256 .bf16) (v1113 : FVec F S128x256 .bf16) (v1120 : FVec F S128x256 .bf16) (v1127 : FVec F S128x256 .bf16) (v1134 : FVec F S128x256 .bf16) (v1141 : FVec F S128x256 .bf16) (v1148 : FVec F S128x256 .bf16) (v1149 : FVec F S128x256 .bf16), FVec F S128x256 .bf16 ← k0_part29 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1039 v1041 v1043 v1089 v1091
  let ⟨v1157, v1164, v1166, v1168, v1175, v1182, v1189, v1196, v1200, v1202⟩ : Σ' (v1157 : FVec F S96x256 .f32) (v1164 : FVec F S2048x256 .bf16) (v1166 : FVec F S16x256 .bf16) (v1168 : FVec F S16x256 .bf16) (v1175 : FVec F S128x256 .bf16) (v1182 : FVec F S128x256 .bf16) (v1189 : FVec F S128x256 .bf16) (v1196 : FVec F S128x256 .bf16) (v1200 : FVec F S128x256 .bf16), FVec F S128x256 .bf16 ← k0_part30 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v4 v1034 v1041 v1050 v1057 v1064 v1071 v1078 v1085 v1092 v1099 v1106 v1113 v1120 v1127 v1134 v1141 v1148 v1149 v1151
  let ⟨v1203, v1210, v1217, v1224, v1231, v1238, v1245, v1252, v1259, v1260, v1262⟩ : Σ' (v1203 : FVec F S128x256 .bf16) (v1210 : FVec F S128x256 .bf16) (v1217 : FVec F S128x256 .bf16) (v1224 : FVec F S128x256 .bf16) (v1231 : FVec F S128x256 .bf16) (v1238 : FVec F S128x256 .bf16) (v1245 : FVec F S128x256 .bf16) (v1252 : FVec F S128x256 .bf16) (v1259 : FVec F S128x256 .bf16) (v1260 : FVec F S128x256 .bf16), FVec F S128x256 .bf16 ← k0_part31 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1164 v1166 v1168 v1200 v1202
  let ⟨v1291, v1296, v1298, v1300, v1307, v1308⟩ : Σ' (v1291 : IVec S2048x128 8) (v1296 : FVec F S2048x128 .bf16) (v1298 : FVec F S16x128 .bf16) (v1300 : FVec F S16x128 .bf16) (v1307 : FVec F S128x128 .bf16), FVec F S128x128 .bf16 ← k0_part32 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v4 v1157 v1164 v1166 v1168 v1175 v1182 v1189 v1196 v1203 v1210 v1217 v1224 v1231 v1238 v1245 v1252 v1259 v1260 v1262
  let ⟨v1314, v1321, v1328, v1335, v1342, v1349, v1356, v1363, v1367, v1368⟩ : Σ' (v1314 : FVec F S128x128 .bf16) (v1321 : FVec F S128x128 .bf16) (v1328 : FVec F S128x128 .bf16) (v1335 : FVec F S128x128 .bf16) (v1342 : FVec F S128x128 .bf16) (v1349 : FVec F S128x128 .bf16) (v1356 : FVec F S128x128 .bf16) (v1363 : FVec F S128x128 .bf16) (v1367 : FVec F S128x128 .bf16), FVec F S1x128 .bf16 ← k0_part33 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1296 v1298 v1300 v1308
  let ⟨v1414, v1421, v1422⟩ : Σ' (v1414 : FVec F S96x128 .f32) (v1421 : FVec F S2048x128 .bf16), Vec F S1x16x128 .bf16 ← k0_part34 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v4 v1291 v1296 v1298 v1300 v1307 v1314 v1321 v1328 v1335 v1342 v1349 v1356 v1363 v1367 v1368
  let ⟨v1423, v1425, v1432, v1439, v1446, v1453, v1460, v1467, v1474, v1478, v1479⟩ : Σ' (v1423 : FVec F S16x128 .bf16) (v1425 : FVec F S16x128 .bf16) (v1432 : FVec F S128x128 .bf16) (v1439 : FVec F S128x128 .bf16) (v1446 : FVec F S128x128 .bf16) (v1453 : FVec F S128x128 .bf16) (v1460 : FVec F S128x128 .bf16) (v1467 : FVec F S128x128 .bf16) (v1474 : FVec F S128x128 .bf16) (v1478 : FVec F S128x128 .bf16), FVec F S1x128 .bf16 ← k0_part35 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1421 v1422
  let ⟨v1538, cst_123⟩ : Σ' (v1538 : FVec F S2048x128 .bf16), FVec F S96x128 .f32 ← k0_part36 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1421 v1423 v1425 v1432 v1439 v1446 v1453 v1460 v1467 v1474 v1478 v1479
  let ⟨v1547, v1549, v1552, v1555, v1558, v1561, v1564, v1567, v1584⟩ : Σ' (v1547 : Vec F S96x1408 .bf16) (v1549 : Vec F S96x6 .f32) (v1552 : IVec S96x1 1) (v1555 : IVec S96x1 1) (v1558 : IVec S96x1 1) (v1561 : IVec S96x1 1) (v1564 : IVec S96x1 1) (v1567 : IVec S96x1 1), FVec F S96x1 .f32 ← k0_part37 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v4 v1414 v1538 cst_123
  let ⟨v1592, v1594, v1599, v1601, v1603, v1610, v1617, v1624, v1631, v1632⟩ : Σ' (v1592 : FVec F S96x1 .f32) (v1594 : IVec S1408x256 8) (v1599 : FVec F S1408x256 .bf16) (v1601 : FVec F S11x256 .bf16) (v1603 : FVec F S11x256 .bf16) (v1610 : FVec F S128x256 .bf16) (v1617 : FVec F S128x256 .bf16) (v1624 : FVec F S128x256 .bf16) (v1631 : FVec F S128x256 .bf16), FVec F S128x256 .bf16 ← k0_part38 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1549 v1564 v1567 v1584
  let ⟨v1682, v1686, v1687⟩ : Σ' (v1682 : FVec F S96x256 .f32) (v1686 : FVec F S96x256 .f32), Vec F S96x256 .f32 ← k0_part39 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1547 v1592 v1599 v1601 v1603 v1610 v1617 v1624 v1631 v1632
  let ⟨v1718, v1719⟩ : Σ' (v1718 : FVec F S96x256 .f32), Vec F S1x96x256 .f32 ← k0_part40 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1552 v1555 v1558 v1561 v1682 v1686 v1687
  let ⟨v1744, v1746, v1748, v1755, v1756⟩ : Σ' (v1744 : FVec F S1408x256 .bf16) (v1746 : FVec F S11x256 .bf16) (v1748 : FVec F S11x256 .bf16) (v1755 : FVec F S128x256 .bf16), FVec F S128x256 .bf16 ← k0_part41 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1564 v1567 v1594 v1682 v1718 v1719
  let ⟨v1762, v1769, v1776, v1783, v1790, v1797, v1804, v1811, v1815, v1816⟩ : Σ' (v1762 : FVec F S128x256 .bf16) (v1769 : FVec F S128x256 .bf16) (v1776 : FVec F S128x256 .bf16) (v1783 : FVec F S128x256 .bf16) (v1790 : FVec F S128x256 .bf16) (v1797 : FVec F S128x256 .bf16) (v1804 : FVec F S128x256 .bf16) (v1811 : FVec F S128x256 .bf16) (v1815 : FVec F S128x256 .bf16), FVec F S1x256 .bf16 ← k0_part42 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1744 v1746 v1748 v1756
  let ⟨v1827, v1852, v1853⟩ : Σ' (v1827 : FVec F S96x256 .f32) (v1852 : FVec F S96x256 .f32), IVec S96x1 1 ← k0_part43 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1547 v1552 v1555 v1558 v1592 v1744 v1746 v1748 v1755 v1762 v1769 v1776 v1783 v1790 v1797 v1804 v1811 v1815 v1816
  let ⟨v1884, v1885⟩ : Σ' (v1884 : IVec S1408x256 8), IVec S352x256 32 ← k0_part44 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1561 v1564 v1567 v1827 v1852 v1853
  let ⟨v1889, v1891, v1893, v1900, v1907, v1914, v1921, v1928, v1935, v1936, v1938⟩ : Σ' (v1889 : FVec F S1408x256 .bf16) (v1891 : FVec F S11x256 .bf16) (v1893 : FVec F S11x256 .bf16) (v1900 : FVec F S128x256 .bf16) (v1907 : FVec F S128x256 .bf16) (v1914 : FVec F S128x256 .bf16) (v1921 : FVec F S128x256 .bf16) (v1928 : FVec F S128x256 .bf16) (v1935 : FVec F S128x256 .bf16) (v1936 : FVec F S128x256 .bf16), FVec F S128x256 .bf16 ← k0_part45 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1885
  let ⟨v1972, v1984⟩ : Σ' (v1972 : FVec F S96x256 .f32), FVec F S96x256 .f32 ← k0_part46 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1547 v1552 v1592 v1889 v1891 v1893 v1900 v1907 v1914 v1921 v1928 v1935 v1936 v1938
  let v2016 : FVec F S96x256 .f32 ← k0_part47 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1555 v1558 v1561 v1564 v1972 v1984
  let ⟨v2034, v2036, v2038, v2045, v2052, v2059, v2060, v2062⟩ : Σ' (v2034 : FVec F S1408x256 .bf16) (v2036 : FVec F S11x256 .bf16) (v2038 : FVec F S11x256 .bf16) (v2045 : FVec F S128x256 .bf16) (v2052 : FVec F S128x256 .bf16) (v2059 : FVec F S128x256 .bf16) (v2060 : FVec F S128x256 .bf16), FVec F S128x256 .bf16 ← k0_part48 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1567 v1884 v1972 v2016
  let ⟨v2117, v2118, v2119⟩ : Σ' (v2117 : FVec F S96x256 .f32) (v2118 : Vec F S96x256 .f32), FVec F S96x256 .f32 ← k0_part49 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1547 v1592 v2034 v2036 v2038 v2045 v2052 v2059 v2060 v2062
  let ⟨v2150, v2152⟩ : Σ' (v2150 : FVec F S96x256 .f32), IVec S96x256 1 ← k0_part50 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1552 v1555 v1558 v1561 v2117 v2118 v2119
  let ⟨v2174, v2179, v2181, v2183, v2184⟩ : Σ' (v2174 : IVec S1408x256 8) (v2179 : FVec F S1408x256 .bf16) (v2181 : FVec F S11x256 .bf16) (v2183 : FVec F S11x256 .bf16), FVec F S128x256 .bf16 ← k0_part51 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1564 v1567 v2117 v2150 v2152
  let ⟨v2190, v2197, v2204, v2211, v2218, v2225, v2232, v2239, v2243, v2244⟩ : Σ' (v2190 : FVec F S128x256 .bf16) (v2197 : FVec F S128x256 .bf16) (v2204 : FVec F S128x256 .bf16) (v2211 : FVec F S128x256 .bf16) (v2218 : FVec F S128x256 .bf16) (v2225 : FVec F S128x256 .bf16) (v2232 : FVec F S128x256 .bf16) (v2239 : FVec F S128x256 .bf16) (v2243 : FVec F S128x256 .bf16), FVec F S1x256 .bf16 ← k0_part52 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2179 v2181 v2183 v2184
  let ⟨v2262, v2285⟩ : Σ' (v2262 : FVec F S96x256 .f32), FVec F S1x96x256 .f32 ← k0_part53 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1547 v1552 v1555 v1592 v2179 v2181 v2183 v2190 v2197 v2204 v2211 v2218 v2225 v2232 v2239 v2243 v2244
  let v2317 : FVec F S1x96x256 .f32 ← k0_part54 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1558 v1561 v1564 v1567 v2262 v2285
  let ⟨v2324, v2326, v2328, v2335, v2342, v2349, v2356, v2363, v2367, v2368⟩ : Σ' (v2324 : FVec F S1408x256 .bf16) (v2326 : FVec F S11x256 .bf16) (v2328 : FVec F S11x256 .bf16) (v2335 : FVec F S128x256 .bf16) (v2342 : FVec F S128x256 .bf16) (v2349 : FVec F S128x256 .bf16) (v2356 : FVec F S128x256 .bf16) (v2363 : FVec F S128x256 .bf16) (v2367 : FVec F S128x256 .bf16), FVec F S1x256 .bf16 ← k0_part55 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2174 v2317
  let ⟨v2407, v2419⟩ : Σ' (v2407 : FVec F S96x256 .f32), FVec F S96x256 .f32 ← k0_part56 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1547 v1552 v1592 v2324 v2326 v2328 v2335 v2342 v2349 v2356 v2363 v2367 v2368
  let v2451 : FVec F S96x256 .f32 ← k0_part57 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1555 v1558 v1561 v1564 v2407 v2419
  let ⟨v2464, v2469, v2471, v2473, v2480, v2487, v2488, v2490⟩ : Σ' (v2464 : IVec S1408x256 8) (v2469 : FVec F S1408x256 .bf16) (v2471 : FVec F S11x256 .bf16) (v2473 : FVec F S11x256 .bf16) (v2480 : FVec F S128x256 .bf16) (v2487 : FVec F S128x256 .bf16) (v2488 : FVec F S128x256 .bf16), FVec F S128x256 .bf16 ← k0_part58 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1567 v2407 v2451
  let ⟨v2494, v2501, v2508, v2515, v2522, v2529, v2536, v2543, v2550⟩ : Σ' (v2494 : FVec F S128x256 .bf16) (v2501 : FVec F S128x256 .bf16) (v2508 : FVec F S128x256 .bf16) (v2515 : FVec F S128x256 .bf16) (v2522 : FVec F S128x256 .bf16) (v2529 : FVec F S128x256 .bf16) (v2536 : FVec F S128x256 .bf16) (v2543 : FVec F S128x256 .bf16), FVec F S128x256 .bf16 ← k0_part59 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2469 v2471 v2473 v2488 v2490
  let v2552 : FVec F S96x256 .f32 ← k0_part60 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1547 v1552 v1555 v1558 v1592 v2480 v2487 v2494 v2501 v2508 v2515 v2522 v2529 v2536 v2543 v2550
  let ⟨v2614, v2616⟩ : Σ' (v2614 : FVec F S1408x256 .bf16), FVec F S11x256 .bf16 ← k0_part61 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1561 v1564 v1567 v2464 v2552
  let ⟨v2618, v2625, v2632, v2639, v2646, v2653, v2660, v2667, v2674⟩ : Σ' (v2618 : FVec F S11x256 .bf16) (v2625 : FVec F S128x256 .bf16) (v2632 : FVec F S128x256 .bf16) (v2639 : FVec F S128x256 .bf16) (v2646 : FVec F S128x256 .bf16) (v2653 : FVec F S128x256 .bf16) (v2660 : FVec F S128x256 .bf16) (v2667 : FVec F S128x256 .bf16), FVec F S128x256 .bf16 ← k0_part62 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v2614 v2616
  let ⟨v2697, v2717⟩ : Σ' (v2697 : FVec F S96x256 .f32), FVec F S96x256 .f32 ← k0_part63 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1547 v1552 v1555 v1592 v2614 v2616 v2618 v2625 v2632 v2639 v2646 v2653 v2660 v2667 v2674
  let v2749 : FVec F S96x256 .f32 ← k0_part64 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1558 v1561 v1564 v1567 v2697 v2717
  let v2750 : Vec F S1x96x256 .f32 ← Prog.lift (.load arg15 (Rect.unit (s := S6x96x2048) ![5, 0, 1792] S1x96x256.size inb_S6x96x2048_S1x96x256_5_0_1792).toLoadRect (View.loadsAt_vmem h_S1x96x256))
  pure ⟨arg0, v2749⟩

/-- The middle stretch: the work for one slot. -/
def mid (i : grid0.Coords) (arg1 : Memref sig .tc .smem S64 .i32) (harg1 : arg1.IsWhole) (arg2 : Memref sig .tc .vmem S96x2048 .bf16) (harg2 : arg2.IsWhole) (arg3 : Memref sig .tc .vmem S96x6 .i32) (harg3 : arg3.IsWhole) (arg4 : Memref sig .tc .vmem S96x6 .f32) (harg4 : arg4.IsWhole) (arg5 : Memref sig .tc .vmem S1x2048x1408 .i8) (harg5 : arg5.IsWhole) (arg6 : Memref sig .tc .vmem S1x16x1408 .bf16) (harg6 : arg6.IsWhole) (arg7 : Memref sig .tc .vmem S1x16x1408 .bf16) (harg7 : arg7.IsWhole) (arg8 : Memref sig .tc .vmem S1x16x1408 .bf16) (harg8 : arg8.IsWhole) (arg9 : Memref sig .tc .vmem S1x16x1408 .bf16) (harg9 : arg9.IsWhole) (arg10 : Memref sig .tc .vmem S1x1408x1024 .i8) (harg10 : arg10.IsWhole) (arg11 : Memref sig .tc .vmem S1x11x2048 .bf16) (harg11 : arg11.IsWhole) (arg12 : Memref sig .tc .vmem S1x11x2048 .bf16) (harg12 : arg12.IsWhole) (arg13 : Memref sig .tc .vmem S96x2048 .bf16) (harg13 : arg13.IsWhole) (arg14 : Memref sig .tc .vmem S96x1 .f32) (harg14 : arg14.IsWhole) (arg15 : Memref sig .tc .vmem S6x96x2048 .f32) (harg15 : arg15.IsWhole) (arg16 : Memref sig .tc .vmem S96x6 .i32) (harg16 : arg16.IsWhole) (arg17 : Memref sig .tc .vmem S96x6 .f32) (harg17 : arg17.IsWhole) (arg18 : Memref sig .tc .vmem S96x1408 .bf16) (harg18 : arg18.IsWhole) (arg19 : Memref sig .tc .vmem S96x2048 .f32) (harg19 : arg19.IsWhole) :
    Prog (TpuEff nD τ sig (Elt F) Λ₀ .tc) PUnit := do
  let ⟨arg0, v2749⟩ : Σ' (arg0 : BitVec 32), FVec F S96x256 .f32 ← rest65 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  Prog.lift (.store arg15 (Rect.unit (s := S6x96x2048) ![5, 0, 1792] S1x96x256.size inb_S6x96x2048_S1x96x256_5_0_1792) (k0_pay1 v2749) Finset.univ (View.stores_vmem_bits_univ h_S1x96x256 rfl) (.inl rfl))
  pure ⟨⟩

/-- The closing stretch. -/
def fin0 (i : grid0.Coords) (arg1 : Memref sig .tc .smem S64 .i32) (harg1 : arg1.IsWhole) (arg2 : Memref sig .tc .vmem S96x2048 .bf16) (harg2 : arg2.IsWhole) (arg3 : Memref sig .tc .vmem S96x6 .i32) (harg3 : arg3.IsWhole) (arg4 : Memref sig .tc .vmem S96x6 .f32) (harg4 : arg4.IsWhole) (arg5 : Memref sig .tc .vmem S1x2048x1408 .i8) (harg5 : arg5.IsWhole) (arg6 : Memref sig .tc .vmem S1x16x1408 .bf16) (harg6 : arg6.IsWhole) (arg7 : Memref sig .tc .vmem S1x16x1408 .bf16) (harg7 : arg7.IsWhole) (arg8 : Memref sig .tc .vmem S1x16x1408 .bf16) (harg8 : arg8.IsWhole) (arg9 : Memref sig .tc .vmem S1x16x1408 .bf16) (harg9 : arg9.IsWhole) (arg10 : Memref sig .tc .vmem S1x1408x1024 .i8) (harg10 : arg10.IsWhole) (arg11 : Memref sig .tc .vmem S1x11x2048 .bf16) (harg11 : arg11.IsWhole) (arg12 : Memref sig .tc .vmem S1x11x2048 .bf16) (harg12 : arg12.IsWhole) (arg13 : Memref sig .tc .vmem S96x2048 .bf16) (harg13 : arg13.IsWhole) (arg14 : Memref sig .tc .vmem S96x1 .f32) (harg14 : arg14.IsWhole) (arg15 : Memref sig .tc .vmem S6x96x2048 .f32) (harg15 : arg15.IsWhole) (arg16 : Memref sig .tc .vmem S96x6 .i32) (harg16 : arg16.IsWhole) (arg17 : Memref sig .tc .vmem S96x6 .f32) (harg17 : arg17.IsWhole) (arg18 : Memref sig .tc .vmem S96x1408 .bf16) (harg18 : arg18.IsWhole) (arg19 : Memref sig .tc .vmem S96x2048 .f32) (harg19 : arg19.IsWhole) :
    Prog (TpuEff nD τ sig (Elt F) Λ₀ .tc) PUnit := do
  let v2756 : Vec F S96x2048 .f32 ← Prog.lift (.load arg19 (Rect.unit (s := S96x2048) ![0, 0] S96x2048.size inb_S96x2048_S96x2048_0_0).toLoadRect (View.loadsAt_vmem h_S96x2048))
  let v2758 : Vec F S96x2048 .bf16 ← Prog.lift (.load arg13 (Rect.unit (s := S96x2048) ![0, 0] S96x2048.size inb_S96x2048_S96x2048_0_0).toLoadRect (View.loadsAt_vmem h_S96x2048))
  Prog.lift (.store arg13 (Rect.unit (s := S96x2048) ![0, 0] S96x2048.size inb_S96x2048_S96x2048_0_0) (k0_pay2 v2756) Finset.univ (View.stores_vmem h_S96x2048 (harg13.storeExact_slice rfl _ packedbf16_S96x2048_S96x2048_0_0) (fun _ => rfl)) (.inl rfl))
  pure ⟨⟩

theorem part9_pos (i : grid0.Coords) (arg1 : Memref sig .tc .smem S64 .i32) (harg1 : arg1.IsWhole) (arg2 : Memref sig .tc .vmem S96x2048 .bf16) (harg2 : arg2.IsWhole) (arg3 : Memref sig .tc .vmem S96x6 .i32) (harg3 : arg3.IsWhole) (arg4 : Memref sig .tc .vmem S96x6 .f32) (harg4 : arg4.IsWhole) (arg5 : Memref sig .tc .vmem S1x2048x1408 .i8) (harg5 : arg5.IsWhole) (arg6 : Memref sig .tc .vmem S1x16x1408 .bf16) (harg6 : arg6.IsWhole) (arg7 : Memref sig .tc .vmem S1x16x1408 .bf16) (harg7 : arg7.IsWhole) (arg8 : Memref sig .tc .vmem S1x16x1408 .bf16) (harg8 : arg8.IsWhole) (arg9 : Memref sig .tc .vmem S1x16x1408 .bf16) (harg9 : arg9.IsWhole) (arg10 : Memref sig .tc .vmem S1x1408x1024 .i8) (harg10 : arg10.IsWhole) (arg11 : Memref sig .tc .vmem S1x11x2048 .bf16) (harg11 : arg11.IsWhole) (arg12 : Memref sig .tc .vmem S1x11x2048 .bf16) (harg12 : arg12.IsWhole) (arg13 : Memref sig .tc .vmem S96x2048 .bf16) (harg13 : arg13.IsWhole) (arg14 : Memref sig .tc .vmem S96x1 .f32) (harg14 : arg14.IsWhole) (arg15 : Memref sig .tc .vmem S6x96x2048 .f32) (harg15 : arg15.IsWhole) (arg16 : Memref sig .tc .vmem S96x6 .i32) (harg16 : arg16.IsWhole) (arg17 : Memref sig .tc .vmem S96x6 .f32) (harg17 : arg17.IsWhole) (arg18 : Memref sig .tc .vmem S96x1408 .bf16) (harg18 : arg18.IsWhole) (arg19 : Memref sig .tc .vmem S96x2048 .f32) (harg19 : arg19.IsWhole) (h : k0_cond1 i = 1#1) :
    k0_part9 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 = init0 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 >>= fun _ => rest9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 := by
  rw [k0_part9_eq_skeleton]; unfold k0_part9_skel init0 rest9
  simp only [h, dite_true, bind, Prog.bind_assoc]
  rfl

theorem part9_neg (i : grid0.Coords) (arg1 : Memref sig .tc .smem S64 .i32) (harg1 : arg1.IsWhole) (arg2 : Memref sig .tc .vmem S96x2048 .bf16) (harg2 : arg2.IsWhole) (arg3 : Memref sig .tc .vmem S96x6 .i32) (harg3 : arg3.IsWhole) (arg4 : Memref sig .tc .vmem S96x6 .f32) (harg4 : arg4.IsWhole) (arg5 : Memref sig .tc .vmem S1x2048x1408 .i8) (harg5 : arg5.IsWhole) (arg6 : Memref sig .tc .vmem S1x16x1408 .bf16) (harg6 : arg6.IsWhole) (arg7 : Memref sig .tc .vmem S1x16x1408 .bf16) (harg7 : arg7.IsWhole) (arg8 : Memref sig .tc .vmem S1x16x1408 .bf16) (harg8 : arg8.IsWhole) (arg9 : Memref sig .tc .vmem S1x16x1408 .bf16) (harg9 : arg9.IsWhole) (arg10 : Memref sig .tc .vmem S1x1408x1024 .i8) (harg10 : arg10.IsWhole) (arg11 : Memref sig .tc .vmem S1x11x2048 .bf16) (harg11 : arg11.IsWhole) (arg12 : Memref sig .tc .vmem S1x11x2048 .bf16) (harg12 : arg12.IsWhole) (arg13 : Memref sig .tc .vmem S96x2048 .bf16) (harg13 : arg13.IsWhole) (arg14 : Memref sig .tc .vmem S96x1 .f32) (harg14 : arg14.IsWhole) (arg15 : Memref sig .tc .vmem S6x96x2048 .f32) (harg15 : arg15.IsWhole) (arg16 : Memref sig .tc .vmem S96x6 .i32) (harg16 : arg16.IsWhole) (arg17 : Memref sig .tc .vmem S96x6 .f32) (harg17 : arg17.IsWhole) (arg18 : Memref sig .tc .vmem S96x1408 .bf16) (harg18 : arg18.IsWhole) (arg19 : Memref sig .tc .vmem S96x2048 .f32) (harg19 : arg19.IsWhole) (h : ¬ k0_cond1 i = 1#1) :
    k0_part9 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 = rest9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 := by
  rw [k0_part9_eq_skeleton]; unfold k0_part9_skel rest9
  simp only [h, dite_false, bind, Prog.bind_assoc]

theorem part65_pos (i : grid0.Coords) (arg1 : Memref sig .tc .smem S64 .i32) (harg1 : arg1.IsWhole) (arg2 : Memref sig .tc .vmem S96x2048 .bf16) (harg2 : arg2.IsWhole) (arg3 : Memref sig .tc .vmem S96x6 .i32) (harg3 : arg3.IsWhole) (arg4 : Memref sig .tc .vmem S96x6 .f32) (harg4 : arg4.IsWhole) (arg5 : Memref sig .tc .vmem S1x2048x1408 .i8) (harg5 : arg5.IsWhole) (arg6 : Memref sig .tc .vmem S1x16x1408 .bf16) (harg6 : arg6.IsWhole) (arg7 : Memref sig .tc .vmem S1x16x1408 .bf16) (harg7 : arg7.IsWhole) (arg8 : Memref sig .tc .vmem S1x16x1408 .bf16) (harg8 : arg8.IsWhole) (arg9 : Memref sig .tc .vmem S1x16x1408 .bf16) (harg9 : arg9.IsWhole) (arg10 : Memref sig .tc .vmem S1x1408x1024 .i8) (harg10 : arg10.IsWhole) (arg11 : Memref sig .tc .vmem S1x11x2048 .bf16) (harg11 : arg11.IsWhole) (arg12 : Memref sig .tc .vmem S1x11x2048 .bf16) (harg12 : arg12.IsWhole) (arg13 : Memref sig .tc .vmem S96x2048 .bf16) (harg13 : arg13.IsWhole) (arg14 : Memref sig .tc .vmem S96x1 .f32) (harg14 : arg14.IsWhole) (arg15 : Memref sig .tc .vmem S6x96x2048 .f32) (harg15 : arg15.IsWhole) (arg16 : Memref sig .tc .vmem S96x6 .i32) (harg16 : arg16.IsWhole) (arg17 : Memref sig .tc .vmem S96x6 .f32) (harg17 : arg17.IsWhole) (arg18 : Memref sig .tc .vmem S96x1408 .bf16) (harg18 : arg18.IsWhole) (arg19 : Memref sig .tc .vmem S96x2048 .f32) (harg19 : arg19.IsWhole) (h : k0_cond1 i = 1#1) :
    k0_part65 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 = init0 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 >>= fun _ => rest65 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 := by
  rw [k0_part65_eq_skeleton]; unfold k0_part65_skel rest65
  rw [part9_pos _ _ _ _ _ _ _ _ _ _ _ _ _ _ _ _ _ _ _ _ _ _ _ _ _ _ _ _ _ _ _ _ _ _ _ _ _ _ _ h]
  exact Prog.bind_assoc _ _ _

theorem part65_neg (i : grid0.Coords) (arg1 : Memref sig .tc .smem S64 .i32) (harg1 : arg1.IsWhole) (arg2 : Memref sig .tc .vmem S96x2048 .bf16) (harg2 : arg2.IsWhole) (arg3 : Memref sig .tc .vmem S96x6 .i32) (harg3 : arg3.IsWhole) (arg4 : Memref sig .tc .vmem S96x6 .f32) (harg4 : arg4.IsWhole) (arg5 : Memref sig .tc .vmem S1x2048x1408 .i8) (harg5 : arg5.IsWhole) (arg6 : Memref sig .tc .vmem S1x16x1408 .bf16) (harg6 : arg6.IsWhole) (arg7 : Memref sig .tc .vmem S1x16x1408 .bf16) (harg7 : arg7.IsWhole) (arg8 : Memref sig .tc .vmem S1x16x1408 .bf16) (harg8 : arg8.IsWhole) (arg9 : Memref sig .tc .vmem S1x16x1408 .bf16) (harg9 : arg9.IsWhole) (arg10 : Memref sig .tc .vmem S1x1408x1024 .i8) (harg10 : arg10.IsWhole) (arg11 : Memref sig .tc .vmem S1x11x2048 .bf16) (harg11 : arg11.IsWhole) (arg12 : Memref sig .tc .vmem S1x11x2048 .bf16) (harg12 : arg12.IsWhole) (arg13 : Memref sig .tc .vmem S96x2048 .bf16) (harg13 : arg13.IsWhole) (arg14 : Memref sig .tc .vmem S96x1 .f32) (harg14 : arg14.IsWhole) (arg15 : Memref sig .tc .vmem S6x96x2048 .f32) (harg15 : arg15.IsWhole) (arg16 : Memref sig .tc .vmem S96x6 .i32) (harg16 : arg16.IsWhole) (arg17 : Memref sig .tc .vmem S96x6 .f32) (harg17 : arg17.IsWhole) (arg18 : Memref sig .tc .vmem S96x1408 .bf16) (harg18 : arg18.IsWhole) (arg19 : Memref sig .tc .vmem S96x2048 .f32) (harg19 : arg19.IsWhole) (h : ¬ k0_cond1 i = 1#1) :
    k0_part65 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 = rest65 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 := by
  rw [k0_part65_eq_skeleton]; unfold k0_part65_skel rest65
  rw [part9_neg _ _ _ _ _ _ _ _ _ _ _ _ _ _ _ _ _ _ _ _ _ _ _ _ _ _ _ _ _ _ _ _ _ _ _ _ _ _ _ h]

/-- The body at the first grid point. -/
theorem body_first (i : grid0.Coords) (arg1 : Memref sig .tc .smem S64 .i32) (harg1 : arg1.IsWhole) (arg2 : Memref sig .tc .vmem S96x2048 .bf16) (harg2 : arg2.IsWhole) (arg3 : Memref sig .tc .vmem S96x6 .i32) (harg3 : arg3.IsWhole) (arg4 : Memref sig .tc .vmem S96x6 .f32) (harg4 : arg4.IsWhole) (arg5 : Memref sig .tc .vmem S1x2048x1408 .i8) (harg5 : arg5.IsWhole) (arg6 : Memref sig .tc .vmem S1x16x1408 .bf16) (harg6 : arg6.IsWhole) (arg7 : Memref sig .tc .vmem S1x16x1408 .bf16) (harg7 : arg7.IsWhole) (arg8 : Memref sig .tc .vmem S1x16x1408 .bf16) (harg8 : arg8.IsWhole) (arg9 : Memref sig .tc .vmem S1x16x1408 .bf16) (harg9 : arg9.IsWhole) (arg10 : Memref sig .tc .vmem S1x1408x1024 .i8) (harg10 : arg10.IsWhole) (arg11 : Memref sig .tc .vmem S1x11x2048 .bf16) (harg11 : arg11.IsWhole) (arg12 : Memref sig .tc .vmem S1x11x2048 .bf16) (harg12 : arg12.IsWhole) (arg13 : Memref sig .tc .vmem S96x2048 .bf16) (harg13 : arg13.IsWhole) (arg14 : Memref sig .tc .vmem S96x1 .f32) (harg14 : arg14.IsWhole) (arg15 : Memref sig .tc .vmem S6x96x2048 .f32) (harg15 : arg15.IsWhole) (arg16 : Memref sig .tc .vmem S96x6 .i32) (harg16 : arg16.IsWhole) (arg17 : Memref sig .tc .vmem S96x6 .f32) (harg17 : arg17.IsWhole) (arg18 : Memref sig .tc .vmem S96x1408 .bf16) (harg18 : arg18.IsWhole) (arg19 : Memref sig .tc .vmem S96x2048 .f32) (harg19 : arg19.IsWhole) (h : k0_cond1 i = 1#1) (h2 : ¬ k0_cond2 i = 1#1) :
    cc0__body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 = init0 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 >>= fun _ => mid i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 := by
  rw [cc0__body_eq_skeleton]; unfold cc0__body_skel mid
  rw [part65_pos _ _ _ _ _ _ _ _ _ _ _ _ _ _ _ _ _ _ _ _ _ _ _ _ _ _ _ _ _ _ _ _ _ _ _ _ _ _ _ h]
  simp only [h2, dite_false, bind_assoc, pure_bind]

/-- The body at a grid point that is neither the first nor the last. -/
theorem body_middle (i : grid0.Coords) (arg1 : Memref sig .tc .smem S64 .i32) (harg1 : arg1.IsWhole) (arg2 : Memref sig .tc .vmem S96x2048 .bf16) (harg2 : arg2.IsWhole) (arg3 : Memref sig .tc .vmem S96x6 .i32) (harg3 : arg3.IsWhole) (arg4 : Memref sig .tc .vmem S96x6 .f32) (harg4 : arg4.IsWhole) (arg5 : Memref sig .tc .vmem S1x2048x1408 .i8) (harg5 : arg5.IsWhole) (arg6 : Memref sig .tc .vmem S1x16x1408 .bf16) (harg6 : arg6.IsWhole) (arg7 : Memref sig .tc .vmem S1x16x1408 .bf16) (harg7 : arg7.IsWhole) (arg8 : Memref sig .tc .vmem S1x16x1408 .bf16) (harg8 : arg8.IsWhole) (arg9 : Memref sig .tc .vmem S1x16x1408 .bf16) (harg9 : arg9.IsWhole) (arg10 : Memref sig .tc .vmem S1x1408x1024 .i8) (harg10 : arg10.IsWhole) (arg11 : Memref sig .tc .vmem S1x11x2048 .bf16) (harg11 : arg11.IsWhole) (arg12 : Memref sig .tc .vmem S1x11x2048 .bf16) (harg12 : arg12.IsWhole) (arg13 : Memref sig .tc .vmem S96x2048 .bf16) (harg13 : arg13.IsWhole) (arg14 : Memref sig .tc .vmem S96x1 .f32) (harg14 : arg14.IsWhole) (arg15 : Memref sig .tc .vmem S6x96x2048 .f32) (harg15 : arg15.IsWhole) (arg16 : Memref sig .tc .vmem S96x6 .i32) (harg16 : arg16.IsWhole) (arg17 : Memref sig .tc .vmem S96x6 .f32) (harg17 : arg17.IsWhole) (arg18 : Memref sig .tc .vmem S96x1408 .bf16) (harg18 : arg18.IsWhole) (arg19 : Memref sig .tc .vmem S96x2048 .f32) (harg19 : arg19.IsWhole) (h : ¬ k0_cond1 i = 1#1) (h2 : ¬ k0_cond2 i = 1#1) :
    cc0__body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 = mid i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 := by
  rw [cc0__body_eq_skeleton]; unfold cc0__body_skel mid
  rw [part65_neg _ _ _ _ _ _ _ _ _ _ _ _ _ _ _ _ _ _ _ _ _ _ _ _ _ _ _ _ _ _ _ _ _ _ _ _ _ _ _ h]
  simp only [h2, dite_false, bind_assoc, pure_bind]

/-- The body at the last grid point. -/
theorem body_last (i : grid0.Coords) (arg1 : Memref sig .tc .smem S64 .i32) (harg1 : arg1.IsWhole) (arg2 : Memref sig .tc .vmem S96x2048 .bf16) (harg2 : arg2.IsWhole) (arg3 : Memref sig .tc .vmem S96x6 .i32) (harg3 : arg3.IsWhole) (arg4 : Memref sig .tc .vmem S96x6 .f32) (harg4 : arg4.IsWhole) (arg5 : Memref sig .tc .vmem S1x2048x1408 .i8) (harg5 : arg5.IsWhole) (arg6 : Memref sig .tc .vmem S1x16x1408 .bf16) (harg6 : arg6.IsWhole) (arg7 : Memref sig .tc .vmem S1x16x1408 .bf16) (harg7 : arg7.IsWhole) (arg8 : Memref sig .tc .vmem S1x16x1408 .bf16) (harg8 : arg8.IsWhole) (arg9 : Memref sig .tc .vmem S1x16x1408 .bf16) (harg9 : arg9.IsWhole) (arg10 : Memref sig .tc .vmem S1x1408x1024 .i8) (harg10 : arg10.IsWhole) (arg11 : Memref sig .tc .vmem S1x11x2048 .bf16) (harg11 : arg11.IsWhole) (arg12 : Memref sig .tc .vmem S1x11x2048 .bf16) (harg12 : arg12.IsWhole) (arg13 : Memref sig .tc .vmem S96x2048 .bf16) (harg13 : arg13.IsWhole) (arg14 : Memref sig .tc .vmem S96x1 .f32) (harg14 : arg14.IsWhole) (arg15 : Memref sig .tc .vmem S6x96x2048 .f32) (harg15 : arg15.IsWhole) (arg16 : Memref sig .tc .vmem S96x6 .i32) (harg16 : arg16.IsWhole) (arg17 : Memref sig .tc .vmem S96x6 .f32) (harg17 : arg17.IsWhole) (arg18 : Memref sig .tc .vmem S96x1408 .bf16) (harg18 : arg18.IsWhole) (arg19 : Memref sig .tc .vmem S96x2048 .f32) (harg19 : arg19.IsWhole) (h : ¬ k0_cond1 i = 1#1) (h2 : k0_cond2 i = 1#1) :
    cc0__body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 = mid i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 >>= fun _ => fin0 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 := by
  rw [cc0__body_eq_skeleton]; unfold cc0__body_skel mid fin0
  rw [part65_neg _ _ _ _ _ _ _ _ _ _ _ _ _ _ _ _ _ _ _ _ _ _ _ _ _ _ _ _ _ _ _ _ _ _ _ _ _ _ _ h]
  simp only [h2, dite_true, bind_assoc, pure_bind]

end Cert.Kernel.Hand

end
-- ==== Proof.AtBits.RunMid.lean ====
/- The run of the middle stretch of the body. -/
module

public import proofs.«01_k».proof.Proof.AtBits.Cut

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the middle stretch leaves in the buffers it stores into, as pieces (last first), with the
    proof that it runs to them from given contents. -/
noncomputable def runMid (c : Dev nD) (i : grid0.Coords) (arg1 : Memref sig .tc .smem S64 .i32) (harg1 : arg1.IsWhole) (arg2 : Memref sig .tc .vmem S96x2048 .bf16) (harg2 : arg2.IsWhole) (arg3 : Memref sig .tc .vmem S96x6 .i32) (harg3 : arg3.IsWhole) (arg4 : Memref sig .tc .vmem S96x6 .f32) (harg4 : arg4.IsWhole) (arg5 : Memref sig .tc .vmem S1x2048x1408 .i8) (harg5 : arg5.IsWhole) (arg6 : Memref sig .tc .vmem S1x16x1408 .bf16) (harg6 : arg6.IsWhole) (arg7 : Memref sig .tc .vmem S1x16x1408 .bf16) (harg7 : arg7.IsWhole) (arg8 : Memref sig .tc .vmem S1x16x1408 .bf16) (harg8 : arg8.IsWhole) (arg9 : Memref sig .tc .vmem S1x16x1408 .bf16) (harg9 : arg9.IsWhole) (arg10 : Memref sig .tc .vmem S1x1408x1024 .i8) (harg10 : arg10.IsWhole) (arg11 : Memref sig .tc .vmem S1x11x2048 .bf16) (harg11 : arg11.IsWhole) (arg12 : Memref sig .tc .vmem S1x11x2048 .bf16) (harg12 : arg12.IsWhole) (arg13 : Memref sig .tc .vmem S96x2048 .bf16) (harg13 : arg13.IsWhole) (arg14 : Memref sig .tc .vmem S96x1 .f32) (harg14 : arg14.IsWhole) (arg15 : Memref sig .tc .vmem S6x96x2048 .f32) (harg15 : arg15.IsWhole) (arg16 : Memref sig .tc .vmem S96x6 .i32) (harg16 : arg16.IsWhole) (arg17 : Memref sig .tc .vmem S96x6 .f32) (harg17 : arg17.IsWhole) (arg18 : Memref sig .tc .vmem S96x1408 .bf16) (harg18 : arg18.IsWhole) (arg19 : Memref sig .tc .vmem S96x2048 .f32) (harg19 : arg19.IsWhole)
    (x1 : Vec F S96x2048 .bf16) (x4 : Vec F S1x2048x1408 .i8) (x5 : Vec F S1x16x1408 .bf16) (x6 : Vec F S1x16x1408 .bf16) (x7 : Vec F S1x16x1408 .bf16) (x8 : Vec F S1x16x1408 .bf16) (x9 : Vec F S1x1408x1024 .i8) (x10 : Vec F S1x11x2048 .bf16) (x11 : Vec F S1x11x2048 .bf16) (xs0 : Vec F S96x6 .i32) (xs1 : Vec F S96x6 .f32) (x14 : Vec F S6x96x2048 .f32) (xs3 : Vec F S96x2048 .f32) :
    Σ' (L14 : List (View.Piece (Elt F) S6x96x2048 .f32)), Σ' (LT2 : List (View.Piece (Elt F) S96x1408 .bf16)), { LS3 : List (View.Piece (Elt F) S96x2048 .f32) //
      ∀ (E : Set ℕ) (K : PUnit → sProp 𝕄),
        iprop(owns (c : Thread nD τ) arg2 fullShare x1 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg16 fullShare xs0 ∗ owns (c : Thread nD τ) arg17 fullShare xs1 ∗ owns (c : Thread nD τ) arg15 fullShare x14 ∗ (∃ d, owns (c : Thread nD τ) arg18 fullShare d) ∗ owns (c : Thread nD τ) arg19 fullShare xs3
            ∗ (iprop(owns (c : Thread nD τ) arg2 fullShare x1 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg16 fullShare xs0 ∗ owns (c : Thread nD τ) arg17 fullShare xs1 ∗ (∃ f, arg15.view.loc (c : Thread nD τ) ↦[arg15.view.set]{fullShare} arg15.view.writes (Elt F) f L14) ∗ (∃ f, arg18.view.loc (c : Thread nD τ) ↦[arg18.view.set]{fullShare} arg18.view.writes (Elt F) f LT2) ∗ (∃ f, arg19.view.loc (c : Thread nD τ) ↦[arg19.view.set]{fullShare} arg19.view.writes (Elt F) f LS3)) -∗ K ⟨⟩))
          ⊢ wp frame (wpE (defs₀ (F := F)) Variants.none c none) E (mid i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, fun E K => ?run⟩
  case run =>
    unfold mid
    unfold rest65 rest9
    simp only [k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%g0, %hg0, G0⟩, ⟨%d1, %g1, -, G1⟩, ⟨%g2, %hg2, G2⟩, Hk⟩
    obtain rfl := harg2.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7; obtain rfl := harg12.eq_unread hf8; obtain rfl := harg16.eq_unread hf9; obtain rfl := harg17.eq_unread hf10; obtain rfl := harg15.eq_unread hg0; obtain rfl := harg19.eq_unread hg2
    sl_exec
    sl_step
    iapply Hk
    isplitl [H0]
    · iexists _; isplitr; · ipureintro; exact harg2.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]
    · iexists _; isplitr; · ipureintro; exact harg11.read_unread _
      iexact H7
    isplitl [H8]
    · iexists _; isplitr; · ipureintro; exact harg12.read_unread _
      iexact H8
    isplitl [H9]
    · iexists _; isplitr; · ipureintro; exact harg16.read_unread _
      iexact H9
    isplitl [H10]
    · iexists _; isplitr; · ipureintro; exact harg17.read_unread _
      iexact H10
    isplitl [G0]; · iexists _; iexact G0
    isplitl [G1]; · iexists _; iexact G1
    iexists _; iexact G2

end Cert.Kernel.Hand

end
-- ==== Proof.AtBits.Vocab.lean ====
/- The intermediate values of the body under uniform names, and what each is worth at an index over the extended reals. -/
module

public import Idealize.ShloMosaic.Lib.Pipeline.ValueKit
public import Idealize.ShloMosaic.Lib.Pipeline.Value
public import Idealize.ShloMosaic.Lib.BitcastFour
public import Idealize.ShloMosaic.Lib.MatmulPlain
public import Idealize.ShloMosaic.Lib.ValueIdx
public import Idealize.ShloMosaic.Lib.ValueIdxCoords

@[expose] public section

noncomputable section

namespace Cert.Kernel.Hand

open Idealize.ShloMosaic hiding ix2
open Idealize.ShloMosaic.ValueIdx

variable {F : FTy → Type} [FloatOps F]

/-- A matrix shape. -/
abbrev sh (a b : ℕ) : Shape := ⟨2, ![a, b]⟩

/-- The low four bits of every byte, through words of four bytes. -/
def low {K Q C : ℕ} (h1 : (sh K C).Bitcasts 8 (sh Q C) 32) (h2 : (sh Q C).Bitcasts 32 (sh K C) 8) (v : IVec (sh K C) 8) : FVec F (sh K C) .bf16 :=
  sitofp .bf16 (bitcast (sh K C) 8 (andi (bitcast (sh Q C) 32 v h1) (broadcast (sh Q C) 252645135#32)) h2)

/-- The high four bits of every byte, through words of four bytes. -/
def high {K Q C : ℕ} (h1 : (sh K C).Bitcasts 8 (sh Q C) 32) (h2 : (sh Q C).Bitcasts 32 (sh K C) 8) (v : IVec (sh K C) 8) : FVec F (sh K C) .bf16 :=
  sitofp .bf16 (bitcast (sh K C) 8 (andi (shrui (bitcast (sh Q C) 32 v h1) (broadcast (sh Q C) 4#32)) (broadcast (sh Q C) 252645135#32)) h2)

/-- One group of 128 rows, scaled. -/
def grp (G K C : ℕ) (hs : ∀ r < G, (sh K C).Slices ![128 * r, 0] (sh 128 C)) (hg : ∀ r < G, (sh G C).Slices ![r, 0] (sh 1 C))
    (hb : (sh 1 C).Broadcasts (sh 128 C)) (c : FVec F (sh K C) .bf16) (s z : FVec F (sh G C) .bf16) (r : Fin G) : FVec F (sh 128 C) .bf16 :=
  mulf (subf (extractStridedSlice (sh 128 C) ![128 * r.val, 0] c (hs r r.isLt))
      (broadcastTo (sh 128 C) (extractStridedSlice (sh 1 C) ![r.val, 0] z (hg r r.isLt)) hb))
    (broadcastTo (sh 128 C) (extractStridedSlice (sh 1 C) ![r.val, 0] s (hg r r.isLt)) hb)

/-- The groups stacked: the dequantized weights. -/
def deq (G K C : ℕ) (hs : ∀ r < G, (sh K C).Slices ![128 * r, 0] (sh 128 C)) (hg : ∀ r < G, (sh G C).Slices ![r, 0] (sh 1 C))
    (hb : (sh 1 C).Broadcasts (sh 128 C))
    (hc : Shape.Concatenates ((List.ofFn fun n : Fin G => (⟨sh 128 C, fun _ => n⟩ : (s : Shape) × (s.Idx → Fin G))).map (·.1)) (sh K C) 0)
    (c : FVec F (sh K C) .bf16) (s z : FVec F (sh G C) .bf16) : FVec F (sh K C) .bf16 :=
  concatenate (sh K C) 0 (List.ofFn fun r : Fin G => (⟨sh 128 C, grp G K C hs hg hb c s z r⟩ : (s : Shape) × (s.Idx → F .bf16)))
    (by simpa [List.map_ofFn, Function.comp_def] using hc)

/-! ## At an index -/

/-- The byte's low four bits as an extended real. -/
def nibLo (b : BitVec 8) : EReal := (((b.toNat % 16 : ℕ) : ℝ) : EReal)
/-- The byte's high four bits as an extended real. -/
def nibHi (b : BitVec 8) : EReal := (((b.toNat / 16 : ℕ) : ℝ) : EReal)

theorem bitcast_32_8_getLsbD_ix2 {R r n : ℕ} (x : (sh r n).Idx → BitVec 32) (h : (sh r n).Bitcasts 32 (sh R n) 8)
    (p : Fin R) (l : Fin n) (q : ℕ) (hq : q < 8) (a : Fin r) (ha : a.val = p.val / 4) :
    (bitcast (sh R n) 8 x h (ix2 p l)).getLsbD q = (x (ix2 a l)).getLsbD (8 * (p.val % 4) + q) := by
  rw [bitcast_getLsbD x h _ q hq (by decide)]
  have hrow : (sh R n).row (ix2 p l) = p.val := rfl
  have e1 : ((sh R n).row (ix2 p l) * 8 + q) / 32 = a.val := by rw [hrow, ha]; omega
  have e2 : ((sh R n).row (ix2 p l) * 8 + q) % 32 = 8 * (p.val % 4) + q := by rw [hrow]; omega
  have hr : ∀ c : Fin (sh r n).rank, c.val + 2 = (sh r n).rank → a.val < (sh r n).size c := by
    intro c hc
    match c with
    | ⟨0, _⟩ => exact a.isLt
    | ⟨1, _⟩ => exact absurd hc (by show ¬ 1 + 2 = 2; omega)
  rw [h.srcIdx_congr _ e1 (hp' := hr), e2]
  congr 2
  funext c
  match c with
  | ⟨0, _⟩ => exact Fin.ext (h.srcIdx_row _ _ _ ⟨0, Nat.zero_lt_two⟩ rfl)
  | ⟨1, _⟩ => exact Fin.ext (h.srcIdx_other _ _ _ ⟨1, Nat.one_lt_two⟩ (by show ¬ 1 + 2 = 2; omega))

theorem mask_bit : ∀ k < 4, ∀ q < 8, (252645135#32).getLsbD (8 * k + q) = decide (q < 4) := by decide

theorem mask8 : ∀ q < 8, decide (q < 4) = (15#8).getLsbD q := by decide

theorem toInt_lo (b : BitVec 8) : (b &&& 15#8).toInt = ((b.toNat % 16 : ℕ) : ℤ) := by
  revert b; decide +kernel

theorem toInt_hi (b : BitVec 8) : (b >>> 4).toInt = ((b.toNat / 16 : ℕ) : ℤ) := by
  revert b; decide +kernel

theorem low_apply {K Q C : ℕ} (h1 : (sh K C).Bitcasts 8 (sh Q C) 32) (h2 : (sh Q C).Bitcasts 32 (sh K C) 8) (hK : K = 4 * Q)
    (v : IVec (sh K C) 8) (p : Fin K) (l : Fin C) : low (F := Ideal) h1 h2 v (ix2 p l) = nibLo (v (ix2 p l)) := by
  have hb : bitcast (sh K C) 8 (andi (bitcast (sh Q C) 32 v h1) (broadcast (sh Q C) 252645135#32)) h2 (ix2 p l) = v (ix2 p l) &&& 15#8 := by
    apply BitVec.eq_of_getLsbD_eq
    intro q hq
    have hp := p.isLt
    rw [bitcast_32_8_getLsbD_ix2 _ h2 p l q hq ⟨p.val / 4, by omega⟩ rfl]
    show (IntOp.andi (bitcast (sh Q C) 32 v h1 (ix2 _ l)) 252645135#32).getLsbD _ = _
    unfold IntOp.andi
    rw [BitVec.getLsbD_and, BitVec.getLsbD_and, mask_bit _ (Nat.mod_lt _ (by decide)) _ hq,
      bitcast_8_32_getLsbD_ix2 v h1 _ l _ (by omega) p (by show p.val = 4 * (p.val / 4) + _; omega)]
    have e : (8 * (p.val % 4) + q) % 8 = q := by omega
    rw [e]
    congr 1
    exact mask8 q hq
  show (((_ : BitVec 8).toInt : ℝ) : EReal) = _
  rw [hb, toInt_lo]; rfl

theorem high_apply {K Q C : ℕ} (h1 : (sh K C).Bitcasts 8 (sh Q C) 32) (h2 : (sh Q C).Bitcasts 32 (sh K C) 8) (hK : K = 4 * Q)
    (v : IVec (sh K C) 8) (p : Fin K) (l : Fin C) : high (F := Ideal) h1 h2 v (ix2 p l) = nibHi (v (ix2 p l)) := by
  have hb : bitcast (sh K C) 8 (andi (shrui (bitcast (sh Q C) 32 v h1) (broadcast (sh Q C) 4#32)) (broadcast (sh Q C) 252645135#32)) h2 (ix2 p l) = v (ix2 p l) >>> 4 := by
    apply BitVec.eq_of_getLsbD_eq
    intro q hq
    have hp := p.isLt
    rw [bitcast_32_8_getLsbD_ix2 _ h2 p l q hq ⟨p.val / 4, by omega⟩ rfl]
    show (IntOp.andi (bitcast (sh Q C) 32 v h1 (ix2 _ l) >>> 4) 252645135#32).getLsbD _ = _
    unfold IntOp.andi
    rw [BitVec.getLsbD_and, mask_bit _ (Nat.mod_lt _ (by decide)) _ hq, BitVec.getLsbD_ushiftRight, BitVec.getLsbD_ushiftRight]
    by_cases h4 : q < 4
    · rw [bitcast_8_32_getLsbD_ix2 v h1 _ l _ (by omega) p (by show p.val = 4 * (p.val / 4) + _; omega)]
      have e : (4 + (8 * (p.val % 4) + q)) % 8 = 4 + q := by omega
      rw [e]; simp [h4]
    · rw [BitVec.getLsbD_of_ge (v (ix2 p l)) (4 + q) (by omega)]; simp [h4]
  show (((_ : BitVec 8).toInt : ℝ) : EReal) = _
  rw [hb, toInt_hi]; rfl

theorem deq_apply (G K C : ℕ) (hs : ∀ r < G, (sh K C).Slices ![128 * r, 0] (sh 128 C)) (hg : ∀ r < G, (sh G C).Slices ![r, 0] (sh 1 C))
    (hb : (sh 1 C).Broadcasts (sh 128 C))
    (hc : Shape.Concatenates ((List.ofFn fun n : Fin G => (⟨sh 128 C, fun _ => n⟩ : (s : Shape) × (s.Idx → Fin G))).map (·.1)) (sh K C) 0)
    (hK : K = 128 * G) (c : FVec Ideal (sh K C) .bf16) (s z : FVec Ideal (sh G C) .bf16) (p : Fin K) (l : Fin C) :
    deq G K C hs hg hb hc c s z (ix2 p l)
      = (c (ix2 p l) - z (ix2 ⟨p.val / 128, by omega⟩ l)) * s (ix2 ⟨p.val / 128, by omega⟩ l) := by
  unfold deq
  rw [concatenate_ofFn_apply (t := sh K C) (s₁ := sh 128 C) 0 _ _ rfl 128 rfl (ix2 p l) ⟨p.val / 128, by omega⟩ rfl (ix2 ⟨p.val % 128, Nat.mod_lt _ (by decide)⟩ l) rfl
    (by intro b hb'; match b with
        | ⟨0, _⟩ => exact absurd rfl hb'
        | ⟨1, _⟩ => rfl)]
  unfold grp
  rw [mulf_apply, subf_apply]
  have hbc : ∀ (x : FVec Ideal (sh 1 C) .bf16) (a : Fin 128), broadcastTo (sh 128 C) x hb (ix2 a l) = x (ix2 0 l) := by
    intro x a
    unfold broadcastTo
    refine congrArg x (funext fun d => ?_)
    match d with
    | ⟨0, _⟩ => rfl
    | ⟨1, _⟩ =>
      apply Fin.ext
      dsimp only
      split
      · rename_i h1
        have h1' : C = 1 := h1
        show 0 = l.val
        omega
      · rfl
  rw [hbc, hbc]
  unfold extractStridedSlice
  refine congrArg₂ (· * ·) (congrArg₂ (· - ·) (congrArg c (funext fun d => ?_)) (congrArg z (funext fun d => ?_))) (congrArg s (funext fun d => ?_))
  · match d with
    | ⟨0, _⟩ => exact Fin.ext (Nat.div_add_mod p.val 128)
    | ⟨1, _⟩ => exact Fin.ext (Nat.zero_add _)
  · match d with
    | ⟨0, _⟩ => rfl
    | ⟨1, _⟩ => exact Fin.ext (Nat.zero_add _)
  · match d with
    | ⟨0, _⟩ => rfl
    | ⟨1, _⟩ => exact Fin.ext (Nat.zero_add _)

end Cert.Kernel.Hand

end
-- ==== Proof.AtBits.Mid.lean ====
/- The pieces the body stores, under uniform names. -/
module

public import proofs.«01_k».proof.Proof.Gen.Kernel.Skeleton
public import proofs.«01_k».proof.Proof.AtBits.Vocab

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A rank-three shape. -/
abbrev sh3 (a b c : ℕ) : Shape := ⟨3, ![a, b, c]⟩

/-- The shape facts of one dequantization: `G` groups of 128 rows, `K` rows in all, `Q` rows of words, `C` columns. -/
structure Df (G K Q C : ℕ) : Prop where
  hs : ∀ r < G, (sh K C).Slices ![128 * r, 0] (sh 128 C)
  hg : ∀ r < G, (sh G C).Slices ![r, 0] (sh 1 C)
  hb : (sh 1 C).Broadcasts (sh 128 C)
  hc : Shape.Concatenates ((List.ofFn fun n : Fin G => (⟨sh 128 C, fun _ => n⟩ : (s : Shape) × (s.Idx → Fin G))).map (·.1)) (sh K C) 0
  h1 : (sh K C).Bitcasts 8 (sh Q C) 32
  h2 : (sh Q C).Bitcasts 32 (sh K C) 8
  k : (sh3 1 K C).ShapeCasts (sh K C)
  g : (sh3 1 G C).ShapeCasts (sh G C)

theorem df256 : Df 16 2048 512 256 := ⟨by decide, by decide, by decide, by decide, by decide, by decide, by decide, by decide⟩
theorem df128 : Df 16 2048 512 128 := ⟨by decide, by decide, by decide, by decide, by decide, by decide, by decide, by decide⟩
theorem dfd : Df 11 1408 352 256 := ⟨by decide, by decide, by decide, by decide, by decide, by decide, by decide, by decide⟩

/-- The weights in the low halves of the codes, dequantized. -/
def wlow {G K Q C : ℕ} (D : Df G K Q C) (c : IVec (sh3 1 K C) 8) (s z : FVec F (sh3 1 G C) .bf16) : FVec F (sh K C) .bf16 :=
  deq G K C D.hs D.hg D.hb D.hc (low D.h1 D.h2 (shapeCast (sh K C) c D.k)) (shapeCast (sh G C) s D.g) (shapeCast (sh G C) z D.g)

/-- The weights in the high halves of the codes, dequantized. -/
def whigh {G K Q C : ℕ} (D : Df G K Q C) (c : IVec (sh3 1 K C) 8) (s z : FVec F (sh3 1 G C) .bf16) : FVec F (sh K C) .bf16 :=
  deq G K C D.hs D.hg D.hb D.hc (high D.h1 D.h2 (shapeCast (sh K C) c D.k)) (shapeCast (sh G C) s D.g) (shapeCast (sh G C) z D.g)

/-- A matrix product from zero. -/
def mm {M K N : ℕ} (a : FVec F (sh M K) .bf16) (b : FVec F (sh K N) .bf16) : FVec F (sh M N) .f32 :=
  matmul (DotDims.plain M K N) none a b (constant (sh M N) .f32 0x00000000#32)

/-- One chunk of the hidden layer. -/
def hch {C : ℕ} (D : Df 16 2048 512 C) (hC : (sh 96 C).ShapeCasts (sh 96 C)) (x : FVec F (sh 96 2048) .bf16) (c : IVec (sh3 1 2048 C) 8)
    (sg zg su zu : FVec F (sh3 1 16 C) .bf16) : FVec F (sh 96 C) .bf16 :=
  shapeCast (sh 96 C) (truncf .bf16 (mulf (mulf (mm (shapeCast (sh 96 2048) x (by decide)) (wlow D c sg zg)) (logistic (mm (shapeCast (sh 96 2048) x (by decide)) (wlow D c sg zg))))
    (mm (shapeCast (sh 96 2048) x (by decide)) (whigh D c su zu))) bitsLt_bf16_f32) hC

/-- Which tokens chose the slot as their `k`-th. -/
def hit (a : BitVec 32) (slot : IVec (sh 96 6) 32) (k : ℕ) (h : (sh 96 6).Slices ![0, k] (sh 96 1)) : IVec (sh 96 1) 1 :=
  cmpi .eq (extractStridedSlice (sh 96 1) ![0, k] slot h) (broadcast (sh 96 1) a)

/-- One term of the slot's weight. -/
def wterm (a : BitVec 32) (slot : IVec (sh 96 6) 32) (w : FVec F (sh 96 6) .f32) (k : ℕ) (h : (sh 96 6).Slices ![0, k] (sh 96 1)) : FVec F (sh 96 1) .f32 :=
  select (hit a slot k h) (extractStridedSlice (sh 96 1) ![0, k] w h) (broadcast (sh 96 1) (Scalar.ofBits .f32 0x00000000#32))

/-- The slot's weight for every token. -/
def wsel (a : BitVec 32) (slot : IVec (sh 96 6) 32) (w : FVec F (sh 96 6) .f32) : FVec F (sh 96 1) .f32 :=
  addf (addf (addf (addf (addf (addf (broadcast (sh 96 1) (Scalar.ofBits .f32 0x00000000#32)) (wterm a slot w 0 (by decide))) (wterm a slot w 1 (by decide)))
    (wterm a slot w 2 (by decide))) (wterm a slot w 3 (by decide))) (wterm a slot w 4 (by decide))) (wterm a slot w 5 (by decide))

/-- The running sum with one slot's contribution. -/
def accp (yy : FVec F (sh 96 256) .f32) (ws : FVec F (sh 96 1) .f32) (prev : FVec F (sh 96 256) .f32) : FVec F (sh 96 256) .f32 :=
  shapeCast (sh 96 256) (addf prev (mulf yy (broadcastTo (sh 96 256) ws (by decide)))) (by decide)

/-- The per-choice result with one slot's contribution. -/
def outp (b : IVec (sh 96 1) 1) (yy : FVec F (sh 96 256) .f32) (prev : FVec F (sh3 1 96 256) .f32) : FVec F (sh3 1 96 256) .f32 :=
  shapeCast (sh3 1 96 256) (select (broadcastTo (sh 96 256) (shapeCast (sh 96 1) b (by decide)) (by decide)) yy (shapeCast (sh 96 256) prev (by decide))) (by decide)

/-- The hidden layer's chunks, last first. -/
def hPieces (x1 : Vec F S96x2048 .bf16) (x4 : Vec F S1x2048x1408 .i8) (x5 : Vec F S1x16x1408 .bf16) (x6 : Vec F S1x16x1408 .bf16) (x7 : Vec F S1x16x1408 .bf16) (x8 : Vec F S1x16x1408 .bf16) : List (View.Piece (Elt F) S96x1408 .bf16) :=
  [
    ⟨Rect.unit (s := S96x1408) ![0, 1280] ![96, 128] inb_S96x1408_S96x128_0_1280, hch df128 (by decide) (View.ld x1 (Rect.unit (s := S96x2048) ![0, 0] ![96, 2048] inb_S96x2048_S96x2048_0_0)) (View.ld x4 (Rect.unit (s := S1x2048x1408) ![0, 0, 1280] ![1, 2048, 128] inb_S1x2048x1408_S1x2048x128_0_0_1280)) (View.ld x5 (Rect.unit (s := S1x16x1408) ![0, 0, 1280] ![1, 16, 128] inb_S1x16x1408_S1x16x128_0_0_1280)) (View.ld x6 (Rect.unit (s := S1x16x1408) ![0, 0, 1280] ![1, 16, 128] inb_S1x16x1408_S1x16x128_0_0_1280)) (View.ld x7 (Rect.unit (s := S1x16x1408) ![0, 0, 1280] ![1, 16, 128] inb_S1x16x1408_S1x16x128_0_0_1280)) (View.ld x8 (Rect.unit (s := S1x16x1408) ![0, 0, 1280] ![1, 16, 128] inb_S1x16x1408_S1x16x128_0_0_1280))⟩,
    ⟨Rect.unit (s := S96x1408) ![0, 1024] ![96, 256] inb_S96x1408_S96x256_0_1024, hch df256 (by decide) (View.ld x1 (Rect.unit (s := S96x2048) ![0, 0] ![96, 2048] inb_S96x2048_S96x2048_0_0)) (View.ld x4 (Rect.unit (s := S1x2048x1408) ![0, 0, 1024] ![1, 2048, 256] inb_S1x2048x1408_S1x2048x256_0_0_1024)) (View.ld x5 (Rect.unit (s := S1x16x1408) ![0, 0, 1024] ![1, 16, 256] inb_S1x16x1408_S1x16x256_0_0_1024)) (View.ld x6 (Rect.unit (s := S1x16x1408) ![0, 0, 1024] ![1, 16, 256] inb_S1x16x1408_S1x16x256_0_0_1024)) (View.ld x7 (Rect.unit (s := S1x16x1408) ![0, 0, 1024] ![1, 16, 256] inb_S1x16x1408_S1x16x256_0_0_1024)) (View.ld x8 (Rect.unit (s := S1x16x1408) ![0, 0, 1024] ![1, 16, 256] inb_S1x16x1408_S1x16x256_0_0_1024))⟩,
    ⟨Rect.unit (s := S96x1408) ![0, 768] ![96, 256] inb_S96x1408_S96x256_0_768, hch df256 (by decide) (View.ld x1 (Rect.unit (s := S96x2048) ![0, 0] ![96, 2048] inb_S96x2048_S96x2048_0_0)) (View.ld x4 (Rect.unit (s := S1x2048x1408) ![0, 0, 768] ![1, 2048, 256] inb_S1x2048x1408_S1x2048x256_0_0_768)) (View.ld x5 (Rect.unit (s := S1x16x1408) ![0, 0, 768] ![1, 16, 256] inb_S1x16x1408_S1x16x256_0_0_768)) (View.ld x6 (Rect.unit (s := S1x16x1408) ![0, 0, 768] ![1, 16, 256] inb_S1x16x1408_S1x16x256_0_0_768)) (View.ld x7 (Rect.unit (s := S1x16x1408) ![0, 0, 768] ![1, 16, 256] inb_S1x16x1408_S1x16x256_0_0_768)) (View.ld x8 (Rect.unit (s := S1x16x1408) ![0, 0, 768] ![1, 16, 256] inb_S1x16x1408_S1x16x256_0_0_768))⟩,
    ⟨Rect.unit (s := S96x1408) ![0, 512] ![96, 256] inb_S96x1408_S96x256_0_512, hch df256 (by decide) (View.ld x1 (Rect.unit (s := S96x2048) ![0, 0] ![96, 2048] inb_S96x2048_S96x2048_0_0)) (View.ld x4 (Rect.unit (s := S1x2048x1408) ![0, 0, 512] ![1, 2048, 256] inb_S1x2048x1408_S1x2048x256_0_0_512)) (View.ld x5 (Rect.unit (s := S1x16x1408) ![0, 0, 512] ![1, 16, 256] inb_S1x16x1408_S1x16x256_0_0_512)) (View.ld x6 (Rect.unit (s := S1x16x1408) ![0, 0, 512] ![1, 16, 256] inb_S1x16x1408_S1x16x256_0_0_512)) (View.ld x7 (Rect.unit (s := S1x16x1408) ![0, 0, 512] ![1, 16, 256] inb_S1x16x1408_S1x16x256_0_0_512)) (View.ld x8 (Rect.unit (s := S1x16x1408) ![0, 0, 512] ![1, 16, 256] inb_S1x16x1408_S1x16x256_0_0_512))⟩,
    ⟨Rect.unit (s := S96x1408) ![0, 256] ![96, 256] inb_S96x1408_S96x256_0_256, hch df256 (by decide) (View.ld x1 (Rect.unit (s := S96x2048) ![0, 0] ![96, 2048] inb_S96x2048_S96x2048_0_0)) (View.ld x4 (Rect.unit (s := S1x2048x1408) ![0, 0, 256] ![1, 2048, 256] inb_S1x2048x1408_S1x2048x256_0_0_256)) (View.ld x5 (Rect.unit (s := S1x16x1408) ![0, 0, 256] ![1, 16, 256] inb_S1x16x1408_S1x16x256_0_0_256)) (View.ld x6 (Rect.unit (s := S1x16x1408) ![0, 0, 256] ![1, 16, 256] inb_S1x16x1408_S1x16x256_0_0_256)) (View.ld x7 (Rect.unit (s := S1x16x1408) ![0, 0, 256] ![1, 16, 256] inb_S1x16x1408_S1x16x256_0_0_256)) (View.ld x8 (Rect.unit (s := S1x16x1408) ![0, 0, 256] ![1, 16, 256] inb_S1x16x1408_S1x16x256_0_0_256))⟩,
    ⟨Rect.unit (s := S96x1408) ![0, 0] ![96, 256] inb_S96x1408_S96x256_0_0, hch df256 (by decide) (View.ld x1 (Rect.unit (s := S96x2048) ![0, 0] ![96, 2048] inb_S96x2048_S96x2048_0_0)) (View.ld x4 (Rect.unit (s := S1x2048x1408) ![0, 0, 0] ![1, 2048, 256] inb_S1x2048x1408_S1x2048x256_0_0_0)) (View.ld x5 (Rect.unit (s := S1x16x1408) ![0, 0, 0] ![1, 16, 256] inb_S1x16x1408_S1x16x256_0_0_0)) (View.ld x6 (Rect.unit (s := S1x16x1408) ![0, 0, 0] ![1, 16, 256] inb_S1x16x1408_S1x16x256_0_0_0)) (View.ld x7 (Rect.unit (s := S1x16x1408) ![0, 0, 0] ![1, 16, 256] inb_S1x16x1408_S1x16x256_0_0_0)) (View.ld x8 (Rect.unit (s := S1x16x1408) ![0, 0, 0] ![1, 16, 256] inb_S1x16x1408_S1x16x256_0_0_0))⟩]

/-- The running sum's pieces, last first. -/
def accPieces (a : BitVec 32) (H : FVec F (sh 96 1408) .bf16) (x9 : Vec F S1x1408x1024 .i8) (x10 : Vec F S1x11x2048 .bf16) (x11 : Vec F S1x11x2048 .bf16) (xs0 : Vec F S96x6 .i32) (xs1 : Vec F S96x6 .f32) (xs3 : Vec F S96x2048 .f32) : List (View.Piece (Elt F) S96x2048 .f32) :=
  [
    ⟨Rect.unit (s := S96x2048) ![0, 1792] ![96, 256] inb_S96x2048_S96x256_0_1792, accp (mm H (whigh dfd (View.ld x9 (Rect.unit (s := S1x1408x1024) ![0, 0, 768] ![1, 1408, 256] inb_S1x1408x1024_S1x1408x256_0_0_768)) (View.ld x10 (Rect.unit (s := S1x11x2048) ![0, 0, 1792] ![1, 11, 256] inb_S1x11x2048_S1x11x256_0_0_1792)) (View.ld x11 (Rect.unit (s := S1x11x2048) ![0, 0, 1792] ![1, 11, 256] inb_S1x11x2048_S1x11x256_0_0_1792)))) (wsel a (View.ld xs0 (Rect.unit (s := S96x6) ![0, 0] ![96, 6] inb_S96x6_S96x6_0_0)) (View.ld xs1 (Rect.unit (s := S96x6) ![0, 0] ![96, 6] inb_S96x6_S96x6_0_0))) (View.ld xs3 (Rect.unit (s := S96x2048) ![0, 1792] ![96, 256] inb_S96x2048_S96x256_0_1792))⟩,
    ⟨Rect.unit (s := S96x2048) ![0, 768] ![96, 256] inb_S96x2048_S96x256_0_768, accp (mm H (wlow dfd (View.ld x9 (Rect.unit (s := S1x1408x1024) ![0, 0, 768] ![1, 1408, 256] inb_S1x1408x1024_S1x1408x256_0_0_768)) (View.ld x10 (Rect.unit (s := S1x11x2048) ![0, 0, 768] ![1, 11, 256] inb_S1x11x2048_S1x11x256_0_0_768)) (View.ld x11 (Rect.unit (s := S1x11x2048) ![0, 0, 768] ![1, 11, 256] inb_S1x11x2048_S1x11x256_0_0_768)))) (wsel a (View.ld xs0 (Rect.unit (s := S96x6) ![0, 0] ![96, 6] inb_S96x6_S96x6_0_0)) (View.ld xs1 (Rect.unit (s := S96x6) ![0, 0] ![96, 6] inb_S96x6_S96x6_0_0))) (View.ld xs3 (Rect.unit (s := S96x2048) ![0, 768] ![96, 256] inb_S96x2048_S96x256_0_768))⟩,
    ⟨Rect.unit (s := S96x2048) ![0, 1536] ![96, 256] inb_S96x2048_S96x256_0_1536, accp (mm H (whigh dfd (View.ld x9 (Rect.unit (s := S1x1408x1024) ![0, 0, 512] ![1, 1408, 256] inb_S1x1408x1024_S1x1408x256_0_0_512)) (View.ld x10 (Rect.unit (s := S1x11x2048) ![0, 0, 1536] ![1, 11, 256] inb_S1x11x2048_S1x11x256_0_0_1536)) (View.ld x11 (Rect.unit (s := S1x11x2048) ![0, 0, 1536] ![1, 11, 256] inb_S1x11x2048_S1x11x256_0_0_1536)))) (wsel a (View.ld xs0 (Rect.unit (s := S96x6) ![0, 0] ![96, 6] inb_S96x6_S96x6_0_0)) (View.ld xs1 (Rect.unit (s := S96x6) ![0, 0] ![96, 6] inb_S96x6_S96x6_0_0))) (View.ld xs3 (Rect.unit (s := S96x2048) ![0, 1536] ![96, 256] inb_S96x2048_S96x256_0_1536))⟩,
    ⟨Rect.unit (s := S96x2048) ![0, 512] ![96, 256] inb_S96x2048_S96x256_0_512, accp (mm H (wlow dfd (View.ld x9 (Rect.unit (s := S1x1408x1024) ![0, 0, 512] ![1, 1408, 256] inb_S1x1408x1024_S1x1408x256_0_0_512)) (View.ld x10 (Rect.unit (s := S1x11x2048) ![0, 0, 512] ![1, 11, 256] inb_S1x11x2048_S1x11x256_0_0_512)) (View.ld x11 (Rect.unit (s := S1x11x2048) ![0, 0, 512] ![1, 11, 256] inb_S1x11x2048_S1x11x256_0_0_512)))) (wsel a (View.ld xs0 (Rect.unit (s := S96x6) ![0, 0] ![96, 6] inb_S96x6_S96x6_0_0)) (View.ld xs1 (Rect.unit (s := S96x6) ![0, 0] ![96, 6] inb_S96x6_S96x6_0_0))) (View.ld xs3 (Rect.unit (s := S96x2048) ![0, 512] ![96, 256] inb_S96x2048_S96x256_0_512))⟩,
    ⟨Rect.unit (s := S96x2048) ![0, 1280] ![96, 256] inb_S96x2048_S96x256_0_1280, accp (mm H (whigh dfd (View.ld x9 (Rect.unit (s := S1x1408x1024) ![0, 0, 256] ![1, 1408, 256] inb_S1x1408x1024_S1x1408x256_0_0_256)) (View.ld x10 (Rect.unit (s := S1x11x2048) ![0, 0, 1280] ![1, 11, 256] inb_S1x11x2048_S1x11x256_0_0_1280)) (View.ld x11 (Rect.unit (s := S1x11x2048) ![0, 0, 1280] ![1, 11, 256] inb_S1x11x2048_S1x11x256_0_0_1280)))) (wsel a (View.ld xs0 (Rect.unit (s := S96x6) ![0, 0] ![96, 6] inb_S96x6_S96x6_0_0)) (View.ld xs1 (Rect.unit (s := S96x6) ![0, 0] ![96, 6] inb_S96x6_S96x6_0_0))) (View.ld xs3 (Rect.unit (s := S96x2048) ![0, 1280] ![96, 256] inb_S96x2048_S96x256_0_1280))⟩,
    ⟨Rect.unit (s := S96x2048) ![0, 256] ![96, 256] inb_S96x2048_S96x256_0_256, accp (mm H (wlow dfd (View.ld x9 (Rect.unit (s := S1x1408x1024) ![0, 0, 256] ![1, 1408, 256] inb_S1x1408x1024_S1x1408x256_0_0_256)) (View.ld x10 (Rect.unit (s := S1x11x2048) ![0, 0, 256] ![1, 11, 256] inb_S1x11x2048_S1x11x256_0_0_256)) (View.ld x11 (Rect.unit (s := S1x11x2048) ![0, 0, 256] ![1, 11, 256] inb_S1x11x2048_S1x11x256_0_0_256)))) (wsel a (View.ld xs0 (Rect.unit (s := S96x6) ![0, 0] ![96, 6] inb_S96x6_S96x6_0_0)) (View.ld xs1 (Rect.unit (s := S96x6) ![0, 0] ![96, 6] inb_S96x6_S96x6_0_0))) (View.ld xs3 (Rect.unit (s := S96x2048) ![0, 256] ![96, 256] inb_S96x2048_S96x256_0_256))⟩,
    ⟨Rect.unit (s := S96x2048) ![0, 1024] ![96, 256] inb_S96x2048_S96x256_0_1024, accp (mm H (whigh dfd (View.ld x9 (Rect.unit (s := S1x1408x1024) ![0, 0, 0] ![1, 1408, 256] inb_S1x1408x1024_S1x1408x256_0_0_0)) (View.ld x10 (Rect.unit (s := S1x11x2048) ![0, 0, 1024] ![1, 11, 256] inb_S1x11x2048_S1x11x256_0_0_1024)) (View.ld x11 (Rect.unit (s := S1x11x2048) ![0, 0, 1024] ![1, 11, 256] inb_S1x11x2048_S1x11x256_0_0_1024)))) (wsel a (View.ld xs0 (Rect.unit (s := S96x6) ![0, 0] ![96, 6] inb_S96x6_S96x6_0_0)) (View.ld xs1 (Rect.unit (s := S96x6) ![0, 0] ![96, 6] inb_S96x6_S96x6_0_0))) (View.ld xs3 (Rect.unit (s := S96x2048) ![0, 1024] ![96, 256] inb_S96x2048_S96x256_0_1024))⟩,
    ⟨Rect.unit (s := S96x2048) ![0, 0] ![96, 256] inb_S96x2048_S96x256_0_0, accp (mm H (wlow dfd (View.ld x9 (Rect.unit (s := S1x1408x1024) ![0, 0, 0] ![1, 1408, 256] inb_S1x1408x1024_S1x1408x256_0_0_0)) (View.ld x10 (Rect.unit (s := S1x11x2048) ![0, 0, 0] ![1, 11, 256] inb_S1x11x2048_S1x11x256_0_0_0)) (View.ld x11 (Rect.unit (s := S1x11x2048) ![0, 0, 0] ![1, 11, 256] inb_S1x11x2048_S1x11x256_0_0_0)))) (wsel a (View.ld xs0 (Rect.unit (s := S96x6) ![0, 0] ![96, 6] inb_S96x6_S96x6_0_0)) (View.ld xs1 (Rect.unit (s := S96x6) ![0, 0] ![96, 6] inb_S96x6_S96x6_0_0))) (View.ld xs3 (Rect.unit (s := S96x2048) ![0, 0] ![96, 256] inb_S96x2048_S96x256_0_0))⟩]

/-- The per-choice result's pieces, last first. -/
def outPieces (a : BitVec 32) (H : FVec F (sh 96 1408) .bf16) (x9 : Vec F S1x1408x1024 .i8) (x10 : Vec F S1x11x2048 .bf16) (x11 : Vec F S1x11x2048 .bf16) (xs0 : Vec F S96x6 .i32) (x14 : Vec F S6x96x2048 .f32) : List (View.Piece (Elt F) S6x96x2048 .f32) :=
  [
    ⟨Rect.unit (s := S6x96x2048) ![5, 0, 1792] ![1, 96, 256] inb_S6x96x2048_S1x96x256_5_0_1792, outp (hit a (View.ld xs0 (Rect.unit (s := S96x6) ![0, 0] ![96, 6] inb_S96x6_S96x6_0_0)) 5 (by decide)) (mm H (whigh dfd (View.ld x9 (Rect.unit (s := S1x1408x1024) ![0, 0, 768] ![1, 1408, 256] inb_S1x1408x1024_S1x1408x256_0_0_768)) (View.ld x10 (Rect.unit (s := S1x11x2048) ![0, 0, 1792] ![1, 11, 256] inb_S1x11x2048_S1x11x256_0_0_1792)) (View.ld x11 (Rect.unit (s := S1x11x2048) ![0, 0, 1792] ![1, 11, 256] inb_S1x11x2048_S1x11x256_0_0_1792)))) (View.ld x14 (Rect.unit (s := S6x96x2048) ![5, 0, 1792] ![1, 96, 256] inb_S6x96x2048_S1x96x256_5_0_1792))⟩,
    ⟨Rect.unit (s := S6x96x2048) ![4, 0, 1792] ![1, 96, 256] inb_S6x96x2048_S1x96x256_4_0_1792, outp (hit a (View.ld xs0 (Rect.unit (s := S96x6) ![0, 0] ![96, 6] inb_S96x6_S96x6_0_0)) 4 (by decide)) (mm H (whigh dfd (View.ld x9 (Rect.unit (s := S1x1408x1024) ![0, 0, 768] ![1, 1408, 256] inb_S1x1408x1024_S1x1408x256_0_0_768)) (View.ld x10 (Rect.unit (s := S1x11x2048) ![0, 0, 1792] ![1, 11, 256] inb_S1x11x2048_S1x11x256_0_0_1792)) (View.ld x11 (Rect.unit (s := S1x11x2048) ![0, 0, 1792] ![1, 11, 256] inb_S1x11x2048_S1x11x256_0_0_1792)))) (View.ld x14 (Rect.unit (s := S6x96x2048) ![4, 0, 1792] ![1, 96, 256] inb_S6x96x2048_S1x96x256_4_0_1792))⟩,
    ⟨Rect.unit (s := S6x96x2048) ![3, 0, 1792] ![1, 96, 256] inb_S6x96x2048_S1x96x256_3_0_1792, outp (hit a (View.ld xs0 (Rect.unit (s := S96x6) ![0, 0] ![96, 6] inb_S96x6_S96x6_0_0)) 3 (by decide)) (mm H (whigh dfd (View.ld x9 (Rect.unit (s := S1x1408x1024) ![0, 0, 768] ![1, 1408, 256] inb_S1x1408x1024_S1x1408x256_0_0_768)) (View.ld x10 (Rect.unit (s := S1x11x2048) ![0, 0, 1792] ![1, 11, 256] inb_S1x11x2048_S1x11x256_0_0_1792)) (View.ld x11 (Rect.unit (s := S1x11x2048) ![0, 0, 1792] ![1, 11, 256] inb_S1x11x2048_S1x11x256_0_0_1792)))) (View.ld x14 (Rect.unit (s := S6x96x2048) ![3, 0, 1792] ![1, 96, 256] inb_S6x96x2048_S1x96x256_3_0_1792))⟩,
    ⟨Rect.unit (s := S6x96x2048) ![2, 0, 1792] ![1, 96, 256] inb_S6x96x2048_S1x96x256_2_0_1792, outp (hit a (View.ld xs0 (Rect.unit (s := S96x6) ![0, 0] ![96, 6] inb_S96x6_S96x6_0_0)) 2 (by decide)) (mm H (whigh dfd (View.ld x9 (Rect.unit (s := S1x1408x1024) ![0, 0, 768] ![1, 1408, 256] inb_S1x1408x1024_S1x1408x256_0_0_768)) (View.ld x10 (Rect.unit (s := S1x11x2048) ![0, 0, 1792] ![1, 11, 256] inb_S1x11x2048_S1x11x256_0_0_1792)) (View.ld x11 (Rect.unit (s := S1x11x2048) ![0, 0, 1792] ![1, 11, 256] inb_S1x11x2048_S1x11x256_0_0_1792)))) (View.ld x14 (Rect.unit (s := S6x96x2048) ![2, 0, 1792] ![1, 96, 256] inb_S6x96x2048_S1x96x256_2_0_1792))⟩,
    ⟨Rect.unit (s := S6x96x2048) ![1, 0, 1792] ![1, 96, 256] inb_S6x96x2048_S1x96x256_1_0_1792, outp (hit a (View.ld xs0 (Rect.unit (s := S96x6) ![0, 0] ![96, 6] inb_S96x6_S96x6_0_0)) 1 (by decide)) (mm H (whigh dfd (View.ld x9 (Rect.unit (s := S1x1408x1024) ![0, 0, 768] ![1, 1408, 256] inb_S1x1408x1024_S1x1408x256_0_0_768)) (View.ld x10 (Rect.unit (s := S1x11x2048) ![0, 0, 1792] ![1, 11, 256] inb_S1x11x2048_S1x11x256_0_0_1792)) (View.ld x11 (Rect.unit (s := S1x11x2048) ![0, 0, 1792] ![1, 11, 256] inb_S1x11x2048_S1x11x256_0_0_1792)))) (View.ld x14 (Rect.unit (s := S6x96x2048) ![1, 0, 1792] ![1, 96, 256] inb_S6x96x2048_S1x96x256_1_0_1792))⟩,
    ⟨Rect.unit (s := S6x96x2048) ![0, 0, 1792] ![1, 96, 256] inb_S6x96x2048_S1x96x256_0_0_1792, outp (hit a (View.ld xs0 (Rect.unit (s := S96x6) ![0, 0] ![96, 6] inb_S96x6_S96x6_0_0)) 0 (by decide)) (mm H (whigh dfd (View.ld x9 (Rect.unit (s := S1x1408x1024) ![0, 0, 768] ![1, 1408, 256] inb_S1x1408x1024_S1x1408x256_0_0_768)) (View.ld x10 (Rect.unit (s := S1x11x2048) ![0, 0, 1792] ![1, 11, 256] inb_S1x11x2048_S1x11x256_0_0_1792)) (View.ld x11 (Rect.unit (s := S1x11x2048) ![0, 0, 1792] ![1, 11, 256] inb_S1x11x2048_S1x11x256_0_0_1792)))) (View.ld x14 (Rect.unit (s := S6x96x2048) ![0, 0, 1792] ![1, 96, 256] inb_S6x96x2048_S1x96x256_0_0_1792))⟩,
    ⟨Rect.unit (s := S6x96x2048) ![5, 0, 768] ![1, 96, 256] inb_S6x96x2048_S1x96x256_5_0_768, outp (hit a (View.ld xs0 (Rect.unit (s := S96x6) ![0, 0] ![96, 6] inb_S96x6_S96x6_0_0)) 5 (by decide)) (mm H (wlow dfd (View.ld x9 (Rect.unit (s := S1x1408x1024) ![0, 0, 768] ![1, 1408, 256] inb_S1x1408x1024_S1x1408x256_0_0_768)) (View.ld x10 (Rect.unit (s := S1x11x2048) ![0, 0, 768] ![1, 11, 256] inb_S1x11x2048_S1x11x256_0_0_768)) (View.ld x11 (Rect.unit (s := S1x11x2048) ![0, 0, 768] ![1, 11, 256] inb_S1x11x2048_S1x11x256_0_0_768)))) (View.ld x14 (Rect.unit (s := S6x96x2048) ![5, 0, 768] ![1, 96, 256] inb_S6x96x2048_S1x96x256_5_0_768))⟩,
    ⟨Rect.unit (s := S6x96x2048) ![4, 0, 768] ![1, 96, 256] inb_S6x96x2048_S1x96x256_4_0_768, outp (hit a (View.ld xs0 (Rect.unit (s := S96x6) ![0, 0] ![96, 6] inb_S96x6_S96x6_0_0)) 4 (by decide)) (mm H (wlow dfd (View.ld x9 (Rect.unit (s := S1x1408x1024) ![0, 0, 768] ![1, 1408, 256] inb_S1x1408x1024_S1x1408x256_0_0_768)) (View.ld x10 (Rect.unit (s := S1x11x2048) ![0, 0, 768] ![1, 11, 256] inb_S1x11x2048_S1x11x256_0_0_768)) (View.ld x11 (Rect.unit (s := S1x11x2048) ![0, 0, 768] ![1, 11, 256] inb_S1x11x2048_S1x11x256_0_0_768)))) (View.ld x14 (Rect.unit (s := S6x96x2048) ![4, 0, 768] ![1, 96, 256] inb_S6x96x2048_S1x96x256_4_0_768))⟩,
    ⟨Rect.unit (s := S6x96x2048) ![3, 0, 768] ![1, 96, 256] inb_S6x96x2048_S1x96x256_3_0_768, outp (hit a (View.ld xs0 (Rect.unit (s := S96x6) ![0, 0] ![96, 6] inb_S96x6_S96x6_0_0)) 3 (by decide)) (mm H (wlow dfd (View.ld x9 (Rect.unit (s := S1x1408x1024) ![0, 0, 768] ![1, 1408, 256] inb_S1x1408x1024_S1x1408x256_0_0_768)) (View.ld x10 (Rect.unit (s := S1x11x2048) ![0, 0, 768] ![1, 11, 256] inb_S1x11x2048_S1x11x256_0_0_768)) (View.ld x11 (Rect.unit (s := S1x11x2048) ![0, 0, 768] ![1, 11, 256] inb_S1x11x2048_S1x11x256_0_0_768)))) (View.ld x14 (Rect.unit (s := S6x96x2048) ![3, 0, 768] ![1, 96, 256] inb_S6x96x2048_S1x96x256_3_0_768))⟩,
    ⟨Rect.unit (s := S6x96x2048) ![2, 0, 768] ![1, 96, 256] inb_S6x96x2048_S1x96x256_2_0_768, outp (hit a (View.ld xs0 (Rect.unit (s := S96x6) ![0, 0] ![96, 6] inb_S96x6_S96x6_0_0)) 2 (by decide)) (mm H (wlow dfd (View.ld x9 (Rect.unit (s := S1x1408x1024) ![0, 0, 768] ![1, 1408, 256] inb_S1x1408x1024_S1x1408x256_0_0_768)) (View.ld x10 (Rect.unit (s := S1x11x2048) ![0, 0, 768] ![1, 11, 256] inb_S1x11x2048_S1x11x256_0_0_768)) (View.ld x11 (Rect.unit (s := S1x11x2048) ![0, 0, 768] ![1, 11, 256] inb_S1x11x2048_S1x11x256_0_0_768)))) (View.ld x14 (Rect.unit (s := S6x96x2048) ![2, 0, 768] ![1, 96, 256] inb_S6x96x2048_S1x96x256_2_0_768))⟩,
    ⟨Rect.unit (s := S6x96x2048) ![1, 0, 768] ![1, 96, 256] inb_S6x96x2048_S1x96x256_1_0_768, outp (hit a (View.ld xs0 (Rect.unit (s := S96x6) ![0, 0] ![96, 6] inb_S96x6_S96x6_0_0)) 1 (by decide)) (mm H (wlow dfd (View.ld x9 (Rect.unit (s := S1x1408x1024) ![0, 0, 768] ![1, 1408, 256] inb_S1x1408x1024_S1x1408x256_0_0_768)) (View.ld x10 (Rect.unit (s := S1x11x2048) ![0, 0, 768] ![1, 11, 256] inb_S1x11x2048_S1x11x256_0_0_768)) (View.ld x11 (Rect.unit (s := S1x11x2048) ![0, 0, 768] ![1, 11, 256] inb_S1x11x2048_S1x11x256_0_0_768)))) (View.ld x14 (Rect.unit (s := S6x96x2048) ![1, 0, 768] ![1, 96, 256] inb_S6x96x2048_S1x96x256_1_0_768))⟩,
    ⟨Rect.unit (s := S6x96x2048) ![0, 0, 768] ![1, 96, 256] inb_S6x96x2048_S1x96x256_0_0_768, outp (hit a (View.ld xs0 (Rect.unit (s := S96x6) ![0, 0] ![96, 6] inb_S96x6_S96x6_0_0)) 0 (by decide)) (mm H (wlow dfd (View.ld x9 (Rect.unit (s := S1x1408x1024) ![0, 0, 768] ![1, 1408, 256] inb_S1x1408x1024_S1x1408x256_0_0_768)) (View.ld x10 (Rect.unit (s := S1x11x2048) ![0, 0, 768] ![1, 11, 256] inb_S1x11x2048_S1x11x256_0_0_768)) (View.ld x11 (Rect.unit (s := S1x11x2048) ![0, 0, 768] ![1, 11, 256] inb_S1x11x2048_S1x11x256_0_0_768)))) (View.ld x14 (Rect.unit (s := S6x96x2048) ![0, 0, 768] ![1, 96, 256] inb_S6x96x2048_S1x96x256_0_0_768))⟩,
    ⟨Rect.unit (s := S6x96x2048) ![5, 0, 1536] ![1, 96, 256] inb_S6x96x2048_S1x96x256_5_0_1536, outp (hit a (View.ld xs0 (Rect.unit (s := S96x6) ![0, 0] ![96, 6] inb_S96x6_S96x6_0_0)) 5 (by decide)) (mm H (whigh dfd (View.ld x9 (Rect.unit (s := S1x1408x1024) ![0, 0, 512] ![1, 1408, 256] inb_S1x1408x1024_S1x1408x256_0_0_512)) (View.ld x10 (Rect.unit (s := S1x11x2048) ![0, 0, 1536] ![1, 11, 256] inb_S1x11x2048_S1x11x256_0_0_1536)) (View.ld x11 (Rect.unit (s := S1x11x2048) ![0, 0, 1536] ![1, 11, 256] inb_S1x11x2048_S1x11x256_0_0_1536)))) (View.ld x14 (Rect.unit (s := S6x96x2048) ![5, 0, 1536] ![1, 96, 256] inb_S6x96x2048_S1x96x256_5_0_1536))⟩,
    ⟨Rect.unit (s := S6x96x2048) ![4, 0, 1536] ![1, 96, 256] inb_S6x96x2048_S1x96x256_4_0_1536, outp (hit a (View.ld xs0 (Rect.unit (s := S96x6) ![0, 0] ![96, 6] inb_S96x6_S96x6_0_0)) 4 (by decide)) (mm H (whigh dfd (View.ld x9 (Rect.unit (s := S1x1408x1024) ![0, 0, 512] ![1, 1408, 256] inb_S1x1408x1024_S1x1408x256_0_0_512)) (View.ld x10 (Rect.unit (s := S1x11x2048) ![0, 0, 1536] ![1, 11, 256] inb_S1x11x2048_S1x11x256_0_0_1536)) (View.ld x11 (Rect.unit (s := S1x11x2048) ![0, 0, 1536] ![1, 11, 256] inb_S1x11x2048_S1x11x256_0_0_1536)))) (View.ld x14 (Rect.unit (s := S6x96x2048) ![4, 0, 1536] ![1, 96, 256] inb_S6x96x2048_S1x96x256_4_0_1536))⟩,
    ⟨Rect.unit (s := S6x96x2048) ![3, 0, 1536] ![1, 96, 256] inb_S6x96x2048_S1x96x256_3_0_1536, outp (hit a (View.ld xs0 (Rect.unit (s := S96x6) ![0, 0] ![96, 6] inb_S96x6_S96x6_0_0)) 3 (by decide)) (mm H (whigh dfd (View.ld x9 (Rect.unit (s := S1x1408x1024) ![0, 0, 512] ![1, 1408, 256] inb_S1x1408x1024_S1x1408x256_0_0_512)) (View.ld x10 (Rect.unit (s := S1x11x2048) ![0, 0, 1536] ![1, 11, 256] inb_S1x11x2048_S1x11x256_0_0_1536)) (View.ld x11 (Rect.unit (s := S1x11x2048) ![0, 0, 1536] ![1, 11, 256] inb_S1x11x2048_S1x11x256_0_0_1536)))) (View.ld x14 (Rect.unit (s := S6x96x2048) ![3, 0, 1536] ![1, 96, 256] inb_S6x96x2048_S1x96x256_3_0_1536))⟩,
    ⟨Rect.unit (s := S6x96x2048) ![2, 0, 1536] ![1, 96, 256] inb_S6x96x2048_S1x96x256_2_0_1536, outp (hit a (View.ld xs0 (Rect.unit (s := S96x6) ![0, 0] ![96, 6] inb_S96x6_S96x6_0_0)) 2 (by decide)) (mm H (whigh dfd (View.ld x9 (Rect.unit (s := S1x1408x1024) ![0, 0, 512] ![1, 1408, 256] inb_S1x1408x1024_S1x1408x256_0_0_512)) (View.ld x10 (Rect.unit (s := S1x11x2048) ![0, 0, 1536] ![1, 11, 256] inb_S1x11x2048_S1x11x256_0_0_1536)) (View.ld x11 (Rect.unit (s := S1x11x2048) ![0, 0, 1536] ![1, 11, 256] inb_S1x11x2048_S1x11x256_0_0_1536)))) (View.ld x14 (Rect.unit (s := S6x96x2048) ![2, 0, 1536] ![1, 96, 256] inb_S6x96x2048_S1x96x256_2_0_1536))⟩,
    ⟨Rect.unit (s := S6x96x2048) ![1, 0, 1536] ![1, 96, 256] inb_S6x96x2048_S1x96x256_1_0_1536, outp (hit a (View.ld xs0 (Rect.unit (s := S96x6) ![0, 0] ![96, 6] inb_S96x6_S96x6_0_0)) 1 (by decide)) (mm H (whigh dfd (View.ld x9 (Rect.unit (s := S1x1408x1024) ![0, 0, 512] ![1, 1408, 256] inb_S1x1408x1024_S1x1408x256_0_0_512)) (View.ld x10 (Rect.unit (s := S1x11x2048) ![0, 0, 1536] ![1, 11, 256] inb_S1x11x2048_S1x11x256_0_0_1536)) (View.ld x11 (Rect.unit (s := S1x11x2048) ![0, 0, 1536] ![1, 11, 256] inb_S1x11x2048_S1x11x256_0_0_1536)))) (View.ld x14 (Rect.unit (s := S6x96x2048) ![1, 0, 1536] ![1, 96, 256] inb_S6x96x2048_S1x96x256_1_0_1536))⟩,
    ⟨Rect.unit (s := S6x96x2048) ![0, 0, 1536] ![1, 96, 256] inb_S6x96x2048_S1x96x256_0_0_1536, outp (hit a (View.ld xs0 (Rect.unit (s := S96x6) ![0, 0] ![96, 6] inb_S96x6_S96x6_0_0)) 0 (by decide)) (mm H (whigh dfd (View.ld x9 (Rect.unit (s := S1x1408x1024) ![0, 0, 512] ![1, 1408, 256] inb_S1x1408x1024_S1x1408x256_0_0_512)) (View.ld x10 (Rect.unit (s := S1x11x2048) ![0, 0, 1536] ![1, 11, 256] inb_S1x11x2048_S1x11x256_0_0_1536)) (View.ld x11 (Rect.unit (s := S1x11x2048) ![0, 0, 1536] ![1, 11, 256] inb_S1x11x2048_S1x11x256_0_0_1536)))) (View.ld x14 (Rect.unit (s := S6x96x2048) ![0, 0, 1536] ![1, 96, 256] inb_S6x96x2048_S1x96x256_0_0_1536))⟩,
    ⟨Rect.unit (s := S6x96x2048) ![5, 0, 512] ![1, 96, 256] inb_S6x96x2048_S1x96x256_5_0_512, outp (hit a (View.ld xs0 (Rect.unit (s := S96x6) ![0, 0] ![96, 6] inb_S96x6_S96x6_0_0)) 5 (by decide)) (mm H (wlow dfd (View.ld x9 (Rect.unit (s := S1x1408x1024) ![0, 0, 512] ![1, 1408, 256] inb_S1x1408x1024_S1x1408x256_0_0_512)) (View.ld x10 (Rect.unit (s := S1x11x2048) ![0, 0, 512] ![1, 11, 256] inb_S1x11x2048_S1x11x256_0_0_512)) (View.ld x11 (Rect.unit (s := S1x11x2048) ![0, 0, 512] ![1, 11, 256] inb_S1x11x2048_S1x11x256_0_0_512)))) (View.ld x14 (Rect.unit (s := S6x96x2048) ![5, 0, 512] ![1, 96, 256] inb_S6x96x2048_S1x96x256_5_0_512))⟩,
    ⟨Rect.unit (s := S6x96x2048) ![4, 0, 512] ![1, 96, 256] inb_S6x96x2048_S1x96x256_4_0_512, outp (hit a (View.ld xs0 (Rect.unit (s := S96x6) ![0, 0] ![96, 6] inb_S96x6_S96x6_0_0)) 4 (by decide)) (mm H (wlow dfd (View.ld x9 (Rect.unit (s := S1x1408x1024) ![0, 0, 512] ![1, 1408, 256] inb_S1x1408x1024_S1x1408x256_0_0_512)) (View.ld x10 (Rect.unit (s := S1x11x2048) ![0, 0, 512] ![1, 11, 256] inb_S1x11x2048_S1x11x256_0_0_512)) (View.ld x11 (Rect.unit (s := S1x11x2048) ![0, 0, 512] ![1, 11, 256] inb_S1x11x2048_S1x11x256_0_0_512)))) (View.ld x14 (Rect.unit (s := S6x96x2048) ![4, 0, 512] ![1, 96, 256] inb_S6x96x2048_S1x96x256_4_0_512))⟩,
    ⟨Rect.unit (s := S6x96x2048) ![3, 0, 512] ![1, 96, 256] inb_S6x96x2048_S1x96x256_3_0_512, outp (hit a (View.ld xs0 (Rect.unit (s := S96x6) ![0, 0] ![96, 6] inb_S96x6_S96x6_0_0)) 3 (by decide)) (mm H (wlow dfd (View.ld x9 (Rect.unit (s := S1x1408x1024) ![0, 0, 512] ![1, 1408, 256] inb_S1x1408x1024_S1x1408x256_0_0_512)) (View.ld x10 (Rect.unit (s := S1x11x2048) ![0, 0, 512] ![1, 11, 256] inb_S1x11x2048_S1x11x256_0_0_512)) (View.ld x11 (Rect.unit (s := S1x11x2048) ![0, 0, 512] ![1, 11, 256] inb_S1x11x2048_S1x11x256_0_0_512)))) (View.ld x14 (Rect.unit (s := S6x96x2048) ![3, 0, 512] ![1, 96, 256] inb_S6x96x2048_S1x96x256_3_0_512))⟩,
    ⟨Rect.unit (s := S6x96x2048) ![2, 0, 512] ![1, 96, 256] inb_S6x96x2048_S1x96x256_2_0_512, outp (hit a (View.ld xs0 (Rect.unit (s := S96x6) ![0, 0] ![96, 6] inb_S96x6_S96x6_0_0)) 2 (by decide)) (mm H (wlow dfd (View.ld x9 (Rect.unit (s := S1x1408x1024) ![0, 0, 512] ![1, 1408, 256] inb_S1x1408x1024_S1x1408x256_0_0_512)) (View.ld x10 (Rect.unit (s := S1x11x2048) ![0, 0, 512] ![1, 11, 256] inb_S1x11x2048_S1x11x256_0_0_512)) (View.ld x11 (Rect.unit (s := S1x11x2048) ![0, 0, 512] ![1, 11, 256] inb_S1x11x2048_S1x11x256_0_0_512)))) (View.ld x14 (Rect.unit (s := S6x96x2048) ![2, 0, 512] ![1, 96, 256] inb_S6x96x2048_S1x96x256_2_0_512))⟩,
    ⟨Rect.unit (s := S6x96x2048) ![1, 0, 512] ![1, 96, 256] inb_S6x96x2048_S1x96x256_1_0_512, outp (hit a (View.ld xs0 (Rect.unit (s := S96x6) ![0, 0] ![96, 6] inb_S96x6_S96x6_0_0)) 1 (by decide)) (mm H (wlow dfd (View.ld x9 (Rect.unit (s := S1x1408x1024) ![0, 0, 512] ![1, 1408, 256] inb_S1x1408x1024_S1x1408x256_0_0_512)) (View.ld x10 (Rect.unit (s := S1x11x2048) ![0, 0, 512] ![1, 11, 256] inb_S1x11x2048_S1x11x256_0_0_512)) (View.ld x11 (Rect.unit (s := S1x11x2048) ![0, 0, 512] ![1, 11, 256] inb_S1x11x2048_S1x11x256_0_0_512)))) (View.ld x14 (Rect.unit (s := S6x96x2048) ![1, 0, 512] ![1, 96, 256] inb_S6x96x2048_S1x96x256_1_0_512))⟩,
    ⟨Rect.unit (s := S6x96x2048) ![0, 0, 512] ![1, 96, 256] inb_S6x96x2048_S1x96x256_0_0_512, outp (hit a (View.ld xs0 (Rect.unit (s := S96x6) ![0, 0] ![96, 6] inb_S96x6_S96x6_0_0)) 0 (by decide)) (mm H (wlow dfd (View.ld x9 (Rect.unit (s := S1x1408x1024) ![0, 0, 512] ![1, 1408, 256] inb_S1x1408x1024_S1x1408x256_0_0_512)) (View.ld x10 (Rect.unit (s := S1x11x2048) ![0, 0, 512] ![1, 11, 256] inb_S1x11x2048_S1x11x256_0_0_512)) (View.ld x11 (Rect.unit (s := S1x11x2048) ![0, 0, 512] ![1, 11, 256] inb_S1x11x2048_S1x11x256_0_0_512)))) (View.ld x14 (Rect.unit (s := S6x96x2048) ![0, 0, 512] ![1, 96, 256] inb_S6x96x2048_S1x96x256_0_0_512))⟩,
    ⟨Rect.unit (s := S6x96x2048) ![5, 0, 1280] ![1, 96, 256] inb_S6x96x2048_S1x96x256_5_0_1280, outp (hit a (View.ld xs0 (Rect.unit (s := S96x6) ![0, 0] ![96, 6] inb_S96x6_S96x6_0_0)) 5 (by decide)) (mm H (whigh dfd (View.ld x9 (Rect.unit (s := S1x1408x1024) ![0, 0, 256] ![1, 1408, 256] inb_S1x1408x1024_S1x1408x256_0_0_256)) (View.ld x10 (Rect.unit (s := S1x11x2048) ![0, 0, 1280] ![1, 11, 256] inb_S1x11x2048_S1x11x256_0_0_1280)) (View.ld x11 (Rect.unit (s := S1x11x2048) ![0, 0, 1280] ![1, 11, 256] inb_S1x11x2048_S1x11x256_0_0_1280)))) (View.ld x14 (Rect.unit (s := S6x96x2048) ![5, 0, 1280] ![1, 96, 256] inb_S6x96x2048_S1x96x256_5_0_1280))⟩,
    ⟨Rect.unit (s := S6x96x2048) ![4, 0, 1280] ![1, 96, 256] inb_S6x96x2048_S1x96x256_4_0_1280, outp (hit a (View.ld xs0 (Rect.unit (s := S96x6) ![0, 0] ![96, 6] inb_S96x6_S96x6_0_0)) 4 (by decide)) (mm H (whigh dfd (View.ld x9 (Rect.unit (s := S1x1408x1024) ![0, 0, 256] ![1, 1408, 256] inb_S1x1408x1024_S1x1408x256_0_0_256)) (View.ld x10 (Rect.unit (s := S1x11x2048) ![0, 0, 1280] ![1, 11, 256] inb_S1x11x2048_S1x11x256_0_0_1280)) (View.ld x11 (Rect.unit (s := S1x11x2048) ![0, 0, 1280] ![1, 11, 256] inb_S1x11x2048_S1x11x256_0_0_1280)))) (View.ld x14 (Rect.unit (s := S6x96x2048) ![4, 0, 1280] ![1, 96, 256] inb_S6x96x2048_S1x96x256_4_0_1280))⟩,
    ⟨Rect.unit (s := S6x96x2048) ![3, 0, 1280] ![1, 96, 256] inb_S6x96x2048_S1x96x256_3_0_1280, outp (hit a (View.ld xs0 (Rect.unit (s := S96x6) ![0, 0] ![96, 6] inb_S96x6_S96x6_0_0)) 3 (by decide)) (mm H (whigh dfd (View.ld x9 (Rect.unit (s := S1x1408x1024) ![0, 0, 256] ![1, 1408, 256] inb_S1x1408x1024_S1x1408x256_0_0_256)) (View.ld x10 (Rect.unit (s := S1x11x2048) ![0, 0, 1280] ![1, 11, 256] inb_S1x11x2048_S1x11x256_0_0_1280)) (View.ld x11 (Rect.unit (s := S1x11x2048) ![0, 0, 1280] ![1, 11, 256] inb_S1x11x2048_S1x11x256_0_0_1280)))) (View.ld x14 (Rect.unit (s := S6x96x2048) ![3, 0, 1280] ![1, 96, 256] inb_S6x96x2048_S1x96x256_3_0_1280))⟩,
    ⟨Rect.unit (s := S6x96x2048) ![2, 0, 1280] ![1, 96, 256] inb_S6x96x2048_S1x96x256_2_0_1280, outp (hit a (View.ld xs0 (Rect.unit (s := S96x6) ![0, 0] ![96, 6] inb_S96x6_S96x6_0_0)) 2 (by decide)) (mm H (whigh dfd (View.ld x9 (Rect.unit (s := S1x1408x1024) ![0, 0, 256] ![1, 1408, 256] inb_S1x1408x1024_S1x1408x256_0_0_256)) (View.ld x10 (Rect.unit (s := S1x11x2048) ![0, 0, 1280] ![1, 11, 256] inb_S1x11x2048_S1x11x256_0_0_1280)) (View.ld x11 (Rect.unit (s := S1x11x2048) ![0, 0, 1280] ![1, 11, 256] inb_S1x11x2048_S1x11x256_0_0_1280)))) (View.ld x14 (Rect.unit (s := S6x96x2048) ![2, 0, 1280] ![1, 96, 256] inb_S6x96x2048_S1x96x256_2_0_1280))⟩,
    ⟨Rect.unit (s := S6x96x2048) ![1, 0, 1280] ![1, 96, 256] inb_S6x96x2048_S1x96x256_1_0_1280, outp (hit a (View.ld xs0 (Rect.unit (s := S96x6) ![0, 0] ![96, 6] inb_S96x6_S96x6_0_0)) 1 (by decide)) (mm H (whigh dfd (View.ld x9 (Rect.unit (s := S1x1408x1024) ![0, 0, 256] ![1, 1408, 256] inb_S1x1408x1024_S1x1408x256_0_0_256)) (View.ld x10 (Rect.unit (s := S1x11x2048) ![0, 0, 1280] ![1, 11, 256] inb_S1x11x2048_S1x11x256_0_0_1280)) (View.ld x11 (Rect.unit (s := S1x11x2048) ![0, 0, 1280] ![1, 11, 256] inb_S1x11x2048_S1x11x256_0_0_1280)))) (View.ld x14 (Rect.unit (s := S6x96x2048) ![1, 0, 1280] ![1, 96, 256] inb_S6x96x2048_S1x96x256_1_0_1280))⟩,
    ⟨Rect.unit (s := S6x96x2048) ![0, 0, 1280] ![1, 96, 256] inb_S6x96x2048_S1x96x256_0_0_1280, outp (hit a (View.ld xs0 (Rect.unit (s := S96x6) ![0, 0] ![96, 6] inb_S96x6_S96x6_0_0)) 0 (by decide)) (mm H (whigh dfd (View.ld x9 (Rect.unit (s := S1x1408x1024) ![0, 0, 256] ![1, 1408, 256] inb_S1x1408x1024_S1x1408x256_0_0_256)) (View.ld x10 (Rect.unit (s := S1x11x2048) ![0, 0, 1280] ![1, 11, 256] inb_S1x11x2048_S1x11x256_0_0_1280)) (View.ld x11 (Rect.unit (s := S1x11x2048) ![0, 0, 1280] ![1, 11, 256] inb_S1x11x2048_S1x11x256_0_0_1280)))) (View.ld x14 (Rect.unit (s := S6x96x2048) ![0, 0, 1280] ![1, 96, 256] inb_S6x96x2048_S1x96x256_0_0_1280))⟩,
    ⟨Rect.unit (s := S6x96x2048) ![5, 0, 256] ![1, 96, 256] inb_S6x96x2048_S1x96x256_5_0_256, outp (hit a (View.ld xs0 (Rect.unit (s := S96x6) ![0, 0] ![96, 6] inb_S96x6_S96x6_0_0)) 5 (by decide)) (mm H (wlow dfd (View.ld x9 (Rect.unit (s := S1x1408x1024) ![0, 0, 256] ![1, 1408, 256] inb_S1x1408x1024_S1x1408x256_0_0_256)) (View.ld x10 (Rect.unit (s := S1x11x2048) ![0, 0, 256] ![1, 11, 256] inb_S1x11x2048_S1x11x256_0_0_256)) (View.ld x11 (Rect.unit (s := S1x11x2048) ![0, 0, 256] ![1, 11, 256] inb_S1x11x2048_S1x11x256_0_0_256)))) (View.ld x14 (Rect.unit (s := S6x96x2048) ![5, 0, 256] ![1, 96, 256] inb_S6x96x2048_S1x96x256_5_0_256))⟩,
    ⟨Rect.unit (s := S6x96x2048) ![4, 0, 256] ![1, 96, 256] inb_S6x96x2048_S1x96x256_4_0_256, outp (hit a (View.ld xs0 (Rect.unit (s := S96x6) ![0, 0] ![96, 6] inb_S96x6_S96x6_0_0)) 4 (by decide)) (mm H (wlow dfd (View.ld x9 (Rect.unit (s := S1x1408x1024) ![0, 0, 256] ![1, 1408, 256] inb_S1x1408x1024_S1x1408x256_0_0_256)) (View.ld x10 (Rect.unit (s := S1x11x2048) ![0, 0, 256] ![1, 11, 256] inb_S1x11x2048_S1x11x256_0_0_256)) (View.ld x11 (Rect.unit (s := S1x11x2048) ![0, 0, 256] ![1, 11, 256] inb_S1x11x2048_S1x11x256_0_0_256)))) (View.ld x14 (Rect.unit (s := S6x96x2048) ![4, 0, 256] ![1, 96, 256] inb_S6x96x2048_S1x96x256_4_0_256))⟩,
    ⟨Rect.unit (s := S6x96x2048) ![3, 0, 256] ![1, 96, 256] inb_S6x96x2048_S1x96x256_3_0_256, outp (hit a (View.ld xs0 (Rect.unit (s := S96x6) ![0, 0] ![96, 6] inb_S96x6_S96x6_0_0)) 3 (by decide)) (mm H (wlow dfd (View.ld x9 (Rect.unit (s := S1x1408x1024) ![0, 0, 256] ![1, 1408, 256] inb_S1x1408x1024_S1x1408x256_0_0_256)) (View.ld x10 (Rect.unit (s := S1x11x2048) ![0, 0, 256] ![1, 11, 256] inb_S1x11x2048_S1x11x256_0_0_256)) (View.ld x11 (Rect.unit (s := S1x11x2048) ![0, 0, 256] ![1, 11, 256] inb_S1x11x2048_S1x11x256_0_0_256)))) (View.ld x14 (Rect.unit (s := S6x96x2048) ![3, 0, 256] ![1, 96, 256] inb_S6x96x2048_S1x96x256_3_0_256))⟩,
    ⟨Rect.unit (s := S6x96x2048) ![2, 0, 256] ![1, 96, 256] inb_S6x96x2048_S1x96x256_2_0_256, outp (hit a (View.ld xs0 (Rect.unit (s := S96x6) ![0, 0] ![96, 6] inb_S96x6_S96x6_0_0)) 2 (by decide)) (mm H (wlow dfd (View.ld x9 (Rect.unit (s := S1x1408x1024) ![0, 0, 256] ![1, 1408, 256] inb_S1x1408x1024_S1x1408x256_0_0_256)) (View.ld x10 (Rect.unit (s := S1x11x2048) ![0, 0, 256] ![1, 11, 256] inb_S1x11x2048_S1x11x256_0_0_256)) (View.ld x11 (Rect.unit (s := S1x11x2048) ![0, 0, 256] ![1, 11, 256] inb_S1x11x2048_S1x11x256_0_0_256)))) (View.ld x14 (Rect.unit (s := S6x96x2048) ![2, 0, 256] ![1, 96, 256] inb_S6x96x2048_S1x96x256_2_0_256))⟩,
    ⟨Rect.unit (s := S6x96x2048) ![1, 0, 256] ![1, 96, 256] inb_S6x96x2048_S1x96x256_1_0_256, outp (hit a (View.ld xs0 (Rect.unit (s := S96x6) ![0, 0] ![96, 6] inb_S96x6_S96x6_0_0)) 1 (by decide)) (mm H (wlow dfd (View.ld x9 (Rect.unit (s := S1x1408x1024) ![0, 0, 256] ![1, 1408, 256] inb_S1x1408x1024_S1x1408x256_0_0_256)) (View.ld x10 (Rect.unit (s := S1x11x2048) ![0, 0, 256] ![1, 11, 256] inb_S1x11x2048_S1x11x256_0_0_256)) (View.ld x11 (Rect.unit (s := S1x11x2048) ![0, 0, 256] ![1, 11, 256] inb_S1x11x2048_S1x11x256_0_0_256)))) (View.ld x14 (Rect.unit (s := S6x96x2048) ![1, 0, 256] ![1, 96, 256] inb_S6x96x2048_S1x96x256_1_0_256))⟩,
    ⟨Rect.unit (s := S6x96x2048) ![0, 0, 256] ![1, 96, 256] inb_S6x96x2048_S1x96x256_0_0_256, outp (hit a (View.ld xs0 (Rect.unit (s := S96x6) ![0, 0] ![96, 6] inb_S96x6_S96x6_0_0)) 0 (by decide)) (mm H (wlow dfd (View.ld x9 (Rect.unit (s := S1x1408x1024) ![0, 0, 256] ![1, 1408, 256] inb_S1x1408x1024_S1x1408x256_0_0_256)) (View.ld x10 (Rect.unit (s := S1x11x2048) ![0, 0, 256] ![1, 11, 256] inb_S1x11x2048_S1x11x256_0_0_256)) (View.ld x11 (Rect.unit (s := S1x11x2048) ![0, 0, 256] ![1, 11, 256] inb_S1x11x2048_S1x11x256_0_0_256)))) (View.ld x14 (Rect.unit (s := S6x96x2048) ![0, 0, 256] ![1, 96, 256] inb_S6x96x2048_S1x96x256_0_0_256))⟩,
    ⟨Rect.unit (s := S6x96x2048) ![5, 0, 1024] ![1, 96, 256] inb_S6x96x2048_S1x96x256_5_0_1024, outp (hit a (View.ld xs0 (Rect.unit (s := S96x6) ![0, 0] ![96, 6] inb_S96x6_S96x6_0_0)) 5 (by decide)) (mm H (whigh dfd (View.ld x9 (Rect.unit (s := S1x1408x1024) ![0, 0, 0] ![1, 1408, 256] inb_S1x1408x1024_S1x1408x256_0_0_0)) (View.ld x10 (Rect.unit (s := S1x11x2048) ![0, 0, 1024] ![1, 11, 256] inb_S1x11x2048_S1x11x256_0_0_1024)) (View.ld x11 (Rect.unit (s := S1x11x2048) ![0, 0, 1024] ![1, 11, 256] inb_S1x11x2048_S1x11x256_0_0_1024)))) (View.ld x14 (Rect.unit (s := S6x96x2048) ![5, 0, 1024] ![1, 96, 256] inb_S6x96x2048_S1x96x256_5_0_1024))⟩,
    ⟨Rect.unit (s := S6x96x2048) ![4, 0, 1024] ![1, 96, 256] inb_S6x96x2048_S1x96x256_4_0_1024, outp (hit a (View.ld xs0 (Rect.unit (s := S96x6) ![0, 0] ![96, 6] inb_S96x6_S96x6_0_0)) 4 (by decide)) (mm H (whigh dfd (View.ld x9 (Rect.unit (s := S1x1408x1024) ![0, 0, 0] ![1, 1408, 256] inb_S1x1408x1024_S1x1408x256_0_0_0)) (View.ld x10 (Rect.unit (s := S1x11x2048) ![0, 0, 1024] ![1, 11, 256] inb_S1x11x2048_S1x11x256_0_0_1024)) (View.ld x11 (Rect.unit (s := S1x11x2048) ![0, 0, 1024] ![1, 11, 256] inb_S1x11x2048_S1x11x256_0_0_1024)))) (View.ld x14 (Rect.unit (s := S6x96x2048) ![4, 0, 1024] ![1, 96, 256] inb_S6x96x2048_S1x96x256_4_0_1024))⟩,
    ⟨Rect.unit (s := S6x96x2048) ![3, 0, 1024] ![1, 96, 256] inb_S6x96x2048_S1x96x256_3_0_1024, outp (hit a (View.ld xs0 (Rect.unit (s := S96x6) ![0, 0] ![96, 6] inb_S96x6_S96x6_0_0)) 3 (by decide)) (mm H (whigh dfd (View.ld x9 (Rect.unit (s := S1x1408x1024) ![0, 0, 0] ![1, 1408, 256] inb_S1x1408x1024_S1x1408x256_0_0_0)) (View.ld x10 (Rect.unit (s := S1x11x2048) ![0, 0, 1024] ![1, 11, 256] inb_S1x11x2048_S1x11x256_0_0_1024)) (View.ld x11 (Rect.unit (s := S1x11x2048) ![0, 0, 1024] ![1, 11, 256] inb_S1x11x2048_S1x11x256_0_0_1024)))) (View.ld x14 (Rect.unit (s := S6x96x2048) ![3, 0, 1024] ![1, 96, 256] inb_S6x96x2048_S1x96x256_3_0_1024))⟩,
    ⟨Rect.unit (s := S6x96x2048) ![2, 0, 1024] ![1, 96, 256] inb_S6x96x2048_S1x96x256_2_0_1024, outp (hit a (View.ld xs0 (Rect.unit (s := S96x6) ![0, 0] ![96, 6] inb_S96x6_S96x6_0_0)) 2 (by decide)) (mm H (whigh dfd (View.ld x9 (Rect.unit (s := S1x1408x1024) ![0, 0, 0] ![1, 1408, 256] inb_S1x1408x1024_S1x1408x256_0_0_0)) (View.ld x10 (Rect.unit (s := S1x11x2048) ![0, 0, 1024] ![1, 11, 256] inb_S1x11x2048_S1x11x256_0_0_1024)) (View.ld x11 (Rect.unit (s := S1x11x2048) ![0, 0, 1024] ![1, 11, 256] inb_S1x11x2048_S1x11x256_0_0_1024)))) (View.ld x14 (Rect.unit (s := S6x96x2048) ![2, 0, 1024] ![1, 96, 256] inb_S6x96x2048_S1x96x256_2_0_1024))⟩,
    ⟨Rect.unit (s := S6x96x2048) ![1, 0, 1024] ![1, 96, 256] inb_S6x96x2048_S1x96x256_1_0_1024, outp (hit a (View.ld xs0 (Rect.unit (s := S96x6) ![0, 0] ![96, 6] inb_S96x6_S96x6_0_0)) 1 (by decide)) (mm H (whigh dfd (View.ld x9 (Rect.unit (s := S1x1408x1024) ![0, 0, 0] ![1, 1408, 256] inb_S1x1408x1024_S1x1408x256_0_0_0)) (View.ld x10 (Rect.unit (s := S1x11x2048) ![0, 0, 1024] ![1, 11, 256] inb_S1x11x2048_S1x11x256_0_0_1024)) (View.ld x11 (Rect.unit (s := S1x11x2048) ![0, 0, 1024] ![1, 11, 256] inb_S1x11x2048_S1x11x256_0_0_1024)))) (View.ld x14 (Rect.unit (s := S6x96x2048) ![1, 0, 1024] ![1, 96, 256] inb_S6x96x2048_S1x96x256_1_0_1024))⟩,
    ⟨Rect.unit (s := S6x96x2048) ![0, 0, 1024] ![1, 96, 256] inb_S6x96x2048_S1x96x256_0_0_1024, outp (hit a (View.ld xs0 (Rect.unit (s := S96x6) ![0, 0] ![96, 6] inb_S96x6_S96x6_0_0)) 0 (by decide)) (mm H (whigh dfd (View.ld x9 (Rect.unit (s := S1x1408x1024) ![0, 0, 0] ![1, 1408, 256] inb_S1x1408x1024_S1x1408x256_0_0_0)) (View.ld x10 (Rect.unit (s := S1x11x2048) ![0, 0, 1024] ![1, 11, 256] inb_S1x11x2048_S1x11x256_0_0_1024)) (View.ld x11 (Rect.unit (s := S1x11x2048) ![0, 0, 1024] ![1, 11, 256] inb_S1x11x2048_S1x11x256_0_0_1024)))) (View.ld x14 (Rect.unit (s := S6x96x2048) ![0, 0, 1024] ![1, 96, 256] inb_S6x96x2048_S1x96x256_0_0_1024))⟩,
    ⟨Rect.unit (s := S6x96x2048) ![5, 0, 0] ![1, 96, 256] inb_S6x96x2048_S1x96x256_5_0_0, outp (hit a (View.ld xs0 (Rect.unit (s := S96x6) ![0, 0] ![96, 6] inb_S96x6_S96x6_0_0)) 5 (by decide)) (mm H (wlow dfd (View.ld x9 (Rect.unit (s := S1x1408x1024) ![0, 0, 0] ![1, 1408, 256] inb_S1x1408x1024_S1x1408x256_0_0_0)) (View.ld x10 (Rect.unit (s := S1x11x2048) ![0, 0, 0] ![1, 11, 256] inb_S1x11x2048_S1x11x256_0_0_0)) (View.ld x11 (Rect.unit (s := S1x11x2048) ![0, 0, 0] ![1, 11, 256] inb_S1x11x2048_S1x11x256_0_0_0)))) (View.ld x14 (Rect.unit (s := S6x96x2048) ![5, 0, 0] ![1, 96, 256] inb_S6x96x2048_S1x96x256_5_0_0))⟩,
    ⟨Rect.unit (s := S6x96x2048) ![4, 0, 0] ![1, 96, 256] inb_S6x96x2048_S1x96x256_4_0_0, outp (hit a (View.ld xs0 (Rect.unit (s := S96x6) ![0, 0] ![96, 6] inb_S96x6_S96x6_0_0)) 4 (by decide)) (mm H (wlow dfd (View.ld x9 (Rect.unit (s := S1x1408x1024) ![0, 0, 0] ![1, 1408, 256] inb_S1x1408x1024_S1x1408x256_0_0_0)) (View.ld x10 (Rect.unit (s := S1x11x2048) ![0, 0, 0] ![1, 11, 256] inb_S1x11x2048_S1x11x256_0_0_0)) (View.ld x11 (Rect.unit (s := S1x11x2048) ![0, 0, 0] ![1, 11, 256] inb_S1x11x2048_S1x11x256_0_0_0)))) (View.ld x14 (Rect.unit (s := S6x96x2048) ![4, 0, 0] ![1, 96, 256] inb_S6x96x2048_S1x96x256_4_0_0))⟩,
    ⟨Rect.unit (s := S6x96x2048) ![3, 0, 0] ![1, 96, 256] inb_S6x96x2048_S1x96x256_3_0_0, outp (hit a (View.ld xs0 (Rect.unit (s := S96x6) ![0, 0] ![96, 6] inb_S96x6_S96x6_0_0)) 3 (by decide)) (mm H (wlow dfd (View.ld x9 (Rect.unit (s := S1x1408x1024) ![0, 0, 0] ![1, 1408, 256] inb_S1x1408x1024_S1x1408x256_0_0_0)) (View.ld x10 (Rect.unit (s := S1x11x2048) ![0, 0, 0] ![1, 11, 256] inb_S1x11x2048_S1x11x256_0_0_0)) (View.ld x11 (Rect.unit (s := S1x11x2048) ![0, 0, 0] ![1, 11, 256] inb_S1x11x2048_S1x11x256_0_0_0)))) (View.ld x14 (Rect.unit (s := S6x96x2048) ![3, 0, 0] ![1, 96, 256] inb_S6x96x2048_S1x96x256_3_0_0))⟩,
    ⟨Rect.unit (s := S6x96x2048) ![2, 0, 0] ![1, 96, 256] inb_S6x96x2048_S1x96x256_2_0_0, outp (hit a (View.ld xs0 (Rect.unit (s := S96x6) ![0, 0] ![96, 6] inb_S96x6_S96x6_0_0)) 2 (by decide)) (mm H (wlow dfd (View.ld x9 (Rect.unit (s := S1x1408x1024) ![0, 0, 0] ![1, 1408, 256] inb_S1x1408x1024_S1x1408x256_0_0_0)) (View.ld x10 (Rect.unit (s := S1x11x2048) ![0, 0, 0] ![1, 11, 256] inb_S1x11x2048_S1x11x256_0_0_0)) (View.ld x11 (Rect.unit (s := S1x11x2048) ![0, 0, 0] ![1, 11, 256] inb_S1x11x2048_S1x11x256_0_0_0)))) (View.ld x14 (Rect.unit (s := S6x96x2048) ![2, 0, 0] ![1, 96, 256] inb_S6x96x2048_S1x96x256_2_0_0))⟩,
    ⟨Rect.unit (s := S6x96x2048) ![1, 0, 0] ![1, 96, 256] inb_S6x96x2048_S1x96x256_1_0_0, outp (hit a (View.ld xs0 (Rect.unit (s := S96x6) ![0, 0] ![96, 6] inb_S96x6_S96x6_0_0)) 1 (by decide)) (mm H (wlow dfd (View.ld x9 (Rect.unit (s := S1x1408x1024) ![0, 0, 0] ![1, 1408, 256] inb_S1x1408x1024_S1x1408x256_0_0_0)) (View.ld x10 (Rect.unit (s := S1x11x2048) ![0, 0, 0] ![1, 11, 256] inb_S1x11x2048_S1x11x256_0_0_0)) (View.ld x11 (Rect.unit (s := S1x11x2048) ![0, 0, 0] ![1, 11, 256] inb_S1x11x2048_S1x11x256_0_0_0)))) (View.ld x14 (Rect.unit (s := S6x96x2048) ![1, 0, 0] ![1, 96, 256] inb_S6x96x2048_S1x96x256_1_0_0))⟩,
    ⟨Rect.unit (s := S6x96x2048) ![0, 0, 0] ![1, 96, 256] inb_S6x96x2048_S1x96x256_0_0_0, outp (hit a (View.ld xs0 (Rect.unit (s := S96x6) ![0, 0] ![96, 6] inb_S96x6_S96x6_0_0)) 0 (by decide)) (mm H (wlow dfd (View.ld x9 (Rect.unit (s := S1x1408x1024) ![0, 0, 0] ![1, 1408, 256] inb_S1x1408x1024_S1x1408x256_0_0_0)) (View.ld x10 (Rect.unit (s := S1x11x2048) ![0, 0, 0] ![1, 11, 256] inb_S1x11x2048_S1x11x256_0_0_0)) (View.ld x11 (Rect.unit (s := S1x11x2048) ![0, 0, 0] ![1, 11, 256] inb_S1x11x2048_S1x11x256_0_0_0)))) (View.ld x14 (Rect.unit (s := S6x96x2048) ![0, 0, 0] ![1, 96, 256] inb_S6x96x2048_S1x96x256_0_0_0))⟩]
end Cert.Kernel.Hand

end
-- ==== Proof.AtBits.MidA.lean ====
/- The running sum the run finds is the uniform one. -/
module

public import proofs.«01_k».proof.Proof.AtBits.RunMid
public import proofs.«01_k».proof.Proof.AtBits.Mid

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem mid_acc (c : Dev nD) (i : grid0.Coords) (arg1 : Memref sig .tc .smem S64 .i32) (harg1 : arg1.IsWhole) (arg2 : Memref sig .tc .vmem S96x2048 .bf16) (harg2 : arg2.IsWhole) (arg3 : Memref sig .tc .vmem S96x6 .i32) (harg3 : arg3.IsWhole) (arg4 : Memref sig .tc .vmem S96x6 .f32) (harg4 : arg4.IsWhole) (arg5 : Memref sig .tc .vmem S1x2048x1408 .i8) (harg5 : arg5.IsWhole) (arg6 : Memref sig .tc .vmem S1x16x1408 .bf16) (harg6 : arg6.IsWhole) (arg7 : Memref sig .tc .vmem S1x16x1408 .bf16) (harg7 : arg7.IsWhole) (arg8 : Memref sig .tc .vmem S1x16x1408 .bf16) (harg8 : arg8.IsWhole) (arg9 : Memref sig .tc .vmem S1x16x1408 .bf16) (harg9 : arg9.IsWhole) (arg10 : Memref sig .tc .vmem S1x1408x1024 .i8) (harg10 : arg10.IsWhole) (arg11 : Memref sig .tc .vmem S1x11x2048 .bf16) (harg11 : arg11.IsWhole) (arg12 : Memref sig .tc .vmem S1x11x2048 .bf16) (harg12 : arg12.IsWhole) (arg13 : Memref sig .tc .vmem S96x2048 .bf16) (harg13 : arg13.IsWhole) (arg14 : Memref sig .tc .vmem S96x1 .f32) (harg14 : arg14.IsWhole) (arg15 : Memref sig .tc .vmem S6x96x2048 .f32) (harg15 : arg15.IsWhole) (arg16 : Memref sig .tc .vmem S96x6 .i32) (harg16 : arg16.IsWhole) (arg17 : Memref sig .tc .vmem S96x6 .f32) (harg17 : arg17.IsWhole) (arg18 : Memref sig .tc .vmem S96x1408 .bf16) (harg18 : arg18.IsWhole) (arg19 : Memref sig .tc .vmem S96x2048 .f32) (harg19 : arg19.IsWhole)
    (x1 : Vec F S96x2048 .bf16) (x4 : Vec F S1x2048x1408 .i8) (x5 : Vec F S1x16x1408 .bf16) (x6 : Vec F S1x16x1408 .bf16) (x7 : Vec F S1x16x1408 .bf16) (x8 : Vec F S1x16x1408 .bf16) (x9 : Vec F S1x1408x1024 .i8) (x10 : Vec F S1x11x2048 .bf16) (x11 : Vec F S1x11x2048 .bf16) (xs0 : Vec F S96x6 .i32) (xs1 : Vec F S96x6 .f32) (x14 : Vec F S6x96x2048 .f32) (xs3 : Vec F S96x2048 .f32) :
    (runMid (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x4 x5 x6 x7 x8 x9 x10 x11 xs0 xs1 x14 xs3).2.2.1 = accPieces (BitVec.ofNat 32 (i 0).val) (View.readCov arg18.view (hPieces x1 x4 x5 x6 x7 x8) (Rect.unit (s := S96x1408) ![0, 0] ![96, 1408] inb_S96x1408_S96x1408_0_0).toLoadRect) x9 x10 x11 xs0 xs1 xs3 := by
  unfold runMid; dsimp only
  sl_unfold_words
  simp only [View.readAt_eq_ld, Memref.IsWhole.read_unread]
  rfl
end Cert.Kernel.Hand

end
-- ==== Proof.AtBits.MidO.lean ====
/- The per-choice result the run finds is the uniform one. -/
module

public import proofs.«01_k».proof.Proof.AtBits.RunMid
public import proofs.«01_k».proof.Proof.AtBits.Mid

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem mid_out (c : Dev nD) (i : grid0.Coords) (arg1 : Memref sig .tc .smem S64 .i32) (harg1 : arg1.IsWhole) (arg2 : Memref sig .tc .vmem S96x2048 .bf16) (harg2 : arg2.IsWhole) (arg3 : Memref sig .tc .vmem S96x6 .i32) (harg3 : arg3.IsWhole) (arg4 : Memref sig .tc .vmem S96x6 .f32) (harg4 : arg4.IsWhole) (arg5 : Memref sig .tc .vmem S1x2048x1408 .i8) (harg5 : arg5.IsWhole) (arg6 : Memref sig .tc .vmem S1x16x1408 .bf16) (harg6 : arg6.IsWhole) (arg7 : Memref sig .tc .vmem S1x16x1408 .bf16) (harg7 : arg7.IsWhole) (arg8 : Memref sig .tc .vmem S1x16x1408 .bf16) (harg8 : arg8.IsWhole) (arg9 : Memref sig .tc .vmem S1x16x1408 .bf16) (harg9 : arg9.IsWhole) (arg10 : Memref sig .tc .vmem S1x1408x1024 .i8) (harg10 : arg10.IsWhole) (arg11 : Memref sig .tc .vmem S1x11x2048 .bf16) (harg11 : arg11.IsWhole) (arg12 : Memref sig .tc .vmem S1x11x2048 .bf16) (harg12 : arg12.IsWhole) (arg13 : Memref sig .tc .vmem S96x2048 .bf16) (harg13 : arg13.IsWhole) (arg14 : Memref sig .tc .vmem S96x1 .f32) (harg14 : arg14.IsWhole) (arg15 : Memref sig .tc .vmem S6x96x2048 .f32) (harg15 : arg15.IsWhole) (arg16 : Memref sig .tc .vmem S96x6 .i32) (harg16 : arg16.IsWhole) (arg17 : Memref sig .tc .vmem S96x6 .f32) (harg17 : arg17.IsWhole) (arg18 : Memref sig .tc .vmem S96x1408 .bf16) (harg18 : arg18.IsWhole) (arg19 : Memref sig .tc .vmem S96x2048 .f32) (harg19 : arg19.IsWhole)
    (x1 : Vec F S96x2048 .bf16) (x4 : Vec F S1x2048x1408 .i8) (x5 : Vec F S1x16x1408 .bf16) (x6 : Vec F S1x16x1408 .bf16) (x7 : Vec F S1x16x1408 .bf16) (x8 : Vec F S1x16x1408 .bf16) (x9 : Vec F S1x1408x1024 .i8) (x10 : Vec F S1x11x2048 .bf16) (x11 : Vec F S1x11x2048 .bf16) (xs0 : Vec F S96x6 .i32) (xs1 : Vec F S96x6 .f32) (x14 : Vec F S6x96x2048 .f32) (xs3 : Vec F S96x2048 .f32) :
    (runMid (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x4 x5 x6 x7 x8 x9 x10 x11 xs0 xs1 x14 xs3).1 = outPieces (BitVec.ofNat 32 (i 0).val) (View.readCov arg18.view (hPieces x1 x4 x5 x6 x7 x8) (Rect.unit (s := S96x1408) ![0, 0] ![96, 1408] inb_S96x1408_S96x1408_0_0).toLoadRect) x9 x10 x11 xs0 x14 := by
  unfold runMid; dsimp only
  sl_unfold_words
  simp only [View.readAt_eq_ld, Memref.IsWhole.read_unread]
  rfl
end Cert.Kernel.Hand

end
-- ==== Proof.AtBits.Triples.lean ====
/- Whole buffers from the pieces written. -/
module

public import proofs.«01_k».proof.Proof.AtBits.Mid
public import proofs.«01_k».proof.Proof.AtBits.Cut

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the set-up leaves in the accumulator. -/
abbrev ACC0 : Vec F S96x2048 .f32 := shapeCast S96x2048 (broadcast S96x2048 (Scalar.ofBits .f32 0x00000000#32)) shapeCasts_S96x2048_S96x2048

/-- What the closing stretch stores. -/
abbrev YF (xs3 : Vec F S96x2048 .f32) : Vec F S96x2048 .bf16 := truncf .bf16 (View.ld xs3 (Rect.unit (s := S96x2048) ![0, 0] ![96, 2048] inb_S96x2048_S96x2048_0_0)) bitsLt_bf16_f32

/-- The hidden activations the middle stretch leaves and loads. -/
def Hv (x1 : Vec F S96x2048 .bf16) (x4 : Vec F S1x2048x1408 .i8) (x5 : Vec F S1x16x1408 .bf16) (x6 : Vec F S1x16x1408 .bf16) (x7 : Vec F S1x16x1408 .bf16) (x8 : Vec F S1x16x1408 .bf16) : FVec F (sh 96 1408) .bf16 :=
  View.readCov (Memref.whole cc0_scratch2).view (hPieces x1 x4 x5 x6 x7 x8) (Rect.unit (s := S96x1408) ![0, 0] ![96, 1408] inb_S96x1408_S96x1408_0_0).toLoadRect

/-- It does not depend on the buffer. -/
theorem Hv_eq (arg18 : Memref sig .tc .vmem S96x1408 .bf16) (x1 : Vec F S96x2048 .bf16) (x4 : Vec F S1x2048x1408 .i8) (x5 : Vec F S1x16x1408 .bf16) (x6 : Vec F S1x16x1408 .bf16) (x7 : Vec F S1x16x1408 .bf16) (x8 : Vec F S1x16x1408 .bf16) :
    View.readCov arg18.view (hPieces x1 x4 x5 x6 x7 x8) (Rect.unit (s := S96x1408) ![0, 0] ![96, 1408] inb_S96x1408_S96x1408_0_0).toLoadRect = Hv x1 x4 x5 x6 x7 x8 := by
  unfold Hv
  rw [View.readCov_eq_canon', View.readCov_eq_canon']
  rfl

/-- A buffer written all over holds the pieces' canonical contents. -/
theorem owns_of_writes {sp : Space} {S : Shape} {e : EltTy} (c : Dev nD) (M : Memref sig .tc sp S e) (L : List (View.Piece (Elt F) S e)) (v : Vec F S e)
    (h : (∀ y, ∃ p ∈ L, y ∈ p.1.set) ∧ View.canon L = v) :
    iprop(∃ f, M.view.loc (c : Thread nD τ) ↦[M.view.set]{fullShare} M.view.writes (Elt F) f L) ⊢ (owns (c : Thread nD τ) M fullShare v : sProp 𝕄) := by
  iintro ⟨%f, G⟩
  unfold owns
  iexists _
  isplitr
  swap
  · iexact G
  ipureintro
  rw [← h.2]
  exact View.read_writes_eq_canon _ _ _ h.1

/-- A buffer written somewhere holds something. -/
theorem owns_some {sp : Space} {S : Shape} {e : EltTy} (c : Dev nD) (M : Memref sig .tc sp S e) (L : List (View.Piece (Elt F) S e)) :
    iprop(∃ f, M.view.loc (c : Thread nD τ) ↦[M.view.set]{fullShare} M.view.writes (Elt F) f L) ⊢ (iprop(∃ d, owns (c : Thread nD τ) M fullShare d) : sProp 𝕄) := by
  iintro ⟨%f, G⟩
  iexists _
  unfold owns
  iexists _
  isplitr
  swap
  · iexact G
  ipureintro
  rfl

/-- One piece that is the whole buffer. -/
theorem one_piece {S : Shape} {e : EltTy} (off : Fin S.rank → ℕ) (h : ∀ k, off k = 0) (inb) (v : Vec F S e) :
    (∀ y, ∃ p ∈ ([⟨Rect.unit (s := S) off S.size inb, v⟩] : List (View.Piece (Elt F) S e)), y ∈ p.1.set) ∧ View.canon ([⟨Rect.unit (s := S) off S.size inb, v⟩] : List (View.Piece (Elt F) S e)) = v := by
  refine ⟨fun y => ⟨_, List.mem_singleton_self _, ?_⟩, View.canon_unit_zero (S := S) (funext h) inb v⟩
  refine (Rect.mem_set_unit (s := S) (off := off) (size := S.size) (inb := inb)).mpr fun a => ?_
  rw [h a]
  exact ⟨Nat.zero_le _, by simpa using (y a).isLt⟩

theorem z2 : ∀ k : Fin 2, (![0, 0] : Fin 2 → ℕ) k = 0 := by decide
theorem z3 : ∀ k : Fin 3, (![0, 0, 0] : Fin 3 → ℕ) k = 0 := by decide

theorem acc_cover (a : BitVec 32) (H : FVec F (sh 96 1408) .bf16) (x9 : Vec F S1x1408x1024 .i8) (x10 x11 : Vec F S1x11x2048 .bf16) (xs0 : Vec F S96x6 .i32) (xs1 : Vec F S96x6 .f32) (xs3 : Vec F S96x2048 .f32) :
    ∀ y, ∃ p ∈ accPieces a H x9 x10 x11 xs0 xs1 xs3, y ∈ p.1.set := by
  intro y; unfold accPieces
  exact View.cover_of_tiled_head _ _ _ (by rfl) _

theorem out_cover (a : BitVec 32) (H : FVec F (sh 96 1408) .bf16) (x9 : Vec F S1x1408x1024 .i8) (x10 x11 : Vec F S1x11x2048 .bf16) (xs0 : Vec F S96x6 .i32) (x14 : Vec F S6x96x2048 .f32) :
    ∀ y, ∃ p ∈ outPieces a H x9 x10 x11 xs0 x14, y ∈ p.1.set := by
  intro y; unfold outPieces
  exact View.cover_of_tiled_head _ _ _ (by rfl) _

end Cert.Kernel.Hand

end
-- ==== Proof.AtBits.TripMid.lean ====
/- The middle stretch of the body as a triple between stated contents. -/
module

public import proofs.«01_k».proof.Proof.AtBits.MidA
public import proofs.«01_k».proof.Proof.AtBits.MidO
public import proofs.«01_k».proof.Proof.AtBits.Triples

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The middle stretch, in values. -/
theorem mid_triple (c : Dev nD) (i : grid0.Coords) (arg1 : Memref sig .tc .smem S64 .i32) (harg1 : arg1.IsWhole) (arg2 : Memref sig .tc .vmem S96x2048 .bf16) (harg2 : arg2.IsWhole) (arg3 : Memref sig .tc .vmem S96x6 .i32) (harg3 : arg3.IsWhole) (arg4 : Memref sig .tc .vmem S96x6 .f32) (harg4 : arg4.IsWhole) (arg5 : Memref sig .tc .vmem S1x2048x1408 .i8) (harg5 : arg5.IsWhole) (arg6 : Memref sig .tc .vmem S1x16x1408 .bf16) (harg6 : arg6.IsWhole) (arg7 : Memref sig .tc .vmem S1x16x1408 .bf16) (harg7 : arg7.IsWhole) (arg8 : Memref sig .tc .vmem S1x16x1408 .bf16) (harg8 : arg8.IsWhole) (arg9 : Memref sig .tc .vmem S1x16x1408 .bf16) (harg9 : arg9.IsWhole) (arg10 : Memref sig .tc .vmem S1x1408x1024 .i8) (harg10 : arg10.IsWhole) (arg11 : Memref sig .tc .vmem S1x11x2048 .bf16) (harg11 : arg11.IsWhole) (arg12 : Memref sig .tc .vmem S1x11x2048 .bf16) (harg12 : arg12.IsWhole) (arg13 : Memref sig .tc .vmem S96x2048 .bf16) (harg13 : arg13.IsWhole) (arg14 : Memref sig .tc .vmem S96x1 .f32) (harg14 : arg14.IsWhole) (arg15 : Memref sig .tc .vmem S6x96x2048 .f32) (harg15 : arg15.IsWhole) (arg16 : Memref sig .tc .vmem S96x6 .i32) (harg16 : arg16.IsWhole) (arg17 : Memref sig .tc .vmem S96x6 .f32) (harg17 : arg17.IsWhole) (arg18 : Memref sig .tc .vmem S96x1408 .bf16) (harg18 : arg18.IsWhole) (arg19 : Memref sig .tc .vmem S96x2048 .f32) (harg19 : arg19.IsWhole)
    (x1 : Vec F S96x2048 .bf16) (x4 : Vec F S1x2048x1408 .i8) (x5 : Vec F S1x16x1408 .bf16) (x6 : Vec F S1x16x1408 .bf16) (x7 : Vec F S1x16x1408 .bf16) (x8 : Vec F S1x16x1408 .bf16) (x9 : Vec F S1x1408x1024 .i8) (x10 : Vec F S1x11x2048 .bf16) (x11 : Vec F S1x11x2048 .bf16) (xs0 : Vec F S96x6 .i32) (xs1 : Vec F S96x6 .f32) (x14 : Vec F S6x96x2048 .f32) (xs3 : Vec F S96x2048 .f32) (E : Set ℕ) (K : PUnit → sProp 𝕄) :
    iprop(owns (c : Thread nD τ) arg2 fullShare x1 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg16 fullShare xs0 ∗ owns (c : Thread nD τ) arg17 fullShare xs1 ∗ owns (c : Thread nD τ) arg15 fullShare x14 ∗ (∃ d, owns (c : Thread nD τ) arg18 fullShare d) ∗ owns (c : Thread nD τ) arg19 fullShare xs3
        ∗ (iprop(owns (c : Thread nD τ) arg2 fullShare x1 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg16 fullShare xs0 ∗ owns (c : Thread nD τ) arg17 fullShare xs1 ∗ owns (c : Thread nD τ) arg15 fullShare (View.canon (outPieces (BitVec.ofNat 32 (i 0).val) (Hv x1 x4 x5 x6 x7 x8) x9 x10 x11 xs0 x14)) ∗ (∃ d, owns (c : Thread nD τ) arg18 fullShare d) ∗ owns (c : Thread nD τ) arg19 fullShare (View.canon (accPieces (BitVec.ofNat 32 (i 0).val) (Hv x1 x4 x5 x6 x7 x8) x9 x10 x11 xs0 xs1 xs3))) -∗ K ⟨⟩))
      ⊢ wp frame (wpE (defs₀ (F := F)) Variants.none c none) E (mid i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  have e0 := mid_out (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x4 x5 x6 x7 x8 x9 x10 x11 xs0 xs1 x14 xs3
  have e1 := mid_acc (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x4 x5 x6 x7 x8 x9 x10 x11 xs0 xs1 x14 xs3
  rw [Hv_eq arg18] at e0 e1
  generalize runMid (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x4 x5 x6 x7 x8 x9 x10 x11 xs0 xs1 x14 xs3 = R at e0 e1
  obtain ⟨L0, L1, L2, hrun⟩ := R
  dsimp only at e0 e1
  subst e0; subst e1
  iintro ⟨H0, H1, H2, H3, H4, H5, H6, H7, H8, H9, H10, G0, G1, G2, Hk⟩
  iapply (hrun E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [G0]; · iexact G0
  isplitl [G1]; · iexact G1
  isplitl [G2]; · iexact G2
  iintro ⟨H0, H1, H2, H3, H4, H5, H6, H7, H8, H9, H10, G0, G1, G2⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [G0]; · iapply (owns_of_writes c arg15 _ _ ⟨out_cover _ _ _ _ _ _ _, rfl⟩); iexact G0
  isplitl [G1]; · iapply (owns_some c arg18 _); iexact G1
  iapply (owns_of_writes c arg19 _ _ ⟨acc_cover _ _ _ _ _ _ _ _, rfl⟩); iexact G2

end Cert.Kernel.Hand

end
-- ==== Proof.AtBits.RunInit.lean ====
/- The runs of the set-up and the closing stretch of the body. -/
module

public import proofs.«01_k».proof.Proof.AtBits.Cut

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the set-up stretch leaves in the buffers it stores into, as pieces (last first), with the
    proof that it runs to them. -/
noncomputable def runInit (c : Dev nD) (i : grid0.Coords) (arg1 : Memref sig .tc .smem S64 .i32) (harg1 : arg1.IsWhole) (arg2 : Memref sig .tc .vmem S96x2048 .bf16) (harg2 : arg2.IsWhole) (arg3 : Memref sig .tc .vmem S96x6 .i32) (harg3 : arg3.IsWhole) (arg4 : Memref sig .tc .vmem S96x6 .f32) (harg4 : arg4.IsWhole) (arg5 : Memref sig .tc .vmem S1x2048x1408 .i8) (harg5 : arg5.IsWhole) (arg6 : Memref sig .tc .vmem S1x16x1408 .bf16) (harg6 : arg6.IsWhole) (arg7 : Memref sig .tc .vmem S1x16x1408 .bf16) (harg7 : arg7.IsWhole) (arg8 : Memref sig .tc .vmem S1x16x1408 .bf16) (harg8 : arg8.IsWhole) (arg9 : Memref sig .tc .vmem S1x16x1408 .bf16) (harg9 : arg9.IsWhole) (arg10 : Memref sig .tc .vmem S1x1408x1024 .i8) (harg10 : arg10.IsWhole) (arg11 : Memref sig .tc .vmem S1x11x2048 .bf16) (harg11 : arg11.IsWhole) (arg12 : Memref sig .tc .vmem S1x11x2048 .bf16) (harg12 : arg12.IsWhole) (arg13 : Memref sig .tc .vmem S96x2048 .bf16) (harg13 : arg13.IsWhole) (arg14 : Memref sig .tc .vmem S96x1 .f32) (harg14 : arg14.IsWhole) (arg15 : Memref sig .tc .vmem S6x96x2048 .f32) (harg15 : arg15.IsWhole) (arg16 : Memref sig .tc .vmem S96x6 .i32) (harg16 : arg16.IsWhole) (arg17 : Memref sig .tc .vmem S96x6 .f32) (harg17 : arg17.IsWhole) (arg18 : Memref sig .tc .vmem S96x1408 .bf16) (harg18 : arg18.IsWhole) (arg19 : Memref sig .tc .vmem S96x2048 .f32) (harg19 : arg19.IsWhole)
    (x0 : Vec F S64 .i32) (x2 : Vec F S96x6 .i32) (x3 : Vec F S96x6 .f32)  :
    Σ' (L13 : List (View.Piece (Elt F) S96x1 .f32)), Σ' (L14 : List (View.Piece (Elt F) S6x96x2048 .f32)), Σ' (LS0 : List (View.Piece (Elt F) S96x6 .i32)), Σ' (LS1 : List (View.Piece (Elt F) S96x6 .f32)), { LS3 : List (View.Piece (Elt F) S96x2048 .f32) //
      ∀ (E : Set ℕ) (K : PUnit → sProp 𝕄),
        iprop(owns (c : Thread nD τ) arg1 fullShare x0 ∗ owns (c : Thread nD τ) arg3 fullShare x2 ∗ owns (c : Thread nD τ) arg4 fullShare x3 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg19 fullShare d)
            ∗ (iprop(owns (c : Thread nD τ) arg1 fullShare x0 ∗ owns (c : Thread nD τ) arg3 fullShare x2 ∗ owns (c : Thread nD τ) arg4 fullShare x3 ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f LS0) ∗ (∃ f, arg17.view.loc (c : Thread nD τ) ↦[arg17.view.set]{fullShare} arg17.view.writes (Elt F) f LS1) ∗ (∃ f, arg19.view.loc (c : Thread nD τ) ↦[arg19.view.set]{fullShare} arg19.view.writes (Elt F) f LS3)) -∗ K ⟨⟩))
          ⊢ wp frame (wpE (defs₀ (F := F)) Variants.none c none) E (init0 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, fun E K => ?run⟩
  case run =>
    unfold init0
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%d0, %g0, -, G0⟩, ⟨%d1, %g1, -, G1⟩, ⟨%d2, %g2, -, G2⟩, ⟨%d3, %g3, -, G3⟩, ⟨%d4, %g4, -, G4⟩, Hk⟩
    obtain rfl := harg1.eq_unread hf0; obtain rfl := harg3.eq_unread hf1; obtain rfl := harg4.eq_unread hf2
    sl_exec
    sl_step
    iapply Hk
    isplitl [H0]
    · iexists _; isplitr; · ipureintro; exact harg1.read_unread _
      iexact H0
    isplitl [H1]
    · iexists _; isplitr; · ipureintro; exact harg3.read_unread _
      iexact H1
    isplitl [H2]
    · iexists _; isplitr; · ipureintro; exact harg4.read_unread _
      iexact H2
    isplitl [G0]; · iexists _; iexact G0
    isplitl [G1]; · iexists _; iexact G1
    isplitl [G2]; · iexists _; iexact G2
    isplitl [G3]; · iexists _; iexact G3
    iexists _; iexact G4

set_option maxHeartbeats 4000000 in
/-- What the closing stretch leaves in the buffer it stores into. -/
noncomputable def runFin (c : Dev nD) (i : grid0.Coords) (arg1 : Memref sig .tc .smem S64 .i32) (harg1 : arg1.IsWhole) (arg2 : Memref sig .tc .vmem S96x2048 .bf16) (harg2 : arg2.IsWhole) (arg3 : Memref sig .tc .vmem S96x6 .i32) (harg3 : arg3.IsWhole) (arg4 : Memref sig .tc .vmem S96x6 .f32) (harg4 : arg4.IsWhole) (arg5 : Memref sig .tc .vmem S1x2048x1408 .i8) (harg5 : arg5.IsWhole) (arg6 : Memref sig .tc .vmem S1x16x1408 .bf16) (harg6 : arg6.IsWhole) (arg7 : Memref sig .tc .vmem S1x16x1408 .bf16) (harg7 : arg7.IsWhole) (arg8 : Memref sig .tc .vmem S1x16x1408 .bf16) (harg8 : arg8.IsWhole) (arg9 : Memref sig .tc .vmem S1x16x1408 .bf16) (harg9 : arg9.IsWhole) (arg10 : Memref sig .tc .vmem S1x1408x1024 .i8) (harg10 : arg10.IsWhole) (arg11 : Memref sig .tc .vmem S1x11x2048 .bf16) (harg11 : arg11.IsWhole) (arg12 : Memref sig .tc .vmem S1x11x2048 .bf16) (harg12 : arg12.IsWhole) (arg13 : Memref sig .tc .vmem S96x2048 .bf16) (harg13 : arg13.IsWhole) (arg14 : Memref sig .tc .vmem S96x1 .f32) (harg14 : arg14.IsWhole) (arg15 : Memref sig .tc .vmem S6x96x2048 .f32) (harg15 : arg15.IsWhole) (arg16 : Memref sig .tc .vmem S96x6 .i32) (harg16 : arg16.IsWhole) (arg17 : Memref sig .tc .vmem S96x6 .f32) (harg17 : arg17.IsWhole) (arg18 : Memref sig .tc .vmem S96x1408 .bf16) (harg18 : arg18.IsWhole) (arg19 : Memref sig .tc .vmem S96x2048 .f32) (harg19 : arg19.IsWhole)
    (xs3 : Vec F S96x2048 .f32)  :
    { L12 : List (View.Piece (Elt F) S96x2048 .bf16) //
      ∀ (E : Set ℕ) (K : PUnit → sProp 𝕄),
        iprop(owns (c : Thread nD τ) arg19 fullShare xs3 ∗ (∃ d, owns (c : Thread nD τ) arg13 fullShare d)
            ∗ (iprop(owns (c : Thread nD τ) arg19 fullShare xs3 ∗ (∃ f, arg13.view.loc (c : Thread nD τ) ↦[arg13.view.set]{fullShare} arg13.view.writes (Elt F) f L12)) -∗ K ⟨⟩))
          ⊢ wp frame (wpE (defs₀ (F := F)) Variants.none c none) E (fin0 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, fun E K => ?run⟩
  case run =>
    unfold fin0
    unfold owns
    iintro ⟨⟨%f0, %hf0, H0⟩, ⟨%d0, %g0, -, G0⟩, Hk⟩
    obtain rfl := harg19.eq_unread hf0
    sl_exec
    sl_step
    iapply Hk
    isplitl [H0]
    · iexists _; isplitr; · ipureintro; exact harg19.read_unread _
      iexact H0
    iexists _; iexact G0

end Cert.Kernel.Hand

end
-- ==== Proof.AtBits.Init.lean ====
/- The set-up stretch’s values, under uniform names. -/
module

public import proofs.«01_k».proof.Proof.AtBits.Mid

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The table's word for expert `e`. -/
def e2sAt (x0 : Vec F S64 .i32) (e : ℕ) (h : ∀ a : Fin S64.rank, (![e] : Fin S64.rank → ℕ) a + (![1] : Fin S64.rank → ℕ) a ≤ S64.size a) : BitVec 32 := View.ld x0 (Rect.unit (s := S64) ![e] ![1] h) (Shape.Idx.first (s := S1) (by decide))

theorem inb64 (e : ℕ) (h : e < 64) : ∀ a : Fin S64.rank, (![e] : Fin S64.rank → ℕ) a + (![1] : Fin S64.rank → ℕ) a ≤ S64.size a := by
  intro a; match a with | ⟨0, _⟩ => exact h

/-- The slots after the first `n` experts were looked up. -/
def slotN (x0 : Vec F S64 .i32) (ids : IVec (sh 96 6) 32) : (n : ℕ) → n ≤ 64 → IVec (sh 96 6) 32
  | 0, _ => broadcast (sh 96 6) 4294967295#32
  | n + 1, h => select (cmpi .eq ids (broadcast (sh 96 6) (BitVec.ofNat 32 n))) (broadcast (sh 96 6) (e2sAt x0 n (inb64 n (by omega)))) (slotN x0 ids n (by omega))

/-- The slots. -/
def slotv (x0 : Vec F S64 .i32) (x2 : Vec F S96x6 .i32) : IVec (sh 96 6) 32 :=
  shapeCast (sh 96 6) (slotN x0 (shapeCast (sh 96 6) (View.ld x2 (Rect.unit (s := S96x6) ![0, 0] ![96, 6] inb_S96x6_S96x6_0_0)) (by decide)) 64 (le_refl _)) (by decide)

/-- One where the slot is present. -/
def vfv (x0 : Vec F S64 .i32) (x2 : Vec F S96x6 .i32) : FVec F (sh 96 6) .f32 :=
  sitofp .f32 (extui 32 (cmpi .sge (slotN x0 (shapeCast (sh 96 6) (View.ld x2 (Rect.unit (s := S96x6) ![0, 0] ![96, 6] inb_S96x6_S96x6_0_0)) (by decide)) 64 (le_refl _)) (broadcast (sh 96 6) 0#32)) natLt_1_32)

/-- The gates as loaded. -/
def gv (x3 : Vec F S96x6 .f32) : FVec F (sh 96 6) .f32 := shapeCast (sh 96 6) (View.ld x3 (Rect.unit (s := S96x6) ![0, 0] ![96, 6] inb_S96x6_S96x6_0_0)) (by decide)

/-- A sum over the choices, as a column. -/
def rsum (v : FVec F (sh 96 6) .f32) : FVec F (sh 96 1) .f32 :=
  shapeCast (sh 96 1) (multiReduction .add [1] S96 v 0x00000000#32 reduces_S96x6_S96 (.inl rfl) rfl) shapeCasts_S96_S96x1

/-- The gate weight of the missing experts. -/
def missv (x0 : Vec F S64 .i32) (x2 : Vec F S96x6 .i32) (x3 : Vec F S96x6 .f32) : FVec F (sh 96 1) .f32 :=
  rsum (mulf (gv x3) (subf (broadcast (sh 96 6) (Scalar.ofBits .f32 0x3F800000#32)) (vfv x0 x2)))

/-- The gate weight of the experts present. -/
def rv (x0 : Vec F S64 .i32) (x2 : Vec F S96x6 .i32) (x3 : Vec F S96x6 .f32) : FVec F (sh 96 1) .f32 := rsum (mulf (gv x3) (vfv x0 x2))

/-- The renormalized weights. -/
def wv (x0 : Vec F S64 .i32) (x2 : Vec F S96x6 .i32) (x3 : Vec F S96x6 .f32) : FVec F (sh 96 6) .f32 :=
  shapeCast (sh 96 6) (divf (mulf (gv x3) (vfv x0 x2)) (broadcastTo (sh 96 6)
    (select (cmpf .ogt (rv x0 x2 x3) (broadcast (sh 96 1) (Scalar.ofBits .f32 0x00000000#32))) (rv x0 x2 x3) (broadcast (sh 96 1) (Scalar.ofBits .f32 0x3F800000#32))) (by decide))) (by decide)
end Cert.Kernel.Hand

end
-- ==== Proof.AtBits.InitEq.lean ====
/- What the set-up and closing runs find is the uniform values. -/
module

public import proofs.«01_k».proof.Proof.AtBits.RunInit
public import proofs.«01_k».proof.Proof.AtBits.Init

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem init_miss (c : Dev nD) (i : grid0.Coords) (arg1 : Memref sig .tc .smem S64 .i32) (harg1 : arg1.IsWhole) (arg2 : Memref sig .tc .vmem S96x2048 .bf16) (harg2 : arg2.IsWhole) (arg3 : Memref sig .tc .vmem S96x6 .i32) (harg3 : arg3.IsWhole) (arg4 : Memref sig .tc .vmem S96x6 .f32) (harg4 : arg4.IsWhole) (arg5 : Memref sig .tc .vmem S1x2048x1408 .i8) (harg5 : arg5.IsWhole) (arg6 : Memref sig .tc .vmem S1x16x1408 .bf16) (harg6 : arg6.IsWhole) (arg7 : Memref sig .tc .vmem S1x16x1408 .bf16) (harg7 : arg7.IsWhole) (arg8 : Memref sig .tc .vmem S1x16x1408 .bf16) (harg8 : arg8.IsWhole) (arg9 : Memref sig .tc .vmem S1x16x1408 .bf16) (harg9 : arg9.IsWhole) (arg10 : Memref sig .tc .vmem S1x1408x1024 .i8) (harg10 : arg10.IsWhole) (arg11 : Memref sig .tc .vmem S1x11x2048 .bf16) (harg11 : arg11.IsWhole) (arg12 : Memref sig .tc .vmem S1x11x2048 .bf16) (harg12 : arg12.IsWhole) (arg13 : Memref sig .tc .vmem S96x2048 .bf16) (harg13 : arg13.IsWhole) (arg14 : Memref sig .tc .vmem S96x1 .f32) (harg14 : arg14.IsWhole) (arg15 : Memref sig .tc .vmem S6x96x2048 .f32) (harg15 : arg15.IsWhole) (arg16 : Memref sig .tc .vmem S96x6 .i32) (harg16 : arg16.IsWhole) (arg17 : Memref sig .tc .vmem S96x6 .f32) (harg17 : arg17.IsWhole) (arg18 : Memref sig .tc .vmem S96x1408 .bf16) (harg18 : arg18.IsWhole) (arg19 : Memref sig .tc .vmem S96x2048 .f32) (harg19 : arg19.IsWhole)
    (x0 : Vec F S64 .i32) (x2 : Vec F S96x6 .i32) (x3 : Vec F S96x6 .f32) :
    (runInit (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x2 x3).1 = [⟨Rect.unit (s := S96x1) ![0, 0] ![96, 1] inb_S96x1_S96x1_0_0, missv x0 x2 x3⟩] := by
  unfold runInit; dsimp only
  sl_unfold_words
  simp only [View.readAt_eq_ld, Memref.IsWhole.read_unread]
  rfl

set_option maxHeartbeats 4000000 in
theorem init_out (c : Dev nD) (i : grid0.Coords) (arg1 : Memref sig .tc .smem S64 .i32) (harg1 : arg1.IsWhole) (arg2 : Memref sig .tc .vmem S96x2048 .bf16) (harg2 : arg2.IsWhole) (arg3 : Memref sig .tc .vmem S96x6 .i32) (harg3 : arg3.IsWhole) (arg4 : Memref sig .tc .vmem S96x6 .f32) (harg4 : arg4.IsWhole) (arg5 : Memref sig .tc .vmem S1x2048x1408 .i8) (harg5 : arg5.IsWhole) (arg6 : Memref sig .tc .vmem S1x16x1408 .bf16) (harg6 : arg6.IsWhole) (arg7 : Memref sig .tc .vmem S1x16x1408 .bf16) (harg7 : arg7.IsWhole) (arg8 : Memref sig .tc .vmem S1x16x1408 .bf16) (harg8 : arg8.IsWhole) (arg9 : Memref sig .tc .vmem S1x16x1408 .bf16) (harg9 : arg9.IsWhole) (arg10 : Memref sig .tc .vmem S1x1408x1024 .i8) (harg10 : arg10.IsWhole) (arg11 : Memref sig .tc .vmem S1x11x2048 .bf16) (harg11 : arg11.IsWhole) (arg12 : Memref sig .tc .vmem S1x11x2048 .bf16) (harg12 : arg12.IsWhole) (arg13 : Memref sig .tc .vmem S96x2048 .bf16) (harg13 : arg13.IsWhole) (arg14 : Memref sig .tc .vmem S96x1 .f32) (harg14 : arg14.IsWhole) (arg15 : Memref sig .tc .vmem S6x96x2048 .f32) (harg15 : arg15.IsWhole) (arg16 : Memref sig .tc .vmem S96x6 .i32) (harg16 : arg16.IsWhole) (arg17 : Memref sig .tc .vmem S96x6 .f32) (harg17 : arg17.IsWhole) (arg18 : Memref sig .tc .vmem S96x1408 .bf16) (harg18 : arg18.IsWhole) (arg19 : Memref sig .tc .vmem S96x2048 .f32) (harg19 : arg19.IsWhole)
    (x0 : Vec F S64 .i32) (x2 : Vec F S96x6 .i32) (x3 : Vec F S96x6 .f32) :
    (runInit (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x2 x3).2.1 = [⟨Rect.unit (s := S6x96x2048) ![0, 0, 0] ![6, 96, 2048] inb_S6x96x2048_S6x96x2048_0_0_0, broadcast S6x96x2048 (Scalar.ofBits .f32 0x00000000#32)⟩] := by
  unfold runInit; dsimp only
  sl_unfold_words
  rfl

set_option maxHeartbeats 4000000 in
theorem init_slot (c : Dev nD) (i : grid0.Coords) (arg1 : Memref sig .tc .smem S64 .i32) (harg1 : arg1.IsWhole) (arg2 : Memref sig .tc .vmem S96x2048 .bf16) (harg2 : arg2.IsWhole) (arg3 : Memref sig .tc .vmem S96x6 .i32) (harg3 : arg3.IsWhole) (arg4 : Memref sig .tc .vmem S96x6 .f32) (harg4 : arg4.IsWhole) (arg5 : Memref sig .tc .vmem S1x2048x1408 .i8) (harg5 : arg5.IsWhole) (arg6 : Memref sig .tc .vmem S1x16x1408 .bf16) (harg6 : arg6.IsWhole) (arg7 : Memref sig .tc .vmem S1x16x1408 .bf16) (harg7 : arg7.IsWhole) (arg8 : Memref sig .tc .vmem S1x16x1408 .bf16) (harg8 : arg8.IsWhole) (arg9 : Memref sig .tc .vmem S1x16x1408 .bf16) (harg9 : arg9.IsWhole) (arg10 : Memref sig .tc .vmem S1x1408x1024 .i8) (harg10 : arg10.IsWhole) (arg11 : Memref sig .tc .vmem S1x11x2048 .bf16) (harg11 : arg11.IsWhole) (arg12 : Memref sig .tc .vmem S1x11x2048 .bf16) (harg12 : arg12.IsWhole) (arg13 : Memref sig .tc .vmem S96x2048 .bf16) (harg13 : arg13.IsWhole) (arg14 : Memref sig .tc .vmem S96x1 .f32) (harg14 : arg14.IsWhole) (arg15 : Memref sig .tc .vmem S6x96x2048 .f32) (harg15 : arg15.IsWhole) (arg16 : Memref sig .tc .vmem S96x6 .i32) (harg16 : arg16.IsWhole) (arg17 : Memref sig .tc .vmem S96x6 .f32) (harg17 : arg17.IsWhole) (arg18 : Memref sig .tc .vmem S96x1408 .bf16) (harg18 : arg18.IsWhole) (arg19 : Memref sig .tc .vmem S96x2048 .f32) (harg19 : arg19.IsWhole)
    (x0 : Vec F S64 .i32) (x2 : Vec F S96x6 .i32) (x3 : Vec F S96x6 .f32) :
    (runInit (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x2 x3).2.2.1 = [⟨Rect.unit (s := S96x6) ![0, 0] ![96, 6] inb_S96x6_S96x6_0_0, slotv x0 x2⟩] := by
  unfold runInit; dsimp only
  sl_unfold_words
  simp only [View.readAt_eq_ld, Memref.IsWhole.read_unread]
  rfl

set_option maxHeartbeats 4000000 in
theorem init_w (c : Dev nD) (i : grid0.Coords) (arg1 : Memref sig .tc .smem S64 .i32) (harg1 : arg1.IsWhole) (arg2 : Memref sig .tc .vmem S96x2048 .bf16) (harg2 : arg2.IsWhole) (arg3 : Memref sig .tc .vmem S96x6 .i32) (harg3 : arg3.IsWhole) (arg4 : Memref sig .tc .vmem S96x6 .f32) (harg4 : arg4.IsWhole) (arg5 : Memref sig .tc .vmem S1x2048x1408 .i8) (harg5 : arg5.IsWhole) (arg6 : Memref sig .tc .vmem S1x16x1408 .bf16) (harg6 : arg6.IsWhole) (arg7 : Memref sig .tc .vmem S1x16x1408 .bf16) (harg7 : arg7.IsWhole) (arg8 : Memref sig .tc .vmem S1x16x1408 .bf16) (harg8 : arg8.IsWhole) (arg9 : Memref sig .tc .vmem S1x16x1408 .bf16) (harg9 : arg9.IsWhole) (arg10 : Memref sig .tc .vmem S1x1408x1024 .i8) (harg10 : arg10.IsWhole) (arg11 : Memref sig .tc .vmem S1x11x2048 .bf16) (harg11 : arg11.IsWhole) (arg12 : Memref sig .tc .vmem S1x11x2048 .bf16) (harg12 : arg12.IsWhole) (arg13 : Memref sig .tc .vmem S96x2048 .bf16) (harg13 : arg13.IsWhole) (arg14 : Memref sig .tc .vmem S96x1 .f32) (harg14 : arg14.IsWhole) (arg15 : Memref sig .tc .vmem S6x96x2048 .f32) (harg15 : arg15.IsWhole) (arg16 : Memref sig .tc .vmem S96x6 .i32) (harg16 : arg16.IsWhole) (arg17 : Memref sig .tc .vmem S96x6 .f32) (harg17 : arg17.IsWhole) (arg18 : Memref sig .tc .vmem S96x1408 .bf16) (harg18 : arg18.IsWhole) (arg19 : Memref sig .tc .vmem S96x2048 .f32) (harg19 : arg19.IsWhole)
    (x0 : Vec F S64 .i32) (x2 : Vec F S96x6 .i32) (x3 : Vec F S96x6 .f32) :
    (runInit (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x2 x3).2.2.2.1 = [⟨Rect.unit (s := S96x6) ![0, 0] ![96, 6] inb_S96x6_S96x6_0_0, wv x0 x2 x3⟩] := by
  unfold runInit; dsimp only
  sl_unfold_words
  simp only [View.readAt_eq_ld, Memref.IsWhole.read_unread]
  rfl

set_option maxHeartbeats 4000000 in
theorem init_acc (c : Dev nD) (i : grid0.Coords) (arg1 : Memref sig .tc .smem S64 .i32) (harg1 : arg1.IsWhole) (arg2 : Memref sig .tc .vmem S96x2048 .bf16) (harg2 : arg2.IsWhole) (arg3 : Memref sig .tc .vmem S96x6 .i32) (harg3 : arg3.IsWhole) (arg4 : Memref sig .tc .vmem S96x6 .f32) (harg4 : arg4.IsWhole) (arg5 : Memref sig .tc .vmem S1x2048x1408 .i8) (harg5 : arg5.IsWhole) (arg6 : Memref sig .tc .vmem S1x16x1408 .bf16) (harg6 : arg6.IsWhole) (arg7 : Memref sig .tc .vmem S1x16x1408 .bf16) (harg7 : arg7.IsWhole) (arg8 : Memref sig .tc .vmem S1x16x1408 .bf16) (harg8 : arg8.IsWhole) (arg9 : Memref sig .tc .vmem S1x16x1408 .bf16) (harg9 : arg9.IsWhole) (arg10 : Memref sig .tc .vmem S1x1408x1024 .i8) (harg10 : arg10.IsWhole) (arg11 : Memref sig .tc .vmem S1x11x2048 .bf16) (harg11 : arg11.IsWhole) (arg12 : Memref sig .tc .vmem S1x11x2048 .bf16) (harg12 : arg12.IsWhole) (arg13 : Memref sig .tc .vmem S96x2048 .bf16) (harg13 : arg13.IsWhole) (arg14 : Memref sig .tc .vmem S96x1 .f32) (harg14 : arg14.IsWhole) (arg15 : Memref sig .tc .vmem S6x96x2048 .f32) (harg15 : arg15.IsWhole) (arg16 : Memref sig .tc .vmem S96x6 .i32) (harg16 : arg16.IsWhole) (arg17 : Memref sig .tc .vmem S96x6 .f32) (harg17 : arg17.IsWhole) (arg18 : Memref sig .tc .vmem S96x1408 .bf16) (harg18 : arg18.IsWhole) (arg19 : Memref sig .tc .vmem S96x2048 .f32) (harg19 : arg19.IsWhole)
    (x0 : Vec F S64 .i32) (x2 : Vec F S96x6 .i32) (x3 : Vec F S96x6 .f32) :
    (runInit (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x2 x3).2.2.2.2.1 = [⟨Rect.unit (s := S96x2048) ![0, 0] ![96, 2048] inb_S96x2048_S96x2048_0_0, shapeCast S96x2048 (broadcast S96x2048 (Scalar.ofBits .f32 0x00000000#32)) shapeCasts_S96x2048_S96x2048⟩] := by
  unfold runInit; dsimp only
  sl_unfold_words
  rfl

theorem fin_y (c : Dev nD) (i : grid0.Coords) (arg1 : Memref sig .tc .smem S64 .i32) (harg1 : arg1.IsWhole) (arg2 : Memref sig .tc .vmem S96x2048 .bf16) (harg2 : arg2.IsWhole) (arg3 : Memref sig .tc .vmem S96x6 .i32) (harg3 : arg3.IsWhole) (arg4 : Memref sig .tc .vmem S96x6 .f32) (harg4 : arg4.IsWhole) (arg5 : Memref sig .tc .vmem S1x2048x1408 .i8) (harg5 : arg5.IsWhole) (arg6 : Memref sig .tc .vmem S1x16x1408 .bf16) (harg6 : arg6.IsWhole) (arg7 : Memref sig .tc .vmem S1x16x1408 .bf16) (harg7 : arg7.IsWhole) (arg8 : Memref sig .tc .vmem S1x16x1408 .bf16) (harg8 : arg8.IsWhole) (arg9 : Memref sig .tc .vmem S1x16x1408 .bf16) (harg9 : arg9.IsWhole) (arg10 : Memref sig .tc .vmem S1x1408x1024 .i8) (harg10 : arg10.IsWhole) (arg11 : Memref sig .tc .vmem S1x11x2048 .bf16) (harg11 : arg11.IsWhole) (arg12 : Memref sig .tc .vmem S1x11x2048 .bf16) (harg12 : arg12.IsWhole) (arg13 : Memref sig .tc .vmem S96x2048 .bf16) (harg13 : arg13.IsWhole) (arg14 : Memref sig .tc .vmem S96x1 .f32) (harg14 : arg14.IsWhole) (arg15 : Memref sig .tc .vmem S6x96x2048 .f32) (harg15 : arg15.IsWhole) (arg16 : Memref sig .tc .vmem S96x6 .i32) (harg16 : arg16.IsWhole) (arg17 : Memref sig .tc .vmem S96x6 .f32) (harg17 : arg17.IsWhole) (arg18 : Memref sig .tc .vmem S96x1408 .bf16) (harg18 : arg18.IsWhole) (arg19 : Memref sig .tc .vmem S96x2048 .f32) (harg19 : arg19.IsWhole) (xs3 : Vec F S96x2048 .f32) :
    (runFin (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 xs3).1 = [⟨Rect.unit (s := S96x2048) ![0, 0] ![96, 2048] inb_S96x2048_S96x2048_0_0, truncf .bf16 (View.ld xs3 (Rect.unit (s := S96x2048) ![0, 0] ![96, 2048] inb_S96x2048_S96x2048_0_0)) bitsLt_bf16_f32⟩] := by
  unfold runFin; dsimp only
  sl_unfold_words
  simp only [View.readAt_eq_ld, Memref.IsWhole.read_unread]
  rfl
end Cert.Kernel.Hand

end
-- ==== Proof.AtBits.TripInit.lean ====
/- The set-up and the closing stretch as triples between stated contents. -/
module

public import proofs.«01_k».proof.Proof.AtBits.InitEq
public import proofs.«01_k».proof.Proof.AtBits.Triples

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The set-up stretch, in values. -/
theorem init_triple (c : Dev nD) (i : grid0.Coords) (arg1 : Memref sig .tc .smem S64 .i32) (harg1 : arg1.IsWhole) (arg2 : Memref sig .tc .vmem S96x2048 .bf16) (harg2 : arg2.IsWhole) (arg3 : Memref sig .tc .vmem S96x6 .i32) (harg3 : arg3.IsWhole) (arg4 : Memref sig .tc .vmem S96x6 .f32) (harg4 : arg4.IsWhole) (arg5 : Memref sig .tc .vmem S1x2048x1408 .i8) (harg5 : arg5.IsWhole) (arg6 : Memref sig .tc .vmem S1x16x1408 .bf16) (harg6 : arg6.IsWhole) (arg7 : Memref sig .tc .vmem S1x16x1408 .bf16) (harg7 : arg7.IsWhole) (arg8 : Memref sig .tc .vmem S1x16x1408 .bf16) (harg8 : arg8.IsWhole) (arg9 : Memref sig .tc .vmem S1x16x1408 .bf16) (harg9 : arg9.IsWhole) (arg10 : Memref sig .tc .vmem S1x1408x1024 .i8) (harg10 : arg10.IsWhole) (arg11 : Memref sig .tc .vmem S1x11x2048 .bf16) (harg11 : arg11.IsWhole) (arg12 : Memref sig .tc .vmem S1x11x2048 .bf16) (harg12 : arg12.IsWhole) (arg13 : Memref sig .tc .vmem S96x2048 .bf16) (harg13 : arg13.IsWhole) (arg14 : Memref sig .tc .vmem S96x1 .f32) (harg14 : arg14.IsWhole) (arg15 : Memref sig .tc .vmem S6x96x2048 .f32) (harg15 : arg15.IsWhole) (arg16 : Memref sig .tc .vmem S96x6 .i32) (harg16 : arg16.IsWhole) (arg17 : Memref sig .tc .vmem S96x6 .f32) (harg17 : arg17.IsWhole) (arg18 : Memref sig .tc .vmem S96x1408 .bf16) (harg18 : arg18.IsWhole) (arg19 : Memref sig .tc .vmem S96x2048 .f32) (harg19 : arg19.IsWhole)
    (x0 : Vec F S64 .i32) (x2 : Vec F S96x6 .i32) (x3 : Vec F S96x6 .f32) (E : Set ℕ) (K : PUnit → sProp 𝕄) :
    iprop(owns (c : Thread nD τ) arg1 fullShare x0 ∗ owns (c : Thread nD τ) arg3 fullShare x2 ∗ owns (c : Thread nD τ) arg4 fullShare x3 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg19 fullShare d)
        ∗ (iprop(owns (c : Thread nD τ) arg1 fullShare x0 ∗ owns (c : Thread nD τ) arg3 fullShare x2 ∗ owns (c : Thread nD τ) arg4 fullShare x3 ∗ owns (c : Thread nD τ) arg14 fullShare (missv x0 x2 x3) ∗ owns (c : Thread nD τ) arg15 fullShare (broadcast S6x96x2048 (Scalar.ofBits .f32 0x00000000#32) : Vec F S6x96x2048 .f32) ∗ owns (c : Thread nD τ) arg16 fullShare (slotv x0 x2) ∗ owns (c : Thread nD τ) arg17 fullShare (wv x0 x2 x3) ∗ owns (c : Thread nD τ) arg19 fullShare (ACC0 : Vec F S96x2048 .f32)) -∗ K ⟨⟩))
      ⊢ wp frame (wpE (defs₀ (F := F)) Variants.none c none) E (init0 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  have e0 := init_miss (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x2 x3
  have e1 := init_out (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x2 x3
  have e2 := init_slot (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x2 x3
  have e3 := init_w (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x2 x3
  have e4 := init_acc (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x2 x3
  generalize runInit (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x2 x3 = R at e0 e1 e2 e3 e4
  obtain ⟨L0, L1, L2, L3, L4, hrun⟩ := R
  dsimp only at e0 e1 e2 e3 e4
  subst e0; subst e1; subst e2; subst e3; subst e4
  iintro ⟨H0, H1, H2, G0, G1, G2, G3, G4, Hk⟩
  iapply (hrun E K)
  isplitl [H0]; · iexact H0
  isplitl [H1]; · iexact H1
  isplitl [H2]; · iexact H2
  isplitl [G0]; · iexact G0
  isplitl [G1]; · iexact G1
  isplitl [G2]; · iexact G2
  isplitl [G3]; · iexact G3
  isplitl [G4]; · iexact G4
  iintro ⟨H0, H1, H2, G0, G1, G2, G3, G4⟩
  iapply Hk
  isplitl [H0]; · iexact H0
  isplitl [H1]; · iexact H1
  isplitl [H2]; · iexact H2
  isplitl [G0]; · iapply (owns_of_writes c arg14 _ _ (one_piece (S := S96x1) ![0, 0] z2 _ _)); iexact G0
  isplitl [G1]; · iapply (owns_of_writes c arg15 _ _ (one_piece (S := S6x96x2048) ![0, 0, 0] z3 _ _)); iexact G1
  isplitl [G2]; · iapply (owns_of_writes c arg16 _ _ (one_piece (S := S96x6) ![0, 0] z2 _ _)); iexact G2
  isplitl [G3]; · iapply (owns_of_writes c arg17 _ _ (one_piece (S := S96x6) ![0, 0] z2 _ _)); iexact G3
  iapply (owns_of_writes c arg19 _ _ (one_piece (S := S96x2048) ![0, 0] z2 _ _)); iexact G4

set_option maxHeartbeats 4000000 in
/-- The closing stretch, in values. -/
theorem fin_triple (c : Dev nD) (i : grid0.Coords) (arg1 : Memref sig .tc .smem S64 .i32) (harg1 : arg1.IsWhole) (arg2 : Memref sig .tc .vmem S96x2048 .bf16) (harg2 : arg2.IsWhole) (arg3 : Memref sig .tc .vmem S96x6 .i32) (harg3 : arg3.IsWhole) (arg4 : Memref sig .tc .vmem S96x6 .f32) (harg4 : arg4.IsWhole) (arg5 : Memref sig .tc .vmem S1x2048x1408 .i8) (harg5 : arg5.IsWhole) (arg6 : Memref sig .tc .vmem S1x16x1408 .bf16) (harg6 : arg6.IsWhole) (arg7 : Memref sig .tc .vmem S1x16x1408 .bf16) (harg7 : arg7.IsWhole) (arg8 : Memref sig .tc .vmem S1x16x1408 .bf16) (harg8 : arg8.IsWhole) (arg9 : Memref sig .tc .vmem S1x16x1408 .bf16) (harg9 : arg9.IsWhole) (arg10 : Memref sig .tc .vmem S1x1408x1024 .i8) (harg10 : arg10.IsWhole) (arg11 : Memref sig .tc .vmem S1x11x2048 .bf16) (harg11 : arg11.IsWhole) (arg12 : Memref sig .tc .vmem S1x11x2048 .bf16) (harg12 : arg12.IsWhole) (arg13 : Memref sig .tc .vmem S96x2048 .bf16) (harg13 : arg13.IsWhole) (arg14 : Memref sig .tc .vmem S96x1 .f32) (harg14 : arg14.IsWhole) (arg15 : Memref sig .tc .vmem S6x96x2048 .f32) (harg15 : arg15.IsWhole) (arg16 : Memref sig .tc .vmem S96x6 .i32) (harg16 : arg16.IsWhole) (arg17 : Memref sig .tc .vmem S96x6 .f32) (harg17 : arg17.IsWhole) (arg18 : Memref sig .tc .vmem S96x1408 .bf16) (harg18 : arg18.IsWhole) (arg19 : Memref sig .tc .vmem S96x2048 .f32) (harg19 : arg19.IsWhole)
    (xs3 : Vec F S96x2048 .f32) (E : Set ℕ) (K : PUnit → sProp 𝕄) :
    iprop(owns (c : Thread nD τ) arg19 fullShare xs3 ∗ (∃ d, owns (c : Thread nD τ) arg13 fullShare d)
        ∗ (iprop(owns (c : Thread nD τ) arg19 fullShare xs3 ∗ owns (c : Thread nD τ) arg13 fullShare (YF xs3)) -∗ K ⟨⟩))
      ⊢ wp frame (wpE (defs₀ (F := F)) Variants.none c none) E (fin0 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  have e0 := fin_y (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 xs3
  generalize runFin (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 xs3 = R at e0
  obtain ⟨L0, hrun⟩ := R
  dsimp only at e0
  subst e0
  iintro ⟨H0, G0, Hk⟩
  iapply (hrun E K)
  isplitl [H0]; · iexact H0
  isplitl [G0]; · iexact G0
  iintro ⟨H0, G0⟩
  iapply Hk
  isplitl [H0]; · iexact H0
  iapply (owns_of_writes c arg13 _ _ (one_piece (S := S96x2048) ![0, 0] z2 _ _)); iexact G0

end Cert.Kernel.Hand

end
-- ==== Proof.AtBits.RunK.lean ====
/- The run of the whole kernel, its outputs and scratches at stated contents. -/
module

public import proofs.«01_k».proof.Proof.AtBits.TripMid
public import proofs.«01_k».proof.Proof.AtBits.TripInit
public import Idealize.ShloMosaic.Lib.Pipeline.TableIdle

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 24 = 0 :=
  (fun t => by
    have ht : t.val < 24 := Nat.lt_of_lt_of_eq t.isLt N_0
    have e0 : (grid0.coords t 0).val = t.val / 1 % 24 := Pipeline.Grid.coords_val t 0 (by decide) rfl
    simp only [cond0_0, k0_cond1, e0]
    word_cmp
   : ∀ t : Fin grid0.N, cond0_0 (grid0.coords t) ↔ t.val % 24 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 24 = 23 :=
  (fun t => by
    have ht : t.val < 24 := Nat.lt_of_lt_of_eq t.isLt N_0
    have e0 : (grid0.coords t 0).val = t.val / 1 % 24 := Pipeline.Grid.coords_val t 0 (by decide) rfl
    simp only [cond0_1, k0_cond2, e0]
    word_cmp
   : ∀ t : Fin grid0.N, cond0_1 (grid0.coords t) ↔ t.val % 24 = 23)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S64 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S96x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S96x6 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S96x6 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048x1408 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x16x1408 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x16x1408 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x16x1408 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x16x1408 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1408x1024 .i8 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x11x2048 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x11x2048 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S96x2048 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S96x1 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S6x96x2048 .f32 := win0_14.stage (cfg0.slots t 14)
abbrev hs0_14 (t : Fin cfg0.N) : (ms0_14 t).IsWhole := hstage0_14 ((cfg0.slots t 14).cast nbuf0_14)
/-- The scratch operands: whole scoped buffers of the kernel's own, passed beside the windows. -/
abbrev scM0_0 : Memref sig .tc .vmem S96x6 .i32 := Memref.whole cc0_scratch0
abbrev scM0_1 : Memref sig .tc .vmem S96x6 .f32 := Memref.whole cc0_scratch1
abbrev scM0_2 : Memref sig .tc .vmem S96x1408 .bf16 := Memref.whole cc0_scratch2
abbrev scM0_3 : Memref sig .tc .vmem S96x2048 .f32 := Memref.whole cc0_scratch3
/-- Window 12 is live exactly where its condition holds. -/
theorem idleAt0_12 (t : Fin cfg0.N) (h : ¬ cond0_1 (grid0.coords t)) : cfg0.idle 12 (grid0.coords t) = true := by
  show (!(k0_cond2 (grid0.coords t) == 1#1)) = true
  have : (k0_cond2 (grid0.coords t) == 1#1) = false := by simpa using h
  rw [this]; rfl
theorem liveAt0_12 (t : Fin cfg0.N) (h : cond0_1 (grid0.coords t)) : cfg0.idle 12 (grid0.coords t) = false := by
  show (!(k0_cond2 (grid0.coords t) == 1#1)) = false
  have : (k0_cond2 (grid0.coords t) == 1#1) = true := by simpa using h
  rw [this]; rfl

/-- Window 13 is live exactly where its condition holds. -/
theorem idleAt0_13 (t : Fin cfg0.N) (h : ¬ cond0_0 (grid0.coords t)) : cfg0.idle 13 (grid0.coords t) = true := by
  show (!(k0_cond1 (grid0.coords t) == 1#1)) = true
  have : (k0_cond1 (grid0.coords t) == 1#1) = false := by simpa using h
  rw [this]; rfl
theorem liveAt0_13 (t : Fin cfg0.N) (h : cond0_0 (grid0.coords t)) : cfg0.idle 13 (grid0.coords t) = false := by
  show (!(k0_cond1 (grid0.coords t) == 1#1)) = false
  have : (k0_cond1 (grid0.coords t) == 1#1) = true := by simpa using h
  rw [this]; rfl

/-- Window 14 is never idle. -/
theorem liveAt0_14 : ∀ t : Fin cfg0.N, cfg0.idle 14 (grid0.coords t) = false := fun _ => rfl

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

variable (m : (ℓ : Loc nD τ sig) → Buf (Elt F) ℓ) (ρ : Dev nD → PrngReg)

/-- The grid's first point. -/
def p0 : Fin cfg0.N := ⟨0, by rw [show cfg0.N = 24 from N_0]; decide⟩

/-- The slot table the first point leaves. -/
def slotF (c : Dev nD) : Vec F S96x6 .i32 := slotv (iblk m c 0 p0) (iblk m c 2 p0)
/-- The weight table the first point leaves. -/
def wF (c : Dev nD) : Vec F S96x6 .f32 := wv (iblk m c 0 p0) (iblk m c 2 p0) (iblk m c 3 p0)
/-- The missing weight the first point stores. -/
def missF (c : Dev nD) : Vec F S96x1 .f32 := missv (iblk m c 0 p0) (iblk m c 2 p0) (iblk m c 3 p0)

/-- The hidden activations of point `t`. -/
def HF (c : Dev nD) (t : Fin cfg0.N) : FVec F (sh 96 1408) .bf16 := Hv (iblk m c 1 t) (iblk m c 4 t) (iblk m c 5 t) (iblk m c 6 t) (iblk m c 7 t) (iblk m c 8 t)

/-- One point's step of the accumulator. -/
def stepA (c : Dev nD) (t : Fin cfg0.N) (a : Vec F S96x2048 .f32) : Vec F S96x2048 .f32 :=
  View.canon (accPieces (BitVec.ofNat 32 (grid0.coords t 0).val) (HF m c t) (iblk m c 9 t) (iblk m c 10 t) (iblk m c 11 t) (slotF m c) (wF m c) a)
/-- One point's step of the expert outputs. -/
def stepO (c : Dev nD) (t : Fin cfg0.N) (o : Vec F S6x96x2048 .f32) : Vec F S6x96x2048 .f32 :=
  View.canon (outPieces (BitVec.ofNat 32 (grid0.coords t 0).val) (HF m c t) (iblk m c 9 t) (iblk m c 10 t) (iblk m c 11 t) (slotF m c) o)

/-- The accumulator after point `n`. -/
def accN (c : Dev nD) : (n : ℕ) → n < cfg0.N → Vec F S96x2048 .f32
  | 0, h => stepA m c ⟨0, h⟩ ACC0
  | n + 1, h => stepA m c ⟨n + 1, h⟩ (accN c n (Nat.lt_of_succ_lt h))
/-- The expert outputs after point `n`. -/
def outN (c : Dev nD) : (n : ℕ) → n < cfg0.N → Vec F S6x96x2048 .f32
  | 0, h => stepO m c ⟨0, h⟩ (broadcast S6x96x2048 (Scalar.ofBits .f32 0x00000000#32))
  | n + 1, h => stepO m c ⟨n + 1, h⟩ (outN c n (Nat.lt_of_succ_lt h))

theorem accN_p0 (c : Dev nD) (h : (p0).val < cfg0.N) : accN m c (p0).val h = stepA m c p0 ACC0 := rfl
theorem outN_p0 (c : Dev nD) (h : (p0).val < cfg0.N) : outN m c (p0).val h = stepO m c p0 (broadcast S6x96x2048 (Scalar.ofBits .f32 0x00000000#32)) := rfl
theorem accN_pos (c : Dev nD) (t : Fin cfg0.N) (h : t.val ≠ 0) : accN m c t.val t.isLt = stepA m c t (accN m c (t.val - 1) (by omega)) := by
  obtain ⟨n, hn⟩ := t; cases n with
  | zero => exact absurd rfl h
  | succ n => rfl
theorem outN_pos (c : Dev nD) (t : Fin cfg0.N) (h : t.val ≠ 0) : outN m c t.val t.isLt = stepO m c t (outN m c (t.val - 1) (by omega)) := by
  obtain ⟨n, hn⟩ := t; cases n with
  | zero => exact absurd rfl h
  | succ n => rfl

/-- What the scratches hold after point `n`. -/
def PhiAt (c : Dev nD) (n : ℕ) (hn : n < cfg0.N) : sProp 𝕄 :=
  iprop(iprop(owns (c : Thread nD τ) scM0_0 fullShare (slotF m c) ∗ owns (c : Thread nD τ) scM0_1 fullShare (wF m c) ∗ (∃ d, owns (c : Thread nD τ) scM0_2 fullShare d) ∗ owns (c : Thread nD τ) scM0_3 fullShare (accN m c n hn)) ∗ (∃ r, prngReg c r))

/-- The invariant before position `n`. -/
def PhiS (c : Dev nD) : (n : ℕ) → n ≤ cfg0.N → sProp 𝕄
  | 0, _ => Pipeline.ΦA spec0 c
  | n + 1, hn => PhiAt m c n hn

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) : PhiS m c (n + 1) hn = PhiAt m c n hn := rfl
theorem PhiS_pos (c : Dev nD) (n : ℕ) (h : n ≤ cfg0.N) (hz : n ≠ 0) : PhiS m c n h = PhiAt m c (n - 1) (by omega) := by
  cases n with
  | zero => exact absurd rfl hz
  | succ n => rfl

/-- What the last point stores as the weighted sum. -/
def yF (c : Dev nD) : Vec F S96x2048 .bf16 := YF (accN m c 23 (by rw [show cfg0.N = 24 from N_0]; decide))

/-- The proof data: the arrays as the region finds them; each input's block; the outputs' contents; the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => yF m c
    | ⟨13, _⟩ => missF m c
    | ⟨14, _⟩ => outN m c t.val t.isLt
  Φ t := PhiS m c t.val (Nat.le_of_lt_succ t.isLt)
  q _ := fullShare
  owed _ := 0

/-- The proof data's arrays are the region-entry contents: the proof data's definition projected , so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

theorem after0_12 (c : Dev nD) (t : Fin cfg0.N) : (dats m 0 c).after 12 t = yF m c := by dsimp only [dats]
theorem after0_13 (c : Dev nD) (t : Fin cfg0.N) : (dats m 0 c).after 13 t = missF m c := by dsimp only [dats]
theorem after0_14 (c : Dev nD) (t : Fin cfg0.N) : (dats m 0 c).after 14 t = outN m c t.val t.isLt := by dsimp only [dats]

theorem flush0_13' (t : Fin cfg0.N) (h : ¬ t.val % 24 = 23) : (cfg0.win 13).flush t = false := by
  cases hf : (cfg0.win 13).flush t with
  | false => rfl
  | true => exact absurd ((flush0_13 t).mp hf) h
theorem flush0_12' (t : Fin cfg0.N) (h : ¬ t.val % 24 = 23) : (cfg0.win 12).flush t = false := by
  cases hf : (cfg0.win 12).flush t with
  | false => rfl
  | true => exact absurd ((flush0_12 t).mp hf) h
theorem flush0_14' (t : Fin cfg0.N) (h : ¬ t.val % 24 = 23) : (cfg0.win 14).flush t = false := by
  cases hf : (cfg0.win 14).flush t with
  | false => rfl
  | true => exact absurd ((flush0_14 t).mp hf) h

/-- After the first point the missing weight's buffer is not fresh any more. -/
theorem fresh0_13 (n : ℕ) (h : n + 1 < cfg0.N) : cfg0.fresh 13 (n + 1) = false := by
  have hN : cfg0.N = 24 := N_0
  induction n with
  | zero =>
    rw [Pipeline.Cfg.fresh_succ cfg0 13 0 (by omega), flush0_13' ⟨0, by omega⟩ (by simp),
      liveAt0_13 ⟨0, by omega⟩ ((hcond0_0 _).mpr (by simp))]
    rfl
  | succ n ih =>
    rw [Pipeline.Cfg.fresh_succ cfg0 13 (n + 1) (by omega), flush0_13' ⟨n + 1, by omega⟩ (by show ¬ (n + 1) % 24 = 23; omega), ih (by omega)]
    simp
theorem fresh0_14 (n : ℕ) (h : n + 1 < cfg0.N) : cfg0.fresh 14 (n + 1) = false := by
  have hN : cfg0.N = 24 := N_0
  rw [Pipeline.Cfg.fresh_succ cfg0 14 n (by omega), flush0_14' ⟨n, by omega⟩ (by show ¬ n % 24 = 23; omega), liveAt0_14]
  rfl

/-- Before a later point the missing weight's buffer holds the first point's store. -/
theorem before0_13 (c : Dev nD) (t : Fin cfg0.N) (h : t.val ≠ 0) (d) : (dats m 0 c).before 13 t d = missF m c := by
  rw [(dats m 0 c).before_out_traj 13 rfl (fun _ _ => rfl) (fun t _ _ _ => by rw [after0_13, after0_13]) t.val t rfl d]
  obtain ⟨n, hn⟩ := t; cases n with
  | zero => exact absurd rfl h
  | succ n => rw [fresh0_13 n hn, after0_13]; rfl
/-- Before a later point the expert outputs' buffer holds what the point before left. -/
theorem before0_14 (c : Dev nD) (t : Fin cfg0.N) (h : t.val ≠ 0) (d) : (dats m 0 c).before 14 t d = outN m c (t.val - 1) (by omega) := by
  rw [(dats m 0 c).before_out_traj 14 rfl (fun _ _ => rfl) (fun t _ hi _ => absurd (hi.symm.trans (liveAt0_14 t)) (by decide)) t.val t rfl d]
  obtain ⟨n, hn⟩ := t; cases n with
  | zero => exact absurd rfl h
  | succ n => rw [fresh0_14 n hn, after0_14]; rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

theorem leaves0_0 (c : Dev nD) (t : Fin cfg0.N) : (dats m 0 c).leavesExact 0 t = owns (c : Thread nD τ) (ms0_0 t) fullShare (iblk m c 0 t) := by
  rw [← after0_0 m c t]
theorem leaves0_1 (c : Dev nD) (t : Fin cfg0.N) : (dats m 0 c).leavesExact 1 t = owns (c : Thread nD τ) (ms0_1 t) fullShare (iblk m c 1 t) := by
  rw [← after0_1 m c t]
theorem leaves0_2 (c : Dev nD) (t : Fin cfg0.N) : (dats m 0 c).leavesExact 2 t = owns (c : Thread nD τ) (ms0_2 t) fullShare (iblk m c 2 t) := by
  rw [← after0_2 m c t]
theorem leaves0_3 (c : Dev nD) (t : Fin cfg0.N) : (dats m 0 c).leavesExact 3 t = owns (c : Thread nD τ) (ms0_3 t) fullShare (iblk m c 3 t) := by
  rw [← after0_3 m c t]
theorem leaves0_4 (c : Dev nD) (t : Fin cfg0.N) : (dats m 0 c).leavesExact 4 t = owns (c : Thread nD τ) (ms0_4 t) fullShare (iblk m c 4 t) := by
  rw [← after0_4 m c t]
theorem leaves0_5 (c : Dev nD) (t : Fin cfg0.N) : (dats m 0 c).leavesExact 5 t = owns (c : Thread nD τ) (ms0_5 t) fullShare (iblk m c 5 t) := by
  rw [← after0_5 m c t]
theorem leaves0_6 (c : Dev nD) (t : Fin cfg0.N) : (dats m 0 c).leavesExact 6 t = owns (c : Thread nD τ) (ms0_6 t) fullShare (iblk m c 6 t) := by
  rw [← after0_6 m c t]
theorem leaves0_7 (c : Dev nD) (t : Fin cfg0.N) : (dats m 0 c).leavesExact 7 t = owns (c : Thread nD τ) (ms0_7 t) fullShare (iblk m c 7 t) := by
  rw [← after0_7 m c t]
theorem leaves0_8 (c : Dev nD) (t : Fin cfg0.N) : (dats m 0 c).leavesExact 8 t = owns (c : Thread nD τ) (ms0_8 t) fullShare (iblk m c 8 t) := by
  rw [← after0_8 m c t]
theorem leaves0_9 (c : Dev nD) (t : Fin cfg0.N) : (dats m 0 c).leavesExact 9 t = owns (c : Thread nD τ) (ms0_9 t) fullShare (iblk m c 9 t) := by
  rw [← after0_9 m c t]
theorem leaves0_10 (c : Dev nD) (t : Fin cfg0.N) : (dats m 0 c).leavesExact 10 t = owns (c : Thread nD τ) (ms0_10 t) fullShare (iblk m c 10 t) := by
  rw [← after0_10 m c t]
theorem leaves0_11 (c : Dev nD) (t : Fin cfg0.N) : (dats m 0 c).leavesExact 11 t = owns (c : Thread nD τ) (ms0_11 t) fullShare (iblk m c 11 t) := by
  rw [← after0_11 m c t]
theorem leaves0_14 (c : Dev nD) (t : Fin cfg0.N) : (dats m 0 c).leavesExact 14 t = owns (c : Thread nD τ) (ms0_14 t) fullShare (outN m c t.val t.isLt) := by
  rw [← after0_14 m c t]
theorem leaves0_12_live (c : Dev nD) (t : Fin cfg0.N) (h : cond0_1 (grid0.coords t)) : (dats m 0 c).leavesExact 12 t = owns (c : Thread nD τ) (ms0_12 t) fullShare (yF m c) := by
  rw [← after0_12 m c t]; unfold Dat.leavesExact; rw [liveAt0_12 t h]
theorem leaves0_12_idle (c : Dev nD) (t : Fin cfg0.N) (h : ¬ cond0_1 (grid0.coords t)) (hf : ¬ t.val % 24 = 23) : (dats m 0 c).leavesExact 12 t = iprop(∃ d, owns (c : Thread nD τ) (ms0_12 t) fullShare ((dats m 0 c).before 12 t d)) :=
  Dat.leavesExact_idle _ 12 t (idleAt0_12 t h) (flush0_12' t hf)
theorem leaves0_13_live (c : Dev nD) (t : Fin cfg0.N) (h : cond0_0 (grid0.coords t)) : (dats m 0 c).leavesExact 13 t = owns (c : Thread nD τ) (ms0_13 t) fullShare (missF m c) := by
  rw [← after0_13 m c t]; unfold Dat.leavesExact; rw [liveAt0_13 t h]
theorem leaves0_13_idle (c : Dev nD) (t : Fin cfg0.N) (h : ¬ cond0_0 (grid0.coords t)) (hf : ¬ t.val % 24 = 23) : (dats m 0 c).leavesExact 13 t = iprop(∃ d, owns (c : Thread nD τ) (ms0_13 t) fullShare ((dats m 0 c).before 13 t d)) :=
  Dat.leavesExact_idle _ 13 t (idleAt0_13 t h) (flush0_13' t hf)
theorem leaves0_13_last (c : Dev nD) (t : Fin cfg0.N) (h : ¬ cond0_0 (grid0.coords t)) (hf : t.val % 24 = 23) : (dats m 0 c).leavesExact 13 t = owns (c : Thread nD τ) (ms0_13 t) fullShare (missF m c) := by
  rw [← after0_13 m c t]; unfold Dat.leavesExact; rw [idleAt0_13 t h, (flush0_13 t).mpr hf]

set_option maxHeartbeats 4000000 in
/-- The body at the first point. -/
theorem sound_first (c : Dev nD) :
    bodyPre m c p0 ⊢ wp frame (wpE (defs₀ (F := F)) Variants.none c none) Set.univ (bodyAt0 p0) (fun _ => bodyPost m c p0) := by
  have h0 : cond0_0 (grid0.coords p0) := (hcond0_0 p0).mpr rfl
  have h1 : ¬ cond0_1 (grid0.coords p0) := fun h => absurd ((hcond0_1 p0).mp h) (by decide)
  unfold bodyPre bodyPost
  simp only [before0_0, before0_1, before0_2, before0_3, before0_4, before0_5, before0_6, before0_7, before0_8, before0_9, before0_10, before0_11]
  rw [show (dats m 0 c).owesAt () (p0).succ = (dats m 0 c).owesAt () (p0).castSucc from rfl]
  rw [show (dats m 0 c).Φ (p0).succ = PhiS m c ((p0).val + 1) (p0).isLt from rfl, PhiS_succ, PhiS_castSucc m c (p0)]
  rw [leaves0_0, leaves0_1, leaves0_2, leaves0_3, leaves0_4, leaves0_5, leaves0_6, leaves0_7, leaves0_8, leaves0_9, leaves0_10, leaves0_11, leaves0_14]
  rw [PhiS_zero m c (p0).val _ rfl, PhiA0_eq, leaves0_12_idle m c p0 h1 (by decide), leaves0_13_live m c p0 h0, outN_p0]
  rw [show bodyAt0 p0 = _ from body_first (F := F) (grid0.coords p0) _ _ _ _ _ _ _ _ _ _ _ _ _ _ _ _ _ _ _ _ _ _ _ _ _ _ _ _ _ _ _ _ _ _ _ _ _ _ h0 h1]
  rw [wp_bind]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (init_triple (F := F) c (grid0.coords p0) _ _ _ _ _ _ _ _ _ _ _ _ _ _ _ _ _ _ _ _ _ _ _ _ _ _ _ _ _ _ _ _ _ _ _ _ _ _ (iblk m c 0 p0) (iblk m c 2 p0) (iblk m c 3 p0) Set.univ _)
  isplitl [H0]; · iexact H0
  isplitl [H2]; · iexact H2
  isplitl [H3]; · iexact H3
  isplitl [H13]; · iexists _; iexact H13
  isplitl [H14]; · iexists _; iexact H14
  isplitl [HS0]; · iexact HS0
  isplitl [HS1]; · iexact HS1
  isplitl [HS3]; · iexact HS3
  iintro ⟨H0, H2, H3, H13, H14, HS0, HS1, HS3⟩
  iapply (mid_triple (F := F) c (grid0.coords p0) _ _ _ _ _ _ _ _ _ _ _ _ _ _ _ _ _ _ _ _ _ _ _ _ _ _ _ _ _ _ _ _ _ _ _ _ _ _ (iblk m c 1 p0) (iblk m c 4 p0) (iblk m c 5 p0) (iblk m c 6 p0) (iblk m c 7 p0) (iblk m c 8 p0) (iblk m c 9 p0) (iblk m c 10 p0) (iblk m c 11 p0) (slotF m c) (wF m c) (broadcast S6x96x2048 (Scalar.ofBits .f32 0x00000000#32)) ACC0 Set.univ _)
  isplitl [H1]; · iexact H1
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [H14]; · iexact H14
  isplitl [HS2]; · iexact HS2
  isplitl [HS3]; · iexact HS3
  iintro ⟨H1, H4, H5, H6, H7, H8, H9, H10, H11, HS0, HS1, H14, HS2, HS3⟩
  unfold PhiAt
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexact H13
  iexact H14

set_option maxHeartbeats 4000000 in
/-- The body at a middle point. -/
theorem sound_middle (c : Dev nD) (t : Fin cfg0.N) (hz : t.val ≠ 0) (h2 : ¬ t.val % 24 = 23) :
    bodyPre m c t ⊢ wp frame (wpE (defs₀ (F := F)) Variants.none c none) Set.univ (bodyAt0 t) (fun _ => bodyPost m c t) := by
  have hN : t.val < 24 := lt_of_lt_of_eq t.isLt (show cfg0.N = 24 from N_0)
  have h0 : ¬ cond0_0 (grid0.coords t) := fun h => hz (by have := (hcond0_0 t).mp h; omega)
  have h1 : ¬ cond0_1 (grid0.coords t) := fun h => h2 ((hcond0_1 t).mp h)
  unfold bodyPre bodyPost
  simp only [before0_0, before0_1, before0_2, before0_3, before0_4, before0_5, before0_6, before0_7, before0_8, before0_9, before0_10, before0_11]
  rw [show (dats m 0 c).owesAt () (t).succ = (dats m 0 c).owesAt () (t).castSucc from rfl]
  rw [show (dats m 0 c).Φ (t).succ = PhiS m c ((t).val + 1) (t).isLt from rfl, PhiS_succ, PhiS_castSucc m c (t)]
  rw [leaves0_0, leaves0_1, leaves0_2, leaves0_3, leaves0_4, leaves0_5, leaves0_6, leaves0_7, leaves0_8, leaves0_9, leaves0_10, leaves0_11, leaves0_14]
  simp only [before0_14 m c t hz]
  rw [PhiS_pos m c _ _ hz, leaves0_12_idle m c t h1 h2, leaves0_13_idle m c t h0 h2, outN_pos m c t hz]
  rw [show bodyAt0 t = _ from body_middle (F := F) (grid0.coords t) _ _ _ _ _ _ _ _ _ _ _ _ _ _ _ _ _ _ _ _ _ _ _ _ _ _ _ _ _ _ _ _ _ _ _ _ _ _ h0 h1]
  unfold PhiAt
  rw [accN_pos m c t hz]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (mid_triple (F := F) c (grid0.coords t) _ _ _ _ _ _ _ _ _ _ _ _ _ _ _ _ _ _ _ _ _ _ _ _ _ _ _ _ _ _ _ _ _ _ _ _ _ _ (iblk m c 1 t) (iblk m c 4 t) (iblk m c 5 t) (iblk m c 6 t) (iblk m c 7 t) (iblk m c 8 t) (iblk m c 9 t) (iblk m c 10 t) (iblk m c 11 t) (slotF m c) (wF m c) (outN m c (t.val - 1) (by omega)) (accN m c (t.val - 1) (by omega)) Set.univ _)
  isplitl [H1]; · iexact H1
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [H14]; · iexact H14
  isplitl [HS2]; · iexact HS2
  isplitl [HS3]; · iexact HS3
  iintro ⟨H1, H4, H5, H6, H7, H8, H9, H10, H11, HS0, HS1, H14, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  iexact H14

set_option maxHeartbeats 4000000 in
/-- The body at the last point. -/
theorem sound_last (c : Dev nD) (t : Fin cfg0.N) (hz : t.val ≠ 0) (h2 : t.val % 24 = 23) :
    bodyPre m c t ⊢ wp frame (wpE (defs₀ (F := F)) Variants.none c none) Set.univ (bodyAt0 t) (fun _ => bodyPost m c t) := by
  have hN : t.val < 24 := lt_of_lt_of_eq t.isLt (show cfg0.N = 24 from N_0)
  have h0 : ¬ cond0_0 (grid0.coords t) := fun h => hz (by have := (hcond0_0 t).mp h; omega)
  have h1 : cond0_1 (grid0.coords t) := (hcond0_1 t).mpr h2
  unfold bodyPre bodyPost
  simp only [before0_0, before0_1, before0_2, before0_3, before0_4, before0_5, before0_6, before0_7, before0_8, before0_9, before0_10, before0_11]
  rw [show (dats m 0 c).owesAt () (t).succ = (dats m 0 c).owesAt () (t).castSucc from rfl]
  rw [show (dats m 0 c).Φ (t).succ = PhiS m c ((t).val + 1) (t).isLt from rfl, PhiS_succ, PhiS_castSucc m c (t)]
  rw [leaves0_0, leaves0_1, leaves0_2, leaves0_3, leaves0_4, leaves0_5, leaves0_6, leaves0_7, leaves0_8, leaves0_9, leaves0_10, leaves0_11, leaves0_14]
  simp only [before0_14 m c t hz]
  simp only [before0_13 m c t hz]
  rw [PhiS_pos m c _ _ hz, leaves0_12_live m c t h1, leaves0_13_last m c t h0 h2, outN_pos m c t hz]
  have hy : YF (accN m c t.val t.isLt) = yF m c := by
    have e : t = ⟨23, by rw [show cfg0.N = 24 from N_0]; decide⟩ := Fin.ext (by show t.val = 23; omega)
    subst e; rfl
  rw [← hy]
  rw [show bodyAt0 t = _ from body_last (F := F) (grid0.coords t) _ _ _ _ _ _ _ _ _ _ _ _ _ _ _ _ _ _ _ _ _ _ _ _ _ _ _ _ _ _ _ _ _ _ _ _ _ _ h0 h1]
  rw [wp_bind]
  unfold PhiAt
  rw [accN_pos m c t hz]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (mid_triple (F := F) c (grid0.coords t) _ _ _ _ _ _ _ _ _ _ _ _ _ _ _ _ _ _ _ _ _ _ _ _ _ _ _ _ _ _ _ _ _ _ _ _ _ _ (iblk m c 1 t) (iblk m c 4 t) (iblk m c 5 t) (iblk m c 6 t) (iblk m c 7 t) (iblk m c 8 t) (iblk m c 9 t) (iblk m c 10 t) (iblk m c 11 t) (slotF m c) (wF m c) (outN m c (t.val - 1) (by omega)) (accN m c (t.val - 1) (by omega)) Set.univ _)
  isplitl [H1]; · iexact H1
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [H14]; · iexact H14
  isplitl [HS2]; · iexact HS2
  isplitl [HS3]; · iexact HS3
  iintro ⟨H1, H4, H5, H6, H7, H8, H9, H10, H11, HS0, HS1, H14, HS2, HS3⟩
  iapply (fin_triple (F := F) c (grid0.coords t) _ _ _ _ _ _ _ _ _ _ _ _ _ _ _ _ _ _ _ _ _ _ _ _ _ _ _ _ _ _ _ _ _ _ _ _ _ _ (stepA m c t (accN m c (t.val - 1) (by omega))) Set.univ _)
  isplitl [HS3]; · iexact HS3
  isplitl [H12]; · iexists _; iexact H12
  iintro ⟨HS3, H12⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The body at any point. -/
theorem sound_body (c : Dev nD) (t : Fin cfg0.N) :
    bodyPre m c t ⊢ wp frame (wpE (defs₀ (F := F)) Variants.none c none) Set.univ (bodyAt0 t) (fun _ => bodyPost m c t) := by
  by_cases hz : t.val = 0
  · have e : t = p0 := Fin.ext hz
    subst e; exact sound_first m c
  · by_cases h2 : t.val % 24 = 23
    · exact sound_last m c t hz h2
    · exact sound_middle m c t hz h2

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  unfold PhiAt
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexact HS2
    iexists _; iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 24 := N_0; omega)

set_option backward.isDefEq.respectTransparency.types false in
set_option maxHeartbeats 800000 in
/-- The run: every final state has the arrays at what the proof data says, and every counter at zero. -/
theorem run_main : θ_run defs (onTc (τ := τ) (main (F := F))) (s₀ m ρ) (fun r => Pipeline.FramePost cfgs (dats m) 0 (Pipeline.afterTail₀ cfgs (dats m) 0 (V0 m) [hostOps1]) r ∧ r.2.sem = fun _ => 0) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m) (Q' := _) (fun _ h => h)

end Cert.Kernel.Hand

end
-- ==== Proof.AtBits.FrameK.lean ====
/- The frame of the program, at every instance of the float operations. -/
module

public import proofs.«01_k».proof.Proof.AtBits.RunK
public import proofs.«01_k».proof.Proof.Gen.Kernel
public import proofs.«01_k».proof.Defs

@[expose] public section

set_option maxRecDepth 65536

noncomputable section

namespace Cert.Kernel.Hand

open Cert.Kernel Cert.Kernel.Gen
open Idealize.ShloMosaic Idealize.SL.Sem

variable {F : FTy → Type} [FloatOps F]

/-- At every instance of the float operations the program runs, leaves its arguments as they were and every semaphore at zero. -/
theorem frame_any (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) := by
  have h₁ := Cert.Kernel.Gen.frame_of m ρ (dats m) (A_eq m) ((θ_run defs _ _).mono (fun r h => h.1) (run_main m ρ))
  exact (θ_run defs _ _).mono (fun r h => ⟨h.1, h.2.2⟩) (θ_run_and h₁ (run_main m ρ))

end Cert.Kernel.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Final
public import proofs.«01_k».proof.Proof.FrameK
public import proofs.«01_k».proof.Proof.AtBits.FrameK
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel
open Cert.KernelIdeal.Hand (pre_facts)

/-- The kernel at the bit level runs, leaves its arguments as they were and every semaphore at zero. -/
theorem frame_Kernel : Cert.quiescent_Kernel := fun m ρ _ => Cert.Kernel.Hand.frame_any m ρ

/-- The kernel at the extended reals runs, leaves its arguments as they were and every semaphore at zero. -/
theorem frame_KernelIdeal : Cert.quiescent_KernelIdeal := fun m ρ _ => Cert.KernelIdeal.Hand.frame_any m ρ

/-- The reference runs, leaves its arguments as they were, and declares no semaphore. -/
theorem frame_ReferenceIdeal : Cert.quiescent_ReferenceIdeal := by
  intro m ρ _
  exact (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- The precondition at a memory of the kernel, unpacked. -/
theorem routed_mem [Cert.Pre_routed.Facts] (m : (ℓ : Loc Cert.KernelIdeal.nD Cert.KernelIdeal.τ Cert.KernelIdeal.sig) → Buf (Elt Ideal) ℓ) (h : Cert.Pre_KernelIdeal_routed m)
    (c : Dev Cert.KernelIdeal.nD) : Cert.KernelIdeal.Hand.RoutedK m c :=
  Cert.KernelIdeal.Hand.routed_of _ _ _ _ _ _ _ _ _ _ _ _ (h c).1 (h c).2.1 (h c).2.2

/-- The kernel and the reference end with equal results. -/
theorem algebraic [Cert.Pre_routed.Facts] : Cert.algebraic_KernelIdeal_ReferenceIdeal_pre_routed := by
  intro m g m' g' hpre hagree
  refine ⟨fun c => Cert.ReferenceIdeal.Read.val_main_v111 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.ReferenceIdeal.Read.val_main_v112 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.ReferenceIdeal.Read.val_main_v113 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · refine (θ_run Cert.KernelIdeal.defs _ _).mono (fun r h c => ?_) (θ_run_and (Cert.KernelIdeal.Hand.run_vals m g) (frame_KernelIdeal m g trivial))
    have H := routed_mem m hpre c
    obtain ⟨e0, e1, e2⟩ := h.1.1 c
    exact ⟨e0.trans (Cert.KernelIdeal.Hand.res_y H), e1.trans (Cert.KernelIdeal.Hand.res_miss H), e2.trans (Cert.KernelIdeal.Hand.res_out H), h.2.1 c⟩
  · refine (θ_run Cert.ReferenceIdeal.defs _ _).mono (fun r h c => ?_) (Cert.ReferenceIdeal.Value.run (F := Ideal) m' g')
    obtain ⟨a0, a1, a2, a3, a4, a5, a6, a7, a8, a9, a10, a11⟩ := hagree c
    obtain ⟨e0, e1, e2, e⟩ := h c
    refine ⟨e0.trans ?_, e1.trans ?_, e2.trans ?_, e⟩
    · rw [Cert.ReferenceIdeal.Read.val_main_v111_eq, a0, a1, a2, a3, a4, a5, a6, a7, a8, a9, a10, a11]
    · refine (Cert.ReferenceIdeal.Read.val_main_v112_eq _ _ _).trans ?_
      rw [a1, a2, a3]
    · rw [Cert.ReferenceIdeal.Read.val_main_v113_eq, a0, a1, a3, a4, a5, a6, a7, a8, a9, a10, a11]

theorem claim : Cert.Claim := ⟨Cert.Kernel.Gen.facts, Cert.KernelIdeal.Gen.facts, Cert.ReferenceIdeal.Gen.facts, pre_facts,
  frame_Kernel, frame_KernelIdeal, fun m ρ _ => frame_KernelIdeal m ρ trivial,
  frame_ReferenceIdeal, fun m ρ _ => frame_ReferenceIdeal m ρ trivial, trivial, @algebraic pre_facts⟩

end Cert.Proof

end
